-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_scores_finite [hPre_scores_finite : Cert.Pre_scores_finite.Facts] (m : (ℓ : Loc Cert.AttnIdeal.nD Cert.AttnIdeal.τ Cert.AttnIdeal.sig) → Buf (Elt Ideal) ℓ) : Prop :=
  ∀ c : Dev Cert.AttnIdeal.nD,
    (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_scores_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_scores_finite [hPre_scores_finite : Cert.Pre_scores_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_scores_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AttnS (m : (ℓ : Loc Cert.AttnS.nD Cert.AttnS.τ Cert.AttnS.sig) → Buf (Elt Bits) ℓ) : Prop :=
  True

def Pre_AttnSIdeal (m : (ℓ : Loc Cert.AttnSIdeal.nD Cert.AttnSIdeal.τ Cert.AttnSIdeal.sig) → Buf (Elt Ideal) ℓ) : Prop :=
  True

def Pre_AttnSRefIdeal (m : (ℓ : Loc Cert.AttnSRefIdeal.nD Cert.AttnSRefIdeal.τ Cert.AttnSRefIdeal.sig) → Buf (Elt Ideal) ℓ) : Prop :=
  True

def Pre_GlaS (m : (ℓ : Loc Cert.GlaS.nD Cert.GlaS.τ Cert.GlaS.sig) → Buf (Elt Bits) ℓ) : Prop :=
  True

def Pre_GlaSIdeal (m : (ℓ : Loc Cert.GlaSIdeal.nD Cert.GlaSIdeal.τ Cert.GlaSIdeal.sig) → Buf (Elt Ideal) ℓ) : Prop :=
  True

def Pre_GlaSIdeal_decay_finite [hPre_decay_finite : Cert.Pre_decay_finite.Facts] (m : (ℓ : Loc Cert.GlaSIdeal.nD Cert.GlaSIdeal.τ Cert.GlaSIdeal.sig) → Buf (Elt Ideal) ℓ) : Prop :=
  ∀ c : Dev Cert.GlaSIdeal.nD,
    (Cert.Pre_decay_finite.fn (F := Ideal) (m ((c.tc : Thread Cert.GlaSIdeal.nD Cert.GlaSIdeal.τ).loc Cert.GlaSIdeal.main_arg0)) (m ((c.tc : Thread Cert.GlaSIdeal.nD Cert.GlaSIdeal.τ).loc Cert.GlaSIdeal.main_arg1)) (m ((c.tc : Thread Cert.GlaSIdeal.nD Cert.GlaSIdeal.τ).loc Cert.GlaSIdeal.main_arg2)) (m ((c.tc : Thread Cert.GlaSIdeal.nD Cert.GlaSIdeal.τ).loc Cert.GlaSIdeal.main_arg3)) (m ((c.tc : Thread Cert.GlaSIdeal.nD Cert.GlaSIdeal.τ).loc Cert.GlaSIdeal.main_arg4)) (m ((c.tc : Thread Cert.GlaSIdeal.nD Cert.GlaSIdeal.τ).loc Cert.GlaSIdeal.main_arg5)) (m ((c.tc : Thread Cert.GlaSIdeal.nD Cert.GlaSIdeal.τ).loc Cert.GlaSIdeal.main_arg6))) = (fun _ => 1#1)

def Pre_GlaSRefIdeal (m : (ℓ : Loc Cert.GlaSRefIdeal.nD Cert.GlaSRefIdeal.τ Cert.GlaSRefIdeal.sig) → Buf (Elt Ideal) ℓ) : Prop :=
  True

def Pre_GlaSRefIdeal_decay_finite [hPre_decay_finite : Cert.Pre_decay_finite.Facts] (m : (ℓ : Loc Cert.GlaSRefIdeal.nD Cert.GlaSRefIdeal.τ Cert.GlaSRefIdeal.sig) → Buf (Elt Ideal) ℓ) : Prop :=
  ∀ c : Dev Cert.GlaSRefIdeal.nD,
    (Cert.Pre_decay_finite.fn (F := Ideal) (m ((c.tc : Thread Cert.GlaSRefIdeal.nD Cert.GlaSRefIdeal.τ).loc Cert.GlaSRefIdeal.main_arg0)) (m ((c.tc : Thread Cert.GlaSRefIdeal.nD Cert.GlaSRefIdeal.τ).loc Cert.GlaSRefIdeal.main_arg1)) (m ((c.tc : Thread Cert.GlaSRefIdeal.nD Cert.GlaSRefIdeal.τ).loc Cert.GlaSRefIdeal.main_arg2)) (m ((c.tc : Thread Cert.GlaSRefIdeal.nD Cert.GlaSRefIdeal.τ).loc Cert.GlaSRefIdeal.main_arg3)) (m ((c.tc : Thread Cert.GlaSRefIdeal.nD Cert.GlaSRefIdeal.τ).loc Cert.GlaSRefIdeal.main_arg4)) (m ((c.tc : Thread Cert.GlaSRefIdeal.nD Cert.GlaSRefIdeal.τ).loc Cert.GlaSRefIdeal.main_arg5)) (m ((c.tc : Thread Cert.GlaSRefIdeal.nD Cert.GlaSRefIdeal.τ).loc Cert.GlaSRefIdeal.main_arg6))) = (fun _ => 1#1)

def Pre_OutProjS (m : (ℓ : Loc Cert.OutProjS.nD Cert.OutProjS.τ Cert.OutProjS.sig) → Buf (Elt Bits) ℓ) : Prop :=
  True

def Pre_OutProjSIdeal (m : (ℓ : Loc Cert.OutProjSIdeal.nD Cert.OutProjSIdeal.τ Cert.OutProjSIdeal.sig) → Buf (Elt Ideal) ℓ) : Prop :=
  True

def Pre_OutProjSRefIdeal (m : (ℓ : Loc Cert.OutProjSRefIdeal.nD Cert.OutProjSRefIdeal.τ Cert.OutProjSRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InProjSRefIdeal (m : (ℓ : Loc Cert.InProjSRefIdeal.nD Cert.InProjSRefIdeal.τ Cert.InProjSRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_scores_finite [hAttnIdeal : Cert.AttnIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_scores_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_scores_finite [hAttnRefIdeal : Cert.AttnRefIdeal.Facts] [hPre_scores_finite : Cert.Pre_scores_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_scores_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_AttnS [hAttnS : Cert.AttnS.Facts] : Prop :=
  ∀ (m : (ℓ : Loc Cert.AttnS.nD Cert.AttnS.τ Cert.AttnS.sig) → Buf (Elt Bits) ℓ) (g : Dev Cert.AttnS.nD → PrngReg), Pre_AttnS m →
    θ_run (Cert.AttnS.defs (F := Bits)) (onTc (τ := Cert.AttnS.τ) (Cert.AttnS.main (F := Bits))) ⟨m, fun _ => 0, g⟩ (fun r => (∀ c : Dev Cert.AttnS.nD,
      r.2.mem ((c.tc : Thread Cert.AttnS.nD Cert.AttnS.τ).loc Cert.AttnS.main_arg0) = m ((c.tc : Thread Cert.AttnS.nD Cert.AttnS.τ).loc Cert.AttnS.main_arg0)
      ∧ r.2.mem ((c.tc : Thread Cert.AttnS.nD Cert.AttnS.τ).loc Cert.AttnS.main_arg1) = m ((c.tc : Thread Cert.AttnS.nD Cert.AttnS.τ).loc Cert.AttnS.main_arg1)
      ∧ r.2.mem ((c.tc : Thread Cert.AttnS.nD Cert.AttnS.τ).loc Cert.AttnS.main_arg2) = m ((c.tc : Thread Cert.AttnS.nD Cert.AttnS.τ).loc Cert.AttnS.main_arg2)
      ∧ r.2.mem ((c.tc : Thread Cert.AttnS.nD Cert.AttnS.τ).loc Cert.AttnS.main_arg3) = m ((c.tc : Thread Cert.AttnS.nD Cert.AttnS.τ).loc Cert.AttnS.main_arg3)
      ∧ r.2.mem ((c.tc : Thread Cert.AttnS.nD Cert.AttnS.τ).loc Cert.AttnS.main_arg4) = m ((c.tc : Thread Cert.AttnS.nD Cert.AttnS.τ).loc Cert.AttnS.main_arg4)
      ∧ r.2.mem ((c.tc : Thread Cert.AttnS.nD Cert.AttnS.τ).loc Cert.AttnS.main_arg5) = m ((c.tc : Thread Cert.AttnS.nD Cert.AttnS.τ).loc Cert.AttnS.main_arg5)
      ∧ r.2.mem ((c.tc : Thread Cert.AttnS.nD Cert.AttnS.τ).loc Cert.AttnS.main_arg6) = m ((c.tc : Thread Cert.AttnS.nD Cert.AttnS.τ).loc Cert.AttnS.main_arg6))
      ∧ r.2.sem = fun _ => 0)

def quiescent_AttnSIdeal [hAttnSIdeal : Cert.AttnSIdeal.Facts] : Prop :=
  ∀ (m : (ℓ : Loc Cert.AttnSIdeal.nD Cert.AttnSIdeal.τ Cert.AttnSIdeal.sig) → Buf (Elt Ideal) ℓ) (g : Dev Cert.AttnSIdeal.nD → PrngReg), Pre_AttnSIdeal m →
    θ_run (Cert.AttnSIdeal.defs (F := Ideal)) (onTc (τ := Cert.AttnSIdeal.τ) (Cert.AttnSIdeal.main (F := Ideal))) ⟨m, fun _ => 0, g⟩ (fun r => (∀ c : Dev Cert.AttnSIdeal.nD,
      r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
      ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
      ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
      ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
      ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
      ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
      ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6))
      ∧ r.2.sem = fun _ => 0)

def quiescent_AttnSRefIdeal [hAttnSRefIdeal : Cert.AttnSRefIdeal.Facts] : Prop :=
  ∀ (m : (ℓ : Loc Cert.AttnSRefIdeal.nD Cert.AttnSRefIdeal.τ Cert.AttnSRefIdeal.sig) → Buf (Elt Ideal) ℓ) (g : Dev Cert.AttnSRefIdeal.nD → PrngReg), Pre_AttnSRefIdeal m →
    θ_run (Cert.AttnSRefIdeal.defs (F := Ideal)) (onTc (τ := Cert.AttnSRefIdeal.τ) (Cert.AttnSRefIdeal.main (F := Ideal))) ⟨m, fun _ => 0, g⟩ (fun r => (∀ c : Dev Cert.AttnSRefIdeal.nD,
      r.2.mem ((c.tc : Thread Cert.AttnSRefIdeal.nD Cert.AttnSRefIdeal.τ).loc Cert.AttnSRefIdeal.main_arg0) = m ((c.tc : Thread Cert.AttnSRefIdeal.nD Cert.AttnSRefIdeal.τ).loc Cert.AttnSRefIdeal.main_arg0)
      ∧ r.2.mem ((c.tc : Thread Cert.AttnSRefIdeal.nD Cert.AttnSRefIdeal.τ).loc Cert.AttnSRefIdeal.main_arg1) = m ((c.tc : Thread Cert.AttnSRefIdeal.nD Cert.AttnSRefIdeal.τ).loc Cert.AttnSRefIdeal.main_arg1)
      ∧ r.2.mem ((c.tc : Thread Cert.AttnSRefIdeal.nD Cert.AttnSRefIdeal.τ).loc Cert.AttnSRefIdeal.main_arg2) = m ((c.tc : Thread Cert.AttnSRefIdeal.nD Cert.AttnSRefIdeal.τ).loc Cert.AttnSRefIdeal.main_arg2)
      ∧ r.2.mem ((c.tc : Thread Cert.AttnSRefIdeal.nD Cert.AttnSRefIdeal.τ).loc Cert.AttnSRefIdeal.main_arg3) = m ((c.tc : Thread Cert.AttnSRefIdeal.nD Cert.AttnSRefIdeal.τ).loc Cert.AttnSRefIdeal.main_arg3)
      ∧ r.2.mem ((c.tc : Thread Cert.AttnSRefIdeal.nD Cert.AttnSRefIdeal.τ).loc Cert.AttnSRefIdeal.main_arg4) = m ((c.tc : Thread Cert.AttnSRefIdeal.nD Cert.AttnSRefIdeal.τ).loc Cert.AttnSRefIdeal.main_arg4)
      ∧ r.2.mem ((c.tc : Thread Cert.AttnSRefIdeal.nD Cert.AttnSRefIdeal.τ).loc Cert.AttnSRefIdeal.main_arg5) = m ((c.tc : Thread Cert.AttnSRefIdeal.nD Cert.AttnSRefIdeal.τ).loc Cert.AttnSRefIdeal.main_arg5)
      ∧ r.2.mem ((c.tc : Thread Cert.AttnSRefIdeal.nD Cert.AttnSRefIdeal.τ).loc Cert.AttnSRefIdeal.main_arg6) = m ((c.tc : Thread Cert.AttnSRefIdeal.nD Cert.AttnSRefIdeal.τ).loc Cert.AttnSRefIdeal.main_arg6))
      ∧ r.2.sem = fun _ => 0)

def quiescent_GlaS [hGlaS : Cert.GlaS.Facts] : Prop :=
  ∀ (m : (ℓ : Loc Cert.GlaS.nD Cert.GlaS.τ Cert.GlaS.sig) → Buf (Elt Bits) ℓ) (g : Dev Cert.GlaS.nD → PrngReg), Pre_GlaS m →
    θ_run (Cert.GlaS.defs (F := Bits)) (onTc (τ := Cert.GlaS.τ) (Cert.GlaS.main (F := Bits))) ⟨m, fun _ => 0, g⟩ (fun r => (∀ c : Dev Cert.GlaS.nD,
      r.2.mem ((c.tc : Thread Cert.GlaS.nD Cert.GlaS.τ).loc Cert.GlaS.main_arg0) = m ((c.tc : Thread Cert.GlaS.nD Cert.GlaS.τ).loc Cert.GlaS.main_arg0)
      ∧ r.2.mem ((c.tc : Thread Cert.GlaS.nD Cert.GlaS.τ).loc Cert.GlaS.main_arg1) = m ((c.tc : Thread Cert.GlaS.nD Cert.GlaS.τ).loc Cert.GlaS.main_arg1)
      ∧ r.2.mem ((c.tc : Thread Cert.GlaS.nD Cert.GlaS.τ).loc Cert.GlaS.main_arg2) = m ((c.tc : Thread Cert.GlaS.nD Cert.GlaS.τ).loc Cert.GlaS.main_arg2)
      ∧ r.2.mem ((c.tc : Thread Cert.GlaS.nD Cert.GlaS.τ).loc Cert.GlaS.main_arg3) = m ((c.tc : Thread Cert.GlaS.nD Cert.GlaS.τ).loc Cert.GlaS.main_arg3)
      ∧ r.2.mem ((c.tc : Thread Cert.GlaS.nD Cert.GlaS.τ).loc Cert.GlaS.main_arg4) = m ((c.tc : Thread Cert.GlaS.nD Cert.GlaS.τ).loc Cert.GlaS.main_arg4)
      ∧ r.2.mem ((c.tc : Thread Cert.GlaS.nD Cert.GlaS.τ).loc Cert.GlaS.main_arg5) = m ((c.tc : Thread Cert.GlaS.nD Cert.GlaS.τ).loc Cert.GlaS.main_arg5)
      ∧ r.2.mem ((c.tc : Thread Cert.GlaS.nD Cert.GlaS.τ).loc Cert.GlaS.main_arg6) = m ((c.tc : Thread Cert.GlaS.nD Cert.GlaS.τ).loc Cert.GlaS.main_arg6))
      ∧ r.2.sem = fun _ => 0)

def quiescent_GlaSIdeal [hGlaSIdeal : Cert.GlaSIdeal.Facts] : Prop :=
  ∀ (m : (ℓ : Loc Cert.GlaSIdeal.nD Cert.GlaSIdeal.τ Cert.GlaSIdeal.sig) → Buf (Elt Ideal) ℓ) (g : Dev Cert.GlaSIdeal.nD → PrngReg), Pre_GlaSIdeal m →
    θ_run (Cert.GlaSIdeal.defs (F := Ideal)) (onTc (τ := Cert.GlaSIdeal.τ) (Cert.GlaSIdeal.main (F := Ideal))) ⟨m, fun _ => 0, g⟩ (fun r => (∀ c : Dev Cert.GlaSIdeal.nD,
      r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
      ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
      ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
      ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
      ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4)
      ∧ r.2.mem ((c.tc : Thread Cert.GlaSIdeal.nD Cert.GlaSIdeal.τ).loc Cert.GlaSIdeal.main_arg5) = m ((c.tc : Thread Cert.GlaSIdeal.nD Cert.GlaSIdeal.τ).loc Cert.GlaSIdeal.main_arg5)
      ∧ r.2.mem ((c.tc : Thread Cert.GlaSIdeal.nD Cert.GlaSIdeal.τ).loc Cert.GlaSIdeal.main_arg6) = m ((c.tc : Thread Cert.GlaSIdeal.nD Cert.GlaSIdeal.τ).loc Cert.GlaSIdeal.main_arg6))
      ∧ r.2.sem = fun _ => 0)

def quiescent_GlaSIdeal_pre_decay_finite [hGlaSIdeal : Cert.GlaSIdeal.Facts] [hPre_decay_finite : Cert.Pre_decay_finite.Facts] : Prop :=
  ∀ (m : (ℓ : Loc Cert.GlaSIdeal.nD Cert.GlaSIdeal.τ Cert.GlaSIdeal.sig) → Buf (Elt Ideal) ℓ) (g : Dev Cert.GlaSIdeal.nD → PrngReg), Pre_GlaSIdeal_decay_finite m →
    θ_run (Cert.GlaSIdeal.defs (F := Ideal)) (onTc (τ := Cert.GlaSIdeal.τ) (Cert.GlaSIdeal.main (F := Ideal))) ⟨m, fun _ => 0, g⟩ (fun r => (∀ c : Dev Cert.GlaSIdeal.nD,
      r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
      ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
      ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
      ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
      ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4)
      ∧ r.2.mem ((c.tc : Thread Cert.GlaSIdeal.nD Cert.GlaSIdeal.τ).loc Cert.GlaSIdeal.main_arg5) = m ((c.tc : Thread Cert.GlaSIdeal.nD Cert.GlaSIdeal.τ).loc Cert.GlaSIdeal.main_arg5)
      ∧ r.2.mem ((c.tc : Thread Cert.GlaSIdeal.nD Cert.GlaSIdeal.τ).loc Cert.GlaSIdeal.main_arg6) = m ((c.tc : Thread Cert.GlaSIdeal.nD Cert.GlaSIdeal.τ).loc Cert.GlaSIdeal.main_arg6))
      ∧ r.2.sem = fun _ => 0)

def quiescent_GlaSRefIdeal [hGlaSRefIdeal : Cert.GlaSRefIdeal.Facts] : Prop :=
  ∀ (m : (ℓ : Loc Cert.GlaSRefIdeal.nD Cert.GlaSRefIdeal.τ Cert.GlaSRefIdeal.sig) → Buf (Elt Ideal) ℓ) (g : Dev Cert.GlaSRefIdeal.nD → PrngReg), Pre_GlaSRefIdeal m →
    θ_run (Cert.GlaSRefIdeal.defs (F := Ideal)) (onTc (τ := Cert.GlaSRefIdeal.τ) (Cert.GlaSRefIdeal.main (F := Ideal))) ⟨m, fun _ => 0, g⟩ (fun r => (∀ c : Dev Cert.GlaSRefIdeal.nD,
      r.2.mem ((c.tc : Thread Cert.GlaSRefIdeal.nD Cert.GlaSRefIdeal.τ).loc Cert.GlaSRefIdeal.main_arg0) = m ((c.tc : Thread Cert.GlaSRefIdeal.nD Cert.GlaSRefIdeal.τ).loc Cert.GlaSRefIdeal.main_arg0)
      ∧ r.2.mem ((c.tc : Thread Cert.GlaSRefIdeal.nD Cert.GlaSRefIdeal.τ).loc Cert.GlaSRefIdeal.main_arg1) = m ((c.tc : Thread Cert.GlaSRefIdeal.nD Cert.GlaSRefIdeal.τ).loc Cert.GlaSRefIdeal.main_arg1)
      ∧ r.2.mem ((c.tc : Thread Cert.GlaSRefIdeal.nD Cert.GlaSRefIdeal.τ).loc Cert.GlaSRefIdeal.main_arg2) = m ((c.tc : Thread Cert.GlaSRefIdeal.nD Cert.GlaSRefIdeal.τ).loc Cert.GlaSRefIdeal.main_arg2)
      ∧ r.2.mem ((c.tc : Thread Cert.GlaSRefIdeal.nD Cert.GlaSRefIdeal.τ).loc Cert.GlaSRefIdeal.main_arg3) = m ((c.tc : Thread Cert.GlaSRefIdeal.nD Cert.GlaSRefIdeal.τ).loc Cert.GlaSRefIdeal.main_arg3)
      ∧ r.2.mem ((c.tc : Thread Cert.GlaSRefIdeal.nD Cert.GlaSRefIdeal.τ).loc Cert.GlaSRefIdeal.main_arg4) = m ((c.tc : Thread Cert.GlaSRefIdeal.nD Cert.GlaSRefIdeal.τ).loc Cert.GlaSRefIdeal.main_arg4)
      ∧ r.2.mem ((c.tc : Thread Cert.GlaSRefIdeal.nD Cert.GlaSRefIdeal.τ).loc Cert.GlaSRefIdeal.main_arg5) = m ((c.tc : Thread Cert.GlaSRefIdeal.nD Cert.GlaSRefIdeal.τ).loc Cert.GlaSRefIdeal.main_arg5)
      ∧ r.2.mem ((c.tc : Thread Cert.GlaSRefIdeal.nD Cert.GlaSRefIdeal.τ).loc Cert.GlaSRefIdeal.main_arg6) = m ((c.tc : Thread Cert.GlaSRefIdeal.nD Cert.GlaSRefIdeal.τ).loc Cert.GlaSRefIdeal.main_arg6))
      ∧ r.2.sem = fun _ => 0)

def quiescent_GlaSRefIdeal_pre_decay_finite [hGlaSRefIdeal : Cert.GlaSRefIdeal.Facts] [hPre_decay_finite : Cert.Pre_decay_finite.Facts] : Prop :=
  ∀ (m : (ℓ : Loc Cert.GlaSRefIdeal.nD Cert.GlaSRefIdeal.τ Cert.GlaSRefIdeal.sig) → Buf (Elt Ideal) ℓ) (g : Dev Cert.GlaSRefIdeal.nD → PrngReg), Pre_GlaSRefIdeal_decay_finite m →
    θ_run (Cert.GlaSRefIdeal.defs (F := Ideal)) (onTc (τ := Cert.GlaSRefIdeal.τ) (Cert.GlaSRefIdeal.main (F := Ideal))) ⟨m, fun _ => 0, g⟩ (fun r => (∀ c : Dev Cert.GlaSRefIdeal.nD,
      r.2.mem ((c.tc : Thread Cert.GlaSRefIdeal.nD Cert.GlaSRefIdeal.τ).loc Cert.GlaSRefIdeal.main_arg0) = m ((c.tc : Thread Cert.GlaSRefIdeal.nD Cert.GlaSRefIdeal.τ).loc Cert.GlaSRefIdeal.main_arg0)
      ∧ r.2.mem ((c.tc : Thread Cert.GlaSRefIdeal.nD Cert.GlaSRefIdeal.τ).loc Cert.GlaSRefIdeal.main_arg1) = m ((c.tc : Thread Cert.GlaSRefIdeal.nD Cert.GlaSRefIdeal.τ).loc Cert.GlaSRefIdeal.main_arg1)
      ∧ r.2.mem ((c.tc : Thread Cert.GlaSRefIdeal.nD Cert.GlaSRefIdeal.τ).loc Cert.GlaSRefIdeal.main_arg2) = m ((c.tc : Thread Cert.GlaSRefIdeal.nD Cert.GlaSRefIdeal.τ).loc Cert.GlaSRefIdeal.main_arg2)
      ∧ r.2.mem ((c.tc : Thread Cert.GlaSRefIdeal.nD Cert.GlaSRefIdeal.τ).loc Cert.GlaSRefIdeal.main_arg3) = m ((c.tc : Thread Cert.GlaSRefIdeal.nD Cert.GlaSRefIdeal.τ).loc Cert.GlaSRefIdeal.main_arg3)
      ∧ r.2.mem ((c.tc : Thread Cert.GlaSRefIdeal.nD Cert.GlaSRefIdeal.τ).loc Cert.GlaSRefIdeal.main_arg4) = m ((c.tc : Thread Cert.GlaSRefIdeal.nD Cert.GlaSRefIdeal.τ).loc Cert.GlaSRefIdeal.main_arg4)
      ∧ r.2.mem ((c.tc : Thread Cert.GlaSRefIdeal.nD Cert.GlaSRefIdeal.τ).loc Cert.GlaSRefIdeal.main_arg5) = m ((c.tc : Thread Cert.GlaSRefIdeal.nD Cert.GlaSRefIdeal.τ).loc Cert.GlaSRefIdeal.main_arg5)
      ∧ r.2.mem ((c.tc : Thread Cert.GlaSRefIdeal.nD Cert.GlaSRefIdeal.τ).loc Cert.GlaSRefIdeal.main_arg6) = m ((c.tc : Thread Cert.GlaSRefIdeal.nD Cert.GlaSRefIdeal.τ).loc Cert.GlaSRefIdeal.main_arg6))
      ∧ r.2.sem = fun _ => 0)

def quiescent_OutProjS [hOutProjS : Cert.OutProjS.Facts] : Prop :=
  ∀ (m : (ℓ : Loc Cert.OutProjS.nD Cert.OutProjS.τ Cert.OutProjS.sig) → Buf (Elt Bits) ℓ) (g : Dev Cert.OutProjS.nD → PrngReg), Pre_OutProjS m →
    θ_run (Cert.OutProjS.defs (F := Bits)) (onTc (τ := Cert.OutProjS.τ) (Cert.OutProjS.main (F := Bits))) ⟨m, fun _ => 0, g⟩ (fun r => (∀ c : Dev Cert.OutProjS.nD,
      r.2.mem ((c.tc : Thread Cert.OutProjS.nD Cert.OutProjS.τ).loc Cert.OutProjS.main_arg0) = m ((c.tc : Thread Cert.OutProjS.nD Cert.OutProjS.τ).loc Cert.OutProjS.main_arg0)
      ∧ r.2.mem ((c.tc : Thread Cert.OutProjS.nD Cert.OutProjS.τ).loc Cert.OutProjS.main_arg1) = m ((c.tc : Thread Cert.OutProjS.nD Cert.OutProjS.τ).loc Cert.OutProjS.main_arg1)
      ∧ r.2.mem ((c.tc : Thread Cert.OutProjS.nD Cert.OutProjS.τ).loc Cert.OutProjS.main_arg2) = m ((c.tc : Thread Cert.OutProjS.nD Cert.OutProjS.τ).loc Cert.OutProjS.main_arg2)
      ∧ r.2.mem ((c.tc : Thread Cert.OutProjS.nD Cert.OutProjS.τ).loc Cert.OutProjS.main_arg3) = m ((c.tc : Thread Cert.OutProjS.nD Cert.OutProjS.τ).loc Cert.OutProjS.main_arg3))
      ∧ r.2.sem = fun _ => 0)

def quiescent_OutProjSIdeal [hOutProjSIdeal : Cert.OutProjSIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg), Pre_OutProjSIdeal m →
    θ_run (Cert.OutProjSIdeal.defs (F := Ideal)) (onTc (τ := Cert.OutProjSIdeal.τ) (Cert.OutProjSIdeal.main (F := Ideal))) ⟨m, fun _ => 0, g⟩ (fun r => (∀ c : Dev Cert.OutProjSIdeal.nD,
      r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
      ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
      ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2)
      ∧ r.2.mem ((c.tc : Thread Cert.OutProjSIdeal.nD Cert.OutProjSIdeal.τ).loc Cert.OutProjSIdeal.main_arg3) = m ((c.tc : Thread Cert.OutProjSIdeal.nD Cert.OutProjSIdeal.τ).loc Cert.OutProjSIdeal.main_arg3))
      ∧ r.2.sem = fun _ => 0)

def quiescent_OutProjSRefIdeal [hOutProjSRefIdeal : Cert.OutProjSRefIdeal.Facts] : Prop :=
  ∀ (m : (ℓ : Loc Cert.OutProjSRefIdeal.nD Cert.OutProjSRefIdeal.τ Cert.OutProjSRefIdeal.sig) → Buf (Elt Ideal) ℓ) (g : Dev Cert.OutProjSRefIdeal.nD → PrngReg), Pre_OutProjSRefIdeal m →
    θ_run (Cert.OutProjSRefIdeal.defs (F := Ideal)) (onTc (τ := Cert.OutProjSRefIdeal.τ) (Cert.OutProjSRefIdeal.main (F := Ideal))) ⟨m, fun _ => 0, g⟩ (fun r => (∀ c : Dev Cert.OutProjSRefIdeal.nD,
      r.2.mem ((c.tc : Thread Cert.OutProjSRefIdeal.nD Cert.OutProjSRefIdeal.τ).loc Cert.OutProjSRefIdeal.main_arg0) = m ((c.tc : Thread Cert.OutProjSRefIdeal.nD Cert.OutProjSRefIdeal.τ).loc Cert.OutProjSRefIdeal.main_arg0)
      ∧ r.2.mem ((c.tc : Thread Cert.OutProjSRefIdeal.nD Cert.OutProjSRefIdeal.τ).loc Cert.OutProjSRefIdeal.main_arg1) = m ((c.tc : Thread Cert.OutProjSRefIdeal.nD Cert.OutProjSRefIdeal.τ).loc Cert.OutProjSRefIdeal.main_arg1)
      ∧ r.2.mem ((c.tc : Thread Cert.OutProjSRefIdeal.nD Cert.OutProjSRefIdeal.τ).loc Cert.OutProjSRefIdeal.main_arg2) = m ((c.tc : Thread Cert.OutProjSRefIdeal.nD Cert.OutProjSRefIdeal.τ).loc Cert.OutProjSRefIdeal.main_arg2)
      ∧ r.2.mem ((c.tc : Thread Cert.OutProjSRefIdeal.nD Cert.OutProjSRefIdeal.τ).loc Cert.OutProjSRefIdeal.main_arg3) = m ((c.tc : Thread Cert.OutProjSRefIdeal.nD Cert.OutProjSRefIdeal.τ).loc Cert.OutProjSRefIdeal.main_arg3))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2)
      ∧ r.2.mem ((c.tc : Thread Cert.InProjS.nD Cert.InProjS.τ).loc Cert.InProjS.main_arg3) = m ((c.tc : Thread Cert.InProjS.nD Cert.InProjS.τ).loc Cert.InProjS.main_arg3)
      ∧ r.2.mem ((c.tc : Thread Cert.InProjS.nD Cert.InProjS.τ).loc Cert.InProjS.main_arg4) = m ((c.tc : Thread Cert.InProjS.nD Cert.InProjS.τ).loc Cert.InProjS.main_arg4)
      ∧ r.2.mem ((c.tc : Thread Cert.InProjS.nD Cert.InProjS.τ).loc Cert.InProjS.main_arg5) = m ((c.tc : Thread Cert.InProjS.nD Cert.InProjS.τ).loc Cert.InProjS.main_arg5)
      ∧ r.2.mem ((c.tc : Thread Cert.InProjS.nD Cert.InProjS.τ).loc Cert.InProjS.main_arg6) = m ((c.tc : Thread Cert.InProjS.nD Cert.InProjS.τ).loc Cert.InProjS.main_arg6))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
      ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3)
      ∧ r.2.mem ((c.tc : Thread Cert.InProjSIdeal.nD Cert.InProjSIdeal.τ).loc Cert.InProjSIdeal.main_arg4) = m ((c.tc : Thread Cert.InProjSIdeal.nD Cert.InProjSIdeal.τ).loc Cert.InProjSIdeal.main_arg4)
      ∧ r.2.mem ((c.tc : Thread Cert.InProjSIdeal.nD Cert.InProjSIdeal.τ).loc Cert.InProjSIdeal.main_arg5) = m ((c.tc : Thread Cert.InProjSIdeal.nD Cert.InProjSIdeal.τ).loc Cert.InProjSIdeal.main_arg5)
      ∧ r.2.mem ((c.tc : Thread Cert.InProjSIdeal.nD Cert.InProjSIdeal.τ).loc Cert.InProjSIdeal.main_arg6) = m ((c.tc : Thread Cert.InProjSIdeal.nD Cert.InProjSIdeal.τ).loc Cert.InProjSIdeal.main_arg6))
      ∧ r.2.sem = fun _ => 0)

def quiescent_InProjSRefIdeal [hInProjSRefIdeal : Cert.InProjSRefIdeal.Facts] : Prop :=
  ∀ (m : (ℓ : Loc Cert.InProjSRefIdeal.nD Cert.InProjSRefIdeal.τ Cert.InProjSRefIdeal.sig) → Buf (Elt Ideal) ℓ) (g : Dev Cert.InProjSRefIdeal.nD → PrngReg), Pre_InProjSRefIdeal m →
    θ_run (Cert.InProjSRefIdeal.defs (F := Ideal)) (onTc (τ := Cert.InProjSRefIdeal.τ) (Cert.InProjSRefIdeal.main (F := Ideal))) ⟨m, fun _ => 0, g⟩ (fun r => (∀ c : Dev Cert.InProjSRefIdeal.nD,
      r.2.mem ((c.tc : Thread Cert.InProjSRefIdeal.nD Cert.InProjSRefIdeal.τ).loc Cert.InProjSRefIdeal.main_arg0) = m ((c.tc : Thread Cert.InProjSRefIdeal.nD Cert.InProjSRefIdeal.τ).loc Cert.InProjSRefIdeal.main_arg0)
      ∧ r.2.mem ((c.tc : Thread Cert.InProjSRefIdeal.nD Cert.InProjSRefIdeal.τ).loc Cert.InProjSRefIdeal.main_arg1) = m ((c.tc : Thread Cert.InProjSRefIdeal.nD Cert.InProjSRefIdeal.τ).loc Cert.InProjSRefIdeal.main_arg1)
      ∧ r.2.mem ((c.tc : Thread Cert.InProjSRefIdeal.nD Cert.InProjSRefIdeal.τ).loc Cert.InProjSRefIdeal.main_arg2) = m ((c.tc : Thread Cert.InProjSRefIdeal.nD Cert.InProjSRefIdeal.τ).loc Cert.InProjSRefIdeal.main_arg2)
      ∧ r.2.mem ((c.tc : Thread Cert.InProjSRefIdeal.nD Cert.InProjSRefIdeal.τ).loc Cert.InProjSRefIdeal.main_arg3) = m ((c.tc : Thread Cert.InProjSRefIdeal.nD Cert.InProjSRefIdeal.τ).loc Cert.InProjSRefIdeal.main_arg3)
      ∧ r.2.mem ((c.tc : Thread Cert.InProjSRefIdeal.nD Cert.InProjSRefIdeal.τ).loc Cert.InProjSRefIdeal.main_arg4) = m ((c.tc : Thread Cert.InProjSRefIdeal.nD Cert.InProjSRefIdeal.τ).loc Cert.InProjSRefIdeal.main_arg4)
      ∧ r.2.mem ((c.tc : Thread Cert.InProjSRefIdeal.nD Cert.InProjSRefIdeal.τ).loc Cert.InProjSRefIdeal.main_arg5) = m ((c.tc : Thread Cert.InProjSRefIdeal.nD Cert.InProjSRefIdeal.τ).loc Cert.InProjSRefIdeal.main_arg5)
      ∧ r.2.mem ((c.tc : Thread Cert.InProjSRefIdeal.nD Cert.InProjSRefIdeal.τ).loc Cert.InProjSRefIdeal.main_arg6) = m ((c.tc : Thread Cert.InProjSRefIdeal.nD Cert.InProjSRefIdeal.τ).loc Cert.InProjSRefIdeal.main_arg6))
      ∧ r.2.sem = fun _ => 0)

def preserves_Attn_AttnIdeal : Prop :=
  True

def algebraic_AttnIdeal_AttnRefIdeal_pre_scores_finite [hAttnIdeal : Cert.AttnIdeal.Facts] [hAttnRefIdeal : Cert.AttnRefIdeal.Facts] [hPre_scores_finite : Cert.Pre_scores_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_scores_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v6)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v6) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v55) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v53_0)) (v1 : (c : Dev Cert.InProjIdeal.nD) → Buf (Elt Ideal) ((c.tc : Thread Cert.InProjIdeal.nD Cert.InProjIdeal.τ).loc Cert.InProjIdeal.main_v53_1)) (v2 : (c : Dev Cert.InProjIdeal.nD) → Buf (Elt Ideal) ((c.tc : Thread Cert.InProjIdeal.nD Cert.InProjIdeal.τ).loc Cert.InProjIdeal.main_v53_2)) (v3 : (c : Dev Cert.InProjIdeal.nD) → Buf (Elt Ideal) ((c.tc : Thread Cert.InProjIdeal.nD Cert.InProjIdeal.τ).loc Cert.InProjIdeal.main_v53_3)) (v4 : (c : Dev Cert.InProjIdeal.nD) → Buf (Elt Ideal) ((c.tc : Thread Cert.InProjIdeal.nD Cert.InProjIdeal.τ).loc Cert.InProjIdeal.main_v53_4)) (v5 : (c : Dev Cert.InProjIdeal.nD) → Buf (Elt Ideal) ((c.tc : Thread Cert.InProjIdeal.nD Cert.InProjIdeal.τ).loc Cert.InProjIdeal.main_v53_5)) (v6 : (c : Dev Cert.InProjIdeal.nD) → Buf (Elt Ideal) ((c.tc : Thread Cert.InProjIdeal.nD Cert.InProjIdeal.τ).loc Cert.InProjIdeal.main_v53_6)) (v7 : (c : Dev Cert.InProjIdeal.nD) → Buf (Elt Ideal) ((c.tc : Thread Cert.InProjIdeal.nD Cert.InProjIdeal.τ).loc Cert.InProjIdeal.main_v53_7)) (v8 : (c : Dev Cert.InProjIdeal.nD) → Buf (Elt Ideal) ((c.tc : Thread Cert.InProjIdeal.nD Cert.InProjIdeal.τ).loc Cert.InProjIdeal.main_v53_8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v53_0) = v0 c
          ∧ r.2.mem ((c.tc : Thread Cert.InProjIdeal.nD Cert.InProjIdeal.τ).loc Cert.InProjIdeal.main_v53_1) = v1 c
          ∧ r.2.mem ((c.tc : Thread Cert.InProjIdeal.nD Cert.InProjIdeal.τ).loc Cert.InProjIdeal.main_v53_2) = v2 c
          ∧ r.2.mem ((c.tc : Thread Cert.InProjIdeal.nD Cert.InProjIdeal.τ).loc Cert.InProjIdeal.main_v53_3) = v3 c
          ∧ r.2.mem ((c.tc : Thread Cert.InProjIdeal.nD Cert.InProjIdeal.τ).loc Cert.InProjIdeal.main_v53_4) = v4 c
          ∧ r.2.mem ((c.tc : Thread Cert.InProjIdeal.nD Cert.InProjIdeal.τ).loc Cert.InProjIdeal.main_v53_5) = v5 c
          ∧ r.2.mem ((c.tc : Thread Cert.InProjIdeal.nD Cert.InProjIdeal.τ).loc Cert.InProjIdeal.main_v53_6) = v6 c
          ∧ r.2.mem ((c.tc : Thread Cert.InProjIdeal.nD Cert.InProjIdeal.τ).loc Cert.InProjIdeal.main_v53_7) = v7 c
          ∧ r.2.mem ((c.tc : Thread Cert.InProjIdeal.nD Cert.InProjIdeal.τ).loc Cert.InProjIdeal.main_v53_8) = v8 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v75) = v0 c
          ∧ r.2.mem ((c.tc : Thread Cert.InProjRefIdeal.nD Cert.InProjRefIdeal.τ).loc Cert.InProjRefIdeal.main_v76) = v1 c
          ∧ r.2.mem ((c.tc : Thread Cert.InProjRefIdeal.nD Cert.InProjRefIdeal.τ).loc Cert.InProjRefIdeal.main_v77) = v2 c
          ∧ r.2.mem ((c.tc : Thread Cert.InProjRefIdeal.nD Cert.InProjRefIdeal.τ).loc Cert.InProjRefIdeal.main_v88) = v3 c
          ∧ r.2.mem ((c.tc : Thread Cert.InProjRefIdeal.nD Cert.InProjRefIdeal.τ).loc Cert.InProjRefIdeal.main_v92) = v4 c
          ∧ r.2.mem ((c.tc : Thread Cert.InProjRefIdeal.nD Cert.InProjRefIdeal.τ).loc Cert.InProjRefIdeal.main_v94) = v5 c
          ∧ r.2.mem ((c.tc : Thread Cert.InProjRefIdeal.nD Cert.InProjRefIdeal.τ).loc Cert.InProjRefIdeal.main_v96) = v6 c
          ∧ r.2.mem ((c.tc : Thread Cert.InProjRefIdeal.nD Cert.InProjRefIdeal.τ).loc Cert.InProjRefIdeal.main_v105) = v7 c
          ∧ r.2.mem ((c.tc : Thread Cert.InProjRefIdeal.nD Cert.InProjRefIdeal.τ).loc Cert.InProjRefIdeal.main_v106) = v8 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v9) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v10) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_AttnS_AttnSIdeal : Prop :=
  True

def algebraic_AttnSIdeal_AttnSRefIdeal [hAttnSIdeal : Cert.AttnSIdeal.Facts] [hAttnSRefIdeal : Cert.AttnSRefIdeal.Facts] : Prop :=
  ∀ (m : (ℓ : Loc Cert.AttnSIdeal.nD Cert.AttnSIdeal.τ Cert.AttnSIdeal.sig) → Buf (Elt Ideal) ℓ) (g : Dev Cert.AttnSIdeal.nD → PrngReg)
    (m' : (ℓ : Loc Cert.AttnSRefIdeal.nD Cert.AttnSRefIdeal.τ Cert.AttnSRefIdeal.sig) → Buf (Elt Ideal) ℓ) (g' : Dev Cert.AttnSRefIdeal.nD → PrngReg), Pre_AttnSIdeal m →
    (∀ c : Dev Cert.AttnSIdeal.nD,
      m' ((c.tc : Thread Cert.AttnSRefIdeal.nD Cert.AttnSRefIdeal.τ).loc Cert.AttnSRefIdeal.main_arg0) = m ((c.tc : Thread Cert.AttnSIdeal.nD Cert.AttnSIdeal.τ).loc Cert.AttnSIdeal.main_arg0)
      ∧ m' ((c.tc : Thread Cert.AttnSRefIdeal.nD Cert.AttnSRefIdeal.τ).loc Cert.AttnSRefIdeal.main_arg1) = m ((c.tc : Thread Cert.AttnSIdeal.nD Cert.AttnSIdeal.τ).loc Cert.AttnSIdeal.main_arg1)
      ∧ m' ((c.tc : Thread Cert.AttnSRefIdeal.nD Cert.AttnSRefIdeal.τ).loc Cert.AttnSRefIdeal.main_arg2) = m ((c.tc : Thread Cert.AttnSIdeal.nD Cert.AttnSIdeal.τ).loc Cert.AttnSIdeal.main_arg2)
      ∧ m' ((c.tc : Thread Cert.AttnSRefIdeal.nD Cert.AttnSRefIdeal.τ).loc Cert.AttnSRefIdeal.main_arg3) = m ((c.tc : Thread Cert.AttnSIdeal.nD Cert.AttnSIdeal.τ).loc Cert.AttnSIdeal.main_arg3)
      ∧ m' ((c.tc : Thread Cert.AttnSRefIdeal.nD Cert.AttnSRefIdeal.τ).loc Cert.AttnSRefIdeal.main_arg4) = m ((c.tc : Thread Cert.AttnSIdeal.nD Cert.AttnSIdeal.τ).loc Cert.AttnSIdeal.main_arg4)
      ∧ m' ((c.tc : Thread Cert.AttnSRefIdeal.nD Cert.AttnSRefIdeal.τ).loc Cert.AttnSRefIdeal.main_arg5) = m ((c.tc : Thread Cert.AttnSIdeal.nD Cert.AttnSIdeal.τ).loc Cert.AttnSIdeal.main_arg5)
      ∧ m' ((c.tc : Thread Cert.AttnSRefIdeal.nD Cert.AttnSRefIdeal.τ).loc Cert.AttnSRefIdeal.main_arg6) = m ((c.tc : Thread Cert.AttnSIdeal.nD Cert.AttnSIdeal.τ).loc Cert.AttnSIdeal.main_arg6)) →
    ∃ (v0 : (c : Dev Cert.AttnSIdeal.nD) → Buf (Elt Ideal) ((c.tc : Thread Cert.AttnSIdeal.nD Cert.AttnSIdeal.τ).loc Cert.AttnSIdeal.main_v4_0)) (v1 : (c : Dev Cert.AttnSIdeal.nD) → Buf (Elt Ideal) ((c.tc : Thread Cert.AttnSIdeal.nD Cert.AttnSIdeal.τ).loc Cert.AttnSIdeal.main_v4_1)) (v2 : (c : Dev Cert.AttnSIdeal.nD) → Buf (Elt Ideal) ((c.tc : Thread Cert.AttnSIdeal.nD Cert.AttnSIdeal.τ).loc Cert.AttnSIdeal.main_v4_2)),
      θ_run (Cert.AttnSIdeal.defs (F := Ideal)) (onTc (τ := Cert.AttnSIdeal.τ) (Cert.AttnSIdeal.main (F := Ideal))) ⟨m, fun _ => 0, g⟩ (fun r => ∀ c : Dev Cert.AttnSIdeal.nD,
          r.2.mem ((c.tc : Thread Cert.AttnSIdeal.nD Cert.AttnSIdeal.τ).loc Cert.AttnSIdeal.main_v4_0) = v0 c
          ∧ r.2.mem ((c.tc : Thread Cert.AttnSIdeal.nD Cert.AttnSIdeal.τ).loc Cert.AttnSIdeal.main_v4_1) = v1 c
          ∧ r.2.mem ((c.tc : Thread Cert.AttnSIdeal.nD Cert.AttnSIdeal.τ).loc Cert.AttnSIdeal.main_v4_2) = v2 c
          ∧ r.2.mem ((c.tc : Thread Cert.AttnSIdeal.nD Cert.AttnSIdeal.τ).loc Cert.AttnSIdeal.main_arg0) = m ((c.tc : Thread Cert.AttnSIdeal.nD Cert.AttnSIdeal.τ).loc Cert.AttnSIdeal.main_arg0)
          ∧ r.2.mem ((c.tc : Thread Cert.AttnSIdeal.nD Cert.AttnSIdeal.τ).loc Cert.AttnSIdeal.main_arg1) = m ((c.tc : Thread Cert.AttnSIdeal.nD Cert.AttnSIdeal.τ).loc Cert.AttnSIdeal.main_arg1)
          ∧ r.2.mem ((c.tc : Thread Cert.AttnSIdeal.nD Cert.AttnSIdeal.τ).loc Cert.AttnSIdeal.main_arg2) = m ((c.tc : Thread Cert.AttnSIdeal.nD Cert.AttnSIdeal.τ).loc Cert.AttnSIdeal.main_arg2)
          ∧ r.2.mem ((c.tc : Thread Cert.AttnSIdeal.nD Cert.AttnSIdeal.τ).loc Cert.AttnSIdeal.main_arg3) = m ((c.tc : Thread Cert.AttnSIdeal.nD Cert.AttnSIdeal.τ).loc Cert.AttnSIdeal.main_arg3)
          ∧ r.2.mem ((c.tc : Thread Cert.AttnSIdeal.nD Cert.AttnSIdeal.τ).loc Cert.AttnSIdeal.main_arg4) = m ((c.tc : Thread Cert.AttnSIdeal.nD Cert.AttnSIdeal.τ).loc Cert.AttnSIdeal.main_arg4)
          ∧ r.2.mem ((c.tc : Thread Cert.AttnSIdeal.nD Cert.AttnSIdeal.τ).loc Cert.AttnSIdeal.main_arg5) = m ((c.tc : Thread Cert.AttnSIdeal.nD Cert.AttnSIdeal.τ).loc Cert.AttnSIdeal.main_arg5)
          ∧ r.2.mem ((c.tc : Thread Cert.AttnSIdeal.nD Cert.AttnSIdeal.τ).loc Cert.AttnSIdeal.main_arg6) = m ((c.tc : Thread Cert.AttnSIdeal.nD Cert.AttnSIdeal.τ).loc Cert.AttnSIdeal.main_arg6))
      ∧ θ_run (Cert.AttnSRefIdeal.defs (F := Ideal)) (onTc (τ := Cert.AttnSRefIdeal.τ) (Cert.AttnSRefIdeal.main (F := Ideal))) ⟨m', fun _ => 0, g'⟩ (fun r => ∀ c : Dev Cert.AttnSRefIdeal.nD,
          r.2.mem ((c.tc : Thread Cert.AttnSRefIdeal.nD Cert.AttnSRefIdeal.τ).loc Cert.AttnSRefIdeal.main_v32) = v0 c
          ∧ r.2.mem ((c.tc : Thread Cert.AttnSRefIdeal.nD Cert.AttnSRefIdeal.τ).loc Cert.AttnSRefIdeal.main_v33) = v1 c
          ∧ r.2.mem ((c.tc : Thread Cert.AttnSRefIdeal.nD Cert.AttnSRefIdeal.τ).loc Cert.AttnSRefIdeal.main_v34) = v2 c
          ∧ r.2.mem ((c.tc : Thread Cert.AttnSRefIdeal.nD Cert.AttnSRefIdeal.τ).loc Cert.AttnSRefIdeal.main_arg0) = m' ((c.tc : Thread Cert.AttnSRefIdeal.nD Cert.AttnSRefIdeal.τ).loc Cert.AttnSRefIdeal.main_arg0)
          ∧ r.2.mem ((c.tc : Thread Cert.AttnSRefIdeal.nD Cert.AttnSRefIdeal.τ).loc Cert.AttnSRefIdeal.main_arg1) = m' ((c.tc : Thread Cert.AttnSRefIdeal.nD Cert.AttnSRefIdeal.τ).loc Cert.AttnSRefIdeal.main_arg1)
          ∧ r.2.mem ((c.tc : Thread Cert.AttnSRefIdeal.nD Cert.AttnSRefIdeal.τ).loc Cert.AttnSRefIdeal.main_arg2) = m' ((c.tc : Thread Cert.AttnSRefIdeal.nD Cert.AttnSRefIdeal.τ).loc Cert.AttnSRefIdeal.main_arg2)
          ∧ r.2.mem ((c.tc : Thread Cert.AttnSRefIdeal.nD Cert.AttnSRefIdeal.τ).loc Cert.AttnSRefIdeal.main_arg3) = m' ((c.tc : Thread Cert.AttnSRefIdeal.nD Cert.AttnSRefIdeal.τ).loc Cert.AttnSRefIdeal.main_arg3)
          ∧ r.2.mem ((c.tc : Thread Cert.AttnSRefIdeal.nD Cert.AttnSRefIdeal.τ).loc Cert.AttnSRefIdeal.main_arg4) = m' ((c.tc : Thread Cert.AttnSRefIdeal.nD Cert.AttnSRefIdeal.τ).loc Cert.AttnSRefIdeal.main_arg4)
          ∧ r.2.mem ((c.tc : Thread Cert.AttnSRefIdeal.nD Cert.AttnSRefIdeal.τ).loc Cert.AttnSRefIdeal.main_arg5) = m' ((c.tc : Thread Cert.AttnSRefIdeal.nD Cert.AttnSRefIdeal.τ).loc Cert.AttnSRefIdeal.main_arg5)
          ∧ r.2.mem ((c.tc : Thread Cert.AttnSRefIdeal.nD Cert.AttnSRefIdeal.τ).loc Cert.AttnSRefIdeal.main_arg6) = m' ((c.tc : Thread Cert.AttnSRefIdeal.nD Cert.AttnSRefIdeal.τ).loc Cert.AttnSRefIdeal.main_arg6))

def preserves_GlaS_GlaSIdeal : Prop :=
  True

def algebraic_GlaSIdeal_GlaSRefIdeal_pre_decay_finite [hGlaSIdeal : Cert.GlaSIdeal.Facts] [hGlaSRefIdeal : Cert.GlaSRefIdeal.Facts] [hPre_decay_finite : Cert.Pre_decay_finite.Facts] : Prop :=
  ∀ (m : (ℓ : Loc Cert.GlaSIdeal.nD Cert.GlaSIdeal.τ Cert.GlaSIdeal.sig) → Buf (Elt Ideal) ℓ) (g : Dev Cert.GlaSIdeal.nD → PrngReg)
    (m' : (ℓ : Loc Cert.GlaSRefIdeal.nD Cert.GlaSRefIdeal.τ Cert.GlaSRefIdeal.sig) → Buf (Elt Ideal) ℓ) (g' : Dev Cert.GlaSRefIdeal.nD → PrngReg), Pre_GlaSIdeal_decay_finite m →
    (∀ c : Dev Cert.GlaSIdeal.nD,
      m' ((c.tc : Thread Cert.GlaSRefIdeal.nD Cert.GlaSRefIdeal.τ).loc Cert.GlaSRefIdeal.main_arg0) = m ((c.tc : Thread Cert.GlaSIdeal.nD Cert.GlaSIdeal.τ).loc Cert.GlaSIdeal.main_arg0)
      ∧ m' ((c.tc : Thread Cert.GlaSRefIdeal.nD Cert.GlaSRefIdeal.τ).loc Cert.GlaSRefIdeal.main_arg1) = m ((c.tc : Thread Cert.GlaSIdeal.nD Cert.GlaSIdeal.τ).loc Cert.GlaSIdeal.main_arg1)
      ∧ m' ((c.tc : Thread Cert.GlaSRefIdeal.nD Cert.GlaSRefIdeal.τ).loc Cert.GlaSRefIdeal.main_arg2) = m ((c.tc : Thread Cert.GlaSIdeal.nD Cert.GlaSIdeal.τ).loc Cert.GlaSIdeal.main_arg2)
      ∧ m' ((c.tc : Thread Cert.GlaSRefIdeal.nD Cert.GlaSRefIdeal.τ).loc Cert.GlaSRefIdeal.main_arg3) = m ((c.tc : Thread Cert.GlaSIdeal.nD Cert.GlaSIdeal.τ).loc Cert.GlaSIdeal.main_arg3)
      ∧ m' ((c.tc : Thread Cert.GlaSRefIdeal.nD Cert.GlaSRefIdeal.τ).loc Cert.GlaSRefIdeal.main_arg4) = m ((c.tc : Thread Cert.GlaSIdeal.nD Cert.GlaSIdeal.τ).loc Cert.GlaSIdeal.main_arg4)
      ∧ m' ((c.tc : Thread Cert.GlaSRefIdeal.nD Cert.GlaSRefIdeal.τ).loc Cert.GlaSRefIdeal.main_arg5) = m ((c.tc : Thread Cert.GlaSIdeal.nD Cert.GlaSIdeal.τ).loc Cert.GlaSIdeal.main_arg5)
      ∧ m' ((c.tc : Thread Cert.GlaSRefIdeal.nD Cert.GlaSRefIdeal.τ).loc Cert.GlaSRefIdeal.main_arg6) = m ((c.tc : Thread Cert.GlaSIdeal.nD Cert.GlaSIdeal.τ).loc Cert.GlaSIdeal.main_arg6)) →
    ∃ (v0 : (c : Dev Cert.GlaSIdeal.nD) → Buf (Elt Ideal) ((c.tc : Thread Cert.GlaSIdeal.nD Cert.GlaSIdeal.τ).loc Cert.GlaSIdeal.main_v1_0)) (v1 : (c : Dev Cert.GlaSIdeal.nD) → Buf (Elt Ideal) ((c.tc : Thread Cert.GlaSIdeal.nD Cert.GlaSIdeal.τ).loc Cert.GlaSIdeal.main_v1_1)),
      θ_run (Cert.GlaSIdeal.defs (F := Ideal)) (onTc (τ := Cert.GlaSIdeal.τ) (Cert.GlaSIdeal.main (F := Ideal))) ⟨m, fun _ => 0, g⟩ (fun r => ∀ c : Dev Cert.GlaSIdeal.nD,
          r.2.mem ((c.tc : Thread Cert.GlaSIdeal.nD Cert.GlaSIdeal.τ).loc Cert.GlaSIdeal.main_v1_0) = v0 c
          ∧ r.2.mem ((c.tc : Thread Cert.GlaSIdeal.nD Cert.GlaSIdeal.τ).loc Cert.GlaSIdeal.main_v1_1) = v1 c
          ∧ r.2.mem ((c.tc : Thread Cert.GlaSIdeal.nD Cert.GlaSIdeal.τ).loc Cert.GlaSIdeal.main_arg0) = m ((c.tc : Thread Cert.GlaSIdeal.nD Cert.GlaSIdeal.τ).loc Cert.GlaSIdeal.main_arg0)
          ∧ r.2.mem ((c.tc : Thread Cert.GlaSIdeal.nD Cert.GlaSIdeal.τ).loc Cert.GlaSIdeal.main_arg1) = m ((c.tc : Thread Cert.GlaSIdeal.nD Cert.GlaSIdeal.τ).loc Cert.GlaSIdeal.main_arg1)
          ∧ r.2.mem ((c.tc : Thread Cert.GlaSIdeal.nD Cert.GlaSIdeal.τ).loc Cert.GlaSIdeal.main_arg2) = m ((c.tc : Thread Cert.GlaSIdeal.nD Cert.GlaSIdeal.τ).loc Cert.GlaSIdeal.main_arg2)
          ∧ r.2.mem ((c.tc : Thread Cert.GlaSIdeal.nD Cert.GlaSIdeal.τ).loc Cert.GlaSIdeal.main_arg3) = m ((c.tc : Thread Cert.GlaSIdeal.nD Cert.GlaSIdeal.τ).loc Cert.GlaSIdeal.main_arg3)
          ∧ r.2.mem ((c.tc : Thread Cert.GlaSIdeal.nD Cert.GlaSIdeal.τ).loc Cert.GlaSIdeal.main_arg4) = m ((c.tc : Thread Cert.GlaSIdeal.nD Cert.GlaSIdeal.τ).loc Cert.GlaSIdeal.main_arg4)
          ∧ r.2.mem ((c.tc : Thread Cert.GlaSIdeal.nD Cert.GlaSIdeal.τ).loc Cert.GlaSIdeal.main_arg5) = m ((c.tc : Thread Cert.GlaSIdeal.nD Cert.GlaSIdeal.τ).loc Cert.GlaSIdeal.main_arg5)
          ∧ r.2.mem ((c.tc : Thread Cert.GlaSIdeal.nD Cert.GlaSIdeal.τ).loc Cert.GlaSIdeal.main_arg6) = m ((c.tc : Thread Cert.GlaSIdeal.nD Cert.GlaSIdeal.τ).loc Cert.GlaSIdeal.main_arg6))
      ∧ θ_run (Cert.GlaSRefIdeal.defs (F := Ideal)) (onTc (τ := Cert.GlaSRefIdeal.τ) (Cert.GlaSRefIdeal.main (F := Ideal))) ⟨m', fun _ => 0, g'⟩ (fun r => ∀ c : Dev Cert.GlaSRefIdeal.nD,
          r.2.mem ((c.tc : Thread Cert.GlaSRefIdeal.nD Cert.GlaSRefIdeal.τ).loc Cert.GlaSRefIdeal.main_v59) = v0 c
          ∧ r.2.mem ((c.tc : Thread Cert.GlaSRefIdeal.nD Cert.GlaSRefIdeal.τ).loc Cert.GlaSRefIdeal.main_v42) = v1 c
          ∧ r.2.mem ((c.tc : Thread Cert.GlaSRefIdeal.nD Cert.GlaSRefIdeal.τ).loc Cert.GlaSRefIdeal.main_arg0) = m' ((c.tc : Thread Cert.GlaSRefIdeal.nD Cert.GlaSRefIdeal.τ).loc Cert.GlaSRefIdeal.main_arg0)
          ∧ r.2.mem ((c.tc : Thread Cert.GlaSRefIdeal.nD Cert.GlaSRefIdeal.τ).loc Cert.GlaSRefIdeal.main_arg1) = m' ((c.tc : Thread Cert.GlaSRefIdeal.nD Cert.GlaSRefIdeal.τ).loc Cert.GlaSRefIdeal.main_arg1)
          ∧ r.2.mem ((c.tc : Thread Cert.GlaSRefIdeal.nD Cert.GlaSRefIdeal.τ).loc Cert.GlaSRefIdeal.main_arg2) = m' ((c.tc : Thread Cert.GlaSRefIdeal.nD Cert.GlaSRefIdeal.τ).loc Cert.GlaSRefIdeal.main_arg2)
          ∧ r.2.mem ((c.tc : Thread Cert.GlaSRefIdeal.nD Cert.GlaSRefIdeal.τ).loc Cert.GlaSRefIdeal.main_arg3) = m' ((c.tc : Thread Cert.GlaSRefIdeal.nD Cert.GlaSRefIdeal.τ).loc Cert.GlaSRefIdeal.main_arg3)
          ∧ r.2.mem ((c.tc : Thread Cert.GlaSRefIdeal.nD Cert.GlaSRefIdeal.τ).loc Cert.GlaSRefIdeal.main_arg4) = m' ((c.tc : Thread Cert.GlaSRefIdeal.nD Cert.GlaSRefIdeal.τ).loc Cert.GlaSRefIdeal.main_arg4)
          ∧ r.2.mem ((c.tc : Thread Cert.GlaSRefIdeal.nD Cert.GlaSRefIdeal.τ).loc Cert.GlaSRefIdeal.main_arg5) = m' ((c.tc : Thread Cert.GlaSRefIdeal.nD Cert.GlaSRefIdeal.τ).loc Cert.GlaSRefIdeal.main_arg5)
          ∧ r.2.mem ((c.tc : Thread Cert.GlaSRefIdeal.nD Cert.GlaSRefIdeal.τ).loc Cert.GlaSRefIdeal.main_arg6) = m' ((c.tc : Thread Cert.GlaSRefIdeal.nD Cert.GlaSRefIdeal.τ).loc Cert.GlaSRefIdeal.main_arg6))

def preserves_OutProjS_OutProjSIdeal : Prop :=
  True

def algebraic_OutProjSIdeal_OutProjSRefIdeal [hOutProjSIdeal : Cert.OutProjSIdeal.Facts] [hOutProjSRefIdeal : Cert.OutProjSRefIdeal.Facts] : Prop :=
  ∀ (m : (ℓ : Loc Cert.OutProjSIdeal.nD Cert.OutProjSIdeal.τ Cert.OutProjSIdeal.sig) → Buf (Elt Ideal) ℓ) (g : Dev Cert.OutProjSIdeal.nD → PrngReg)
    (m' : (ℓ : Loc Cert.OutProjSRefIdeal.nD Cert.OutProjSRefIdeal.τ Cert.OutProjSRefIdeal.sig) → Buf (Elt Ideal) ℓ) (g' : Dev Cert.OutProjSRefIdeal.nD → PrngReg), Pre_OutProjSIdeal m →
    (∀ c : Dev Cert.OutProjSIdeal.nD,
      m' ((c.tc : Thread Cert.OutProjSRefIdeal.nD Cert.OutProjSRefIdeal.τ).loc Cert.OutProjSRefIdeal.main_arg0) = m ((c.tc : Thread Cert.OutProjSIdeal.nD Cert.OutProjSIdeal.τ).loc Cert.OutProjSIdeal.main_arg0)
      ∧ m' ((c.tc : Thread Cert.OutProjSRefIdeal.nD Cert.OutProjSRefIdeal.τ).loc Cert.OutProjSRefIdeal.main_arg1) = m ((c.tc : Thread Cert.OutProjSIdeal.nD Cert.OutProjSIdeal.τ).loc Cert.OutProjSIdeal.main_arg1)
      ∧ m' ((c.tc : Thread Cert.OutProjSRefIdeal.nD Cert.OutProjSRefIdeal.τ).loc Cert.OutProjSRefIdeal.main_arg2) = m ((c.tc : Thread Cert.OutProjSIdeal.nD Cert.OutProjSIdeal.τ).loc Cert.OutProjSIdeal.main_arg2)
      ∧ m' ((c.tc : Thread Cert.OutProjSRefIdeal.nD Cert.OutProjSRefIdeal.τ).loc Cert.OutProjSRefIdeal.main_arg3) = m ((c.tc : Thread Cert.OutProjSIdeal.nD Cert.OutProjSIdeal.τ).loc Cert.OutProjSIdeal.main_arg3)) →
    ∃ (v0 : (c : Dev Cert.OutProjSIdeal.nD) → Buf (Elt Ideal) ((c.tc : Thread Cert.OutProjSIdeal.nD Cert.OutProjSIdeal.τ).loc Cert.OutProjSIdeal.main_v9)),
      θ_run (Cert.OutProjSIdeal.defs (F := Ideal)) (onTc (τ := Cert.OutProjSIdeal.τ) (Cert.OutProjSIdeal.main (F := Ideal))) ⟨m, fun _ => 0, g⟩ (fun r => ∀ c : Dev Cert.OutProjSIdeal.nD,
          r.2.mem ((c.tc : Thread Cert.OutProjSIdeal.nD Cert.OutProjSIdeal.τ).loc Cert.OutProjSIdeal.main_v9) = v0 c
          ∧ r.2.mem ((c.tc : Thread Cert.OutProjSIdeal.nD Cert.OutProjSIdeal.τ).loc Cert.OutProjSIdeal.main_arg0) = m ((c.tc : Thread Cert.OutProjSIdeal.nD Cert.OutProjSIdeal.τ).loc Cert.OutProjSIdeal.main_arg0)
          ∧ r.2.mem ((c.tc : Thread Cert.OutProjSIdeal.nD Cert.OutProjSIdeal.τ).loc Cert.OutProjSIdeal.main_arg1) = m ((c.tc : Thread Cert.OutProjSIdeal.nD Cert.OutProjSIdeal.τ).loc Cert.OutProjSIdeal.main_arg1)
          ∧ r.2.mem ((c.tc : Thread Cert.OutProjSIdeal.nD Cert.OutProjSIdeal.τ).loc Cert.OutProjSIdeal.main_arg2) = m ((c.tc : Thread Cert.OutProjSIdeal.nD Cert.OutProjSIdeal.τ).loc Cert.OutProjSIdeal.main_arg2)
          ∧ r.2.mem ((c.tc : Thread Cert.OutProjSIdeal.nD Cert.OutProjSIdeal.τ).loc Cert.OutProjSIdeal.main_arg3) = m ((c.tc : Thread Cert.OutProjSIdeal.nD Cert.OutProjSIdeal.τ).loc Cert.OutProjSIdeal.main_arg3))
      ∧ θ_run (Cert.OutProjSRefIdeal.defs (F := Ideal)) (onTc (τ := Cert.OutProjSRefIdeal.τ) (Cert.OutProjSRefIdeal.main (F := Ideal))) ⟨m', fun _ => 0, g'⟩ (fun r => ∀ c : Dev Cert.OutProjSRefIdeal.nD,
          r.2.mem ((c.tc : Thread Cert.OutProjSRefIdeal.nD Cert.OutProjSRefIdeal.τ).loc Cert.OutProjSRefIdeal.main_v10) = v0 c
          ∧ r.2.mem ((c.tc : Thread Cert.OutProjSRefIdeal.nD Cert.OutProjSRefIdeal.τ).loc Cert.OutProjSRefIdeal.main_arg0) = m' ((c.tc : Thread Cert.OutProjSRefIdeal.nD Cert.OutProjSRefIdeal.τ).loc Cert.OutProjSRefIdeal.main_arg0)
          ∧ r.2.mem ((c.tc : Thread Cert.OutProjSRefIdeal.nD Cert.OutProjSRefIdeal.τ).loc Cert.OutProjSRefIdeal.main_arg1) = m' ((c.tc : Thread Cert.OutProjSRefIdeal.nD Cert.OutProjSRefIdeal.τ).loc Cert.OutProjSRefIdeal.main_arg1)
          ∧ r.2.mem ((c.tc : Thread Cert.OutProjSRefIdeal.nD Cert.OutProjSRefIdeal.τ).loc Cert.OutProjSRefIdeal.main_arg2) = m' ((c.tc : Thread Cert.OutProjSRefIdeal.nD Cert.OutProjSRefIdeal.τ).loc Cert.OutProjSRefIdeal.main_arg2)
          ∧ r.2.mem ((c.tc : Thread Cert.OutProjSRefIdeal.nD Cert.OutProjSRefIdeal.τ).loc Cert.OutProjSRefIdeal.main_arg3) = m' ((c.tc : Thread Cert.OutProjSRefIdeal.nD Cert.OutProjSRefIdeal.τ).loc Cert.OutProjSRefIdeal.main_arg3))

def preserves_InProjS_InProjSIdeal : Prop :=
  True

def algebraic_InProjSIdeal_InProjSRefIdeal [hInProjSIdeal : Cert.InProjSIdeal.Facts] [hInProjSRefIdeal : Cert.InProjSRefIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InProjSRefIdeal.nD Cert.InProjSRefIdeal.τ Cert.InProjSRefIdeal.sig) → Buf (Elt Ideal) ℓ) (g' : Dev Cert.InProjSRefIdeal.nD → PrngReg), Pre_InProjSIdeal m →
    (∀ c : Dev Cert.InProjSIdeal.nD,
      m' ((c.tc : Thread Cert.InProjSRefIdeal.nD Cert.InProjSRefIdeal.τ).loc Cert.InProjSRefIdeal.main_arg0) = m ((c.tc : Thread Cert.InProjSIdeal.nD Cert.InProjSIdeal.τ).loc Cert.InProjSIdeal.main_arg0)
      ∧ m' ((c.tc : Thread Cert.InProjSRefIdeal.nD Cert.InProjSRefIdeal.τ).loc Cert.InProjSRefIdeal.main_arg1) = m ((c.tc : Thread Cert.InProjSIdeal.nD Cert.InProjSIdeal.τ).loc Cert.InProjSIdeal.main_arg1)
      ∧ m' ((c.tc : Thread Cert.InProjSRefIdeal.nD Cert.InProjSRefIdeal.τ).loc Cert.InProjSRefIdeal.main_arg2) = m ((c.tc : Thread Cert.InProjSIdeal.nD Cert.InProjSIdeal.τ).loc Cert.InProjSIdeal.main_arg2)
      ∧ m' ((c.tc : Thread Cert.InProjSRefIdeal.nD Cert.InProjSRefIdeal.τ).loc Cert.InProjSRefIdeal.main_arg3) = m ((c.tc : Thread Cert.InProjSIdeal.nD Cert.InProjSIdeal.τ).loc Cert.InProjSIdeal.main_arg3)
      ∧ m' ((c.tc : Thread Cert.InProjSRefIdeal.nD Cert.InProjSRefIdeal.τ).loc Cert.InProjSRefIdeal.main_arg4) = m ((c.tc : Thread Cert.InProjSIdeal.nD Cert.InProjSIdeal.τ).loc Cert.InProjSIdeal.main_arg4)
      ∧ m' ((c.tc : Thread Cert.InProjSRefIdeal.nD Cert.InProjSRefIdeal.τ).loc Cert.InProjSRefIdeal.main_arg5) = m ((c.tc : Thread Cert.InProjSIdeal.nD Cert.InProjSIdeal.τ).loc Cert.InProjSIdeal.main_arg5)
      ∧ m' ((c.tc : Thread Cert.InProjSRefIdeal.nD Cert.InProjSRefIdeal.τ).loc Cert.InProjSRefIdeal.main_arg6) = m ((c.tc : Thread Cert.InProjSIdeal.nD Cert.InProjSIdeal.τ).loc Cert.InProjSIdeal.main_arg6)) →
    ∃ (v0 : (c : Dev Cert.InProjSIdeal.nD) → Buf (Elt Ideal) ((c.tc : Thread Cert.InProjSIdeal.nD Cert.InProjSIdeal.τ).loc Cert.InProjSIdeal.main_v53_0)) (v1 : (c : Dev Cert.InProjSIdeal.nD) → Buf (Elt Ideal) ((c.tc : Thread Cert.InProjSIdeal.nD Cert.InProjSIdeal.τ).loc Cert.InProjSIdeal.main_v53_1)) (v2 : (c : Dev Cert.InProjSIdeal.nD) → Buf (Elt Ideal) ((c.tc : Thread Cert.InProjSIdeal.nD Cert.InProjSIdeal.τ).loc Cert.InProjSIdeal.main_v53_2)) (v3 : (c : Dev Cert.InProjSIdeal.nD) → Buf (Elt Ideal) ((c.tc : Thread Cert.InProjSIdeal.nD Cert.InProjSIdeal.τ).loc Cert.InProjSIdeal.main_v53_3)) (v4 : (c : Dev Cert.InProjSIdeal.nD) → Buf (Elt Ideal) ((c.tc : Thread Cert.InProjSIdeal.nD Cert.InProjSIdeal.τ).loc Cert.InProjSIdeal.main_v53_4)) (v5 : (c : Dev Cert.InProjSIdeal.nD) → Buf (Elt Ideal) ((c.tc : Thread Cert.InProjSIdeal.nD Cert.InProjSIdeal.τ).loc Cert.InProjSIdeal.main_v53_5)) (v6 : (c : Dev Cert.InProjSIdeal.nD) → Buf (Elt Ideal) ((c.tc : Thread Cert.InProjSIdeal.nD Cert.InProjSIdeal.τ).loc Cert.InProjSIdeal.main_v53_6)) (v7 : (c : Dev Cert.InProjSIdeal.nD) → Buf (Elt Ideal) ((c.tc : Thread Cert.InProjSIdeal.nD Cert.InProjSIdeal.τ).loc Cert.InProjSIdeal.main_v53_7)) (v8 : (c : Dev Cert.InProjSIdeal.nD) → Buf (Elt Ideal) ((c.tc : Thread Cert.InProjSIdeal.nD Cert.InProjSIdeal.τ).loc Cert.InProjSIdeal.main_v53_8)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v53_0) = v0 c
          ∧ r.2.mem ((c.tc : Thread Cert.InProjSIdeal.nD Cert.InProjSIdeal.τ).loc Cert.InProjSIdeal.main_v53_1) = v1 c
          ∧ r.2.mem ((c.tc : Thread Cert.InProjSIdeal.nD Cert.InProjSIdeal.τ).loc Cert.InProjSIdeal.main_v53_2) = v2 c
          ∧ r.2.mem ((c.tc : Thread Cert.InProjSIdeal.nD Cert.InProjSIdeal.τ).loc Cert.InProjSIdeal.main_v53_3) = v3 c
          ∧ r.2.mem ((c.tc : Thread Cert.InProjSIdeal.nD Cert.InProjSIdeal.τ).loc Cert.InProjSIdeal.main_v53_4) = v4 c
          ∧ r.2.mem ((c.tc : Thread Cert.InProjSIdeal.nD Cert.InProjSIdeal.τ).loc Cert.InProjSIdeal.main_v53_5) = v5 c
          ∧ r.2.mem ((c.tc : Thread Cert.InProjSIdeal.nD Cert.InProjSIdeal.τ).loc Cert.InProjSIdeal.main_v53_6) = v6 c
          ∧ r.2.mem ((c.tc : Thread Cert.InProjSIdeal.nD Cert.InProjSIdeal.τ).loc Cert.InProjSIdeal.main_v53_7) = v7 c
          ∧ r.2.mem ((c.tc : Thread Cert.InProjSIdeal.nD Cert.InProjSIdeal.τ).loc Cert.InProjSIdeal.main_v53_8) = v8 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2)
          ∧ r.2.mem ((c.tc : Thread Cert.InProjSIdeal.nD Cert.InProjSIdeal.τ).loc Cert.InProjSIdeal.main_arg3) = m ((c.tc : Thread Cert.InProjSIdeal.nD Cert.InProjSIdeal.τ).loc Cert.InProjSIdeal.main_arg3)
          ∧ r.2.mem ((c.tc : Thread Cert.InProjSIdeal.nD Cert.InProjSIdeal.τ).loc Cert.InProjSIdeal.main_arg4) = m ((c.tc : Thread Cert.InProjSIdeal.nD Cert.InProjSIdeal.τ).loc Cert.InProjSIdeal.main_arg4)
          ∧ r.2.mem ((c.tc : Thread Cert.InProjSIdeal.nD Cert.InProjSIdeal.τ).loc Cert.InProjSIdeal.main_arg5) = m ((c.tc : Thread Cert.InProjSIdeal.nD Cert.InProjSIdeal.τ).loc Cert.InProjSIdeal.main_arg5)
          ∧ r.2.mem ((c.tc : Thread Cert.InProjSIdeal.nD Cert.InProjSIdeal.τ).loc Cert.InProjSIdeal.main_arg6) = m ((c.tc : Thread Cert.InProjSIdeal.nD Cert.InProjSIdeal.τ).loc Cert.InProjSIdeal.main_arg6))
      ∧ θ_run (Cert.InProjSRefIdeal.defs (F := Ideal)) (onTc (τ := Cert.InProjSRefIdeal.τ) (Cert.InProjSRefIdeal.main (F := Ideal))) ⟨m', fun _ => 0, g'⟩ (fun r => ∀ c : Dev Cert.InProjSRefIdeal.nD,
          r.2.mem ((c.tc : Thread Cert.InProjSRefIdeal.nD Cert.InProjSRefIdeal.τ).loc Cert.InProjSRefIdeal.main_v75) = v0 c
          ∧ r.2.mem ((c.tc : Thread Cert.InProjSRefIdeal.nD Cert.InProjSRefIdeal.τ).loc Cert.InProjSRefIdeal.main_v76) = v1 c
          ∧ r.2.mem ((c.tc : Thread Cert.InProjSRefIdeal.nD Cert.InProjSRefIdeal.τ).loc Cert.InProjSRefIdeal.main_v77) = v2 c
          ∧ r.2.mem ((c.tc : Thread Cert.InProjSRefIdeal.nD Cert.InProjSRefIdeal.τ).loc Cert.InProjSRefIdeal.main_v88) = v3 c
          ∧ r.2.mem ((c.tc : Thread Cert.InProjSRefIdeal.nD Cert.InProjSRefIdeal.τ).loc Cert.InProjSRefIdeal.main_v92) = v4 c
          ∧ r.2.mem ((c.tc : Thread Cert.InProjSRefIdeal.nD Cert.InProjSRefIdeal.τ).loc Cert.InProjSRefIdeal.main_v94) = v5 c
          ∧ r.2.mem ((c.tc : Thread Cert.InProjSRefIdeal.nD Cert.InProjSRefIdeal.τ).loc Cert.InProjSRefIdeal.main_v96) = v6 c
          ∧ r.2.mem ((c.tc : Thread Cert.InProjSRefIdeal.nD Cert.InProjSRefIdeal.τ).loc Cert.InProjSRefIdeal.main_v105) = v7 c
          ∧ r.2.mem ((c.tc : Thread Cert.InProjSRefIdeal.nD Cert.InProjSRefIdeal.τ).loc Cert.InProjSRefIdeal.main_v106) = v8 c
          ∧ r.2.mem ((c.tc : Thread Cert.InProjSRefIdeal.nD Cert.InProjSRefIdeal.τ).loc Cert.InProjSRefIdeal.main_arg0) = m' ((c.tc : Thread Cert.InProjSRefIdeal.nD Cert.InProjSRefIdeal.τ).loc Cert.InProjSRefIdeal.main_arg0)
          ∧ r.2.mem ((c.tc : Thread Cert.InProjSRefIdeal.nD Cert.InProjSRefIdeal.τ).loc Cert.InProjSRefIdeal.main_arg1) = m' ((c.tc : Thread Cert.InProjSRefIdeal.nD Cert.InProjSRefIdeal.τ).loc Cert.InProjSRefIdeal.main_arg1)
          ∧ r.2.mem ((c.tc : Thread Cert.InProjSRefIdeal.nD Cert.InProjSRefIdeal.τ).loc Cert.InProjSRefIdeal.main_arg2) = m' ((c.tc : Thread Cert.InProjSRefIdeal.nD Cert.InProjSRefIdeal.τ).loc Cert.InProjSRefIdeal.main_arg2)
          ∧ r.2.mem ((c.tc : Thread Cert.InProjSRefIdeal.nD Cert.InProjSRefIdeal.τ).loc Cert.InProjSRefIdeal.main_arg3) = m' ((c.tc : Thread Cert.InProjSRefIdeal.nD Cert.InProjSRefIdeal.τ).loc Cert.InProjSRefIdeal.main_arg3)
          ∧ r.2.mem ((c.tc : Thread Cert.InProjSRefIdeal.nD Cert.InProjSRefIdeal.τ).loc Cert.InProjSRefIdeal.main_arg4) = m' ((c.tc : Thread Cert.InProjSRefIdeal.nD Cert.InProjSRefIdeal.τ).loc Cert.InProjSRefIdeal.main_arg4)
          ∧ r.2.mem ((c.tc : Thread Cert.InProjSRefIdeal.nD Cert.InProjSRefIdeal.τ).loc Cert.InProjSRefIdeal.main_arg5) = m' ((c.tc : Thread Cert.InProjSRefIdeal.nD Cert.InProjSRefIdeal.τ).loc Cert.InProjSRefIdeal.main_arg5)
          ∧ r.2.mem ((c.tc : Thread Cert.InProjSRefIdeal.nD Cert.InProjSRefIdeal.τ).loc Cert.InProjSRefIdeal.main_arg6) = m' ((c.tc : Thread Cert.InProjSRefIdeal.nD Cert.InProjSRefIdeal.τ).loc Cert.InProjSRefIdeal.main_arg6))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAttnS : Cert.AttnS.Facts) (hAttnSIdeal : Cert.AttnSIdeal.Facts) (hAttnSRefIdeal : Cert.AttnSRefIdeal.Facts) (hGlaS : Cert.GlaS.Facts) (hGlaSIdeal : Cert.GlaSIdeal.Facts) (hGlaSRefIdeal : Cert.GlaSRefIdeal.Facts) (hOutProjS : Cert.OutProjS.Facts) (hOutProjSIdeal : Cert.OutProjSIdeal.Facts) (hOutProjSRefIdeal : Cert.OutProjSRefIdeal.Facts) (hInProjS : Cert.InProjS.Facts) (hInProjSIdeal : Cert.InProjSIdeal.Facts) (hInProjSRefIdeal : Cert.InProjSRefIdeal.Facts) (hPre_scores_finite : Cert.Pre_scores_finite.Facts) (hPre_decay_finite : Cert.Pre_decay_finite.Facts),
    quiescent_Attn (hAttn := hAttn)
    ∧ quiescent_AttnIdeal (hAttnIdeal := hAttnIdeal)
    ∧ quiescent_AttnIdeal_pre_scores_finite (hAttnIdeal := hAttnIdeal) (hPre_scores_finite := hPre_scores_finite)
    ∧ quiescent_AttnRefIdeal (hAttnRefIdeal := hAttnRefIdeal)
    ∧ quiescent_AttnRefIdeal_pre_scores_finite (hAttnRefIdeal := hAttnRefIdeal) (hPre_scores_finite := hPre_scores_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AttnS (hAttnS := hAttnS)
    ∧ quiescent_AttnSIdeal (hAttnSIdeal := hAttnSIdeal)
    ∧ quiescent_AttnSRefIdeal (hAttnSRefIdeal := hAttnSRefIdeal)
    ∧ quiescent_GlaS (hGlaS := hGlaS)
    ∧ quiescent_GlaSIdeal (hGlaSIdeal := hGlaSIdeal)
    ∧ quiescent_GlaSIdeal_pre_decay_finite (hGlaSIdeal := hGlaSIdeal) (hPre_decay_finite := hPre_decay_finite)
    ∧ quiescent_GlaSRefIdeal (hGlaSRefIdeal := hGlaSRefIdeal)
    ∧ quiescent_GlaSRefIdeal_pre_decay_finite (hGlaSRefIdeal := hGlaSRefIdeal) (hPre_decay_finite := hPre_decay_finite)
    ∧ quiescent_OutProjS (hOutProjS := hOutProjS)
    ∧ quiescent_OutProjSIdeal (hOutProjSIdeal := hOutProjSIdeal)
    ∧ quiescent_OutProjSRefIdeal (hOutProjSRefIdeal := hOutProjSRefIdeal)
    ∧ quiescent_InProjS (hInProjS := hInProjS)
    ∧ quiescent_InProjSIdeal (hInProjSIdeal := hInProjSIdeal)
    ∧ quiescent_InProjSRefIdeal (hInProjSRefIdeal := hInProjSRefIdeal)
    ∧ preserves_Attn_AttnIdeal
    ∧ algebraic_AttnIdeal_AttnRefIdeal_pre_scores_finite (hAttnIdeal := hAttnIdeal) (hAttnRefIdeal := hAttnRefIdeal) (hPre_scores_finite := hPre_scores_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_AttnS_AttnSIdeal
    ∧ algebraic_AttnSIdeal_AttnSRefIdeal (hAttnSIdeal := hAttnSIdeal) (hAttnSRefIdeal := hAttnSRefIdeal)
    ∧ preserves_GlaS_GlaSIdeal
    ∧ algebraic_GlaSIdeal_GlaSRefIdeal_pre_decay_finite (hGlaSIdeal := hGlaSIdeal) (hGlaSRefIdeal := hGlaSRefIdeal) (hPre_decay_finite := hPre_decay_finite)
    ∧ preserves_OutProjS_OutProjSIdeal
    ∧ algebraic_OutProjSIdeal_OutProjSRefIdeal (hOutProjSIdeal := hOutProjSIdeal) (hOutProjSRefIdeal := hOutProjSRefIdeal)
    ∧ preserves_InProjS_InProjSIdeal
    ∧ algebraic_InProjSIdeal_InProjSRefIdeal (hInProjSIdeal := hInProjSIdeal) (hInProjSRefIdeal := hInProjSRefIdeal)
-- ==== Pre_decay_finite.lean ====
abbrev S256x512 : Shape := ⟨2, ![256, 512]⟩
abbrev S256x1024 : Shape := ⟨2, ![256, 1024]⟩
abbrev S16x4x128x256 : Shape := ⟨4, ![16, 4, 128, 256]⟩
abbrev S256 : Shape := ⟨1, ![256]⟩
abbrev S_ : Shape := ⟨0, ![]⟩

class Facts : Prop where
  bcast_S_S256x512 : S_.BroadcastsInDim S256x512 (![] : Fin 0 → Fin S256x512.rank)

variable [Facts]

def fn {F : FTy → Type} [FloatOps F] (main_arg0 : FVec F S256x512 .bf16) (main_arg1 : FVec F S256x512 .bf16) (main_arg2 : FVec F S256x1024 .bf16) (main_arg3 : FVec F S256x1024 .bf16) (main_arg4 : FVec F S256x512 .f32) (main_arg5 : FVec F S16x4x128x256 .f32) (main_arg6 : FVec F S256 .f32) : IVec S256x512 1 :=
  let main_v0 : FVec F S256x512 .f32 := Host.absf main_arg4
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  main_v2
-- ==== Pre_scores_finite.lean ====
abbrev S32768x1024 : Shape := ⟨2, ![32768, 1024]⟩
abbrev S32768x256 : Shape := ⟨2, ![32768, 256]⟩
abbrev S16 : Shape := ⟨1, ![16]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  bcast_S_S32768x256 : S_.BroadcastsInDim S32768x256 (![] : Fin 0 → Fin S32768x256.rank)
  bcast_S_S16 : S_.BroadcastsInDim S16 (![] : Fin 0 → Fin S16.rank)

variable [Facts]

def fn {F : FTy → Type} [FloatOps F] (main_arg0 : FVec F S32768x1024 .bf16) (main_arg1 : FVec F S32768x256 .f32) (main_arg2 : FVec F S32768x256 .f32) (main_arg3 : FVec F S32768x1024 .bf16) (main_arg4 : FVec F S16 .f32) : IVec S32768x1024 1 × IVec S32768x256 1 × IVec S16 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_v7 : FVec F S16 .f32 := Host.absf main_arg4
  let main_cst_1 : FVec F S_ .f32 := constant S_ .f32 0x7F800000#32
  let main_v8 : FVec F S16 .f32 := broadcastInDim S16 ![] bcast_S_S16 main_cst_1
  let main_v9 : IVec S16 1 := cmpf .olt main_v7 main_v8
  (main_v3, main_v6, main_v9)
-- ==== Attn.lean ====
abbrev S32768x1024 : Shape := ⟨2, ![32768, 1024]⟩
abbrev S32768x256 : Shape := ⟨2, ![32768, 256]⟩
abbrev S16 : Shape := ⟨1, ![16]⟩
abbrev S4x4 : Shape := ⟨2, ![4, 4]⟩
abbrev S4x4x1x1 : Shape := ⟨4, ![4, 4, 1, 1]⟩
abbrev S4x4x64x128 : Shape := ⟨4, ![4, 4, 64, 128]⟩
abbrev S4x256x128 : Shape := ⟨3, ![4, 256, 128]⟩
abbrev S8x4096x256 : Shape := ⟨3, ![8, 4096, 256]⟩
abbrev S512x1024 : Shape := ⟨2, ![512, 1024]⟩
abbrev S1x128x256 : Shape := ⟨3, ![1, 128, 256]⟩
abbrev S1x512x256 : Shape := ⟨3, ![1, 512, 256]⟩
abbrev S640x256 : Shape := ⟨2, ![640, 256]⟩
abbrev S128x256 : Shape := ⟨2, ![128, 256]⟩
abbrev S512x256 : Shape := ⟨2, ![512, 256]⟩
abbrev S1x128 : Shape := ⟨2, ![1, 128]⟩
abbrev S1x256 : Shape := ⟨2, ![1, 256]⟩
abbrev S1x768 : Shape := ⟨2, ![1, 768]⟩
abbrev S192x256 : Shape := ⟨2, ![192, 256]⟩
abbrev S768x256 : Shape := ⟨2, ![768, 256]⟩
abbrev S64x256 : Shape := ⟨2, ![64, 256]⟩
abbrev S256x256 : Shape := ⟨2, ![256, 256]⟩
abbrev S256x768 : Shape := ⟨2, ![256, 768]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S768x512 : Shape := ⟨2, ![768, 512]⟩
abbrev S256x512 : Shape := ⟨2, ![256, 512]⟩

abbrev nBuf : Space → Nat
  | .hbm => 12
  | .vmem => 17
  | .smem => 0
  | _ => 0

abbrev bufTy : (tb : Table) → Fin (tcTables nBuf tb) → BufTy
  | .hbm, ⟨0, _⟩ => ⟨S32768x1024, .bf16⟩
  | .hbm, ⟨1, _⟩ => ⟨S32768x256, .f32⟩
  | .hbm, ⟨2, _⟩ => ⟨S32768x256, .f32⟩
  | .hbm, ⟨3, _⟩ => ⟨S32768x1024, .bf16⟩
  | .hbm, ⟨4, _⟩ => ⟨S16, .f32⟩
  | .hbm, ⟨5, _⟩ => ⟨S4x4, .f32⟩
  | .hbm, ⟨6, _⟩ => ⟨S4x4x1x1, .f32⟩
  | .hbm, ⟨7, _⟩ => ⟨S4x4x64x128, .f32⟩
  | .hbm, ⟨8, _⟩ => ⟨S4x256x128, .f32⟩
  | .hbm, ⟨9, _⟩ => ⟨S8x4096x256, .f32⟩
  | .hbm, ⟨10, _⟩ => ⟨S8x4096x256, .f32⟩
  | .hbm, ⟨11, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1x128x256, .f32⟩
  | .local _ .vmem, ⟨3, _⟩ => ⟨S1x128x256, .f32⟩
  | .local _ .vmem, ⟨4, _⟩ => ⟨S1x512x256, .f32⟩
  | .local _ .vmem, ⟨5, _⟩ => ⟨S1x512x256, .f32⟩
  | .local _ .vmem, ⟨6, _⟩ => ⟨S1x128x256, .f32⟩
  | .local _ .vmem, ⟨7, _⟩ => ⟨S1x128x256, .f32⟩
  | .local _ .vmem, ⟨8, _⟩ => ⟨S1x512x256, .f32⟩
  | .local _ .vmem, ⟨9, _⟩ => ⟨S1x512x256, .f32⟩
  | .local _ .vmem, ⟨10, _⟩ => ⟨S512x1024, .bf16⟩
  | .local _ .vmem, ⟨11, _⟩ => ⟨S512x1024, .bf16⟩
  | .local _ .vmem, ⟨12, _⟩ => ⟨S4x256x128, .f32⟩
  | .local _ .vmem, ⟨13, _⟩ => ⟨S512x1024, .bf16⟩
  | .local _ .vmem, ⟨14, _⟩ => ⟨S512x1024, .bf16⟩
  | .local _ .vmem, ⟨15, _⟩ => ⟨S640x256, .bf16⟩
  | .local _ .vmem, ⟨16, _⟩ => ⟨S640x256, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32_35 : BitVec 32 := 0#32
  let c8_i32 : BitVec 32 := 8#32
  let v102 : BitVec 32 := Scalar.addi c0_i32_35 c8_i32
  let c1_i32_36 : BitVec 32 := 1#32
  ⟨c0_i32_35, v102, c1_i32_36⟩
def k0_mult1 (k0_t1 : Fin k0_t1_loop.trips) : BitVec 32 :=
  let c0_i32_35 : BitVec 32 := 0#32
  let c1_i32_36 : BitVec 32 := 1#32
  let arg12 : BitVec 32 := Scf.iv c0_i32_35 c1_i32_36 k0_t1
  let c64_i32_38 : BitVec 32 := 64#32
  let v103 : BitVec 32 := Scalar.muli arg12 c64_i32_38
  v103
def k0_off1 (k0_t1 : Fin k0_t1_loop.trips) : Fin 2 → Nat :=
  let c0_i32_35 : BitVec 32 := 0#32
  let c1_i32_36 : BitVec 32 := 1#32
  let arg12 : BitVec 32 := Scf.iv c0_i32_35 c1_i32_36 k0_t1
  let c64_i32_38 : BitVec 32 := 64#32
  let v103 : BitVec 32 := Scalar.muli arg12 c64_i32_38
  let v104 : BitVec 32 := v103
  let v105 : Index := Scalar.indexCast v104
  let c0_39 : Index := 0#32
  ![v105.toNat, 0]
def k0_off2 (k0_t1 : Fin k0_t1_loop.trips) : Fin 2 → Nat :=
  let c0_i32_35 : BitVec 32 := 0#32
  let c1_i32_36 : BitVec 32 := 1#32
  let arg12 : BitVec 32 := Scf.iv c0_i32_35 c1_i32_36 k0_t1
  let c64_i32_38 : BitVec 32 := 64#32
  let v103 : BitVec 32 := Scalar.muli arg12 c64_i32_38
  let v104 : BitVec 32 := v103
  let v152 : Index := Scalar.indexCast v104
  let c0_50 : Index := 0#32
  ![v152.toNat, 0]
def k0_off3 (k0_t1 : Fin k0_t1_loop.trips) : Fin 2 → Nat :=
  let c0_i32_35 : BitVec 32 := 0#32
  let c1_i32_36 : BitVec 32 := 1#32
  let arg12 : BitVec 32 := Scf.iv c0_i32_35 c1_i32_36 k0_t1
  let c64_i32_38 : BitVec 32 := 64#32
  let v103 : BitVec 32 := Scalar.muli arg12 c64_i32_38
  let v104 : BitVec 32 := v103
  let v154 : Index := Scalar.indexCast v104
  let c256 : Index := 256#32
  ![v154.toNat, 256]
def k0_off4 (k0_t1 : Fin k0_t1_loop.trips) : Fin 2 → Nat :=
  let c0_i32_35 : BitVec 32 := 0#32
  let c1_i32_36 : BitVec 32 := 1#32
  let arg12 : BitVec 32 := Scf.iv c0_i32_35 c1_i32_36 k0_t1
  let c64_i32_38 : BitVec 32 := 64#32
  let v103 : BitVec 32 := Scalar.muli arg12 c64_i32_38
  let v104 : BitVec 32 := v103
  let v156 : Index := Scalar.indexCast v104
  let c512 : Index := 512#32
  ![v156.toNat, 512]
def k0_off5 (k0_t1 : Fin k0_t1_loop.trips) : Fin 2 → Nat :=
  let c0_i32_35 : BitVec 32 := 0#32
  let c1_i32_36 : BitVec 32 := 1#32
  let arg12 : BitVec 32 := Scf.iv c0_i32_35 c1_i32_36 k0_t1
  let c64_i32_38 : BitVec 32 := 64#32
  let v103 : BitVec 32 := Scalar.muli arg12 c64_i32_38
  let v104 : BitVec 32 := v103
  let v158 : Index := Scalar.indexCast v104
  let c768 : Index := 768#32
  ![v158.toNat, 768]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S32768x1024 : Shape := ⟨2, ![32768, 1024]⟩
abbrev S32768x256 : Shape := ⟨2, ![32768, 256]⟩
abbrev S16 : Shape := ⟨1, ![16]⟩
abbrev S8x64x64x4x4x64 : Shape := ⟨6, ![8, 64, 64, 4, 4, 64]⟩
abbrev S8x4096x4x64 : Shape := ⟨4, ![8, 4096, 4, 64]⟩
abbrev S_ : Shape := ⟨0, ![]⟩
abbrev S8x4224x4x64 : Shape := ⟨4, ![8, 4224, 4, 64]⟩
abbrev S8x66x64x4x64 : Shape := ⟨5, ![8, 66, 64, 4, 64]⟩
abbrev S8x64x64x4x64 : Shape := ⟨5, ![8, 64, 64, 4, 64]⟩
abbrev S8x64x192x4x64 : Shape := ⟨5, ![8, 64, 192, 4, 64]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S8x64x4x192x64x4 : Shape := ⟨6, ![8, 64, 4, 192, 64, 4]⟩
abbrev S8x64x4x4x64x192 : Shape := ⟨6, ![8, 64, 4, 4, 64, 192]⟩
abbrev S1x64x1x1x1x192 : Shape := ⟨6, ![1, 64, 1, 1, 1, 192]⟩
abbrev S4x4 : Shape := ⟨2, ![4, 4]⟩
abbrev S1x1x4x4x1x1 : Shape := ⟨6, ![1, 1, 4, 4, 1, 1]⟩
abbrev S8x64x4x4x64 : Shape := ⟨5, ![8, 64, 4, 4, 64]⟩
abbrev S8x64x4x4x64x1 : Shape := ⟨6, ![8, 64, 4, 4, 64, 1]⟩
abbrev S8x64x4x64x4x64 : Shape := ⟨6, ![8, 64, 4, 64, 4, 64]⟩

abbrev nBuf : Space → Nat
  | .hbm => 74
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x256, .f32⟩
  | .hbm, ⟨2, _⟩ => ⟨S32768x256, .f32⟩
  | .hbm, ⟨3, _⟩ => ⟨S32768x1024, .bf16⟩
  | .hbm, ⟨4, _⟩ => ⟨S16, .f32⟩
  | .hbm, ⟨5, _⟩ => ⟨S32768x1024, .f32⟩
  | .hbm, ⟨6, _⟩ => ⟨S8x64x64x4x4x64, .f32⟩
  | .hbm, ⟨7, _⟩ => ⟨S8x4096x4x64, .f32⟩
  | .hbm, ⟨8, _⟩ => ⟨S_, .i32⟩
  | .hbm, ⟨9, _⟩ => ⟨S_, .f32⟩
  | .hbm, ⟨10, _⟩ => ⟨S8x4224x4x64, .f32⟩
  | .hbm, ⟨11, _⟩ => ⟨S8x66x64x4x64, .f32⟩
  | .hbm, ⟨12, _⟩ => ⟨S8x4096x4x64, .f32⟩
  | .hbm, ⟨13, _⟩ => ⟨S_, .i32⟩
  | .hbm, ⟨14, _⟩ => ⟨S_, .f32⟩
  | .hbm, ⟨15, _⟩ => ⟨S8x4224x4x64, .f32⟩
  | .hbm, ⟨16, _⟩ => ⟨S8x66x64x4x64, .f32⟩
  | .hbm, ⟨17, _⟩ => ⟨S8x64x64x4x64, .f32⟩
  | .hbm, ⟨18, _⟩ => ⟨S8x64x64x4x64, .f32⟩
  | .hbm, ⟨19, _⟩ => ⟨S8x64x64x4x64, .f32⟩
  | .hbm, ⟨20, _⟩ => ⟨S8x64x192x4x64, .f32⟩
  | .hbm, ⟨21, _⟩ => ⟨S8x64x64x4x64, .f32⟩
  | .hbm, ⟨22, _⟩ => ⟨S8x64x64x4x64, .f32⟩
  | .hbm, ⟨23, _⟩ => ⟨S8x64x64x4x64, .f32⟩
  | .hbm, ⟨24, _⟩ => ⟨S8x64x192x4x64, .f32⟩
  | .hbm, ⟨25, _⟩ => ⟨S64, .i32⟩
  | .hbm, ⟨26, _⟩ => ⟨S64x1, .i32⟩
  | .hbm, ⟨27, _⟩ => ⟨S_, .i32⟩
  | .hbm, ⟨28, _⟩ => ⟨S64x1, .i32⟩
  | .hbm, ⟨29, _⟩ => ⟨S64x1, .i32⟩
  | .hbm, ⟨30, _⟩ => ⟨S_, .i32⟩
  | .hbm, ⟨31, _⟩ => ⟨S64x1, .i32⟩
  | .hbm, ⟨32, _⟩ => ⟨S64x1, .i32⟩
  | .hbm, ⟨33, _⟩ => ⟨S192, .i32⟩
  | .hbm, ⟨34, _⟩ => ⟨S1x192, .i32⟩
  | .hbm, ⟨35, _⟩ => ⟨S64x192, .i32⟩
  | .hbm, ⟨36, _⟩ => ⟨S64x192, .i32⟩
  | .hbm, ⟨37, _⟩ => ⟨S64x192, .i32⟩
  | .hbm, ⟨38, _⟩ => ⟨S_, .i32⟩
  | .hbm, ⟨39, _⟩ => ⟨S64x192, .i32⟩
  | .hbm, ⟨40, _⟩ => ⟨S64x192, .i1⟩
  | .hbm, ⟨41, _⟩ => ⟨S8x64x4x192x64x4, .f32⟩
  | .hbm, ⟨42, _⟩ => ⟨S8x64x4x4x64x192, .f32⟩
  | .hbm, ⟨43, _⟩ => ⟨S1x64x1x1x1x192, .i1⟩
  | .hbm, ⟨44, _⟩ => ⟨S_, .f32⟩
  | .hbm, ⟨45, _⟩ => ⟨S_, .f32⟩
  | .hbm, ⟨46, _⟩ => ⟨S8x64x4x4x64x192, .i1⟩
  | .hbm, ⟨47, _⟩ => ⟨S8x64x4x4x64x192, .f32⟩
  | .hbm, ⟨48, _⟩ => ⟨S8x64x4x4x64x192, .f32⟩
  | .hbm, ⟨49, _⟩ => ⟨S4x4, .f32⟩
  | .hbm, ⟨50, _⟩ => ⟨S1x1x4x4x1x1, .f32⟩
  | .hbm, ⟨51, _⟩ => ⟨S_, .f32⟩
  | .hbm, ⟨52, _⟩ => ⟨S8x64x4x4x64, .f32⟩
  | .hbm, ⟨53, _⟩ => ⟨S8x64x4x4x64x1, .f32⟩
  | .hbm, ⟨54, _⟩ => ⟨S8x64x4x4x64x1, .f32⟩
  | .hbm, ⟨55, _⟩ => ⟨S8x64x4x4x64x1, .f32⟩
  | .hbm, ⟨56, _⟩ => ⟨S8x64x4x4x64x192, .f32⟩
  | .hbm, ⟨57, _⟩ => ⟨S8x64x4x4x64x192, .f32⟩
  | .hbm, ⟨58, _⟩ => ⟨S8x64x4x4x64x192, .f32⟩
  | .hbm, ⟨59, _⟩ => ⟨S_, .f32⟩
  | .hbm, ⟨60, _⟩ => ⟨S8x64x4x4x64, .f32⟩
  | .hbm, ⟨61, _⟩ => ⟨S8x64x4x4x64x1, .f32⟩
  | .hbm, ⟨62, _⟩ => ⟨S8x64x4x4x64x1, .f32⟩
  | .hbm, ⟨63, _⟩ => ⟨S8x64x4x4x64x1, .f32⟩
  | .hbm, ⟨64, _⟩ => ⟨S8x64x4x4x64x1, .f32⟩
  | .hbm, ⟨65, _⟩ => ⟨S8x64x4x4x64x1, .f32⟩
  | .hbm, ⟨66, _⟩ => ⟨S8x64x4x4x64x192, .f32⟩
  | .hbm, ⟨67, _⟩ => ⟨S8x64x4x4x64x192, .f32⟩
  | .hbm, ⟨68, _⟩ => ⟨S8x64x4x64x4x64, .f32⟩
  | .hbm, ⟨69, _⟩ => ⟨S8x64x64x4x4x64, .f32⟩
  | .hbm, ⟨70, _⟩ => ⟨S32768x1024, .f32⟩
  | .hbm, ⟨71, _⟩ => ⟨S32768x1024, .f32⟩
  | .hbm, ⟨72, _⟩ => ⟨S32768x1024, .f32⟩
  | .hbm, ⟨73, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]
-- ==== InProj.lean ====
abbrev S8x4096x2048 : Shape := ⟨3, ![8, 4096, 2048]⟩
abbrev S1x2048 : Shape := ⟨2, ![1, 2048]⟩
abbrev S1x2048x5648 : Shape := ⟨3, ![1, 2048, 5648]⟩
abbrev S1x16x512 : Shape := ⟨3, ![1, 16, 512]⟩
abbrev S1x512 : Shape := ⟨2, ![1, 512]⟩
abbrev S1x64 : Shape := ⟨2, ![1, 64]⟩
abbrev S2048 : Shape := ⟨1, ![2048]⟩
abbrev S2048x5648 : Shape := ⟨2, ![2048, 5648]⟩
abbrev S16x512 : Shape := ⟨2, ![16, 512]⟩
abbrev S512 : Shape := ⟨1, ![512]⟩
abbrev S64 : Shape := ⟨1, ![64]⟩
abbrev S2048x1024 : Shape := ⟨2, ![2048, 1024]⟩
abbrev S2048x256 : Shape := ⟨2, ![2048, 256]⟩
abbrev S2048x512 : Shape := ⟨2, ![2048, 512]⟩
abbrev S2048x16 : Shape := ⟨2, ![2048, 16]⟩
abbrev S2048x4x4x64 : Shape := ⟨4, ![2048, 4, 4, 64]⟩
abbrev S2048x5632 : Shape := ⟨2, ![2048, 5632]⟩
abbrev S_ : Shape := ⟨0, ![]⟩
abbrev S2048x128 : Shape := ⟨2, ![2048, 128]⟩
abbrev S128x512 : Shape := ⟨2, ![128, 512]⟩
abbrev S16x64 : Shape := ⟨2, ![16, 64]⟩
abbrev S1024 : Shape := ⟨1, ![1024]⟩
abbrev S4x64 : Shape := ⟨2, ![4, 64]⟩
abbrev S256 : Shape := ⟨1, ![256]⟩
abbrev S1280 : Shape := ⟨1, ![1280]⟩
abbrev S1x1280 : Shape := ⟨2, ![1, 1280]⟩
abbrev S1280x128 : Shape := ⟨2, ![1280, 128]⟩
abbrev S128x1280 : Shape := ⟨2, ![128, 1280]⟩
abbrev S256x1280 : Shape := ⟨2, ![256, 1280]⟩
abbrev S32768x2048 : Shape := ⟨2, ![32768, 2048]⟩
abbrev S32768x1024 : Shape := ⟨2, ![32768, 1024]⟩
abbrev S32768x256 : Shape := ⟨2, ![32768, 256]⟩
abbrev S32768x512 : Shape := ⟨2, ![32768, 512]⟩
abbrev S256x2048 : Shape := ⟨2, ![256, 2048]⟩
abbrev S256x1024 : Shape := ⟨2, ![256, 1024]⟩
abbrev S256x256 : Shape := ⟨2, ![256, 256]⟩
abbrev S256x512 : Shape := ⟨2, ![256, 512]⟩
abbrev S256x1 : Shape := ⟨2, ![256, 1]⟩
abbrev S2048x1280 : Shape := ⟨2, ![2048, 1280]⟩
abbrev S256x128 : Shape := ⟨2, ![256, 128]⟩

abbrev nBuf : Space → Nat
  | .hbm => 116
  | .vmem => 28
  | .smem => 0
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x5648, .f32⟩
  | .hbm, ⟨3, _⟩ => ⟨S1x16x512, .f32⟩
  | .hbm, ⟨4, _⟩ => ⟨S1x512, .f32⟩
  | .hbm, ⟨5, _⟩ => ⟨S1x64, .f32⟩
  | .hbm, ⟨6, _⟩ => ⟨S1x64, .f32⟩
  | .hbm, ⟨7, _⟩ => ⟨S2048, .f32⟩
  | .hbm, ⟨8, _⟩ => ⟨S2048x5648, .f32⟩
  | .hbm, ⟨9, _⟩ => ⟨S16x512, .f32⟩
  | .hbm, ⟨10, _⟩ => ⟨S512, .f32⟩
  | .hbm, ⟨11, _⟩ => ⟨S64, .f32⟩
  | .hbm, ⟨12, _⟩ => ⟨S64, .f32⟩
  | .hbm, ⟨13, _⟩ => ⟨S2048x1024, .f32⟩
  | .hbm, ⟨14, _⟩ => ⟨S2048x256, .f32⟩
  | .hbm, ⟨15, _⟩ => ⟨S2048x256, .f32⟩
  | .hbm, ⟨16, _⟩ => ⟨S2048x1024, .f32⟩
  | .hbm, ⟨17, _⟩ => ⟨S2048x512, .f32⟩
  | .hbm, ⟨18, _⟩ => ⟨S2048x512, .f32⟩
  | .hbm, ⟨19, _⟩ => ⟨S2048x1024, .f32⟩
  | .hbm, ⟨20, _⟩ => ⟨S2048x1024, .f32⟩
  | .hbm, ⟨21, _⟩ => ⟨S2048x16, .f32⟩
  | .hbm, ⟨22, _⟩ => ⟨S2048x4x4x64, .f32⟩
  | .hbm, ⟨23, _⟩ => ⟨S2048x4x4x64, .f32⟩
  | .hbm, ⟨24, _⟩ => ⟨S2048x1024, .f32⟩
  | .hbm, ⟨25, _⟩ => ⟨S2048x4x4x64, .f32⟩
  | .hbm, ⟨26, _⟩ => ⟨S2048x4x4x64, .f32⟩
  | .hbm, ⟨27, _⟩ => ⟨S2048x1024, .f32⟩
  | .hbm, ⟨28, _⟩ => ⟨S2048x5632, .f32⟩
  | .hbm, ⟨29, _⟩ => ⟨S2048x5632, .bf16⟩
  | .hbm, ⟨30, _⟩ => ⟨S_, .i32⟩
  | .hbm, ⟨31, _⟩ => ⟨S_, .f32⟩
  | .hbm, ⟨32, _⟩ => ⟨S2048x128, .f32⟩
  | .hbm, ⟨33, _⟩ => ⟨S2048x128, .bf16⟩
  | .hbm, ⟨34, _⟩ => ⟨S_, .i32⟩
  | .hbm, ⟨35, _⟩ => ⟨S_, .f32⟩
  | .hbm, ⟨36, _⟩ => ⟨S128x512, .f32⟩
  | .hbm, ⟨37, _⟩ => ⟨S128x512, .bf16⟩
  | .hbm, ⟨38, _⟩ => ⟨S1x64, .f32⟩
  | .hbm, ⟨39, _⟩ => ⟨S16x64, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1x64, .f32⟩
  | .hbm, ⟨45, _⟩ => ⟨S4x64, .f32⟩
  | .hbm, ⟨46, _⟩ => ⟨S256, .f32⟩
  | .hbm, ⟨47, _⟩ => ⟨S1280, .f32⟩
  | .hbm, ⟨48, _⟩ => ⟨S1x1280, .f32⟩
  | .hbm, ⟨49, _⟩ => ⟨S1280x128, .i32⟩
  | .hbm, ⟨50, _⟩ => ⟨S_, .i32⟩
  | .hbm, ⟨51, _⟩ => ⟨S_, .i32⟩
  | .hbm, ⟨52, _⟩ => ⟨S1280x128, .i32⟩
  | .hbm, ⟨53, _⟩ => ⟨S1280x128, .i32⟩
  | .hbm, ⟨54, _⟩ => ⟨S1280x128, .i32⟩
  | .hbm, ⟨55, _⟩ => ⟨S_, .i32⟩
  | .hbm, ⟨56, _⟩ => ⟨S1280x128, .i32⟩
  | .hbm, ⟨57, _⟩ => ⟨S1280x128, .i1⟩
  | .hbm, ⟨58, _⟩ => ⟨S1280x128, .i32⟩
  | .hbm, ⟨59, _⟩ => ⟨S1280x128, .i32⟩
  | .hbm, ⟨60, _⟩ => ⟨S_, .i32⟩
  | .hbm, ⟨61, _⟩ => ⟨S1280x128, .i32⟩
  | .hbm, ⟨62, _⟩ => ⟨S1280x128, .i1⟩
  | .hbm, ⟨63, _⟩ => ⟨S1280x128, .i1⟩
  | .hbm, ⟨64, _⟩ => ⟨S_, .i32⟩
  | .hbm, ⟨65, _⟩ => ⟨S1280x128, .i32⟩
  | .hbm, ⟨66, _⟩ => ⟨S1280x128, .i32⟩
  | .hbm, ⟨67, _⟩ => ⟨S1280x128, .i32⟩
  | .hbm, ⟨68, _⟩ => ⟨S1280x128, .i32⟩
  | .hbm, ⟨69, _⟩ => ⟨S1280x128, .i1⟩
  | .hbm, ⟨70, _⟩ => ⟨S_, .f32⟩
  | .hbm, ⟨71, _⟩ => ⟨S_, .f32⟩
  | .hbm, ⟨72, _⟩ => ⟨S1280x128, .f32⟩
  | .hbm, ⟨73, _⟩ => ⟨S1280x128, .f32⟩
  | .hbm, ⟨74, _⟩ => ⟨S1280x128, .f32⟩
  | .hbm, ⟨75, _⟩ => ⟨S1280x128, .bf16⟩
  | .hbm, ⟨76, _⟩ => ⟨S128x1280, .i32⟩
  | .hbm, ⟨77, _⟩ => ⟨S_, .i32⟩
  | .hbm, ⟨78, _⟩ => ⟨S_, .i32⟩
  | .hbm, ⟨79, _⟩ => ⟨S128x1280, .i32⟩
  | .hbm, ⟨80, _⟩ => ⟨S128x1280, .i32⟩
  | .hbm, ⟨81, _⟩ => ⟨S128x1280, .i32⟩
  | .hbm, ⟨82, _⟩ => ⟨S_, .i32⟩
  | .hbm, ⟨83, _⟩ => ⟨S128x1280, .i32⟩
  | .hbm, ⟨84, _⟩ => ⟨S128x1280, .i1⟩
  | .hbm, ⟨85, _⟩ => ⟨S128x1280, .i32⟩
  | .hbm, ⟨86, _⟩ => ⟨S128x1280, .i32⟩
  | .hbm, ⟨87, _⟩ => ⟨S_, .i32⟩
  | .hbm, ⟨88, _⟩ => ⟨S128x1280, .i32⟩
  | .hbm, ⟨89, _⟩ => ⟨S128x1280, .i1⟩
  | .hbm, ⟨90, _⟩ => ⟨S128x1280, .i1⟩
  | .hbm, ⟨91, _⟩ => ⟨S_, .i32⟩
  | .hbm, ⟨92, _⟩ => ⟨S128x1280, .i32⟩
  | .hbm, ⟨93, _⟩ => ⟨S128x1280, .i32⟩
  | .hbm, ⟨94, _⟩ => ⟨S128x1280, .i32⟩
  | .hbm, ⟨95, _⟩ => ⟨S128x1280, .i32⟩
  | .hbm, ⟨96, _⟩ => ⟨S128x1280, .i1⟩
  | .hbm, ⟨97, _⟩ => ⟨S_, .f32⟩
  | .hbm, ⟨98, _⟩ => ⟨S_, .f32⟩
  | .hbm, ⟨99, _⟩ => ⟨S128x1280, .f32⟩
  | .hbm, ⟨100, _⟩ => ⟨S128x1280, .f32⟩
  | .hbm, ⟨101, _⟩ => ⟨S128x1280, .f32⟩
  | .hbm, ⟨102, _⟩ => ⟨S256x1280, .f32⟩
  | .hbm, ⟨103, _⟩ => ⟨S256x1280, .bf16⟩
  | .hbm, ⟨104, _⟩ => ⟨S1x2048, .f32⟩
  | .hbm, ⟨105, _⟩ => ⟨S1x512, .f32⟩
  | .hbm, ⟨106, _⟩ => ⟨S32768x2048, .f32⟩
  | .hbm, ⟨107, _⟩ => ⟨S32768x1024, .bf16⟩
  | .hbm, ⟨108, _⟩ => ⟨S32768x256, .f32⟩
  | .hbm, ⟨109, _⟩ => ⟨S32768x256, .f32⟩
  | .hbm, ⟨110, _⟩ => ⟨S32768x1024, .bf16⟩
  | .hbm, ⟨111, _⟩ => ⟨S32768x512, .bf16⟩
  | .hbm, ⟨112, _⟩ => ⟨S32768x512, .bf16⟩
  | .hbm, ⟨113, _⟩ => ⟨S32768x1024, .bf16⟩
  | .hbm, ⟨114, _⟩ => ⟨S32768x1024, .bf16⟩
  | .hbm, ⟨115, _⟩ => ⟨S32768x512, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x5632, .bf16⟩
  | .local _ .vmem, ⟨4, _⟩ => ⟨S2048x128, .bf16⟩
  | .local _ .vmem, ⟨5, _⟩ => ⟨S128x512, .bf16⟩
  | .local _ .vmem, ⟨6, _⟩ => ⟨S1x512, .f32⟩
  | .local _ .vmem, ⟨7, _⟩ => ⟨S1x1280, .f32⟩
  | .local _ .vmem, ⟨8, _⟩ => ⟨S1280x128, .bf16⟩
  | .local _ .vmem, ⟨9, _⟩ => ⟨S256x1280, .bf16⟩
  | .local _ .vmem, ⟨10, _⟩ => ⟨S256x1024, .bf16⟩
  | .local _ .vmem, ⟨11, _⟩ => ⟨S256x1024, .bf16⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x1024, .bf16⟩
  | .local _ .vmem, ⟨17, _⟩ => ⟨S256x1024, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x512, .f32⟩
  | .local _ .vmem, ⟨27, _⟩ => ⟨S256x512, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_c_0 : Ref sig .tc := ⟨.hbm, 34, rfl⟩
abbrev main_call1_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_2 : Ref sig .tc := ⟨.hbm, 70, rfl⟩
abbrev main_cst_3 : Ref sig .tc := ⟨.hbm, 71, rfl⟩
abbrev main_call3_v0 : Ref sig .tc := ⟨.hbm, 72, rfl⟩
abbrev main_call3_v1 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_4 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_c : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_call4_c_0 : Ref sig .tc := ⟨.hbm, 91, rfl⟩
abbrev main_call4_v12 : Ref sig .tc := ⟨.hbm, 92, rfl⟩
abbrev main_call4_v13 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_5 : Ref sig .tc := ⟨.hbm, 97, rfl⟩
abbrev main_cst_6 : Ref sig .tc := ⟨.hbm, 98, rfl⟩
abbrev main_call5_v0 : Ref sig .tc := ⟨.hbm, 99, rfl⟩
abbrev main_call5_v1 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53_0 : Ref sig .tc := ⟨.hbm, 107, rfl⟩
abbrev main_v53_1 : Ref sig .tc := ⟨.hbm, 108, rfl⟩
abbrev main_v53_2 : Ref sig .tc := ⟨.hbm, 109, rfl⟩
abbrev main_v53_3 : Ref sig .tc := ⟨.hbm, 110, rfl⟩
abbrev main_v53_4 : Ref sig .tc := ⟨.hbm, 111, rfl⟩
abbrev main_v53_5 : Ref sig .tc := ⟨.hbm, 112, rfl⟩
abbrev main_v53_6 : Ref sig .tc := ⟨.hbm, 113, rfl⟩
abbrev main_v53_7 : Ref sig .tc := ⟨.hbm, 114, rfl⟩
abbrev main_v53_8 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InProjRefIdeal.lean ====
abbrev S8x4096x2048 : Shape := ⟨3, ![8, 4096, 2048]⟩
abbrev S1x2048 : Shape := ⟨2, ![1, 2048]⟩
abbrev S1x2048x5648 : Shape := ⟨3, ![1, 2048, 5648]⟩
abbrev S1x16x512 : Shape := ⟨3, ![1, 16, 512]⟩
abbrev S1x512 : Shape := ⟨2, ![1, 512]⟩
abbrev S1x64 : Shape := ⟨2, ![1, 64]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x5648 : Shape := ⟨2, ![2048, 5648]⟩
abbrev S8x4096x5648 : Shape := ⟨3, ![8, 4096, 5648]⟩
abbrev S8x4096x1024 : Shape := ⟨3, ![8, 4096, 1024]⟩
abbrev S8x4096x256 : Shape := ⟨3, ![8, 4096, 256]⟩
abbrev S8x4096x512 : Shape := ⟨3, ![8, 4096, 512]⟩
abbrev S8x4096x16 : Shape := ⟨3, ![8, 4096, 16]⟩
abbrev S8x4096x16x64 : Shape := ⟨4, ![8, 4096, 16, 64]⟩
abbrev S64 : Shape := ⟨1, ![64]⟩
abbrev S8x4096x16x1 : Shape := ⟨4, ![8, 4096, 16, 1]⟩
abbrev S1x1x1x64 : Shape := ⟨4, ![1, 1, 1, 64]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S16x512 : Shape := ⟨2, ![16, 512]⟩
abbrev S512 : Shape := ⟨1, ![512]⟩
abbrev S1x1x512 : Shape := ⟨3, ![1, 1, 512]⟩
abbrev S8x4096x4x4x64 : Shape := ⟨5, ![8, 4096, 4, 4, 64]⟩
abbrev S32768x1024 : Shape := ⟨2, ![32768, 1024]⟩
abbrev S32768x256 : Shape := ⟨2, ![32768, 256]⟩
abbrev S32768x512 : Shape := ⟨2, ![32768, 512]⟩

abbrev nBuf : Space → Nat
  | .hbm => 131
  | .vmem => 0
  | .smem => 0
  | _ => 0

abbrev hbmTy0_0 (i : Nat) : BufTy := match i % 128 with
  | 0 => ⟨S8x4096x2048, .f32⟩
  | 1 => ⟨S1x2048, .f32⟩
  | 2 => ⟨S1x2048x5648, .f32⟩
  | 3 => ⟨S1x16x512, .f32⟩
  | 4 => ⟨S1x512, .f32⟩
  | 5 => ⟨S1x64, .f32⟩
  | 6 => ⟨S1x64, .f32⟩
  | 7 => ⟨S2048, .f32⟩
  | 8 => ⟨S8x4096x2048, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x2048, .f32⟩
  | 20 => ⟨S8x4096x2048, .f32⟩
  | 21 => ⟨S1x1x2048, .f32⟩
  | 22 => ⟨S8x4096x2048, .f32⟩
  | 23 => ⟨S8x4096x2048, .f32⟩
  | 24 => ⟨S2048x5648, .f32⟩
  | 25 => ⟨S8x4096x5648, .f32⟩
  | 26 => ⟨S8x4096x1024, .f32⟩
  | 27 => ⟨S8x4096x256, .f32⟩
  | 28 => ⟨S8x4096x256, .f32⟩
  | 29 => ⟨S8x4096x1024, .f32⟩
  | 30 => ⟨S8x4096x512, .f32⟩
  | 31 => ⟨S8x4096x512, .f32⟩
  | 32 => ⟨S8x4096x1024, .f32⟩
  | 33 => ⟨S8x4096x1024, .f32⟩
  | 34 => ⟨S8x4096x16, .f32⟩
  | 35 => ⟨S8x4096x16x64, .f32⟩
  | 36 => ⟨S64, .f32⟩
  | 37 => ⟨S8x4096x16x64, .f32⟩
  | 38 => ⟨S_, .f32⟩
  | 39 => ⟨S8x4096x16, .f32⟩
  | 40 => ⟨S8x4096x16x1, .f32⟩
  | 41 => ⟨S_, .f32⟩
  | 42 => ⟨S8x4096x16x1, .f32⟩
  | 43 => ⟨S8x4096x16x1, .f32⟩
  | 44 => ⟨S_, .f32⟩
  | 45 => ⟨S8x4096x16x1, .f32⟩
  | 46 => ⟨S8x4096x16x1, .f32⟩
  | 47 => ⟨S8x4096x16x1, .f32⟩
  | 48 => ⟨S8x4096x16x64, .f32⟩
  | 49 => ⟨S8x4096x16x64, .f32⟩
  | 50 => ⟨S1x1x1x64, .f32⟩
  | 51 => ⟨S8x4096x16x64, .f32⟩
  | 52 => ⟨S8x4096x16x64, .f32⟩
  | 53 => ⟨S_, .f32⟩
  | 54 => ⟨S8x4096x16x64, .f32⟩
  | 55 => ⟨S8x4096x16x64, .f32⟩
  | 56 => ⟨S8x4096x4x64, .f32⟩
  | 57 => ⟨S64, .f32⟩
  | 58 => ⟨S8x4096x4x64, .f32⟩
  | 59 => ⟨S_, .f32⟩
  | 60 => ⟨S8x4096x4, .f32⟩
  | 61 => ⟨S8x4096x4x1, .f32⟩
  | 62 => ⟨S_, .f32⟩
  | 63 => ⟨S8x4096x4x1, .f32⟩
  | 64 => ⟨S8x4096x4x1, .f32⟩
  | 65 => ⟨S_, .f32⟩
  | 66 => ⟨S8x4096x4x1, .f32⟩
  | 67 => ⟨S8x4096x4x1, .f32⟩
  | 68 => ⟨S8x4096x4x1, .f32⟩
  | 69 => ⟨S8x4096x4x64, .f32⟩
  | 70 => ⟨S8x4096x4x64, .f32⟩
  | 71 => ⟨S1x1x1x64, .f32⟩
  | 72 => ⟨S8x4096x4x64, .f32⟩
  | 73 => ⟨S8x4096x4x64, .f32⟩
  | 74 => ⟨S16x512, .f32⟩
  | 75 => ⟨S8x4096x512, .f32⟩
  | 76 => ⟨S512, .f32⟩
  | 77 => ⟨S1x1x512, .f32⟩
  | 78 => ⟨S8x4096x512, .f32⟩
  | 79 => ⟨S8x4096x512, .f32⟩
  | 80 => ⟨S_, .f32⟩
  | 81 => ⟨S8x4096x512, .f32⟩
  | 82 => ⟨S8x4096x512, .f32⟩
  | 83 => ⟨S8x4096x512, .f32⟩
  | 84 => ⟨S8x4096x512, .f32⟩
  | 85 => ⟨S8x4096x512, .f32⟩
  | 86 => ⟨S8x4096x512, .f32⟩
  | 87 => ⟨S8x4096x512, .f32⟩
  | 88 => ⟨S_, .f32⟩
  | 89 => ⟨S8x4096x512, .f32⟩
  | 90 => ⟨S8x4096x512, .f32⟩
  | 91 => ⟨S8x4096x4x4x64, .f32⟩
  | 92 => ⟨S8x4096x4x4x64, .f32⟩
  | 93 => ⟨S32768x1024, .f32⟩
  | 94 => ⟨S32768x1024, .bf16⟩
  | 95 => ⟨S32768x256, .f32⟩
  | 96 => ⟨S32768x256, .f32⟩
  | 97 => ⟨S8x4096x1024, .f32⟩
  | 98 => ⟨S8x4096x1024, .f32⟩
  | 99 => ⟨S_, .f32⟩
  | 100 => ⟨S8x4096x1024, .f32⟩
  | 101 => ⟨S8x4096x1024, .f32⟩
  | 102 => ⟨S_, .f32⟩
  | 103 => ⟨S8x4096x1024, .f32⟩
  | 104 => ⟨S8x4096x1024, .f32⟩
  | 105 => ⟨S8x4096x1024, .f32⟩
  | 106 => ⟨S8x4096x4x4x64, .f32⟩
  | 107 => ⟨S8x4096x4x4x64, .f32⟩
  | 108 => ⟨S32768x1024, .f32⟩
  | 109 => ⟨S32768x1024, .bf16⟩
  | 110 => ⟨S_, .f32⟩
  | 111 => ⟨S8x4096x512, .f32⟩
  | 112 => ⟨S8x4096x512, .f32⟩
  | 113 => ⟨S32768x512, .f32⟩
  | 114 => ⟨S32768x512, .bf16⟩
  | 115 => ⟨S32768x512, .f32⟩
  | 116 => ⟨S32768x512, .bf16⟩
  | 117 => ⟨S32768x1024, .f32⟩
  | 118 => ⟨S32768x1024, .bf16⟩
  | 119 => ⟨S8x4096x1024, .f32⟩
  | 120 => ⟨S8x4096x1024, .f32⟩
  | 121 => ⟨S_, .f32⟩
  | 122 => ⟨S8x4096x1024, .f32⟩
  | 123 => ⟨S8x4096x1024, .f32⟩
  | 124 => ⟨S_, .f32⟩
  | 125 => ⟨S8x4096x1024, .f32⟩
  | 126 => ⟨S8x4096x1024, .f32⟩
  | 127 => ⟨S8x4096x1024, .f32⟩
  | _ => ⟨S8x4096x2048, .f32⟩

abbrev hbmTy0_1 (i : Nat) : BufTy := match i % 128 with
  | 0 => ⟨S32768x1024, .f32⟩
  | 1 => ⟨S32768x1024, .bf16⟩
  | 2 => ⟨S32768x512, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_11 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_13 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_14 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩

abbrev nD : Nat := 1
abbrev τ : Topo := Topo.v7x

variable {F : FTy → Type} [FloatOps F]
-- ==== OutProj.lean ====
abbrev S8x4096x2048 : Shape := ⟨3, ![8, 4096, 2048]⟩
abbrev S32768x1024 : Shape := ⟨2, ![32768, 1024]⟩
abbrev S1x2048x2048 : Shape := ⟨3, ![1, 2048, 2048]⟩
abbrev S2048x2048 : Shape := ⟨2, ![2048, 2048]⟩
abbrev S1024x2048 : Shape := ⟨2, ![1024, 2048]⟩
abbrev S4x4x64x2048 : Shape := ⟨4, ![4, 4, 64, 2048]⟩
abbrev S32768x2048 : Shape := ⟨2, ![32768, 2048]⟩
abbrev S512x2048 : Shape := ⟨2, ![512, 2048]⟩
abbrev S512x1024 : Shape := ⟨2, ![512, 1024]⟩

abbrev nBuf : Space → Nat
  | .hbm => 14
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S2048x2048, .f32⟩
  | .hbm, ⟨5, _⟩ => ⟨S1024x2048, .f32⟩
  | .hbm, ⟨6, _⟩ => ⟨S4x4x64x2048, .f32⟩
  | .hbm, ⟨7, _⟩ => ⟨S4x4x64x2048, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S32768x2048, .f32⟩
  | .hbm, ⟨13, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8x4096x2048 : Shape := ⟨3, ![8, 4096, 2048]⟩
abbrev S32768x1024 : Shape := ⟨2, ![32768, 1024]⟩
abbrev S1x2048x2048 : Shape := ⟨3, ![1, 2048, 2048]⟩
abbrev S8x4096x4x4x64 : Shape := ⟨5, ![8, 4096, 4, 4, 64]⟩
abbrev S8x4096x1024 : Shape := ⟨3, ![8, 4096, 1024]⟩
abbrev S2048x2048 : Shape := ⟨2, ![2048, 2048]⟩
abbrev S32768x2048 : Shape := ⟨2, ![32768, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S32768x1024, .bf16⟩
  | .hbm, ⟨2, _⟩ => ⟨S32768x1024, .bf16⟩
  | .hbm, ⟨3, _⟩ => ⟨S1x2048x2048, .f32⟩
  | .hbm, ⟨4, _⟩ => ⟨S32768x1024, .f32⟩
  | .hbm, ⟨5, _⟩ => ⟨S8x4096x4x4x64, .f32⟩
  | .hbm, ⟨6, _⟩ => ⟨S8x4096x4x4x64, .f32⟩
  | .hbm, ⟨7, _⟩ => ⟨S8x4096x1024, .f32⟩
  | .hbm, ⟨8, _⟩ => ⟨S32768x1024, .f32⟩
  | .hbm, ⟨9, _⟩ => ⟨S8x4096x1024, .f32⟩
  | .hbm, ⟨10, _⟩ => ⟨S8x4096x2048, .f32⟩
  | .hbm, ⟨11, _⟩ => ⟨S2048x2048, .f32⟩
  | .hbm, ⟨12, _⟩ => ⟨S8x4096x2048, .f32⟩
  | .hbm, ⟨13, _⟩ => ⟨S8x4096x2048, .f32⟩
  | .hbm, ⟨14, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== AttnS.lean ====
abbrev S256x1024 : Shape := ⟨2, ![256, 1024]⟩
abbrev S256x256 : Shape := ⟨2, ![256, 256]⟩
abbrev S16x128x256 : Shape := ⟨3, ![16, 128, 256]⟩
abbrev S16 : Shape := ⟨1, ![16]⟩
abbrev S4x4 : Shape := ⟨2, ![4, 4]⟩
abbrev S4x4x1x1 : Shape := ⟨4, ![4, 4, 1, 1]⟩
abbrev S4x4x64x128 : Shape := ⟨4, ![4, 4, 64, 128]⟩
abbrev S4x256x128 : Shape := ⟨3, ![4, 256, 128]⟩
abbrev S16x1024 : Shape := ⟨2, ![16, 1024]⟩
abbrev S16x256 : Shape := ⟨2, ![16, 256]⟩
abbrev S1x128x256 : Shape := ⟨3, ![1, 128, 256]⟩
abbrev S128x256 : Shape := ⟨2, ![128, 256]⟩
abbrev S144x256 : Shape := ⟨2, ![144, 256]⟩
abbrev S16x64 : Shape := ⟨2, ![16, 64]⟩
abbrev S144x64 : Shape := ⟨2, ![144, 64]⟩
abbrev S16x144 : Shape := ⟨2, ![16, 144]⟩
abbrev S1x16x1 : Shape := ⟨3, ![1, 16, 1]⟩
abbrev S16x1 : Shape := ⟨2, ![16, 1]⟩

abbrev nBuf : Space → Nat
  | .hbm => 14
  | .vmem => 19
  | .smem => 0
  | _ => 0

abbrev bufTy : (tb : Table) → Fin (tcTables nBuf tb) → BufTy
  | .hbm, ⟨0, _⟩ => ⟨S256x1024, .bf16⟩
  | .hbm, ⟨1, _⟩ => ⟨S256x256, .f32⟩
  | .hbm, ⟨2, _⟩ => ⟨S256x256, .f32⟩
  | .hbm, ⟨3, _⟩ => ⟨S16x128x256, .f32⟩
  | .hbm, ⟨4, _⟩ => ⟨S16x128x256, .f32⟩
  | .hbm, ⟨5, _⟩ => ⟨S256x1024, .bf16⟩
  | .hbm, ⟨6, _⟩ => ⟨S16, .f32⟩
  | .hbm, ⟨7, _⟩ => ⟨S4x4, .f32⟩
  | .hbm, ⟨8, _⟩ => ⟨S4x4x1x1, .f32⟩
  | .hbm, ⟨9, _⟩ => ⟨S4x4x64x128, .f32⟩
  | .hbm, ⟨10, _⟩ => ⟨S4x256x128, .f32⟩
  | .hbm, ⟨11, _⟩ => ⟨S256x1024, .bf16⟩
  | .hbm, ⟨12, _⟩ => ⟨S16x128x256, .f32⟩
  | .hbm, ⟨13, _⟩ => ⟨S16x128x256, .f32⟩
  | .local _ .vmem, ⟨0, _⟩ => ⟨S16x1024, .bf16⟩
  | .local _ .vmem, ⟨1, _⟩ => ⟨S16x1024, .bf16⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S16x1024, .bf16⟩
  | .local _ .vmem, ⟨11, _⟩ => ⟨S16x1024, .bf16⟩
  | .local _ .vmem, ⟨12, _⟩ => ⟨S4x256x128, .f32⟩
  | .local _ .vmem, ⟨13, _⟩ => ⟨S16x1024, .bf16⟩
  | .local _ .vmem, ⟨14, _⟩ => ⟨S16x1024, .bf16⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnSRefIdeal.lean ====
abbrev S256x1024 : Shape := ⟨2, ![256, 1024]⟩
abbrev S256x256 : Shape := ⟨2, ![256, 256]⟩
abbrev S16x128x256 : Shape := ⟨3, ![16, 128, 256]⟩
abbrev S16 : Shape := ⟨1, ![16]⟩
abbrev S16x16x256 : Shape := ⟨3, ![16, 16, 256]⟩
abbrev S16x144x256 : Shape := ⟨3, ![16, 144, 256]⟩
abbrev S16x144x4x64 : Shape := ⟨4, ![16, 144, 4, 64]⟩
abbrev S16x16x4x4x64 : Shape := ⟨5, ![16, 16, 4, 4, 64]⟩
abbrev S16x4x144x16x4 : Shape := ⟨5, ![16, 4, 144, 16, 4]⟩
abbrev S16x4x4x16x144 : Shape := ⟨5, ![16, 4, 4, 16, 144]⟩
abbrev S4x4 : Shape := ⟨2, ![4, 4]⟩
abbrev S1x4x4x1x1 : Shape := ⟨5, ![1, 4, 4, 1, 1]⟩
abbrev S_ : Shape := ⟨0, ![]⟩
abbrev S16x4x4x16 : Shape := ⟨4, ![16, 4, 4, 16]⟩
abbrev S16x4x4x16x1 : Shape := ⟨5, ![16, 4, 4, 16, 1]⟩
abbrev S16x4x64x4x16 : Shape := ⟨5, ![16, 4, 64, 4, 16]⟩

abbrev nBuf : Space → Nat
  | .hbm => 44
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x256, .f32⟩
  | .hbm, ⟨2, _⟩ => ⟨S256x256, .f32⟩
  | .hbm, ⟨3, _⟩ => ⟨S16x128x256, .f32⟩
  | .hbm, ⟨4, _⟩ => ⟨S16x128x256, .f32⟩
  | .hbm, ⟨5, _⟩ => ⟨S256x1024, .bf16⟩
  | .hbm, ⟨6, _⟩ => ⟨S16, .f32⟩
  | .hbm, ⟨7, _⟩ => ⟨S16x16x256, .f32⟩
  | .hbm, ⟨8, _⟩ => ⟨S16x144x256, .f32⟩
  | .hbm, ⟨9, _⟩ => ⟨S16x16x256, .f32⟩
  | .hbm, ⟨10, _⟩ => ⟨S16x144x256, .f32⟩
  | .hbm, ⟨11, _⟩ => ⟨S16x144x4x64, .f32⟩
  | .hbm, ⟨12, _⟩ => ⟨S16x144x4x64, .f32⟩
  | .hbm, ⟨13, _⟩ => ⟨S256x1024, .f32⟩
  | .hbm, ⟨14, _⟩ => ⟨S16x16x4x4x64, .f32⟩
  | .hbm, ⟨15, _⟩ => ⟨S16x4x144x16x4, .f32⟩
  | .hbm, ⟨16, _⟩ => ⟨S16x4x4x16x144, .f32⟩
  | .hbm, ⟨17, _⟩ => ⟨S4x4, .f32⟩
  | .hbm, ⟨18, _⟩ => ⟨S1x4x4x1x1, .f32⟩
  | .hbm, ⟨19, _⟩ => ⟨S_, .f32⟩
  | .hbm, ⟨20, _⟩ => ⟨S16x4x4x16, .f32⟩
  | .hbm, ⟨21, _⟩ => ⟨S16x4x4x16x1, .f32⟩
  | .hbm, ⟨22, _⟩ => ⟨S16x4x4x16x1, .f32⟩
  | .hbm, ⟨23, _⟩ => ⟨S16x4x4x16x1, .f32⟩
  | .hbm, ⟨24, _⟩ => ⟨S16x4x4x16x144, .f32⟩
  | .hbm, ⟨25, _⟩ => ⟨S16x4x4x16x144, .f32⟩
  | .hbm, ⟨26, _⟩ => ⟨S16x4x4x16x144, .f32⟩
  | .hbm, ⟨27, _⟩ => ⟨S_, .f32⟩
  | .hbm, ⟨28, _⟩ => ⟨S16x4x4x16, .f32⟩
  | .hbm, ⟨29, _⟩ => ⟨S16x4x4x16x1, .f32⟩
  | .hbm, ⟨30, _⟩ => ⟨S16x4x4x16x1, .f32⟩
  | .hbm, ⟨31, _⟩ => ⟨S16x4x4x16x1, .f32⟩
  | .hbm, ⟨32, _⟩ => ⟨S16x4x4x16x1, .f32⟩
  | .hbm, ⟨33, _⟩ => ⟨S16x4x4x16x1, .f32⟩
  | .hbm, ⟨34, _⟩ => ⟨S16x4x4x16x144, .f32⟩
  | .hbm, ⟨35, _⟩ => ⟨S16x4x4x16x144, .f32⟩
  | .hbm, ⟨36, _⟩ => ⟨S16x4x64x4x16, .f32⟩
  | .hbm, ⟨37, _⟩ => ⟨S16x16x4x4x64, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S256x1024, .bf16⟩
  | .hbm, ⟨42, _⟩ => ⟨S16x128x256, .f32⟩
  | .hbm, ⟨43, _⟩ => ⟨S16x128x256, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== GlaS.lean ====
abbrev S256x512 : Shape := ⟨2, ![256, 512]⟩
abbrev S256x1024 : Shape := ⟨2, ![256, 1024]⟩
abbrev S16x4x128x256 : Shape := ⟨4, ![16, 4, 128, 256]⟩
abbrev S256 : Shape := ⟨1, ![256]⟩
abbrev S16x32 : Shape := ⟨2, ![16, 32]⟩
abbrev S1x256 : Shape := ⟨2, ![1, 256]⟩
abbrev S16x512 : Shape := ⟨2, ![16, 512]⟩
abbrev S16x1024 : Shape := ⟨2, ![16, 1024]⟩
abbrev S1x4x128x256 : Shape := ⟨4, ![1, 4, 128, 256]⟩
abbrev S4x256x128 : Shape := ⟨3, ![4, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S16x16 : Shape := ⟨2, ![16, 16]⟩
abbrev S32x512 : Shape := ⟨2, ![32, 512]⟩
abbrev S16x128 : Shape := ⟨2, ![16, 128]⟩
abbrev S1x128 : Shape := ⟨2, ![1, 128]⟩
abbrev S16x256 : Shape := ⟨2, ![16, 256]⟩
abbrev S16 : Shape := ⟨1, ![16]⟩
abbrev S16x1 : Shape := ⟨2, ![16, 1]⟩

abbrev nBuf : Space → Nat
  | .hbm => 11
  | .vmem => 19
  | .smem => 0
  | _ => 0

abbrev bufTy : (tb : Table) → Fin (tcTables nBuf tb) → BufTy
  | .hbm, ⟨0, _⟩ => ⟨S256x512, .bf16⟩
  | .hbm, ⟨1, _⟩ => ⟨S256x512, .bf16⟩
  | .hbm, ⟨2, _⟩ => ⟨S256x1024, .bf16⟩
  | .hbm, ⟨3, _⟩ => ⟨S256x1024, .bf16⟩
  | .hbm, ⟨4, _⟩ => ⟨S256x512, .f32⟩
  | .hbm, ⟨5, _⟩ => ⟨S16x4x128x256, .f32⟩
  | .hbm, ⟨6, _⟩ => ⟨S256, .f32⟩
  | .hbm, ⟨7, _⟩ => ⟨S16x32, .bf16⟩
  | .hbm, ⟨8, _⟩ => ⟨S1x256, .f32⟩
  | .hbm, ⟨9, _⟩ => ⟨S256x1024, .bf16⟩
  | .hbm, ⟨10, _⟩ => ⟨S16x4x128x256, .f32⟩
  | .local _ .vmem, ⟨0, _⟩ => ⟨S16x512, .bf16⟩
  | .local _ .vmem, ⟨1, _⟩ => ⟨S16x512, .bf16⟩
  | .local _ .vmem, ⟨2, _⟩ => ⟨S16x512, .bf16⟩
  | .local _ .vmem, ⟨3, _⟩ => ⟨S16x512, .bf16⟩
  | .local _ .vmem, ⟨4, _⟩ => ⟨S16x1024, .bf16⟩
  | .local _ .vmem, ⟨5, _⟩ => ⟨S16x1024, .bf16⟩
  | .local _ .vmem, ⟨6, _⟩ => ⟨S16x1024, .bf16⟩
  | .local _ .vmem, ⟨7, _⟩ => ⟨S16x1024, .bf16⟩
  | .local _ .vmem, ⟨8, _⟩ => ⟨S16x512, .f32⟩
  | .local _ .vmem, ⟨9, _⟩ => ⟨S16x512, .f32⟩
  | .local _ .vmem, ⟨10, _⟩ => ⟨S1x4x128x256, .f32⟩
  | .local _ .vmem, ⟨11, _⟩ => ⟨S1x4x128x256, .f32⟩
  | .local _ .vmem, ⟨12, _⟩ => ⟨S1x256, .f32⟩
  | .local _ .vmem, ⟨13, _⟩ => ⟨S16x32, .bf16⟩
  | .local _ .vmem, ⟨14, _⟩ => ⟨S16x1024, .bf16⟩
  | .local _ .vmem, ⟨15, _⟩ => ⟨S16x1024, .bf16⟩
  | .local _ .vmem, ⟨16, _⟩ => ⟨S1x4x128x256, .f32⟩
  | .local _ .vmem, ⟨17, _⟩ => ⟨S1x4x128x256, .f32⟩
  | .local _ .vmem, ⟨18, _⟩ => ⟨S4x256x128, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 1], ![false, false]⟩

def k0_mult1 : BitVec 32 :=
  let c0_i32_1 : BitVec 32 := 0#32
  let c16_i32 : BitVec 32 := 16#32
  let v6 : BitVec 32 := Scalar.muli c0_i32_1 c16_i32
  v6
def k0_off1 : Fin 2 → Nat :=
  let c0_i32_1 : BitVec 32 := 0#32
  let c16_i32 : BitVec 32 := 16#32
  let v6 : BitVec 32 := Scalar.muli c0_i32_1 c16_i32
  let v7 : BitVec 32 := v6
  let v8 : Index := Scalar.indexCast v7
  let c0 : Index := 0#32
  ![v8.toNat, 0]
def k0_off2 : Fin 2 → Nat :=
  let c0_i32_1 : BitVec 32 := 0#32
  let c16_i32 : BitVec 32 := 16#32
  let v6 : BitVec 32 := Scalar.muli c0_i32_1 c16_i32
  let v7 : BitVec 32 := v6
  let v19 : Index := Scalar.indexCast v7
  let c0_4 : Index := 0#32
  ![v19.toNat, 0]
def k0_off3 : Fin 2 → Nat :=
  let c0_i32_1 : BitVec 32 := 0#32
  let c16_i32 : BitVec 32 := 16#32
  let v6 : BitVec 32 := Scalar.muli c0_i32_1 c16_i32
  let v7 : BitVec 32 := v6
  let v25 : Index := Scalar.indexCast v7
  let c0_6 : Index := 0#32
  ![v25.toNat, 0]
def k0_off4 : Fin 2 → Nat :=
  let c0_i32_1 : BitVec 32 := 0#32
  let c16_i32 : BitVec 32 := 16#32
  let v6 : BitVec 32 := Scalar.muli c0_i32_1 c16_i32
  let v7 : BitVec 32 := v6
  let v81 : Index := Scalar.indexCast v7
  let c128 : Index := 128#32
  ![v81.toNat, 128]
def k0_off5 : Fin 2 → Nat :=
  let c0_i32_1 : BitVec 32 := 0#32
  let c16_i32 : BitVec 32 := 16#32
  let v6 : BitVec 32 := Scalar.muli c0_i32_1 c16_i32
  let v7 : BitVec 32 := v6
  let v87 : Index := Scalar.indexCast v7
  let c256 : Index := 256#32
  ![v87.toNat, 256]
def k0_off6 : Fin 2 → Nat :=
  let c0_i32_1 : BitVec 32 := 0#32
  let c16_i32 : BitVec 32 := 16#32
  let v6 : BitVec 32 := Scalar.muli c0_i32_1 c16_i32
  let v7 : BitVec 32 := v6
  let v143 : Index := Scalar.indexCast v7
  let c256_45 : Index := 256#32
  ![v143.toNat, 256]
def k0_off7 : Fin 2 → Nat :=
  let c0_i32_1 : BitVec 32 := 0#32
  let c16_i32 : BitVec 32 := 16#32
  let v6 : BitVec 32 := Scalar.muli c0_i32_1 c16_i32
  let v7 : BitVec 32 := v6
  let v149 : Index := Scalar.indexCast v7
  let c512 : Index := 512#32
  ![v149.toNat, 512]
def k0_off8 : Fin 2 → Nat :=
  let c0_i32_1 : BitVec 32 := 0#32
  let c16_i32 : BitVec 32 := 16#32
  let v6 : BitVec 32 := Scalar.muli c0_i32_1 c16_i32
  let v7 : BitVec 32 := v6
  let v205 : Index := Scalar.indexCast v7
  let c384 : Index := 384#32
  ![v205.toNat, 384]
def k0_off9 : Fin 2 → Nat :=
  let c0_i32_1 : BitVec 32 := 0#32
  let c16_i32 : BitVec 32 := 16#32
  let v6 : BitVec 32 := Scalar.muli c0_i32_1 c16_i32
  let v7 : BitVec 32 := v6
  let v211 : Index := Scalar.indexCast v7
  let c768 : Index := 768#32
  ![v211.toNat, 768]
def k0_cond2 (i : grid0.Coords) : BitVec 1 :=
  let arg1 : BitVec 32 := BitVec.ofNat 32 (i 1).val
  let c0_i32_84 : BitVec 32 := 0#32
  let v265 : BitVec 1 := Scalar.cmpi .eq arg1 c0_i32_84
  let v266 : BitVec 32 := Scalar.extui v265
  let c0_i32_85 : BitVec 32 := 0#32
  let v267 : BitVec 1 := Scalar.cmpi .ne v266 c0_i32_85
  v267

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== GlaSRefIdeal.lean ====
abbrev S256x512 : Shape := ⟨2, ![256, 512]⟩
abbrev S256x1024 : Shape := ⟨2, ![256, 1024]⟩
abbrev S16x4x128x256 : Shape := ⟨4, ![16, 4, 128, 256]⟩
abbrev S256 : Shape := ⟨1, ![256]⟩
abbrev S16x16x4x128 : Shape := ⟨4, ![16, 16, 4, 128]⟩
abbrev S16x16x4x256 : Shape := ⟨4, ![16, 16, 4, 256]⟩
abbrev S_ : Shape := ⟨0, ![]⟩
abbrev S16x16 : Shape := ⟨2, ![16, 16]⟩
abbrev S16x16x1x4x128 : Shape := ⟨5, ![16, 16, 1, 4, 128]⟩
abbrev S16x1x16x4x128 : Shape := ⟨5, ![16, 1, 16, 4, 128]⟩
abbrev S16x16x16x4x128 : Shape := ⟨5, ![16, 16, 16, 4, 128]⟩
abbrev S1x16x16x1x1 : Shape := ⟨5, ![1, 16, 16, 1, 1]⟩
abbrev S16x4x16x16 : Shape := ⟨4, ![16, 4, 16, 16]⟩
abbrev S16x4x256x16 : Shape := ⟨4, ![16, 4, 256, 16]⟩
abbrev S16x1x4x128 : Shape := ⟨4, ![16, 1, 4, 128]⟩
abbrev S16x4x128 : Shape := ⟨3, ![16, 4, 128]⟩
abbrev S16x4x128x1 : Shape := ⟨4, ![16, 4, 128, 1]⟩
abbrev S16x16x4 : Shape := ⟨3, ![16, 16, 4]⟩
abbrev S16x16x4x1 : Shape := ⟨4, ![16, 16, 4, 1]⟩
abbrev S1x1x1x256 : Shape := ⟨4, ![1, 1, 1, 256]⟩

abbrev nBuf : Space → Nat
  | .hbm => 85
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S256x512, .bf16⟩
  | .hbm, ⟨2, _⟩ => ⟨S256x1024, .bf16⟩
  | .hbm, ⟨3, _⟩ => ⟨S256x1024, .bf16⟩
  | .hbm, ⟨4, _⟩ => ⟨S256x512, .f32⟩
  | .hbm, ⟨5, _⟩ => ⟨S16x4x128x256, .f32⟩
  | .hbm, ⟨6, _⟩ => ⟨S256, .f32⟩
  | .hbm, ⟨7, _⟩ => ⟨S256x512, .f32⟩
  | .hbm, ⟨8, _⟩ => ⟨S16x16x4x128, .f32⟩
  | .hbm, ⟨9, _⟩ => ⟨S256x512, .f32⟩
  | .hbm, ⟨10, _⟩ => ⟨S16x16x4x128, .f32⟩
  | .hbm, ⟨11, _⟩ => ⟨S256x1024, .f32⟩
  | .hbm, ⟨12, _⟩ => ⟨S16x16x4x256, .f32⟩
  | .hbm, ⟨13, _⟩ => ⟨S16x16x4x128, .f32⟩
  | .hbm, ⟨14, _⟩ => ⟨S_, .i1⟩
  | .hbm, ⟨15, _⟩ => ⟨S16x16, .i1⟩
  | .hbm, ⟨16, _⟩ => ⟨S16x16, .i32⟩
  | .hbm, ⟨17, _⟩ => ⟨S_, .i32⟩
  | .hbm, ⟨18, _⟩ => ⟨S16x16, .i32⟩
  | .hbm, ⟨19, _⟩ => ⟨S16x16, .i32⟩
  | .hbm, ⟨20, _⟩ => ⟨S16x16, .i32⟩
  | .hbm, ⟨21, _⟩ => ⟨S16x16, .i1⟩
  | .hbm, ⟨22, _⟩ => ⟨S_, .i1⟩
  | .hbm, ⟨23, _⟩ => ⟨S16x16, .i1⟩
  | .hbm, ⟨24, _⟩ => ⟨S16x16, .i1⟩
  | .hbm, ⟨25, _⟩ => ⟨S_, .f32⟩
  | .hbm, ⟨26, _⟩ => ⟨S_, .f32⟩
  | .hbm, ⟨27, _⟩ => ⟨S16x16x4x128, .f32⟩
  | .hbm, ⟨28, _⟩ => ⟨S16x16x1x4x128, .f32⟩
  | .hbm, ⟨29, _⟩ => ⟨S16x1x16x4x128, .f32⟩
  | .hbm, ⟨30, _⟩ => ⟨S16x16x16x4x128, .f32⟩
  | .hbm, ⟨31, _⟩ => ⟨S16x16x16x4x128, .f32⟩
  | .hbm, ⟨32, _⟩ => ⟨S16x16x16x4x128, .f32⟩
  | .hbm, ⟨33, _⟩ => ⟨S1x16x16x1x1, .i1⟩
  | .hbm, ⟨34, _⟩ => ⟨S_, .f32⟩
  | .hbm, ⟨35, _⟩ => ⟨S_, .f32⟩
  | .hbm, ⟨36, _⟩ => ⟨S16x16x16x4x128, .i1⟩
  | .hbm, ⟨37, _⟩ => ⟨S16x16x16x4x128, .f32⟩
  | .hbm, ⟨38, _⟩ => ⟨S16x16x16x4x128, .f32⟩
  | .hbm, ⟨39, _⟩ => ⟨S16x16x16x4x128, .f32⟩
  | .hbm, ⟨40, _⟩ => ⟨S16x16x1x4x128, .f32⟩
  | .hbm, ⟨41, _⟩ => ⟨S16x16x16x4x128, .f32⟩
  | .hbm, ⟨42, _⟩ => ⟨S16x16x16x4x128, .f32⟩
  | .hbm, ⟨43, _⟩ => ⟨S16x4x16x16, .f32⟩
  | .hbm, ⟨44, _⟩ => ⟨S16x4x16x16, .f32⟩
  | .hbm, ⟨45, _⟩ => ⟨S16x4x256x16, .f32⟩
  | .hbm, ⟨46, _⟩ => ⟨S16x16x4x256, .f32⟩
  | .hbm, ⟨47, _⟩ => ⟨S16x16x4x128, .f32⟩
  | .hbm, ⟨48, _⟩ => ⟨S16x16x4x128, .f32⟩
  | .hbm, ⟨49, _⟩ => ⟨S16x4x256x16, .f32⟩
  | .hbm, ⟨50, _⟩ => ⟨S16x16x4x256, .f32⟩
  | .hbm, ⟨51, _⟩ => ⟨S16x16x4x256, .f32⟩
  | .hbm, ⟨52, _⟩ => ⟨S16x1x4x128, .f32⟩
  | .hbm, ⟨53, _⟩ => ⟨S16x4x128, .f32⟩
  | .hbm, ⟨54, _⟩ => ⟨S16x4x128, .f32⟩
  | .hbm, ⟨55, _⟩ => ⟨S16x4x128x1, .f32⟩
  | .hbm, ⟨56, _⟩ => ⟨S16x4x128x256, .f32⟩
  | .hbm, ⟨57, _⟩ => ⟨S16x4x128x256, .f32⟩
  | .hbm, ⟨58, _⟩ => ⟨S16x1x4x128, .f32⟩
  | .hbm, ⟨59, _⟩ => ⟨S16x16x4x128, .f32⟩
  | .hbm, ⟨60, _⟩ => ⟨S16x16x4x128, .f32⟩
  | .hbm, ⟨61, _⟩ => ⟨S16x16x4x128, .f32⟩
  | .hbm, ⟨62, _⟩ => ⟨S16x16x4x128, .f32⟩
  | .hbm, ⟨63, _⟩ => ⟨S16x4x128x256, .f32⟩
  | .hbm, ⟨64, _⟩ => ⟨S16x4x128x256, .f32⟩
  | .hbm, ⟨65, _⟩ => ⟨S16x16x4x256, .f32⟩
  | .hbm, ⟨66, _⟩ => ⟨S_, .f32⟩
  | .hbm, ⟨67, _⟩ => ⟨S16x16x4, .f32⟩
  | .hbm, ⟨68, _⟩ => ⟨S16x16x4x1, .f32⟩
  | .hbm, ⟨69, _⟩ => ⟨S_, .f32⟩
  | .hbm, ⟨70, _⟩ => ⟨S16x16x4x1, .f32⟩
  | .hbm, ⟨71, _⟩ => ⟨S16x16x4x1, .f32⟩
  | .hbm, ⟨72, _⟩ => ⟨S_, .f32⟩
  | .hbm, ⟨73, _⟩ => ⟨S16x16x4x1, .f32⟩
  | .hbm, ⟨74, _⟩ => ⟨S16x16x4x1, .f32⟩
  | .hbm, ⟨75, _⟩ => ⟨S16x16x4x1, .f32⟩
  | .hbm, ⟨76, _⟩ => ⟨S16x16x4x256, .f32⟩
  | .hbm, ⟨77, _⟩ => ⟨S16x16x4x256, .f32⟩
  | .hbm, ⟨78, _⟩ => ⟨S1x1x1x256, .f32⟩
  | .hbm, ⟨79, _⟩ => ⟨S16x16x4x256, .f32⟩
  | .hbm, ⟨80, _⟩ => ⟨S16x16x4x256, .f32⟩
  | .hbm, ⟨81, _⟩ => ⟨S256x1024, .f32⟩
  | .hbm, ⟨82, _⟩ => ⟨S256x1024, .f32⟩
  | .hbm, ⟨83, _⟩ => ⟨S256x1024, .f32⟩
  | .hbm, ⟨84, _⟩ => ⟨S256x1024, .bf16⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v8 : Ref sig .tc := ⟨.hbm, 24, rfl⟩
abbrev main_call1_call0_cst : Ref sig .tc := ⟨.hbm, 25, rfl⟩
abbrev main_call1_call0_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_0 : Ref sig .tc := ⟨.hbm, 66, rfl⟩
abbrev main_v44 : Ref sig .tc := ⟨.hbm, 67, rfl⟩
abbrev main_v45 : Ref sig .tc := ⟨.hbm, 68, rfl⟩
abbrev main_cst_1 : Ref sig .tc := ⟨.hbm, 69, rfl⟩
abbrev main_v46 : Ref sig .tc := ⟨.hbm, 70, rfl⟩
abbrev main_v47 : Ref sig .tc := ⟨.hbm, 71, rfl⟩
abbrev main_cst_2 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== OutProjS.lean ====
abbrev S16x16x2048 : Shape := ⟨3, ![16, 16, 2048]⟩
abbrev S256x1024 : Shape := ⟨2, ![256, 1024]⟩
abbrev S1x2048x2048 : Shape := ⟨3, ![1, 2048, 2048]⟩
abbrev S2048x2048 : Shape := ⟨2, ![2048, 2048]⟩
abbrev S1024x2048 : Shape := ⟨2, ![1024, 2048]⟩
abbrev S4x4x64x2048 : Shape := ⟨4, ![4, 4, 64, 2048]⟩
abbrev S256x2048 : Shape := ⟨2, ![256, 2048]⟩

abbrev nBuf : Space → Nat
  | .hbm => 14
  | .vmem => 6
  | .smem => 0
  | _ => 0

abbrev bufTy : (tb : Table) → Fin (tcTables nBuf tb) → BufTy
  | .hbm, ⟨0, _⟩ => ⟨S16x16x2048, .f32⟩
  | .hbm, ⟨1, _⟩ => ⟨S256x1024, .bf16⟩
  | .hbm, ⟨2, _⟩ => ⟨S256x1024, .bf16⟩
  | .hbm, ⟨3, _⟩ => ⟨S1x2048x2048, .f32⟩
  | .hbm, ⟨4, _⟩ => ⟨S2048x2048, .f32⟩
  | .hbm, ⟨5, _⟩ => ⟨S1024x2048, .f32⟩
  | .hbm, ⟨6, _⟩ => ⟨S4x4x64x2048, .f32⟩
  | .hbm, ⟨7, _⟩ => ⟨S4x4x64x2048, .f32⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S256x2048, .f32⟩
  | .hbm, ⟨13, _⟩ => ⟨S256x2048, .f32⟩
  | .local _ .vmem, ⟨0, _⟩ => ⟨S256x2048, .f32⟩
  | .local _ .vmem, ⟨1, _⟩ => ⟨S256x1024, .bf16⟩
  | .local _ .vmem, ⟨2, _⟩ => ⟨S256x1024, .bf16⟩
  | .local _ .vmem, ⟨3, _⟩ => ⟨S1024x2048, .bf16⟩
  | .local _ .vmem, ⟨4, _⟩ => ⟨S1024x2048, .bf16⟩
  | .local _ .vmem, ⟨5, _⟩ => ⟨S256x2048, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== OutProjSRefIdeal.lean ====
abbrev S16x16x2048 : Shape := ⟨3, ![16, 16, 2048]⟩
abbrev S256x1024 : Shape := ⟨2, ![256, 1024]⟩
abbrev S1x2048x2048 : Shape := ⟨3, ![1, 2048, 2048]⟩
abbrev S16x16x4x4x64 : Shape := ⟨5, ![16, 16, 4, 4, 64]⟩
abbrev S16x16x1024 : Shape := ⟨3, ![16, 16, 1024]⟩
abbrev S2048x2048 : Shape := ⟨2, ![2048, 2048]⟩
abbrev S256x2048 : Shape := ⟨2, ![256, 2048]⟩

abbrev nBuf : Space → Nat
  | .hbm => 15
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S256x1024, .bf16⟩
  | .hbm, ⟨2, _⟩ => ⟨S256x1024, .bf16⟩
  | .hbm, ⟨3, _⟩ => ⟨S1x2048x2048, .f32⟩
  | .hbm, ⟨4, _⟩ => ⟨S256x1024, .f32⟩
  | .hbm, ⟨5, _⟩ => ⟨S16x16x4x4x64, .f32⟩
  | .hbm, ⟨6, _⟩ => ⟨S16x16x4x4x64, .f32⟩
  | .hbm, ⟨7, _⟩ => ⟨S16x16x1024, .f32⟩
  | .hbm, ⟨8, _⟩ => ⟨S256x1024, .f32⟩
  | .hbm, ⟨9, _⟩ => ⟨S16x16x1024, .f32⟩
  | .hbm, ⟨10, _⟩ => ⟨S16x16x2048, .f32⟩
  | .hbm, ⟨11, _⟩ => ⟨S2048x2048, .f32⟩
  | .hbm, ⟨12, _⟩ => ⟨S16x16x2048, .f32⟩
  | .hbm, ⟨13, _⟩ => ⟨S16x16x2048, .f32⟩
  | .hbm, ⟨14, _⟩ => ⟨S256x2048, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InProjS.lean ====
abbrev S16x16x2048 : Shape := ⟨3, ![16, 16, 2048]⟩
abbrev S1x2048 : Shape := ⟨2, ![1, 2048]⟩
abbrev S1x2048x5648 : Shape := ⟨3, ![1, 2048, 5648]⟩
abbrev S1x16x512 : Shape := ⟨3, ![1, 16, 512]⟩
abbrev S1x512 : Shape := ⟨2, ![1, 512]⟩
abbrev S1x64 : Shape := ⟨2, ![1, 64]⟩
abbrev S2048 : Shape := ⟨1, ![2048]⟩
abbrev S2048x5648 : Shape := ⟨2, ![2048, 5648]⟩
abbrev S16x512 : Shape := ⟨2, ![16, 512]⟩
abbrev S512 : Shape := ⟨1, ![512]⟩
abbrev S64 : Shape := ⟨1, ![64]⟩
abbrev S2048x1024 : Shape := ⟨2, ![2048, 1024]⟩
abbrev S2048x256 : Shape := ⟨2, ![2048, 256]⟩
abbrev S2048x512 : Shape := ⟨2, ![2048, 512]⟩
abbrev S2048x16 : Shape := ⟨2, ![2048, 16]⟩
abbrev S2048x4x4x64 : Shape := ⟨4, ![2048, 4, 4, 64]⟩
abbrev S2048x5632 : Shape := ⟨2, ![2048, 5632]⟩
abbrev S_ : Shape := ⟨0, ![]⟩
abbrev S2048x128 : Shape := ⟨2, ![2048, 128]⟩
abbrev S128x512 : Shape := ⟨2, ![128, 512]⟩
abbrev S16x64 : Shape := ⟨2, ![16, 64]⟩
abbrev S1024 : Shape := ⟨1, ![1024]⟩
abbrev S4x64 : Shape := ⟨2, ![4, 64]⟩
abbrev S256 : Shape := ⟨1, ![256]⟩
abbrev S1280 : Shape := ⟨1, ![1280]⟩
abbrev S1x1280 : Shape := ⟨2, ![1, 1280]⟩
abbrev S1280x128 : Shape := ⟨2, ![1280, 128]⟩
abbrev S128x1280 : Shape := ⟨2, ![128, 1280]⟩
abbrev S256x1280 : Shape := ⟨2, ![256, 1280]⟩
abbrev S256x2048 : Shape := ⟨2, ![256, 2048]⟩
abbrev S256x1024 : Shape := ⟨2, ![256, 1024]⟩
abbrev S256x256 : Shape := ⟨2, ![256, 256]⟩
abbrev S256x512 : Shape := ⟨2, ![256, 512]⟩
abbrev S256x1 : Shape := ⟨2, ![256, 1]⟩
abbrev S2048x1280 : Shape := ⟨2, ![2048, 1280]⟩
abbrev S256x128 : Shape := ⟨2, ![256, 128]⟩

abbrev nBuf : Space → Nat
  | .hbm => 116
  | .vmem => 18
  | .smem => 0
  | _ => 0

abbrev bufTy : (tb : Table) → Fin (tcTables nBuf tb) → BufTy
  | .hbm, ⟨0, _⟩ => ⟨S16x16x2048, .f32⟩
  | .hbm, ⟨1, _⟩ => ⟨S1x2048, .f32⟩
  | .hbm, ⟨2, _⟩ => ⟨S1x2048x5648, .f32⟩
  | .hbm, ⟨3, _⟩ => ⟨S1x16x512, .f32⟩
  | .hbm, ⟨4, _⟩ => ⟨S1x512, .f32⟩
  | .hbm, ⟨5, _⟩ => ⟨S1x64, .f32⟩
  | .hbm, ⟨6, _⟩ => ⟨S1x64, .f32⟩
  | .hbm, ⟨7, _⟩ => ⟨S2048, .f32⟩
  | .hbm, ⟨8, _⟩ => ⟨S2048x5648, .f32⟩
  | .hbm, ⟨9, _⟩ => ⟨S16x512, .f32⟩
  | .hbm, ⟨10, _⟩ => ⟨S512, .f32⟩
  | .hbm, ⟨11, _⟩ => ⟨S64, .f32⟩
  | .hbm, ⟨12, _⟩ => ⟨S64, .f32⟩
  | .hbm, ⟨13, _⟩ => ⟨S2048x1024, .f32⟩
  | .hbm, ⟨14, _⟩ => ⟨S2048x256, .f32⟩
  | .hbm, ⟨15, _⟩ => ⟨S2048x256, .f32⟩
  | .hbm, ⟨16, _⟩ => ⟨S2048x1024, .f32⟩
  | .hbm, ⟨17, _⟩ => ⟨S2048x512, .f32⟩
  | .hbm, ⟨18, _⟩ => ⟨S2048x512, .f32⟩
  | .hbm, ⟨19, _⟩ => ⟨S2048x1024, .f32⟩
  | .hbm, ⟨20, _⟩ => ⟨S2048x1024, .f32⟩
  | .hbm, ⟨21, _⟩ => ⟨S2048x16, .f32⟩
  | .hbm, ⟨22, _⟩ => ⟨S2048x4x4x64, .f32⟩
  | .hbm, ⟨23, _⟩ => ⟨S2048x4x4x64, .f32⟩
  | .hbm, ⟨24, _⟩ => ⟨S2048x1024, .f32⟩
  | .hbm, ⟨25, _⟩ => ⟨S2048x4x4x64, .f32⟩
  | .hbm, ⟨26, _⟩ => ⟨S2048x4x4x64, .f32⟩
  | .hbm, ⟨27, _⟩ => ⟨S2048x1024, .f32⟩
  | .hbm, ⟨28, _⟩ => ⟨S2048x5632, .f32⟩
  | .hbm, ⟨29, _⟩ => ⟨S2048x5632, .bf16⟩
  | .hbm, ⟨30, _⟩ => ⟨S_, .i32⟩
  | .hbm, ⟨31, _⟩ => ⟨S_, .f32⟩
  | .hbm, ⟨32, _⟩ => ⟨S2048x128, .f32⟩
  | .hbm, ⟨33, _⟩ => ⟨S2048x128, .bf16⟩
  | .hbm, ⟨34, _⟩ => ⟨S_, .i32⟩
  | .hbm, ⟨35, _⟩ => ⟨S_, .f32⟩
  | .hbm, ⟨36, _⟩ => ⟨S128x512, .f32⟩
  | .hbm, ⟨37, _⟩ => ⟨S128x512, .bf16⟩
  | .hbm, ⟨38, _⟩ => ⟨S1x64, .f32⟩
  | .hbm, ⟨39, _⟩ => ⟨S16x64, .f32⟩
  | .hbm, ⟨40, _⟩ => ⟨S1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1x64, .f32⟩
  | .hbm, ⟨45, _⟩ => ⟨S4x64, .f32⟩
  | .hbm, ⟨46, _⟩ => ⟨S256, .f32⟩
  | .hbm, ⟨47, _⟩ => ⟨S1280, .f32⟩
  | .hbm, ⟨48, _⟩ => ⟨S1x1280, .f32⟩
  | .hbm, ⟨49, _⟩ => ⟨S1280x128, .i32⟩
  | .hbm, ⟨50, _⟩ => ⟨S_, .i32⟩
  | .hbm, ⟨51, _⟩ => ⟨S_, .i32⟩
  | .hbm, ⟨52, _⟩ => ⟨S1280x128, .i32⟩
  | .hbm, ⟨53, _⟩ => ⟨S1280x128, .i32⟩
  | .hbm, ⟨54, _⟩ => ⟨S1280x128, .i32⟩
  | .hbm, ⟨55, _⟩ => ⟨S_, .i32⟩
  | .hbm, ⟨56, _⟩ => ⟨S1280x128, .i32⟩
  | .hbm, ⟨57, _⟩ => ⟨S1280x128, .i1⟩
  | .hbm, ⟨58, _⟩ => ⟨S1280x128, .i32⟩
  | .hbm, ⟨59, _⟩ => ⟨S1280x128, .i32⟩
  | .hbm, ⟨60, _⟩ => ⟨S_, .i32⟩
  | .hbm, ⟨61, _⟩ => ⟨S1280x128, .i32⟩
  | .hbm, ⟨62, _⟩ => ⟨S1280x128, .i1⟩
  | .hbm, ⟨63, _⟩ => ⟨S1280x128, .i1⟩
  | .hbm, ⟨64, _⟩ => ⟨S_, .i32⟩
  | .hbm, ⟨65, _⟩ => ⟨S1280x128, .i32⟩
  | .hbm, ⟨66, _⟩ => ⟨S1280x128, .i32⟩
  | .hbm, ⟨67, _⟩ => ⟨S1280x128, .i32⟩
  | .hbm, ⟨68, _⟩ => ⟨S1280x128, .i32⟩
  | .hbm, ⟨69, _⟩ => ⟨S1280x128, .i1⟩
  | .hbm, ⟨70, _⟩ => ⟨S_, .f32⟩
  | .hbm, ⟨71, _⟩ => ⟨S_, .f32⟩
  | .hbm, ⟨72, _⟩ => ⟨S1280x128, .f32⟩
  | .hbm, ⟨73, _⟩ => ⟨S1280x128, .f32⟩
  | .hbm, ⟨74, _⟩ => ⟨S1280x128, .f32⟩
  | .hbm, ⟨75, _⟩ => ⟨S1280x128, .bf16⟩
  | .hbm, ⟨76, _⟩ => ⟨S128x1280, .i32⟩
  | .hbm, ⟨77, _⟩ => ⟨S_, .i32⟩
  | .hbm, ⟨78, _⟩ => ⟨S_, .i32⟩
  | .hbm, ⟨79, _⟩ => ⟨S128x1280, .i32⟩
  | .hbm, ⟨80, _⟩ => ⟨S128x1280, .i32⟩
  | .hbm, ⟨81, _⟩ => ⟨S128x1280, .i32⟩
  | .hbm, ⟨82, _⟩ => ⟨S_, .i32⟩
  | .hbm, ⟨83, _⟩ => ⟨S128x1280, .i32⟩
  | .hbm, ⟨84, _⟩ => ⟨S128x1280, .i1⟩
  | .hbm, ⟨85, _⟩ => ⟨S128x1280, .i32⟩
  | .hbm, ⟨86, _⟩ => ⟨S128x1280, .i32⟩
  | .hbm, ⟨87, _⟩ => ⟨S_, .i32⟩
  | .hbm, ⟨88, _⟩ => ⟨S128x1280, .i32⟩
  | .hbm, ⟨89, _⟩ => ⟨S128x1280, .i1⟩
  | .hbm, ⟨90, _⟩ => ⟨S128x1280, .i1⟩
  | .hbm, ⟨91, _⟩ => ⟨S_, .i32⟩
  | .hbm, ⟨92, _⟩ => ⟨S128x1280, .i32⟩
  | .hbm, ⟨93, _⟩ => ⟨S128x1280, .i32⟩
  | .hbm, ⟨94, _⟩ => ⟨S128x1280, .i32⟩
  | .hbm, ⟨95, _⟩ => ⟨S128x1280, .i32⟩
  | .hbm, ⟨96, _⟩ => ⟨S128x1280, .i1⟩
  | .hbm, ⟨97, _⟩ => ⟨S_, .f32⟩
  | .hbm, ⟨98, _⟩ => ⟨S_, .f32⟩
  | .hbm, ⟨99, _⟩ => ⟨S128x1280, .f32⟩
  | .hbm, ⟨100, _⟩ => ⟨S128x1280, .f32⟩
  | .hbm, ⟨101, _⟩ => ⟨S128x1280, .f32⟩
  | .hbm, ⟨102, _⟩ => ⟨S256x1280, .f32⟩
  | .hbm, ⟨103, _⟩ => ⟨S256x1280, .bf16⟩
  | .hbm, ⟨104, _⟩ => ⟨S1x2048, .f32⟩
  | .hbm, ⟨105, _⟩ => ⟨S1x512, .f32⟩
  | .hbm, ⟨106, _⟩ => ⟨S256x2048, .f32⟩
  | .hbm, ⟨107, _⟩ => ⟨S256x1024, .bf16⟩
  | .hbm, ⟨108, _⟩ => ⟨S256x256, .f32⟩
  | .hbm, ⟨109, _⟩ => ⟨S256x256, .f32⟩
  | .hbm, ⟨110, _⟩ => ⟨S256x1024, .bf16⟩
  | .hbm, ⟨111, _⟩ => ⟨S256x512, .bf16⟩
  | .hbm, ⟨112, _⟩ => ⟨S256x512, .bf16⟩
  | .hbm, ⟨113, _⟩ => ⟨S256x1024, .bf16⟩
  | .hbm, ⟨114, _⟩ => ⟨S256x1024, .bf16⟩
  | .hbm, ⟨115, _⟩ => ⟨S256x512, .f32⟩
  | .local _ .vmem, ⟨0, _⟩ => ⟨S256x2048, .f32⟩
  | .local _ .vmem, ⟨1, _⟩ => ⟨S1x2048, .f32⟩
  | .local _ .vmem, ⟨2, _⟩ => ⟨S2048x5632, .bf16⟩
  | .local _ .vmem, ⟨3, _⟩ => ⟨S2048x128, .bf16⟩
  | .local _ .vmem, ⟨4, _⟩ => ⟨S128x512, .bf16⟩
  | .local _ .vmem, ⟨5, _⟩ => ⟨S1x512, .f32⟩
  | .local _ .vmem, ⟨6, _⟩ => ⟨S1x1280, .f32⟩
  | .local _ .vmem, ⟨7, _⟩ => ⟨S1280x128, .bf16⟩
  | .local _ .vmem, ⟨8, _⟩ => ⟨S256x1280, .bf16⟩
  | .local _ .vmem, ⟨9, _⟩ => ⟨S256x1024, .bf16⟩
  | .local _ .vmem, ⟨10, _⟩ => ⟨S256x256, .f32⟩
  | .local _ .vmem, ⟨11, _⟩ => ⟨S256x256, .f32⟩
  | .local _ .vmem, ⟨12, _⟩ => ⟨S256x1024, .bf16⟩
  | .local _ .vmem, ⟨13, _⟩ => ⟨S256x512, .bf16⟩
  | .local _ .vmem, ⟨14, _⟩ => ⟨S256x512, .bf16⟩
  | .local _ .vmem, ⟨15, _⟩ => ⟨S256x1024, .bf16⟩
  | .local _ .vmem, ⟨16, _⟩ => ⟨S256x1024, .bf16⟩
  | .local _ .vmem, ⟨17, _⟩ => ⟨S256x512, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c : Ref sig .tc := ⟨.hbm, 30, rfl⟩
abbrev main_call0_v0 : Ref sig .tc := ⟨.hbm, 31, rfl⟩
abbrev main_v23 : Ref sig .tc := ⟨.hbm, 32, rfl⟩
abbrev main_v24 : Ref sig .tc := ⟨.hbm, 33, rfl⟩
abbrev main_c_0 : Ref sig .tc := ⟨.hbm, 34, rfl⟩
abbrev main_call1_v0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_2 : Ref sig .tc := ⟨.hbm, 70, rfl⟩
abbrev main_cst_3 : Ref sig .tc := ⟨.hbm, 71, rfl⟩
abbrev main_call3_v0 : Ref sig .tc := ⟨.hbm, 72, rfl⟩
abbrev main_call3_v1 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_4 : Ref sig .tc := ⟨.hbm, 77, rfl⟩
abbrev main_call4_v0 : Ref sig .tc := ⟨.hbm, 78, rfl⟩
abbrev main_call4_v1 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_v5 : Ref sig .tc := ⟨.hbm, 83, rfl⟩
abbrev main_call4_v6 : Ref sig .tc := ⟨.hbm, 84, rfl⟩
abbrev main_call4_v7 : Ref sig .tc := ⟨.hbm, 85, rfl⟩
abbrev main_call4_v8 : Ref sig .tc := ⟨.hbm, 86, rfl⟩
abbrev main_call4_c : Ref sig .tc := ⟨.hbm, 87, rfl⟩
abbrev main_call4_v9 : Ref sig .tc := ⟨.hbm, 88, rfl⟩
abbrev main_call4_v10 : Ref sig .tc := ⟨.hbm, 89, rfl⟩
abbrev main_call4_v11 : Ref sig .tc := ⟨.hbm, 90, rfl⟩
abbrev main_call4_c_0 : Ref sig .tc := ⟨.hbm, 91, rfl⟩
abbrev main_call4_v12 : Ref sig .tc := ⟨.hbm, 92, rfl⟩
abbrev main_call4_v13 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_5 : Ref sig .tc := ⟨.hbm, 97, rfl⟩
abbrev main_cst_6 : Ref sig .tc := ⟨.hbm, 98, rfl⟩
abbrev main_call5_v0 : Ref sig .tc := ⟨.hbm, 99, rfl⟩
abbrev main_call5_v1 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53_0 : Ref sig .tc := ⟨.hbm, 107, rfl⟩
abbrev main_v53_1 : Ref sig .tc := ⟨.hbm, 108, rfl⟩
abbrev main_v53_2 : Ref sig .tc := ⟨.hbm, 109, rfl⟩
abbrev main_v53_3 : Ref sig .tc := ⟨.hbm, 110, rfl⟩
abbrev main_v53_4 : Ref sig .tc := ⟨.hbm, 111, rfl⟩
abbrev main_v53_5 : Ref sig .tc := ⟨.hbm, 112, rfl⟩
abbrev main_v53_6 : Ref sig .tc := ⟨.hbm, 113, rfl⟩
abbrev main_v53_7 : Ref sig .tc := ⟨.hbm, 114, rfl⟩
abbrev main_v53_8 : Ref sig .tc := ⟨.hbm, 115, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1280 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== InProjSRefIdeal.lean ====
abbrev S16x16x2048 : Shape := ⟨3, ![16, 16, 2048]⟩
abbrev S1x2048 : Shape := ⟨2, ![1, 2048]⟩
abbrev S1x2048x5648 : Shape := ⟨3, ![1, 2048, 5648]⟩
abbrev S1x16x512 : Shape := ⟨3, ![1, 16, 512]⟩
abbrev S1x512 : Shape := ⟨2, ![1, 512]⟩
abbrev S1x64 : Shape := ⟨2, ![1, 64]⟩
abbrev S2048 : Shape := ⟨1, ![2048]⟩
abbrev S_ : Shape := ⟨0, ![]⟩
abbrev S16x16 : Shape := ⟨2, ![16, 16]⟩
abbrev S16x16x1 : Shape := ⟨3, ![16, 16, 1]⟩
abbrev S1x1x2048 : Shape := ⟨3, ![1, 1, 2048]⟩
abbrev S2048x5648 : Shape := ⟨2, ![2048, 5648]⟩
abbrev S16x16x5648 : Shape := ⟨3, ![16, 16, 5648]⟩
abbrev S16x16x1024 : Shape := ⟨3, ![16, 16, 1024]⟩
abbrev S16x16x256 : Shape := ⟨3, ![16, 16, 256]⟩
abbrev S16x16x512 : Shape := ⟨3, ![16, 16, 512]⟩
abbrev S16x16x16 : Shape := ⟨3, ![16, 16, 16]⟩
abbrev S16x16x16x64 : Shape := ⟨4, ![16, 16, 16, 64]⟩
abbrev S64 : Shape := ⟨1, ![64]⟩
abbrev S16x16x16x1 : Shape := ⟨4, ![16, 16, 16, 1]⟩
abbrev S1x1x1x64 : Shape := ⟨4, ![1, 1, 1, 64]⟩
abbrev S16x16x4x64 : Shape := ⟨4, ![16, 16, 4, 64]⟩
abbrev S16x16x4 : Shape := ⟨3, ![16, 16, 4]⟩
abbrev S16x16x4x1 : Shape := ⟨4, ![16, 16, 4, 1]⟩
abbrev S16x512 : Shape := ⟨2, ![16, 512]⟩
abbrev S512 : Shape := ⟨1, ![512]⟩
abbrev S1x1x512 : Shape := ⟨3, ![1, 1, 512]⟩
abbrev S16x16x4x4x64 : Shape := ⟨5, ![16, 16, 4, 4, 64]⟩
abbrev S256x1024 : Shape := ⟨2, ![256, 1024]⟩
abbrev S256x256 : Shape := ⟨2, ![256, 256]⟩
abbrev S256x512 : Shape := ⟨2, ![256, 512]⟩

abbrev nBuf : Space → Nat
  | .hbm => 131
  | .vmem => 0
  | .smem => 0
  | _ => 0

abbrev hbmTy0_0 (i : Nat) : BufTy := match i % 128 with
  | 0 => ⟨S16x16x2048, .f32⟩
  | 1 => ⟨S1x2048, .f32⟩
  | 2 => ⟨S1x2048x5648, .f32⟩
  | 3 => ⟨S1x16x512, .f32⟩
  | 4 => ⟨S1x512, .f32⟩
  | 5 => ⟨S1x64, .f32⟩
  | 6 => ⟨S1x64, .f32⟩
  | 7 => ⟨S2048, .f32⟩
  | 8 => ⟨S16x16x2048, .f32⟩
  | 9 => ⟨S_, .f32⟩
  | 10 => ⟨S16x16, .f32⟩
  | 11 => ⟨S16x16x1, .f32⟩
  | 12 => ⟨S_, .f32⟩
  | 13 => ⟨S16x16x1, .f32⟩
  | 14 => ⟨S16x16x1, .f32⟩
  | 15 => ⟨S_, .f32⟩
  | 16 => ⟨S16x16x1, .f32⟩
  | 17 => ⟨S16x16x1, .f32⟩
  | 18 => ⟨S16x16x1, .f32⟩
  | 19 => ⟨S16x16x2048, .f32⟩
  | 20 => ⟨S16x16x2048, .f32⟩
  | 21 => ⟨S1x1x2048, .f32⟩
  | 22 => ⟨S16x16x2048, .f32⟩
  | 23 => ⟨S16x16x2048, .f32⟩
  | 24 => ⟨S2048x5648, .f32⟩
  | 25 => ⟨S16x16x5648, .f32⟩
  | 26 => ⟨S16x16x1024, .f32⟩
  | 27 => ⟨S16x16x256, .f32⟩
  | 28 => ⟨S16x16x256, .f32⟩
  | 29 => ⟨S16x16x1024, .f32⟩
  | 30 => ⟨S16x16x512, .f32⟩
  | 31 => ⟨S16x16x512, .f32⟩
  | 32 => ⟨S16x16x1024, .f32⟩
  | 33 => ⟨S16x16x1024, .f32⟩
  | 34 => ⟨S16x16x16, .f32⟩
  | 35 => ⟨S16x16x16x64, .f32⟩
  | 36 => ⟨S64, .f32⟩
  | 37 => ⟨S16x16x16x64, .f32⟩
  | 38 => ⟨S_, .f32⟩
  | 39 => ⟨S16x16x16, .f32⟩
  | 40 => ⟨S16x16x16x1, .f32⟩
  | 41 => ⟨S_, .f32⟩
  | 42 => ⟨S16x16x16x1, .f32⟩
  | 43 => ⟨S16x16x16x1, .f32⟩
  | 44 => ⟨S_, .f32⟩
  | 45 => ⟨S16x16x16x1, .f32⟩
  | 46 => ⟨S16x16x16x1, .f32⟩
  | 47 => ⟨S16x16x16x1, .f32⟩
  | 48 => ⟨S16x16x16x64, .f32⟩
  | 49 => ⟨S16x16x16x64, .f32⟩
  | 50 => ⟨S1x1x1x64, .f32⟩
  | 51 => ⟨S16x16x16x64, .f32⟩
  | 52 => ⟨S16x16x16x64, .f32⟩
  | 53 => ⟨S_, .f32⟩
  | 54 => ⟨S16x16x16x64, .f32⟩
  | 55 => ⟨S16x16x16x64, .f32⟩
  | 56 => ⟨S16x16x4x64, .f32⟩
  | 57 => ⟨S64, .f32⟩
  | 58 => ⟨S16x16x4x64, .f32⟩
  | 59 => ⟨S_, .f32⟩
  | 60 => ⟨S16x16x4, .f32⟩
  | 61 => ⟨S16x16x4x1, .f32⟩
  | 62 => ⟨S_, .f32⟩
  | 63 => ⟨S16x16x4x1, .f32⟩
  | 64 => ⟨S16x16x4x1, .f32⟩
  | 65 => ⟨S_, .f32⟩
  | 66 => ⟨S16x16x4x1, .f32⟩
  | 67 => ⟨S16x16x4x1, .f32⟩
  | 68 => ⟨S16x16x4x1, .f32⟩
  | 69 => ⟨S16x16x4x64, .f32⟩
  | 70 => ⟨S16x16x4x64, .f32⟩
  | 71 => ⟨S1x1x1x64, .f32⟩
  | 72 => ⟨S16x16x4x64, .f32⟩
  | 73 => ⟨S16x16x4x64, .f32⟩
  | 74 => ⟨S16x512, .f32⟩
  | 75 => ⟨S16x16x512, .f32⟩
  | 76 => ⟨S512, .f32⟩
  | 77 => ⟨S1x1x512, .f32⟩
  | 78 => ⟨S16x16x512, .f32⟩
  | 79 => ⟨S16x16x512, .f32⟩
  | 80 => ⟨S_, .f32⟩
  | 81 => ⟨S16x16x512, .f32⟩
  | 82 => ⟨S16x16x512, .f32⟩
  | 83 => ⟨S16x16x512, .f32⟩
  | 84 => ⟨S16x16x512, .f32⟩
  | 85 => ⟨S16x16x512, .f32⟩
  | 86 => ⟨S16x16x512, .f32⟩
  | 87 => ⟨S16x16x512, .f32⟩
  | 88 => ⟨S_, .f32⟩
  | 89 => ⟨S16x16x512, .f32⟩
  | 90 => ⟨S16x16x512, .f32⟩
  | 91 => ⟨S16x16x4x4x64, .f32⟩
  | 92 => ⟨S16x16x4x4x64, .f32⟩
  | 93 => ⟨S256x1024, .f32⟩
  | 94 => ⟨S256x1024, .bf16⟩
  | 95 => ⟨S256x256, .f32⟩
  | 96 => ⟨S256x256, .f32⟩
  | 97 => ⟨S16x16x1024, .f32⟩
  | 98 => ⟨S16x16x1024, .f32⟩
  | 99 => ⟨S_, .f32⟩
  | 100 => ⟨S16x16x1024, .f32⟩
  | 101 => ⟨S16x16x1024, .f32⟩
  | 102 => ⟨S_, .f32⟩
  | 103 => ⟨S16x16x1024, .f32⟩
  | 104 => ⟨S16x16x1024, .f32⟩
  | 105 => ⟨S16x16x1024, .f32⟩
  | 106 => ⟨S16x16x4x4x64, .f32⟩
  | 107 => ⟨S16x16x4x4x64, .f32⟩
  | 108 => ⟨S256x1024, .f32⟩
  | 109 => ⟨S256x1024, .bf16⟩
  | 110 => ⟨S_, .f32⟩
  | 111 => ⟨S16x16x512, .f32⟩
  | 112 => ⟨S16x16x512, .f32⟩
  | 113 => ⟨S256x512, .f32⟩
  | 114 => ⟨S256x512, .bf16⟩
  | 115 => ⟨S256x512, .f32⟩
  | 116 => ⟨S256x512, .bf16⟩
  | 117 => ⟨S256x1024, .f32⟩
  | 118 => ⟨S256x1024, .bf16⟩
  | 119 => ⟨S16x16x1024, .f32⟩
  | 120 => ⟨S16x16x1024, .f32⟩
  | 121 => ⟨S_, .f32⟩
  | 122 => ⟨S16x16x1024, .f32⟩
  | 123 => ⟨S16x16x1024, .f32⟩
  | 124 => ⟨S_, .f32⟩
  | 125 => ⟨S16x16x1024, .f32⟩
  | 126 => ⟨S16x16x1024, .f32⟩
  | 127 => ⟨S16x16x1024, .f32⟩
  | _ => ⟨S16x16x2048, .f32⟩

abbrev hbmTy0_1 (i : Nat) : BufTy := match i % 128 with
  | 0 => ⟨S256x1024, .f32⟩
  | 1 => ⟨S256x1024, .bf16⟩
  | 2 => ⟨S256x512, .f32⟩
  | _ => ⟨S16x16x2048, .f32⟩

abbrev hbmTy (i : Nat) : BufTy := match i / 128 with
  | 0 => hbmTy0_0 i
  | 1 => hbmTy0_1 i
  | _ => ⟨S16x16x2048, .f32⟩

abbrev bufTy : (tb : Table) → Fin (tcTables nBuf tb) → BufTy
  | .hbm, ⟨i, _⟩ => hbmTy i
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_9 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_10 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_11 : Ref sig .tc := ⟨.hbm, 99, rfl⟩
abbrev main_v80 : Ref sig .tc := ⟨.hbm, 100, rfl⟩
abbrev main_v81 : Ref sig .tc := ⟨.hbm, 101, rfl⟩
abbrev main_cst_12 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_13 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_14 : Ref sig .tc := ⟨.hbm, 121, rfl⟩
abbrev main_v99 : Ref sig .tc := ⟨.hbm, 122, rfl⟩
abbrev main_v100 : Ref sig .tc := ⟨.hbm, 123, rfl⟩
abbrev main_cst_15 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩

abbrev nD : Nat := 1
abbrev τ : Topo := Topo.v7x

variable {F : FTy → Type} [FloatOps F]
-- ==== Proof.RefFrames.lean ====
/- The runs of the references of the two attentions and of the recurrence. -/
module

public import proofs.«01_k».proof.Defs
public import proofs.«01_k».proof.Proof.Gen.AttnRefIdeal.Run
public import proofs.«01_k».proof.Proof.Gen.AttnSRefIdeal.Run
public import proofs.«01_k».proof.Proof.Gen.GlaSRefIdeal.Run
public import Idealize.ShloMosaic.Lib.Pipeline.ValueKit
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof

/-- The prompt attention's reference ends with its arguments unchanged and every counter at zero. -/
theorem frame_AttnRef : Cert.quiescent_AttnRefIdeal (hAttnRefIdeal := Cert.AttnRefIdeal.Gen.facts) := fun m g _ =>
  (θ_run _ _ _).mono (fun r h => ⟨fun c => (h c).2, sem_eq_zero_of_no_sems (by decide) r.2⟩) (Cert.AttnRefIdeal.Value.run m g)

/-- The sample attention's reference ends with its arguments unchanged and every counter at zero. -/
theorem frame_AttnSRef : Cert.quiescent_AttnSRefIdeal (hAttnSRefIdeal := Cert.AttnSRefIdeal.Gen.facts) := fun m g _ =>
  (θ_run _ _ _).mono (fun r h => ⟨fun c => (h c).2.2.2, sem_eq_zero_of_no_sems (by decide) r.2⟩) (Cert.AttnSRefIdeal.Value.run m g)

/-- The recurrence's reference ends with its arguments unchanged and every counter at zero. -/
theorem frame_GlaSRef : Cert.quiescent_GlaSRefIdeal (hGlaSRefIdeal := Cert.GlaSRefIdeal.Gen.facts) := fun m g _ =>
  (θ_run _ _ _).mono (fun r h => ⟨fun c => (h c).2.2, sem_eq_zero_of_no_sems (by decide) r.2⟩) (Cert.GlaSRefIdeal.Value.run m g)

end Cert.Proof
-- ==== Proof.OutProj.lean ====
/- The output projection: what the kernel's result array holds, and that it is what the reference defines. -/
module

public import proofs.«01_k».proof.Defs
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjIdeal.Hand

open Cert.OutProjIdeal Cert.OutProjIdeal.Gen

variable (m : (ℓ : Loc nD τ sig) → Buf (Elt Ideal) ℓ)

/-- The body's result block at row `r` and column `n`. -/
theorem pay_apply (v0 : Vec Ideal S512x2048 .f32) (v2 : Vec Ideal S512x1024 .bf16) (v3 : Vec Ideal S1024x2048 .bf16)
    (v7 : Vec Ideal S512x1024 .bf16) (v8 : Vec Ideal S1024x2048 .bf16) (r : Fin 512) (n : Fin 2048) :
    k0_pay1 (F := Ideal) v0 v2 v3 v7 v8 (ix2 r n)
      = (v0 (ix2 r n) + ∑ k : Fin 1024, v2 (ix2 r k) * v3 (ix2 k n)) + ∑ k : Fin 1024, v7 (ix2 r k) * v8 (ix2 k n) := by
  pointwise [k0_pay1]

/-- Where each window's block lies at a grid point. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by decide +kernel

/-- Row `r` of the block at grid point `t`, as a row of the whole array. -/
def row (t : Fin cfg0.N) (r : Fin 512) : Fin 32768 :=
  ⟨t.val * 512 + r.val, by have h : t.val < 64 := t.isLt; omega⟩

/-- The place `(r, g, d)` of a column numbered `(g, r, d)`, four by four by sixty-four: its own inverse. -/
def swap (k : Fin 1024) : Fin 1024 :=
  ⟨k.val / 64 % 4 * 256 + k.val / 256 * 64 + k.val % 64, by omega⟩

theorem swap_swap (k : Fin 1024) : swap (swap k) = k := by
  obtain ⟨a, b, d, ha, hb, hd, hk⟩ : ∃ a b d : Nat, a < 4 ∧ b < 4 ∧ d < 64 ∧ k.val = a * 256 + b * 64 + d :=
    ⟨k.val / 256, k.val / 64 % 4, k.val % 64, by omega, by omega, by omega, by omega⟩
  have hs : ∀ (x : Fin 1024) (a b d : Nat), a < 4 → b < 4 → d < 64 → x.val = a * 256 + b * 64 + d → (swap x).val = b * 256 + a * 64 + d := by
    intro x a b d ha hb hd hx
    show x.val / 64 % 4 * 256 + x.val / 256 * 64 + x.val % 64 = _
    have h1 : x.val / 64 = a * 4 + b := by omega
    have h2 : x.val / 256 = a := by omega
    have h3 : x.val % 64 = d := by omega
    rw [h1, h2, h3]; omega
  exact Fin.ext ((hs _ b a d hb ha hd (hs _ a b d ha hb hd hk)).trans hk.symm)

/-- A sum over the columns may be taken over their swapped places. -/
theorem sum_swap (f : Fin 1024 → EReal) : ∑ k, f (swap k) = ∑ k, f k :=
  Equiv.sum_comp (⟨swap, swap, swap_swap, swap_swap⟩ : Fin 1024 ≃ Fin 1024) f

/-- The reference's result as a function of the arguments. -/
abbrev ref (c : Dev nD) : (⟨S32768x2048, .f32⟩ : BufTy).Contents (Elt Ideal) :=
  Cert.OutProjRefIdeal.Read.val_main_v10 (F := Ideal) (m ((c : Thread nD τ).loc main_arg0)) (m ((c : Thread nD τ).loc main_arg1))
    (m ((c : Thread nD τ).loc main_arg2)) (m ((c : Thread nD τ).loc main_arg3))

open Cert.OutProjRefIdeal.Read in
/-- The reference's result at row `r` and column `n`: the input plus the two halves of the projection. -/
theorem ref_apply (x0 : (⟨S8x4096x2048, .f32⟩ : BufTy).Contents (Elt Ideal)) (x1 x2 : (⟨S32768x1024, .bf16⟩ : BufTy).Contents (Elt Ideal))
    (x3 : (⟨S1x2048x2048, .f32⟩ : BufTy).Contents (Elt Ideal)) (r : Fin 32768) (n : Fin 2048) :
    val_main_v10 (F := Ideal) x0 x1 x2 x3 (ix2 r n)
      = x0 (ix3 ⟨r.val / 4096, by omega⟩ ⟨r.val % 4096, by omega⟩ n)
        + (∑ k : Fin 1024, x1 (ix2 r (swap k)) * x3 (ix3 0 ⟨k.val, by omega⟩ n)
          + ∑ k : Fin 1024, x2 (ix2 r k) * x3 (ix3 0 ⟨1024 + k.val, by omega⟩ n)) := by
  pointwise [val_main_v10, val_main_v9, val_main_v8, val_main_v7, val_main_v6, val_main_v5, val_main_v4, val_main_v3, val_main_v2, val_main_v1, val_main_v0, swap]

/-- What the call reads as `x`: the flattened rows. -/
theorem V8_apply (c : Dev nD) (r : Fin 32768) (n : Fin 2048) :
    (V m c main_v8 : (⟨S32768x2048, .f32⟩ : BufTy).Contents (Elt Ideal)) (ix2 r n)
      = m ((c : Thread nD τ).loc main_arg0) (ix3 ⟨r.val / 4096, by omega⟩ ⟨r.val % 4096, by omega⟩ n) := by
  entry_read
  pointwise

/-- The attention half of the weights, its rows regrouped. -/
theorem V5_apply (c : Dev nD) (k : Fin 1024) (n : Fin 2048) :
    (V m c main_v5 : (⟨S1024x2048, .bf16⟩ : BufTy).Contents (Elt Ideal)) (ix2 k n)
      = m ((c : Thread nD τ).loc main_arg3) (ix3 0 ⟨(swap k).val, by omega⟩ n) := by
  entry_read
  pointwise [swap]

/-- The other half of the weights. -/
theorem V7_apply (c : Dev nD) (k : Fin 1024) (n : Fin 2048) :
    (V m c main_v7 : (⟨S1024x2048, .bf16⟩ : BufTy).Contents (Elt Ideal)) (ix2 k n)
      = m ((c : Thread nD τ).loc main_arg3) (ix3 0 ⟨1024 + k.val, by omega⟩ n) := by
  entry_read
  pointwise

/-- The row block of `x` at a grid point. -/
theorem blk0 (c : Dev nD) (t : Fin cfg0.N) (r : Fin 512) (n : Fin 2048) :
    iblk m c 0 t (ix2 r n) = m ((c : Thread nD τ).loc main_arg0) (ix3 ⟨(row t r).val / 4096, by omega⟩ ⟨(row t r).val % 4096, by omega⟩ n) :=
  Eq.trans (by blk_ext [iblk, idx t, row]) (V8_apply m c (row t r) n)

/-- The row block of the attention's output. -/
theorem blk1 (c : Dev nD) (t : Fin cfg0.N) (r : Fin 512) (k : Fin 1024) :
    iblk m c 1 t (ix2 r k) = m ((c : Thread nD τ).loc main_arg1) (ix2 (row t r) k) := by
  rw [← V_main_arg1 m c]; blk_ext [iblk, idx t, row]

/-- The row block of the recurrence's output. -/
theorem blk2 (c : Dev nD) (t : Fin cfg0.N) (r : Fin 512) (k : Fin 1024) :
    iblk m c 2 t (ix2 r k) = m ((c : Thread nD τ).loc main_arg2) (ix2 (row t r) k) := by
  rw [← V_main_arg2 m c]; blk_ext [iblk, idx t, row]

/-- Every point reads the whole attention half of the weights. -/
theorem blk3 (c : Dev nD) (t : Fin cfg0.N) (k : Fin 1024) (n : Fin 2048) :
    iblk m c 3 t (ix2 k n) = m ((c : Thread nD τ).loc main_arg3) (ix3 0 ⟨(swap k).val, by omega⟩ n) :=
  Eq.trans (by blk_ext [iblk, idx t]) (V5_apply m c k n)

/-- Every point reads the whole other half. -/
theorem blk4 (c : Dev nD) (t : Fin cfg0.N) (k : Fin 1024) (n : Fin 2048) :
    iblk m c 4 t (ix2 k n) = m ((c : Thread nD τ).loc main_arg3) (ix3 0 ⟨1024 + k.val, by omega⟩ n) :=
  Eq.trans (by blk_ext [iblk, idx t]) (V7_apply m c k n)

/-- The product with the regrouped rows is the product of the regrouped columns. -/
theorem regroup (a : Fin 1024 → EReal) (w : Fin 1024 → EReal) :
    ∑ k, a k * w (swap k) = ∑ k, a (swap k) * w k := by
  rw [← sum_swap fun k => a k * w (swap k)]
  simp only [swap_swap]

/-- The kernel's order of adding the two halves against the reference's. -/
theorem tie (x : EReal) (a w : Fin 1024 → EReal) (s : EReal) :
    x + ∑ k, a k * w (swap k) + s = x + (∑ k, a (swap k) * w k + s) := by
  rw [regroup, add_assoc]

/-- The result array after the run is the reference's result. -/
theorem final (c : Dev nD) : (dats m 0 c).arrAt 5 (cfgs 0).N = ref m c := by
  refine (dats m 0 c).arrAt_eq_of_covers 5 _ (by decide +kernel) fun t hf y => ?_
  blk_simp
  rw [after0_5]
  frame_out
  idx_vars y
  have e : (((View.whole main_v9).slice (win0_5.rect t)).emb (ix2 y0 y1)) = ix2 (row t y0) y1 := by
    blk_ext [idx t, row]
  rw [pay_apply, e]
  refine Eq.trans ?_ (ref_apply _ _ _ _ _ _).symm
  rw [blk0]
  simp only [blk1, blk2, blk3, blk4]
  exact tie _ _ (fun k => m ((c : Thread nD τ).loc main_arg3) (ix3 0 ⟨k.val, by omega⟩ y1)) _

end Cert.OutProjIdeal.Hand

namespace Cert.Proof

/-- The kernel's output projection computes what the reference defines. -/
theorem algebraic_OutProj : Cert.algebraic_OutProjIdeal_OutProjRefIdeal (hOutProjIdeal := Cert.OutProjIdeal.Gen.facts)
    (hOutProjRefIdeal := Cert.OutProjRefIdeal.Gen.facts) := fun m g m' g' _ hag =>
  ⟨fun c => Cert.OutProjIdeal.Hand.ref m c,
    (θ_run _ _ _).mono (fun r h c => ⟨((h c).1).trans (Cert.OutProjIdeal.Hand.final m c), (h c).2⟩) (Cert.OutProjIdeal.Value.run_blocks m g),
    (θ_run _ _ _).mono (fun r h c => ⟨((h c).1).trans (by
      rw [Cert.OutProjRefIdeal.Read.val_main_v10_eq, (hag c).1, (hag c).2.1, (hag c).2.2.1, (hag c).2.2.2]), (h c).2⟩)
      (Cert.OutProjRefIdeal.Value.run m' g')⟩

/-- The reference's run ends with its arguments unchanged and every counter at zero. -/
theorem frame_OutProjRef : Cert.quiescent_OutProjRefIdeal (hOutProjRefIdeal := Cert.OutProjRefIdeal.Gen.facts) := fun m g _ =>
  (θ_run _ _ _).mono (fun r h => ⟨fun c => (h c).2, sem_eq_zero_of_no_sems (by decide) r.2⟩) (Cert.OutProjRefIdeal.Value.run m g)

end Cert.Proof
-- ==== Proof.InProjHost.lean ====
/- The input projection: what the call is given. -/
module

public import proofs.«01_k».proof.Defs
public import proofs.«01_k».proof.Proof.Gen.InProjIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen

variable (m : (ℓ : Loc nD τ sig) → Buf (Elt Ideal) ℓ)

/-- The place of a column numbered `(g, r, d)` among those numbered `(r, g, d)`, four by four by sixty-four. -/
def sw (k : Nat) : Nat := k / 64 % 4 * 256 + k / 256 * 64 + k % 64

theorem sw_lt {k : Nat} (h : k < 1024) : sw k < 1024 := by
  unfold sw; omega

/-- Where column `n` of the kernel's main weights stands among the columns as given: queries and gates are regrouped. -/
def col (n : Nat) : Nat := if n < 1024 then sw n else if n < 1536 then n else if n < 2560 then 1536 + sw (n - 1536) else n

theorem col_lt {n : Nat} (h : n < 5632) : col n < 5632 := by
  unfold col
  have h1 := @sw_lt n
  have h2 := @sw_lt (n - 1536)
  split_ifs <;> omega

/-- The buffers once the pieces of the main weights are cut out and regrouped. -/
def pieces (c : Dev nD) :=
  StableHlo.after (List.take 21 (hostOps0 (F := Ideal))) (fun b => m (c, b))

/-- The main weights are the pieces side by side. -/
theorem V22_eq (c : Dev nD) : (V m c main_v22 : (⟨S2048x5632, .bf16⟩ : BufTy).Contents (Elt Ideal))
    = truncf (F := Ideal) .bf16 (concatenate S2048x5632 1 [⟨S2048x1024, (pieces m c (Proc.devRef .tc main_v17) : (⟨S2048x1024, .f32⟩ : BufTy).Contents (Elt Ideal))⟩, ⟨S2048x256, (pieces m c (Proc.devRef .tc main_v7) : (⟨S2048x256, .f32⟩ : BufTy).Contents (Elt Ideal))⟩, ⟨S2048x256, (pieces m c (Proc.devRef .tc main_v8) : (⟨S2048x256, .f32⟩ : BufTy).Contents (Elt Ideal))⟩, ⟨S2048x1024, (pieces m c (Proc.devRef .tc main_v20) : (⟨S2048x1024, .f32⟩ : BufTy).Contents (Elt Ideal))⟩, ⟨S2048x512, (pieces m c (Proc.devRef .tc main_v10) : (⟨S2048x512, .f32⟩ : BufTy).Contents (Elt Ideal))⟩, ⟨S2048x512, (pieces m c (Proc.devRef .tc main_v11) : (⟨S2048x512, .f32⟩ : BufTy).Contents (Elt Ideal))⟩, ⟨S2048x1024, (pieces m c (Proc.devRef .tc main_v12) : (⟨S2048x1024, .f32⟩ : BufTy).Contents (Elt Ideal))⟩, ⟨S2048x1024, (pieces m c (Proc.devRef .tc main_v13) : (⟨S2048x1024, .f32⟩ : BufTy).Contents (Elt Ideal))⟩] concatenates_S2048x1024_S2048x256_S2048x256_S2048x1024_S2048x512_S2048x512_S2048x1024_S2048x1024_S2048x5632_d1) bitsLt_bf16_f32 := by
  have h : (List.flatten [hostOps0, hostOps0_1, hostOps0_2, hostOps0_3, hostOps0_4, hostOps0_5, hostOps0_6, hostOps0_7, hostOps0_8, hostOps0_9, hostOps0_10, hostOps0_11, hostOps0_12] : List (HloOp τ sig (Elt Ideal)))
      = List.take 21 hostOps0 ++ (List.drop 21 hostOps0 ++ (List.flatten [hostOps0_1, hostOps0_2, hostOps0_3, hostOps0_4, hostOps0_5, hostOps0_6, hostOps0_7, hostOps0_8, hostOps0_9, hostOps0_10, hostOps0_11, hostOps0_12])) := rfl
  rw [V, h, StableHlo.after_append]
  change StableHlo.after (_ :: _ :: (List.drop 23 hostOps0 ++ (List.flatten [hostOps0_1, hostOps0_2, hostOps0_3, hostOps0_4, hostOps0_5, hostOps0_6, hostOps0_7, hostOps0_8, hostOps0_9, hostOps0_10, hostOps0_11, hostOps0_12]))) (pieces m c) (Proc.devRef .tc main_v22) = _
  rw [StableHlo.after_cons, StableHlo.after_cons, StableHlo.after_of_forall_not_mem (b := Proc.devRef .tc main_v22) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.drop_succ_cons, List.drop_zero, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))]
  rw [StableHlo.unary_result, StableHlo.nary_result]
  rfl

attribute [local irreducible] pieces

/-- One piece at a place. -/
theorem piece_17 (c : Dev nD) (k : Fin 2048) (n : Fin 1024) :
    (pieces m c (Proc.devRef .tc main_v17) : (⟨S2048x1024, .f32⟩ : BufTy).Contents (Elt Ideal)) (ix2 k n)
      = m ((c : Thread nD τ).loc main_arg2) (ix3 0 k ⟨sw n.val, by have := sw_lt n.isLt; omega⟩) := by
  simp only [pieces, List.take_succ_cons, List.take_zero]
  entry_read
  pointwise [sw]

/-- One piece at a place. -/
theorem piece_7 (c : Dev nD) (k : Fin 2048) (n : Fin 256) :
    (pieces m c (Proc.devRef .tc main_v7) : (⟨S2048x256, .f32⟩ : BufTy).Contents (Elt Ideal)) (ix2 k n)
      = m ((c : Thread nD τ).loc main_arg2) (ix3 0 k ⟨1024 + n.val, by omega⟩) := by
  simp only [pieces, List.take_succ_cons, List.take_zero]
  entry_read
  pointwise [sw]

/-- One piece at a place. -/
theorem piece_8 (c : Dev nD) (k : Fin 2048) (n : Fin 256) :
    (pieces m c (Proc.devRef .tc main_v8) : (⟨S2048x256, .f32⟩ : BufTy).Contents (Elt Ideal)) (ix2 k n)
      = m ((c : Thread nD τ).loc main_arg2) (ix3 0 k ⟨1280 + n.val, by omega⟩) := by
  simp only [pieces, List.take_succ_cons, List.take_zero]
  entry_read
  pointwise [sw]

/-- One piece at a place. -/
theorem piece_20 (c : Dev nD) (k : Fin 2048) (n : Fin 1024) :
    (pieces m c (Proc.devRef .tc main_v20) : (⟨S2048x1024, .f32⟩ : BufTy).Contents (Elt Ideal)) (ix2 k n)
      = m ((c : Thread nD τ).loc main_arg2) (ix3 0 k ⟨1536 + sw n.val, by have := sw_lt n.isLt; omega⟩) := by
  simp only [pieces, List.take_succ_cons, List.take_zero]
  entry_read
  pointwise [sw]

/-- One piece at a place. -/
theorem piece_10 (c : Dev nD) (k : Fin 2048) (n : Fin 512) :
    (pieces m c (Proc.devRef .tc main_v10) : (⟨S2048x512, .f32⟩ : BufTy).Contents (Elt Ideal)) (ix2 k n)
      = m ((c : Thread nD τ).loc main_arg2) (ix3 0 k ⟨2560 + n.val, by omega⟩) := by
  simp only [pieces, List.take_succ_cons, List.take_zero]
  entry_read
  pointwise [sw]

/-- One piece at a place. -/
theorem piece_11 (c : Dev nD) (k : Fin 2048) (n : Fin 512) :
    (pieces m c (Proc.devRef .tc main_v11) : (⟨S2048x512, .f32⟩ : BufTy).Contents (Elt Ideal)) (ix2 k n)
      = m ((c : Thread nD τ).loc main_arg2) (ix3 0 k ⟨3072 + n.val, by omega⟩) := by
  simp only [pieces, List.take_succ_cons, List.take_zero]
  entry_read
  pointwise [sw]

/-- One piece at a place. -/
theorem piece_12 (c : Dev nD) (k : Fin 2048) (n : Fin 1024) :
    (pieces m c (Proc.devRef .tc main_v12) : (⟨S2048x1024, .f32⟩ : BufTy).Contents (Elt Ideal)) (ix2 k n)
      = m ((c : Thread nD τ).loc main_arg2) (ix3 0 k ⟨3584 + n.val, by omega⟩) := by
  simp only [pieces, List.take_succ_cons, List.take_zero]
  entry_read
  pointwise [sw]

/-- One piece at a place. -/
theorem piece_13 (c : Dev nD) (k : Fin 2048) (n : Fin 1024) :
    (pieces m c (Proc.devRef .tc main_v13) : (⟨S2048x1024, .f32⟩ : BufTy).Contents (Elt Ideal)) (ix2 k n)
      = m ((c : Thread nD τ).loc main_arg2) (ix3 0 k ⟨4608 + n.val, by omega⟩) := by
  simp only [pieces, List.take_succ_cons, List.take_zero]
  entry_read
  pointwise [sw]

set_option maxHeartbeats 1000000 in
/-- The main weights: column `n` is column `col n` of the weights as given. -/
theorem V22_apply (c : Dev nD) (k : Fin 2048) (n : Fin 5632) :
    (V m c main_v22 : (⟨S2048x5632, .bf16⟩ : BufTy).Contents (Elt Ideal)) (ix2 k n)
      = m ((c : Thread nD τ).loc main_arg2) (ix3 0 k ⟨col n.val, by have := col_lt n.isLt; omega⟩) := by
  rw [V22_eq]
  pointwise
  have key : ∀ j j' : Fin 5648, j.val = j'.val → m ((c : Thread nD τ).loc main_arg2) (ix3 0 k j) = m ((c : Thread nD τ).loc main_arg2) (ix3 0 k j') :=
    fun j j' h => by rw [Fin.ext h]
  by_cases h0 : n.val < 1024
  · exact (dif_pos h0).trans ((piece_17 m c k ⟨n.val, by omega⟩).trans (key _ _ (by
      simp only [col]; split_ifs <;> first | omega | (simp only [Nat.sub_sub]; done) | (simp only [Nat.sub_sub]; omega))))
  refine (dif_neg h0).trans ?_
  by_cases h1 : n.val - 1024 < 256
  · exact (dif_pos h1).trans ((piece_7 m c k ⟨n.val - 1024, by omega⟩).trans (key _ _ (by
      simp only [col]; split_ifs <;> first | omega | (simp only [Nat.sub_sub]; done) | (simp only [Nat.sub_sub]; omega))))
  refine (dif_neg h1).trans ?_
  by_cases h2 : n.val - 1024 - 256 < 256
  · exact (dif_pos h2).trans ((piece_8 m c k ⟨n.val - 1024 - 256, by omega⟩).trans (key _ _ (by
      simp only [col]; split_ifs <;> first | omega | (simp only [Nat.sub_sub]; done) | (simp only [Nat.sub_sub]; omega))))
  refine (dif_neg h2).trans ?_
  by_cases h3 : n.val - 1024 - 256 - 256 < 1024
  · exact (dif_pos h3).trans ((piece_20 m c k ⟨n.val - 1024 - 256 - 256, by omega⟩).trans (key _ _ (by
      simp only [col]; split_ifs <;> first | omega | (simp only [Nat.sub_sub]; done) | (simp only [Nat.sub_sub]; omega))))
  refine (dif_neg h3).trans ?_
  by_cases h4 : n.val - 1024 - 256 - 256 - 1024 < 512
  · exact (dif_pos h4).trans ((piece_10 m c k ⟨n.val - 1024 - 256 - 256 - 1024, by omega⟩).trans (key _ _ (by
      simp only [col]; split_ifs <;> first | omega | (simp only [Nat.sub_sub]; done) | (simp only [Nat.sub_sub]; omega))))
  refine (dif_neg h4).trans ?_
  by_cases h5 : n.val - 1024 - 256 - 256 - 1024 - 512 < 512
  · exact (dif_pos h5).trans ((piece_11 m c k ⟨n.val - 1024 - 256 - 256 - 1024 - 512, by omega⟩).trans (key _ _ (by
      simp only [col]; split_ifs <;> first | omega | (simp only [Nat.sub_sub]; done) | (simp only [Nat.sub_sub]; omega))))
  refine (dif_neg h5).trans ?_
  by_cases h6 : n.val - 1024 - 256 - 256 - 1024 - 512 - 512 < 1024
  · exact (dif_pos h6).trans ((piece_12 m c k ⟨n.val - 1024 - 256 - 256 - 1024 - 512 - 512, by omega⟩).trans (key _ _ (by
      simp only [col]; split_ifs <;> first | omega | (simp only [Nat.sub_sub]; done) | (simp only [Nat.sub_sub]; omega))))
  refine (dif_neg h6).trans ?_
  exact (piece_13 m c k ⟨n.val - 1024 - 256 - 256 - 1024 - 512 - 512 - 1024, by omega⟩).trans (key _ _ (by
      simp only [col]; split_ifs <;> first | omega | (simp only [Nat.sub_sub]; done) | (simp only [Nat.sub_sub]; omega)))

/-- The zero the padding is filled with. -/
theorem pad_zero : (FloatOps.sitofp FTy.f32 0#32 : Ideal .f32) = (0 : EReal) := by
  show ((((0#32 : BitVec 32).toInt : ℝ)) : EReal) = 0
  norm_num

/-- The rounded-down quotient by sixty-four, as the host computes it. -/
theorem quot64 : ∀ k : Fin 1280, Scalar.select
          (IntOp.andi
            (IntOp.cmpi CmpIPredicate.ne
              (if BitVec.ofNat 32 k.val = 0 then (0 : BitVec 32) else if (BitVec.ofNat 32 k.val).msb = true then (-1 : BitVec 32) else (1 : BitVec 32))
              (if 64#32 = 0 then (0 : BitVec 32) else if (64#32).msb = true then (-1 : BitVec 32) else (1 : BitVec 32)))
            (IntOp.cmpi CmpIPredicate.ne (IntOp.remsi ArithUnit.host (BitVec.ofNat 32 k.val) 64#32) 0#32))
          (IntOp.subi (IntOp.divsi ArithUnit.host (BitVec.ofNat 32 k.val) 64#32) 1#32)
          (IntOp.divsi ArithUnit.host (BitVec.ofNat 32 k.val) 64#32) = BitVec.ofNat 32 (k.val / 64) := by
  decide +kernel

/-- The indicator of two small numbers being equal. -/
theorem sel_eq (a b : Nat) (ha : a < 4294967296) (hb : b < 4294967296) :
    Scalar.select (IntOp.cmpi CmpIPredicate.eq (BitVec.ofNat 32 a) (BitVec.ofNat 32 b)) (1 : EReal) 0 = if a = b then 1 else 0 := by
  by_cases h : a = b
  · subst h; simp [Scalar.select, IntOp.cmpi]
  · have : BitVec.ofNat 32 a ≠ BitVec.ofNat 32 b := fun e => h (by
      have := congrArg BitVec.toNat e
      simpa only [BitVec.toNat_ofNat, Nat.mod_eq_of_lt ha, Nat.mod_eq_of_lt hb, Nat.reducePow] using this)
    have e : (BitVec.ofNat 32 a == BitVec.ofNat 32 b) = false := beq_eq_false_iff_ne.mpr this
    simp [Scalar.select, IntOp.cmpi, e, h]

/-- The input, its rows flattened. -/
theorem V52_apply (c : Dev nD) (r : Fin 32768) (k : Fin 2048) :
    (V m c main_v52 : (⟨S32768x2048, .f32⟩ : BufTy).Contents (Elt Ideal)) (ix2 r k) = m ((c : Thread nD τ).loc main_arg0) (ix3 ⟨r.val / 4096, by omega⟩ ⟨r.val % 4096, by omega⟩ k) := by
  simp only [V, List.flatten_cons, List.flatten_nil, List.cons_append, List.nil_append, List.append_nil]
  entry_read
  pointwise

/-- The norm's weights. -/
theorem V50_apply (c : Dev nD) (k : Fin 2048) :
    (V m c main_v50 : (⟨S1x2048, .f32⟩ : BufTy).Contents (Elt Ideal)) (ix2 0 k) = m ((c : Thread nD τ).loc main_arg1) (ix2 0 k) := by
  simp only [V, List.flatten_cons, List.flatten_nil, List.cons_append, List.nil_append, List.append_nil]
  entry_read
  pointwise

/-- The low-rank columns, padded with zeros. -/
theorem V24_apply (c : Dev nD) (k : Fin 2048) (n : Fin 128) :
    (V m c main_v24 : (⟨S2048x128, .bf16⟩ : BufTy).Contents (Elt Ideal)) (ix2 k n) = if h : n.val < 16 then m ((c : Thread nD τ).loc main_arg2) (ix3 0 k ⟨5632 + n.val, by omega⟩) else (0 : EReal) := by
  simp only [V, List.flatten_cons, List.flatten_nil, List.cons_append, List.nil_append, List.append_nil]
  entry_read
  try simp -implicitDefEqProofs only [StableHlo.TRef.toBuf, StableHlo.TRef.ofBuf, cast_cast, cast_eq]
  pointwise
  simp only [pad_zero]

/-- The second low-rank factor, padded with zeros. -/
theorem V26_apply (c : Dev nD) (k : Fin 128) (n : Fin 512) :
    (V m c main_v26 : (⟨S128x512, .bf16⟩ : BufTy).Contents (Elt Ideal)) (ix2 k n) = if h : k.val < 16 then m ((c : Thread nD τ).loc main_arg3) (ix3 0 ⟨k.val, h⟩ n) else (0 : EReal) := by
  simp only [V, List.flatten_cons, List.flatten_nil, List.cons_append, List.nil_append, List.append_nil]
  entry_read
  try simp -implicitDefEqProofs only [StableHlo.TRef.toBuf, StableHlo.TRef.ofBuf, cast_cast, cast_eq]
  pointwise
  simp only [pad_zero]

/-- The gate's bias. -/
theorem V51_apply (c : Dev nD) (n : Fin 512) :
    (V m c main_v51 : (⟨S1x512, .f32⟩ : BufTy).Contents (Elt Ideal)) (ix2 0 n) = m ((c : Thread nD τ).loc main_arg4) (ix2 0 n) := by
  simp only [V, List.flatten_cons, List.flatten_nil, List.cons_append, List.nil_append, List.append_nil]
  entry_read
  try simp -implicitDefEqProofs only [StableHlo.TRef.toBuf, StableHlo.TRef.ofBuf, cast_cast, cast_eq]
  pointwise

/-- The weights of the query heads' norm, as numbers. -/
abbrev gq (c : Dev nD) (d : Fin 64) : EReal := m ((c : Thread nD τ).loc main_arg5) (ix2 0 d)

/-- The weights of the key heads' norm, as numbers. -/
abbrev gk (c : Dev nD) (d : Fin 64) : EReal := m ((c : Thread nD τ).loc main_arg6) (ix2 0 d)

/-- The weights of the two head norms, the first scaled. -/
theorem V36_apply (c : Dev nD) (n : Fin 1280) :
    (V m c main_v36 : (⟨S1x1280, .f32⟩ : BufTy).Contents (Elt Ideal)) (ix2 0 n) = if h : n.val < 1024 then gq m c ⟨n.val % 64, by omega⟩ * Ideal.ofBits FTy.f32 0x3E000000#32 else gk m c ⟨(n.val - 1024) % 64, by omega⟩ := by
  simp only [V, List.flatten_cons, List.flatten_nil, List.cons_append, List.nil_append, List.append_nil]
  entry_read
  try simp -implicitDefEqProofs only [StableHlo.TRef.toBuf, StableHlo.TRef.ofBuf, cast_cast, cast_eq]
  pointwise

/-- Which head a column lies in. -/
theorem V42_apply (c : Dev nD) (k : Fin 1280) (n : Fin 128) :
    (V m c main_v42 : (⟨S1280x128, .bf16⟩ : BufTy).Contents (Elt Ideal)) (ix2 k n) = if k.val / 64 = n.val then (1 : EReal) else 0 := by
  simp only [V, List.flatten_cons, List.flatten_nil, List.cons_append, List.nil_append, List.append_nil]
  entry_read
  try simp -implicitDefEqProofs only [StableHlo.TRef.toBuf, StableHlo.TRef.ofBuf, cast_cast, cast_eq]
  pointwise
  exact (congrArg (fun q => Scalar.select (IntOp.cmpi CmpIPredicate.eq q (BitVec.ofNat 32 n.val)) (1 : EReal) 0) (quot64 k)).trans (sel_eq _ _ (by omega) (by omega))

/-- Which columns a head has, twice over. -/
theorem V49_apply (c : Dev nD) (k : Fin 256) (n : Fin 1280) :
    (V m c main_v49 : (⟨S256x1280, .bf16⟩ : BufTy).Contents (Elt Ideal)) (ix2 k n) = if n.val / 64 = k.val % 128 then (1 : EReal) else 0 := by
  simp only [V, List.flatten_cons, List.flatten_nil, List.cons_append, List.nil_append, List.append_nil]
  entry_read
  try simp -implicitDefEqProofs only [StableHlo.TRef.toBuf, StableHlo.TRef.ofBuf, cast_cast, cast_eq]
  pointwise
  by_cases h : k.val < 128
  · rw [dif_pos h]
    refine (congrArg (fun q => Scalar.select (IntOp.cmpi CmpIPredicate.eq q (BitVec.ofNat 32 k.val)) (1 : EReal) 0) (quot64 n)).trans ((sel_eq _ _ (by omega) (by omega)).trans ?_)
    rw [Nat.mod_eq_of_lt h]
  · rw [dif_neg h]
    refine (congrArg (fun q => Scalar.select (IntOp.cmpi CmpIPredicate.eq q (BitVec.ofNat 32 (k.val - 128))) (1 : EReal) 0) (quot64 n)).trans ((sel_eq _ _ (by omega) (by omega)).trans ?_)
    rw [show k.val % 128 = k.val - 128 by omega]

end Cert.InProjIdeal.Hand
-- ==== Proof.InProjMath.lean ====
/- The input projection: facts about the extended reals. -/
module

public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Hand

/-- A row of `x` divided by its root mean square and weighted by `g`, at place `k`. -/
def xnf (x g : Fin 2048 → EReal) (k : Fin 2048) : EReal :=
  x k * Ideal.rsqrt (Ideal.div (∑ j, x j * x j) (Ideal.ofBits FTy.f32 1157627904#32) + Ideal.ofBits FTy.f32 897988541#32) * g k

theorem val64 : Ideal.ofBits FTy.f32 1115684864#32 = ((64 : ℝ) : EReal) := by
  simp [Ideal.ofBits, Ideal.ieee, -EReal.coe_mul]; norm_num

theorem val64inv : Ideal.ofBits FTy.f32 1015021568#32 = ((1 / 64 : ℝ) : EReal) := by
  simp [Ideal.ofBits, Ideal.ieee, -EReal.coe_mul]; norm_num

theorem val16 : Ideal.ofBits FTy.f32 1098907648#32 = ((16 : ℝ) : EReal) := by
  simp [Ideal.ofBits, Ideal.ieee, -EReal.coe_mul]; norm_num

theorem val16inv : Ideal.ofBits FTy.f32 1031798784#32 = ((1 / 16 : ℝ) : EReal) := by
  simp [Ideal.ofBits, Ideal.ieee, -EReal.coe_mul]; norm_num

/-- The norm's small constant is a positive real. -/
theorem eps_pos : ∃ e : ℝ, 0 < e ∧ Ideal.ofBits FTy.f32 897988541#32 = (e : EReal) := by
  refine ⟨_, ?_, by simp [Ideal.ofBits, Ideal.ieee, -EReal.coe_mul]; rfl⟩
  norm_num

/-- Dividing by a nonzero real is multiplying by its inverse. -/
theorem div_coe (x : EReal) (a b : ℝ) (ha : a ≠ 0) (hb : b = a⁻¹) : Ideal.div x (a : EReal) = x * (b : EReal) := by
  subst hb
  unfold Ideal.div
  rw [if_neg (by exact_mod_cast ha), EReal.coe_inv]

theorem div64 (x : EReal) : x * Ideal.ofBits FTy.f32 1015021568#32 = Ideal.div x (Ideal.ofBits FTy.f32 1115684864#32) := by
  rw [val64, val64inv, div_coe x 64 (1 / 64) (by norm_num) (by norm_num)]

theorem div16 (x : EReal) : x * Ideal.ofBits FTy.f32 1031798784#32 = Ideal.div x (Ideal.ofBits FTy.f32 1098907648#32) := by
  rw [val16, val16inv, div_coe x 16 (1 / 16) (by norm_num) (by norm_num)]

/-- A square is not negative. -/
theorem sq_nonneg' (x : EReal) : 0 ≤ x * x := by
  rcases le_total 0 x with h | h
  · exact mul_nonneg h h
  · have h' : 0 ≤ -x := EReal.neg_nonneg.mpr h
    have := mul_nonneg h' h'
    rwa [neg_mul_neg] at this

/-- The inverse root of a nonnegative mean plus the small constant is a real number. -/
theorem rsqrt_real (s : EReal) (h : 0 ≤ s) :
    ∃ r : ℝ, Ideal.rsqrt (s * Ideal.ofBits FTy.f32 1015021568#32 + Ideal.ofBits FTy.f32 897988541#32) = (r : EReal) := by
  obtain ⟨e, he, hE⟩ := eps_pos
  rw [hE, val64inv]
  induction s with
  | bot => simp at h
  | top =>
    rw [EReal.top_mul_coe_of_pos (by norm_num), EReal.top_add_coe]
    exact ⟨0, rfl⟩
  | coe a =>
    have ha : 0 ≤ a := by exact_mod_cast h
    have hp : 0 < a * (1 / 64) + e := by positivity
    rw [← EReal.coe_mul, ← EReal.coe_add]
    refine ⟨(Real.sqrt (a * (1 / 64) + e))⁻¹, ?_⟩
    show (if a * (1 / 64) + e < 0 then (⊥ : EReal) else if a * (1 / 64) + e = 0 then ⊤ else (((Real.sqrt (a * (1 / 64) + e))⁻¹ : ℝ) : EReal)) = _
    rw [if_neg (not_lt.mpr hp.le), if_neg hp.ne']

/-- A real number less itself is zero. -/
theorem sub_self_of_real {x : EReal} (h : ∃ r : ℝ, x = r) : x - x = 0 := by
  obtain ⟨r, rfl⟩ := h
  rw [← EReal.coe_sub, sub_self, EReal.coe_zero]

/-- A sum weighted by one head's indicator is the sum over the head. -/
theorem sum_head (f : Fin 1280 → EReal) (h : Nat) (hh : h < 20) :
    ∑ j, f j * (if j.val / 64 = h then (1 : EReal) else 0) = ∑ d : Fin 64, f ⟨h * 64 + d.val, by omega⟩ := by
  have e : ∑ j, f j * (if j.val / 64 = h then (1 : EReal) else 0)
      = ∑ p : Fin 20 × Fin 64, f (finProdFinEquiv p) * (if (finProdFinEquiv p : Fin (20 * 64)).val / 64 = h then (1 : EReal) else 0) :=
    (Equiv.sum_comp (finProdFinEquiv : Fin 20 × Fin 64 ≃ Fin (20 * 64)) (fun j : Fin (20 * 64) => f j * (if j.val / 64 = h then (1 : EReal) else 0))).symm
  rw [e, Fintype.sum_prod_type, Finset.sum_eq_single (⟨h, hh⟩ : Fin 20)]
  · refine Finset.sum_congr rfl fun d _ => ?_
    have hv : (finProdFinEquiv ((⟨h, hh⟩ : Fin 20), d) : Fin (20 * 64)).val = d.val + 64 * h := rfl
    rw [if_pos (by rw [hv]; omega), mul_one]
    exact congrArg f (Fin.ext (by show (finProdFinEquiv ((⟨h, hh⟩ : Fin 20), d) : Fin (20 * 64)).val = _; rw [hv]; show _ = h * 64 + d.val; omega))
  · intro g _ hg
    refine Finset.sum_eq_zero fun d _ => ?_
    have hv : (finProdFinEquiv (g, d) : Fin (20 * 64)).val = d.val + 64 * g.val := rfl
    have hne : g.val ≠ h := fun e => hg (Fin.ext e)
    rw [if_neg (by rw [hv]; omega), mul_zero]
  · intro hn; exact absurd (Finset.mem_univ _) hn

/-- The heads' norm as the kernel computes it — sums over heads and their spreading by indicators, the inverse
    root in a leading part and a rest — is the column divided by its head's root mean square. -/
theorem head (Q : Fin 1280 → EReal) (A : Fin 1280 → Fin 128 → EReal) (B : Fin 256 → Fin 1280 → EReal)
    (hA : ∀ j x, A j x = if j.val / 64 = x.val then 1 else 0) (hB : ∀ x k, B x k = if k.val / 64 = x.val % 128 then 1 else 0) (k : Fin 1280) :
    Q k * (∑ x : Fin 128, Ideal.rsqrt ((∑ j, Q j * Q j * A j x) * Ideal.ofBits FTy.f32 1015021568#32 + Ideal.ofBits FTy.f32 897988541#32) * B ⟨x.val, by omega⟩ k
        + ∑ x : Fin 128, (Ideal.rsqrt ((∑ j, Q j * Q j * A j x) * Ideal.ofBits FTy.f32 1015021568#32 + Ideal.ofBits FTy.f32 897988541#32)
            - Ideal.rsqrt ((∑ j, Q j * Q j * A j x) * Ideal.ofBits FTy.f32 1015021568#32 + Ideal.ofBits FTy.f32 897988541#32)) * B ⟨128 + x.val, by omega⟩ k)
      = Q k * Ideal.rsqrt (Ideal.div (∑ d : Fin 64, Q ⟨k.val / 64 * 64 + d.val, by omega⟩ * Q ⟨k.val / 64 * 64 + d.val, by omega⟩) (Ideal.ofBits FTy.f32 1115684864#32)
          + Ideal.ofBits FTy.f32 897988541#32) := by
  have hk : k.val / 64 < 20 := by omega
  have h0 : ∀ x : Fin 128, 0 ≤ ∑ j, Q j * Q j * A j x := fun x => Finset.sum_nonneg fun j _ => by
    rw [hA]; split_ifs
    · rw [mul_one]; exact sq_nonneg' _
    · rw [mul_zero]
  have hr : ∀ x : Fin 128, (Ideal.rsqrt ((∑ j, Q j * Q j * A j x) * Ideal.ofBits FTy.f32 1015021568#32 + Ideal.ofBits FTy.f32 897988541#32)
            - Ideal.rsqrt ((∑ j, Q j * Q j * A j x) * Ideal.ofBits FTy.f32 1015021568#32 + Ideal.ofBits FTy.f32 897988541#32)) = 0 :=
    fun x => sub_self_of_real (rsqrt_real _ (h0 x))
  simp only [hr, zero_mul, Finset.sum_const_zero, add_zero]
  rw [Finset.sum_eq_single (⟨k.val / 64, by omega⟩ : Fin 128)]
  · rw [hB, if_pos (by show _ = k.val / 64 % 128; omega), mul_one, div64]
    simp only [hA]
    rw [sum_head (fun j => Q j * Q j) _ hk]
  · intro x _ hx
    have hne : x.val ≠ k.val / 64 := fun e => hx (Fin.ext e)
    rw [hB, if_neg (by show ¬ k.val / 64 = x.val % 128; omega), mul_zero]
  · intro hn; exact absurd (Finset.mem_univ _) hn

/-- Dividing by one plus a power, or multiplying by the quotient of one. -/
theorem silu (x : EReal) : Ideal.div x (1 + Ideal.exp (0 - x)) = x * Ideal.div 1 (1 + Ideal.exp (-x)) := by
  have h : 0 ≤ Ideal.exp (-x) := by
    generalize -x = y
    induction y with
    | bot => show (0 : EReal) ≤ 0; exact le_rfl
    | top => show (0 : EReal) ≤ ⊤; exact le_top
    | coe a => show (0 : EReal) ≤ ((Real.exp a : ℝ) : EReal); exact_mod_cast (Real.exp_pos a).le
  have hne : 1 + Ideal.exp (-x) ≠ 0 := by
    have : (0 : EReal) < 1 + Ideal.exp (-x) := lt_of_lt_of_le (by norm_num) (le_add_of_nonneg_right h)
    exact this.ne'
  rw [zero_sub]
  unfold Ideal.div
  rw [if_neg hne, if_neg hne, one_mul]

/-- The logarithm of the logistic function, over sixteen. -/
theorem logsig (z a : EReal) :
    (min z 0 - Ideal.log (1 + Ideal.exp (0 - a))) * Ideal.ofBits FTy.f32 1031798784#32
      = Ideal.div (min z 0 - Ideal.log1p (Ideal.exp (-a))) (Ideal.ofBits FTy.f32 1098907648#32) := by
  rw [zero_sub, div16, Ideal.log1p]

/-- A sum whose terms vanish from the sixteenth on. -/
theorem sum_low (f : Fin 128 → EReal) (hf : ∀ x : Fin 128, 16 ≤ x.val → f x = 0) : ∑ x, f x = ∑ x : Fin 16, f ⟨x.val, by omega⟩ := by
  have e : ∑ x, f x = ∑ x : Fin 16, f (Fin.castAdd 112 x) + ∑ x : Fin 112, f (Fin.natAdd 16 x) := Fin.sum_univ_add (a := 16) (b := 112) f
  rw [e, Finset.sum_eq_zero (s := Finset.univ) (f := fun x : Fin 112 => f (Fin.natAdd 16 x)) fun x _ => hf _ (by simp), add_zero]
  rfl

/-- The second low-rank product over padded factors is the product over the sixteen places there are. -/
theorem low (a : Fin 2048 → EReal) (W : Fin 2048 → Fin 128 → EReal) (U : Fin 128 → EReal) (w : Fin 2048 → Fin 16 → EReal) (u : Fin 16 → EReal)
    (hW : ∀ k (x : Fin 16), W k ⟨x.val, by omega⟩ = w k x) (hU : ∀ x : Fin 16, U ⟨x.val, by omega⟩ = u x) (hU0 : ∀ x : Fin 128, 16 ≤ x.val → U x = 0) :
    ∑ x, (∑ k, a k * W k x) * U x = ∑ x, (∑ k, a k * w k x) * u x := by
  rw [sum_low _ fun x hx => by rw [hU0 x hx, mul_zero]]
  simp only [hW, hU]

end Cert.InProjIdeal.Hand
-- ==== Proof.InProjBlk.lean ====
/- The input projection: the blocks the kernel reads and the reference's results, entry by entry. -/
module

public import proofs.«01_k».proof.Defs
public import proofs.«01_k».proof.Proof.InProjHost
public import proofs.«01_k».proof.Proof.InProjMath
public import proofs.«01_k».proof.Proof.Gen.InProjRefIdeal.Run
public import proofs.«01_k».proof.Proof.Gen.InProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjIdeal.Hand

open Cert.InProjIdeal Cert.InProjIdeal.Gen

variable (m : (ℓ : Loc nD τ sig) → Buf (Elt Ideal) ℓ)

/-- Where each window's block lies at a grid point. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] := by decide +kernel

/-- Row `r` of the block at grid point `t`, as a row of the whole array. -/
def row (t : Fin cfg0.N) (r : Fin 256) : Fin 32768 :=
  ⟨t.val * 256 + r.val, by have h : t.val < 128 := t.isLt; omega⟩

/-- Row `r` of the input. -/
def X (c : Dev nD) (r : Fin 32768) (k : Fin 2048) : EReal := m ((c : Thread nD τ).loc main_arg0) (ix3 ⟨r.val / 4096, by omega⟩ ⟨r.val % 4096, by omega⟩ k)

/-- The norm's weights. -/
def G (c : Dev nD) (k : Fin 2048) : EReal := m ((c : Thread nD τ).loc main_arg1) (ix2 0 k)

/-- The projection's weights. -/
def Wt (c : Dev nD) (k : Fin 2048) (j : Fin 5648) : EReal := m ((c : Thread nD τ).loc main_arg2) (ix3 0 k j)

/-- The second low-rank factor. -/
def U (c : Dev nD) (k : Fin 16) (n : Fin 512) : EReal := m ((c : Thread nD τ).loc main_arg3) (ix3 0 k n)

/-- The gate's bias. -/
def Bg (c : Dev nD) (n : Fin 512) : EReal := m ((c : Thread nD τ).loc main_arg4) (ix2 0 n)

/-- The projection of row `r` of the normed input, column `j`. -/
def H (c : Dev nD) (r : Fin 32768) (j : Fin 5648) : EReal := ∑ k, xnf (X m c r) (G m c) k * Wt m c k j

section Reference

open Cert.InProjRefIdeal.Read

/-- The reference's projection. -/
theorem ref15 (c : Dev nD) (r : Fin 32768) (j : Fin 5648) :
    val_main_v15 (F := Ideal) (m ((c : Thread nD τ).loc main_arg0)) (m ((c : Thread nD τ).loc main_arg1)) (m ((c : Thread nD τ).loc main_arg2))
      (ix3 ⟨r.val / 4096, by omega⟩ ⟨r.val % 4096, by omega⟩ j) = H m c r j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1]
  rfl

/-- The reference's result 0, as an array. -/
abbrev R75 (c : Dev nD) : (⟨S32768x1024, .bf16⟩ : BufTy).Contents (Elt Ideal) :=
  val_main_v75 (F := Ideal) (m ((c : Thread nD τ).loc main_arg0)) (m ((c : Thread nD τ).loc main_arg1)) (m ((c : Thread nD τ).loc main_arg2)) (m ((c : Thread nD τ).loc main_arg5))

theorem R75_apply (c : Dev nD) (r : Fin 32768) (n : Fin 1024) : R75 m c (ix2 r n) = H m c r ⟨(n.val / 64 % 4 * 4 + n.val / 256) * 64 + n.val % 64, by omega⟩ * Ideal.rsqrt (Ideal.div (∑ d : Fin 64, H m c r ⟨(n.val / 64 % 4 * 4 + n.val / 256) * 64 + d.val, by omega⟩ * H m c r ⟨(n.val / 64 % 4 * 4 + n.val / 256) * 64 + d.val, by omega⟩) (Ideal.ofBits FTy.f32 1115684864#32) + Ideal.ofBits FTy.f32 897988541#32) * gq m c ⟨n.val % 64, by omega⟩ * Ideal.ofBits FTy.f32 1040187392#32 := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 1, as an array. -/
abbrev R76 (c : Dev nD) : (⟨S32768x256, .f32⟩ : BufTy).Contents (Elt Ideal) :=
  val_main_v76 (F := Ideal) (m ((c : Thread nD τ).loc main_arg0)) (m ((c : Thread nD τ).loc main_arg1)) (m ((c : Thread nD τ).loc main_arg2)) (m ((c : Thread nD τ).loc main_arg6))

theorem R76_apply (c : Dev nD) (r : Fin 32768) (n : Fin 256) : R76 m c (ix2 r n) = H m c r ⟨1024 + n.val, by omega⟩ * Ideal.rsqrt (Ideal.div (∑ d : Fin 64, H m c r ⟨1024 + (n.val / 64 * 64 + d.val), by omega⟩ * H m c r ⟨1024 + (n.val / 64 * 64 + d.val), by omega⟩) (Ideal.ofBits FTy.f32 1115684864#32) + Ideal.ofBits FTy.f32 897988541#32) * gk m c ⟨n.val % 64, by omega⟩ := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 2, as an array. -/
abbrev R77 (c : Dev nD) : (⟨S32768x256, .f32⟩ : BufTy).Contents (Elt Ideal) :=
  val_main_v77 (F := Ideal) (m ((c : Thread nD τ).loc main_arg0)) (m ((c : Thread nD τ).loc main_arg1)) (m ((c : Thread nD τ).loc main_arg2))

theorem R77_apply (c : Dev nD) (r : Fin 32768) (n : Fin 256) : R77 m c (ix2 r n) = H m c r ⟨1280 + n.val, by omega⟩ := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 3, as an array. -/
abbrev R88 (c : Dev nD) : (⟨S32768x1024, .bf16⟩ : BufTy).Contents (Elt Ideal) :=
  val_main_v88 (F := Ideal) (m ((c : Thread nD τ).loc main_arg0)) (m ((c : Thread nD τ).loc main_arg1)) (m ((c : Thread nD τ).loc main_arg2))

theorem R88_apply (c : Dev nD) (r : Fin 32768) (n : Fin 1024) : R88 m c (ix2 r n) = H m c r ⟨1536 + (n.val / 64 % 4 * 256 + n.val / 256 * 64 + n.val % 64), by omega⟩ * Ideal.div 1 (1 + Ideal.exp (-H m c r ⟨1536 + (n.val / 64 % 4 * 256 + n.val / 256 * 64 + n.val % 64), by omega⟩)) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 4, as an array. -/
abbrev R92 (c : Dev nD) : (⟨S32768x512, .bf16⟩ : BufTy).Contents (Elt Ideal) :=
  val_main_v92 (F := Ideal) (m ((c : Thread nD τ).loc main_arg0)) (m ((c : Thread nD τ).loc main_arg1)) (m ((c : Thread nD τ).loc main_arg2))

theorem R92_apply (c : Dev nD) (r : Fin 32768) (n : Fin 512) : R92 m c (ix2 r n) = H m c r ⟨2560 + n.val, by omega⟩ * Ideal.ofBits FTy.f32 1035273459#32 := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 5, as an array. -/
abbrev R94 (c : Dev nD) : (⟨S32768x512, .bf16⟩ : BufTy).Contents (Elt Ideal) :=
  val_main_v94 (F := Ideal) (m ((c : Thread nD τ).loc main_arg0)) (m ((c : Thread nD τ).loc main_arg1)) (m ((c : Thread nD τ).loc main_arg2))

theorem R94_apply (c : Dev nD) (r : Fin 32768) (n : Fin 512) : R94 m c (ix2 r n) = H m c r ⟨3072 + n.val, by omega⟩ := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 6, as an array. -/
abbrev R96 (c : Dev nD) : (⟨S32768x1024, .bf16⟩ : BufTy).Contents (Elt Ideal) :=
  val_main_v96 (F := Ideal) (m ((c : Thread nD τ).loc main_arg0)) (m ((c : Thread nD τ).loc main_arg1)) (m ((c : Thread nD τ).loc main_arg2))

theorem R96_apply (c : Dev nD) (r : Fin 32768) (n : Fin 1024) : R96 m c (ix2 r n) = H m c r ⟨3584 + n.val, by omega⟩ := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 7, as an array. -/
abbrev R105 (c : Dev nD) : (⟨S32768x1024, .bf16⟩ : BufTy).Contents (Elt Ideal) :=
  val_main_v105 (F := Ideal) (m ((c : Thread nD τ).loc main_arg0)) (m ((c : Thread nD τ).loc main_arg1)) (m ((c : Thread nD τ).loc main_arg2))

theorem R105_apply (c : Dev nD) (r : Fin 32768) (n : Fin 1024) : R105 m c (ix2 r n) = H m c r ⟨4608 + n.val, by omega⟩ * Ideal.div 1 (1 + Ideal.exp (-H m c r ⟨4608 + n.val, by omega⟩)) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 8, as an array. -/
abbrev R106 (c : Dev nD) : (⟨S32768x512, .f32⟩ : BufTy).Contents (Elt Ideal) :=
  val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem R106_apply (c : Dev nD) (r : Fin 32768) (n : Fin 512) : R106 m c (ix2 r n) = Ideal.div (min (∑ l : Fin 16, H m c r ⟨5632 + l.val, by omega⟩ * U m c l n + Bg m c n) 0 - Ideal.log1p (Ideal.exp (-(FloatOps.absf (F := Ideal) (φ := .f32) (∑ l : Fin 16, H m c r ⟨5632 + l.val, by omega⟩ * U m c l n + Bg m c n) : EReal)))) (Ideal.ofBits FTy.f32 1098907648#32) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]
  rfl

end Reference

/-- The row block of the input at a grid point. -/
theorem blk0 (c : Dev nD) (t : Fin cfg0.N) (r : Fin 256) (k : Fin 2048) : iblk m c 0 t (ix2 r k) = X m c (row t r) k :=
  Eq.trans (by blk_ext [iblk, idx t, row]) (V52_apply m c (row t r) k)

theorem blk1 (c : Dev nD) (t : Fin cfg0.N) (k : Fin 2048) : iblk m c 1 t (ix2 0 k) = G m c k :=
  Eq.trans (by blk_ext [iblk, idx t]) (V50_apply m c k)

theorem blk2 (c : Dev nD) (t : Fin cfg0.N) (k : Fin 2048) (n : Fin 5632) : iblk m c 2 t (ix2 k n) = Wt m c k ⟨col n.val, by have := col_lt n.isLt; omega⟩ :=
  Eq.trans (by blk_ext [iblk, idx t]) (V22_apply m c k n)

theorem blk3 (c : Dev nD) (t : Fin cfg0.N) (k : Fin 2048) (n : Fin 128) :
    iblk m c 3 t (ix2 k n) = if h : n.val < 16 then Wt m c k ⟨5632 + n.val, by omega⟩ else (0 : EReal) :=
  Eq.trans (by blk_ext [iblk, idx t]) (V24_apply m c k n)

theorem blk4 (c : Dev nD) (t : Fin cfg0.N) (k : Fin 128) (n : Fin 512) :
    iblk m c 4 t (ix2 k n) = if h : k.val < 16 then U m c ⟨k.val, h⟩ n else (0 : EReal) :=
  Eq.trans (by blk_ext [iblk, idx t]) (V26_apply m c k n)

theorem blk5 (c : Dev nD) (t : Fin cfg0.N) (n : Fin 512) : iblk m c 5 t (ix2 0 n) = Bg m c n :=
  Eq.trans (by blk_ext [iblk, idx t]) (V51_apply m c n)

theorem blk6 (c : Dev nD) (t : Fin cfg0.N) (n : Fin 1280) :
    iblk m c 6 t (ix2 0 n) = if h : n.val < 1024 then gq m c ⟨n.val % 64, by omega⟩ * Ideal.ofBits FTy.f32 0x3E000000#32 else gk m c ⟨(n.val - 1024) % 64, by omega⟩ :=
  Eq.trans (by blk_ext [iblk, idx t]) (V36_apply m c n)

theorem blk7 (c : Dev nD) (t : Fin cfg0.N) (k : Fin 1280) (n : Fin 128) : iblk m c 7 t (ix2 k n) = if k.val / 64 = n.val then (1 : EReal) else 0 :=
  Eq.trans (by blk_ext [iblk, idx t]) (V42_apply m c k n)

theorem blk8 (c : Dev nD) (t : Fin cfg0.N) (k : Fin 256) (n : Fin 1280) : iblk m c 8 t (ix2 k n) = if n.val / 64 = k.val % 128 then (1 : EReal) else 0 :=
  Eq.trans (by blk_ext [iblk, idx t]) (V49_apply m c k n)

end Cert.InProjIdeal.Hand
-- ==== Proof.InProj.lean ====
/- The input projection computes the reference's nine results. -/
module

public import proofs.«01_k».proof.Defs
public import proofs.«01_k».proof.Proof.InProjA
public import proofs.«01_k».proof.Proof.InProjB
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof

/-- Over the ideal numbers the input projection's kernel and the reference compute the same nine arrays from the same arguments. -/
theorem algebraic_InProj : Cert.algebraic_InProjIdeal_InProjRefIdeal (hInProjIdeal := Cert.InProjIdeal.Gen.facts)
    (hInProjRefIdeal := Cert.InProjRefIdeal.Gen.facts) := fun m g m' g' _ hag =>
  ⟨fun c => Cert.InProjIdeal.Hand.R75 m c, fun c => Cert.InProjIdeal.Hand.R76 m c, fun c => Cert.InProjIdeal.Hand.R77 m c, fun c => Cert.InProjIdeal.Hand.R88 m c, fun c => Cert.InProjIdeal.Hand.R92 m c, fun c => Cert.InProjIdeal.Hand.R94 m c, fun c => Cert.InProjIdeal.Hand.R96 m c, fun c => Cert.InProjIdeal.Hand.R105 m c, fun c => Cert.InProjIdeal.Hand.R106 m c,
    (θ_run _ _ _).mono (fun r h c => ⟨((h c).1).trans (Cert.InProjIdeal.Hand.final9 m c), ((h c).2.1).trans (Cert.InProjIdeal.Hand.final10 m c), ((h c).2.2.1).trans (Cert.InProjIdeal.Hand.final11 m c), ((h c).2.2.2.1).trans (Cert.InProjIdeal.Hand.final12 m c), ((h c).2.2.2.2.1).trans (Cert.InProjIdeal.Hand.final13 m c), ((h c).2.2.2.2.2.1).trans (Cert.InProjIdeal.Hand.final14 m c), ((h c).2.2.2.2.2.2.1).trans (Cert.InProjIdeal.Hand.final15 m c), ((h c).2.2.2.2.2.2.2.1).trans (Cert.InProjIdeal.Hand.final16 m c), ((h c).2.2.2.2.2.2.2.2.1).trans (Cert.InProjIdeal.Hand.final17 m c), (h c).2.2.2.2.2.2.2.2.2⟩) (Cert.InProjIdeal.Value.run_blocks m g),
    (θ_run _ _ _).mono (fun r h c => by
      obtain ⟨a0, a1, a2, a3, a4, a5, a6⟩ := hag c
      refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, (h c).2.2.2.2.2.2.2.2.2⟩
      · rw [Cert.InProjRefIdeal.Read.val_main_v75_eq, a0, a1, a2, a5]
      · refine (Cert.InProjRefIdeal.Read.val_main_v76_eq _ _ _ _).trans ?_
        rw [a0, a1, a2, a6]
      · refine (Cert.InProjRefIdeal.Read.val_main_v77_eq _ _ _).trans ?_
        rw [a0, a1, a2]
      · refine (Cert.InProjRefIdeal.Read.val_main_v88_eq _ _ _).trans ?_
        rw [a0, a1, a2]
      · refine (Cert.InProjRefIdeal.Read.val_main_v92_eq _ _ _).trans ?_
        rw [a0, a1, a2]
      · refine (Cert.InProjRefIdeal.Read.val_main_v94_eq _ _ _).trans ?_
        rw [a0, a1, a2]
      · refine (Cert.InProjRefIdeal.Read.val_main_v96_eq _ _ _).trans ?_
        rw [a0, a1, a2]
      · refine (Cert.InProjRefIdeal.Read.val_main_v105_eq _ _ _).trans ?_
        rw [a0, a1, a2]
      · refine (Cert.InProjRefIdeal.Read.val_main_v106_eq _ _ _ _ _).trans ?_
        rw [a0, a1, a2, a3, a4]
      ) (Cert.InProjRefIdeal.Value.run m' g')⟩

/-- The reference of the input projection runs to its end and leaves its arguments as they were. -/
theorem frame_InProjRef : Cert.quiescent_InProjRefIdeal (hInProjRefIdeal := Cert.InProjRefIdeal.Gen.facts) := fun m g _ =>
  (θ_run _ _ _).mono (fun r h => ⟨fun c => (h c).2.2.2.2.2.2.2.2.2, sem_eq_zero_of_no_sems (by decide) r.2⟩) (Cert.InProjRefIdeal.Value.run m g)

end Cert.Proof
-- ==== Proof.AttnMath.lean ====
/- The windowed attention: sums and maxima over the four heads' windows side by side, and the softmax. -/
module

public import proofs.«01_k».proof.Defs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Hand

/-- A sum over 4 windows of 192 whose terms vanish outside window `g` is the sum over that window. -/
theorem sum_seg (f : Fin 768 → EReal) (g : Fin 4) (h : ∀ x, x.val / 192 ≠ g.val → f x = 0) :
    ∑ x, f x = ∑ k : Fin 192, f ⟨192 * g.val + k.val, by omega⟩ := by
  symm
  refine Finset.sum_of_injOn (fun k : Fin 192 => (⟨192 * g.val + k.val, by omega⟩ : Fin 768)) (fun a _ b _ e => Fin.ext ?_) (fun _ _ => Finset.mem_coe.2 (Finset.mem_univ _))
    (fun x _ hx => h x fun e => hx ⟨⟨x.val - 192 * g.val, by omega⟩, Finset.mem_coe.2 (Finset.mem_univ _), Fin.ext ?_⟩) fun _ _ => rfl
  · have := congrArg Fin.val e; dsimp only at this; omega
  · show 192 * g.val + (x.val - 192 * g.val) = x.val; omega

/-- A sum over 4 heads of 64 lanes whose terms vanish outside head `g` is the sum over that head. -/
theorem sum_head (f : Fin 256 → EReal) (g : Fin 4) (h : ∀ x, x.val / 64 ≠ g.val → f x = 0) :
    ∑ x, f x = ∑ k : Fin 64, f ⟨g.val * 64 + k.val, by omega⟩ := by
  symm
  refine Finset.sum_of_injOn (fun k : Fin 64 => (⟨g.val * 64 + k.val, by omega⟩ : Fin 256)) (fun a _ b _ e => Fin.ext ?_) (fun _ _ => Finset.mem_coe.2 (Finset.mem_univ _))
    (fun x _ hx => h x fun e => hx ⟨⟨x.val - g.val * 64, by omega⟩, Finset.mem_coe.2 (Finset.mem_univ _), Fin.ext ?_⟩) fun _ _ => rfl
  · have := congrArg Fin.val e; dsimp only at this; omega
  · show g.val * 64 + (x.val - g.val * 64) = x.val; omega

/-- A window's maximum from its first 128 columns and the low half of the next. -/
theorem sup_lo (f₁ f₂ : Fin 128 → EReal) (T : Fin 192 → EReal) (h₁ : ∀ x : Fin 128, f₁ x = T ⟨x.val, by omega⟩)
    (h₂ : ∀ (x : Fin 128) (_ : x.val < 64), f₂ x = T ⟨128 + x.val, by omega⟩) :
    (Finset.univ.sup fun x => max (f₁ x) (if x.val < 64 then f₂ x else ⊥)) = Finset.univ.sup T := by
  apply le_antisymm
  · refine Finset.sup_le fun x _ => max_le ?_ ?_
    · rw [h₁]; exact Finset.le_sup (f := T) (Finset.mem_univ _)
    · split_ifs with h
      · rw [h₂ x h]; exact Finset.le_sup (f := T) (Finset.mem_univ _)
      · exact bot_le
  · refine Finset.sup_le fun k _ => ?_
    by_cases hk : k.val < 128
    · refine le_trans ?_ (Finset.le_sup (f := fun x => max (f₁ x) (if x.val < 64 then f₂ x else ⊥)) (Finset.mem_univ ⟨k.val, hk⟩))
      exact le_trans (le_of_eq (h₁ ⟨k.val, hk⟩).symm) (le_max_left _ _)
    · have h : k.val - 128 < 64 := by omega
      refine le_trans ?_ (Finset.le_sup (f := fun x => max (f₁ x) (if x.val < 64 then f₂ x else ⊥)) (Finset.mem_univ ⟨k.val - 128, by omega⟩))
      refine le_trans (le_of_eq ?_) (le_max_right _ _)
      rw [if_pos h, h₂ _ h]
      exact congrArg T (Fin.ext (show k.val = 128 + (k.val - 128) by omega))

/-- A window's maximum from the high half of 128 columns and the next 128. -/
theorem sup_hi (f₁ f₂ : Fin 128 → EReal) (T : Fin 192 → EReal) (h₁ : ∀ (x : Fin 128) (_ : ¬ x.val < 64), f₁ x = T ⟨x.val - 64, by omega⟩)
    (h₂ : ∀ x : Fin 128, f₂ x = T ⟨64 + x.val, by omega⟩) :
    (Finset.univ.sup fun x => max (if x.val < 64 then ⊥ else f₁ x) (f₂ x)) = Finset.univ.sup T := by
  apply le_antisymm
  · refine Finset.sup_le fun x _ => max_le ?_ ?_
    · split_ifs with h
      · exact bot_le
      · rw [h₁ x h]; exact Finset.le_sup (f := T) (Finset.mem_univ _)
    · rw [h₂]; exact Finset.le_sup (f := T) (Finset.mem_univ _)
  · refine Finset.sup_le fun k _ => ?_
    by_cases hk : k.val < 64
    · have h : ¬ k.val + 64 < 64 := by omega
      refine le_trans ?_ (Finset.le_sup (f := fun x => max (if x.val < 64 then ⊥ else f₁ x) (f₂ x)) (Finset.mem_univ ⟨k.val + 64, by omega⟩))
      refine le_trans (le_of_eq ?_) (le_max_left _ _)
      rw [if_neg h, h₁ _ h]
      exact congrArg T (Fin.ext (show k.val = k.val + 64 - 64 by omega))
    · refine le_trans ?_ (Finset.le_sup (f := fun x => max (if x.val < 64 then ⊥ else f₁ x) (f₂ x)) (Finset.mem_univ ⟨k.val - 64, by omega⟩))
      refine le_trans (le_of_eq ?_) (le_max_right _ _)
      rw [h₂]
      exact congrArg T (Fin.ext (show k.val = 64 + (k.val - 64) by omega))

/-- The greatest of finitely many scores, each real or minus infinity, and a real is real. -/
theorem max_real {ι : Type} [Fintype ι] (S : ι → EReal) (hS : ∀ k, S k ≠ ⊤) (σ : ℝ) : ∃ μ : ℝ, max (Finset.univ.sup S) (σ : EReal) = μ := by
  have h : max (Finset.univ.sup S) (σ : EReal) ≠ ⊤ := by
    refine ne_of_lt (max_lt ((Finset.sup_lt_iff bot_lt_top).2 fun k _ => lt_top_iff_ne_top.2 (hS k)) (EReal.coe_lt_top σ))
  have h' : max (Finset.univ.sup S) (σ : EReal) ≠ ⊥ := by
    intro e
    have : (σ : EReal) ≤ ⊥ := e ▸ le_max_right _ _
    exact EReal.coe_ne_bot σ (le_bot_iff.1 this)
  exact ⟨_, (EReal.coe_toReal h h').symm⟩

/-- A sum of reals is real. -/
theorem sum_real {ι : Type} (s : Finset ι) (f : ι → EReal) (h : ∀ k, ∃ r : ℝ, f k = r) : ∃ r : ℝ, ∑ k ∈ s, f k = r := by
  classical
  choose g hg using h
  exact ⟨∑ k ∈ s, g k, by simp only [hg]; exact (map_sum (⟨⟨fun r : ℝ => (r : EReal), EReal.coe_zero⟩, EReal.coe_add⟩ : ℝ →+ EReal) g s).symm⟩

/-- A nonnegative real factor distributes over a sum of extended reals. -/
theorem sum_mul_real {ι : Type} (s : Finset ι) (f : ι → EReal) (d : ℝ) (hd : 0 ≤ d) : (∑ k ∈ s, f k) * (d : EReal) = ∑ k ∈ s, f k * (d : EReal) := by
  classical
  induction s using Finset.induction_on with
  | empty => simp
  | insert a s ha ih =>
    rw [Finset.sum_insert ha, Finset.sum_insert ha, ← ih]
    exact EReal.right_distrib_of_nonneg_of_ne_top (EReal.coe_nonneg.2 hd) (EReal.coe_ne_top d) _ _

/-- Attention with a sink: dividing the weighted sum by the weights' total is weighting by the normed weights. A masked
key's score is minus infinity, so its weight is zero whatever value stands in its place. -/
theorem soft (S V V' : Fin 192 → EReal) (ok : Fin 192 → Prop) (hS : ∀ k, (∃ r : ℝ, S k = r) ∨ S k = ⊥) (hV : ∀ k, ok k → V k = V' k)
    (hbot : ∀ k, ¬ ok k → S k = ⊥) (σ M : EReal) (hσ : ∃ r : ℝ, σ = r) (hM : M = max (Finset.univ.sup S) σ) :
    Ideal.div (∑ k, Ideal.exp (S k - M) * V k) (∑ k, Ideal.exp (S k - M) + Ideal.exp (σ - M))
      = ∑ k, V' k * Ideal.div (Ideal.exp (S k - M)) (∑ k, Ideal.exp (S k - M) + Ideal.exp (σ - M)) := by
  obtain ⟨s, rfl⟩ := hσ
  obtain ⟨μ, hμ⟩ := max_real S (fun k => by rcases hS k with ⟨r, e⟩ | e <;> rw [e]; exacts [EReal.coe_ne_top r, bot_ne_top]) s
  rw [hμ] at hM
  subst hM
  have he : ∀ k, ∃ r : ℝ, 0 ≤ r ∧ Ideal.exp (S k - μ) = r := fun k => by
    rcases hS k with ⟨r, e⟩ | e
    · exact ⟨Real.exp (r - μ), (Real.exp_pos _).le, by rw [e]; rfl⟩
    · exact ⟨0, le_rfl, by rw [e]; rfl⟩
  have hz : ∀ k, ¬ ok k → Ideal.exp (S k - μ) = 0 := fun k hk => by rw [hbot k hk]; rfl
  choose p hp0 hp using he
  have hD : ∑ k, Ideal.exp (S k - μ) + Ideal.exp ((s : EReal) - μ) = ((∑ k, p k + Real.exp (s - μ) : ℝ) : EReal) := by
    simp only [hp]
    rw [EReal.coe_add, show (∑ k, (p k : EReal)) = ((∑ k, p k : ℝ) : EReal) from
      (map_sum (⟨⟨fun r : ℝ => (r : EReal), EReal.coe_zero⟩, EReal.coe_add⟩ : ℝ →+ EReal) p Finset.univ).symm]
    rfl
  have hpos : 0 < ∑ k, p k + Real.exp (s - μ) := add_pos_of_nonneg_of_pos (Finset.sum_nonneg fun k _ => hp0 k) (Real.exp_pos _)
  rw [hD]
  generalize ∑ k, p k + Real.exp (s - μ) = d at hpos
  have hdiv : ∀ x, Ideal.div x (d : EReal) = x * ((d⁻¹ : ℝ) : EReal) := fun x => by
    unfold Ideal.div
    rw [if_neg (by exact_mod_cast hpos.ne'), EReal.coe_inv]
  simp only [hdiv]
  rw [sum_mul_real _ _ _ (inv_nonneg.2 hpos.le)]
  refine Finset.sum_congr rfl fun k _ => ?_
  by_cases hk : ok k
  · rw [hV k hk, mul_comm (Ideal.exp _) (V' k), mul_assoc]
  · rw [hz k hk, zero_mul, zero_mul, mul_zero]

end Cert.AttnIdeal.Hand
-- ==== Proof.AttnPay.lean ====
/- The windowed attention: the kernel's arithmetic over a chunk, at an index. -/
module

public import proofs.«01_k».proof.Defs
public import proofs.«01_k».proof.Proof.Gen.AttnIdeal.Value
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Hand
open Cert.AttnIdeal Cert.AttnIdeal.Gen

theorem sel0 (d : Fin 256) (a b : EReal) : Scalar.select (IntOp.cmpi .eq (BitVec.ofNat 32 (d.val / 64)) 0#32) a b = if d.val / 64 = 0 then a else b := by
  have h : IntOp.cmpi .eq (BitVec.ofNat 32 (d.val / 64)) 0#32 = if d.val / 64 = 0 then 1#1 else 0#1 := by revert d; decide +kernel
  rw [h]; split_ifs <;> rfl

theorem sel1 (d : Fin 256) (a b : EReal) : Scalar.select (IntOp.cmpi .eq (BitVec.ofNat 32 (d.val / 64)) 1#32) a b = if d.val / 64 = 1 then a else b := by
  have h : IntOp.cmpi .eq (BitVec.ofNat 32 (d.val / 64)) 1#32 = if d.val / 64 = 1 then 1#1 else 0#1 := by revert d; decide +kernel
  rw [h]; split_ifs <;> rfl

theorem sel2 (d : Fin 256) (a b : EReal) : Scalar.select (IntOp.cmpi .eq (BitVec.ofNat 32 (d.val / 64)) 2#32) a b = if d.val / 64 = 2 then a else b := by
  have h : IntOp.cmpi .eq (BitVec.ofNat 32 (d.val / 64)) 2#32 = if d.val / 64 = 2 then 1#1 else 0#1 := by revert d; decide +kernel
  rw [h]; split_ifs <;> rfl

theorem sel3 (d : Fin 256) (a b : EReal) : Scalar.select (IntOp.cmpi .eq (BitVec.ofNat 32 (d.val / 64)) 3#32) a b = if d.val / 64 = 3 then a else b := by
  have h : IntOp.cmpi .eq (BitVec.ofNat 32 (d.val / 64)) 3#32 = if d.val / 64 = 3 then 1#1 else 0#1 := by revert d; decide +kernel
  rw [h]; split_ifs <;> rfl

/-- Four copies of a window one below the other, each kept in its head's columns alone. -/
theorem diag (K : Fin 192 → EReal) (c : Fin 768) (d : Fin 256) :
    (if h : c.val < 192 then if d.val / 64 = 0 then K ⟨c.val, h⟩ else 0
      else if h : c.val - 192 < 192 then if d.val / 64 = 1 then K ⟨c.val - 192, h⟩ else 0
      else if h : c.val - 192 - 192 < 192 then if d.val / 64 = 2 then K ⟨c.val - 192 - 192, h⟩ else 0
      else if d.val / 64 = 3 then K ⟨c.val - 192 - 192 - 192, by omega⟩ else 0)
    = if d.val / 64 = c.val / 192 then K ⟨c.val % 192, by omega⟩ else 0 := by
  split_ifs <;> first | rfl | omega | exact congrArg K (Fin.ext (by dsimp only; omega))

/-- The block-diagonal keys. -/
theorem pay5_apply (v51 : IVec S1x256 32) (hg : ∀ d : Fin 256, v51 (ix2 0 d) = BitVec.ofNat 32 (d.val / 64)) (K : Vec Ideal S192x256 .bf16) (c : Fin 768) (d : Fin 256) :
    k0_pay5 (F := Ideal) v51 K (ix2 c d) = if d.val / 64 = c.val / 192 then K (ix2 ⟨c.val % 192, by omega⟩ d) else (0 : EReal) := by
  pointwise [k0_pay5, k0_pay4]
  simp only [hg, sel0, sel1, sel2, sel3]
  exact diag (fun k => K (ix2 k d)) c d

/-- The block-diagonal values. -/
theorem payV_apply (v51 : IVec S1x256 32) (hg : ∀ d : Fin 256, v51 (ix2 0 d) = BitVec.ofNat 32 (d.val / 64)) (V : Vec Ideal S192x256 .bf16) (c : Fin 768) (d : Fin 256) :
    k0_pay10 (F := Ideal) V k0_pay4 (k0_pay6 v51 V) (k0_pay7 v51 V) (k0_pay8 v51 V) (k0_pay9 v51) (ix2 c d)
      = if d.val / 64 = c.val / 192 then V (ix2 ⟨c.val % 192, by omega⟩ d) else (0 : EReal) := by
  pointwise [k0_pay10, k0_pay9, k0_pay8, k0_pay7, k0_pay6, k0_pay4]
  simp only [hg, sel0, sel1, sel2, sel3]
  exact diag (fun k => V (ix2 k d)) c d

/-- The block-diagonal ones. -/
theorem pay1_apply (v51 : IVec S1x256 32) (hg : ∀ d : Fin 256, v51 (ix2 0 d) = BitVec.ofNat 32 (d.val / 64)) (v76 : FVec Ideal S192x256 .bf16)
    (h0 : ∀ (k : Fin 192) (d : Fin 256), v76 (ix2 k d) = if d.val / 64 = 0 then (1 : EReal) else 0) (c : Fin 768) (d : Fin 256) :
    k0_pay1 (F := Ideal) v51 v76 1#32 (ix2 c d) = if d.val / 64 = c.val / 192 then (1 : EReal) else 0 := by
  pointwise [k0_pay1]
  simp only [h0, hg, sel1, sel2, sel3]
  exact diag (fun _ => 1) c d

theorem selLane {α : Type} (n : Nat) (a b : α) : Scalar.select (if n < 64 then 1#1 else 0#1 : BitVec 1) a b = if n < 64 then a else b := by
  split_ifs <;> rfl

/-- The scores of a chunk: each query row against the four windows side by side, masked before the sequence's start. -/
theorem pay11_apply (arg1 : BitVec 32) (v68 : IVec S1x768 32) (cst : Ideal .f32) (a12 : BitVec 32) (v130 : FVec Ideal S768x256 .bf16) (q0 q1 q2 q3 : Vec Ideal S64x256 .bf16) (K : Fin 192 → Fin 256 → EReal) (Q : Fin 256 → EReal) (ok : Fin 192 → Prop) [DecidablePred ok] (r : Fin 256)
    (hK : ∀ (c : Fin 768) (d : Fin 256), v130 (ix2 c d) = if d.val / 64 = c.val / 192 then K ⟨c.val % 192, by omega⟩ d else (0 : EReal))
    (hQ : ∀ x : Fin 256, (if h : r.val < 64 then q0 (ix2 ⟨r.val, h⟩ x) else if h : r.val - 64 < 64 then q1 (ix2 ⟨r.val - 64, h⟩ x)
      else if h : r.val - 64 - 64 < 64 then q2 (ix2 ⟨r.val - 64 - 64, h⟩ x) else q3 (ix2 ⟨r.val - 64 - 64 - 64, by omega⟩ x)) = Q x)
    (hm : ∀ c : Fin 768, IntOp.cmpi .sge (v68 (ix2 0 c)) (Scalar.muli (Scalar.subi 2#32 (Scalar.addi (Scalar.muli arg1 8#32) a12)) 64#32)
      = BitVec.ofBool (decide (ok ⟨c.val % 192, by omega⟩))) (c : Fin 768) :
    k0_pay11 (F := Ideal) arg1 v68 cst a12 v130 q0 q1 q2 q3 (ix2 r c)
      = if ok ⟨c.val % 192, by omega⟩ then ∑ e : Fin 64, Q ⟨c.val / 192 * 64 + e.val, by omega⟩ * K ⟨c.val % 192, by omega⟩ ⟨c.val / 192 * 64 + e.val, by omega⟩ else cst := by
  have hs : (∑ x : Fin 256, Q x * v130 (ix2 c x)) = ∑ e : Fin 64, Q ⟨c.val / 192 * 64 + e.val, by omega⟩ * K ⟨c.val % 192, by omega⟩ ⟨c.val / 192 * 64 + e.val, by omega⟩ := by
    rw [sum_head _ ⟨c.val / 192, by omega⟩ fun x hx => by rw [hK, if_neg hx, mul_zero]]
    refine Finset.sum_congr rfl fun e _ => ?_
    rw [hK, if_pos (show (c.val / 192 * 64 + e.val) / 64 = c.val / 192 by omega)]
  pointwise [k0_pay11]
  simp only [hQ, hm]
  rw [hs]
  by_cases h : ok ⟨c.val % 192, by omega⟩
  · rw [if_pos h, decide_eq_true h]; rfl
  · rw [if_neg h, decide_eq_false h]; rfl

/-- The greatest score of a row in the first window. -/
theorem pay21_apply (arg1 : BitVec 32) (v26 : IVec S1x128 1) (v68 : IVec S1x768 32) (cst : Ideal .f32) (a12 : BitVec 32) (v130 : FVec Ideal S768x256 .bf16) (q0 q1 q2 q3 : Vec Ideal S64x256 .bf16) (S : Fin 768 → EReal) (r : Fin 256) (z : Fin 1) (hl : ∀ l : Fin 128, v26 (ix2 0 l) = if l.val < 64 then 1#1 else 0#1) (hS : ∀ c : Fin 768, k0_pay11 (F := Ideal) arg1 v68 cst a12 v130 q0 q1 q2 q3 (ix2 r c) = S c)
    (hc : cst = (⊥ : EReal)) : k0_pay21 (F := Ideal) arg1 v26 v68 cst a12 v130 q0 q1 q2 q3 (ix2 r z)
      = Finset.univ.sup fun k : Fin 192 => S ⟨192 * (0 : Fin 4).val + k.val, by simp; omega⟩ := by
  subst hc
  pointwise [k0_pay21, k0_pay12, k0_pay13]
  simp only [hS, hl, selLane]
  rw [show Ideal.ofBits FTy.f32 4286578688#32 = ⊥ by simp [Ideal.ofBits, Ideal.ieee]]
  exact sup_lo _ _ _ (fun x => congrArg S (Fin.ext (by simp))) (fun x _ => congrArg S (Fin.ext (by simp)))

/-- The greatest score of a row in the second window, over the row's sink. -/
theorem pay23_apply (arg1 : BitVec 32) (v26 : IVec S1x128 1) (v68 : IVec S1x768 32) (cst : Ideal .f32) (a12 : BitVec 32) (v130 : FVec Ideal S768x256 .bf16) (q0 q1 q2 q3 : Vec Ideal S64x256 .bf16) (S : Fin 768 → EReal) (r : Fin 256) (l : Fin 128) (sk : Vec Ideal S1x256x128 .f32) (hl : ∀ l : Fin 128, v26 (ix2 0 l) = if l.val < 64 then 1#1 else 0#1) (hS : ∀ c : Fin 768, k0_pay11 (F := Ideal) arg1 v68 cst a12 v130 q0 q1 q2 q3 (ix2 r c) = S c)
    (hc : cst = (⊥ : EReal)) : k0_pay23 (F := Ideal) (k0_pay18 arg1 v26 v68 cst a12 v130 q0 q1 q2 q3) sk (ix2 r l)
      = max (Finset.univ.sup fun k : Fin 192 => S ⟨192 * (1 : Fin 4).val + k.val, by simp; omega⟩) (sk (ix3 0 r l)) := by
  subst hc
  pointwise [k0_pay23, k0_pay18, k0_pay13, k0_pay14]
  simp only [hS, hl, selLane]
  rw [show Ideal.ofBits FTy.f32 4286578688#32 = ⊥ by simp [Ideal.ofBits, Ideal.ieee]]
  refine congrArg (max · _) ?_
  exact sup_hi _ _ _ (fun x hx => congrArg S (Fin.ext (by simp; omega))) (fun x => congrArg S (Fin.ext (by simp; omega)))

/-- The same in the third window. -/
theorem pay24_apply (arg1 : BitVec 32) (v26 : IVec S1x128 1) (v68 : IVec S1x768 32) (cst : Ideal .f32) (a12 : BitVec 32) (v130 : FVec Ideal S768x256 .bf16) (q0 q1 q2 q3 : Vec Ideal S64x256 .bf16) (S : Fin 768 → EReal) (r : Fin 256) (l : Fin 128) (sk : Vec Ideal S1x256x128 .f32) (hl : ∀ l : Fin 128, v26 (ix2 0 l) = if l.val < 64 then 1#1 else 0#1) (hS : ∀ c : Fin 768, k0_pay11 (F := Ideal) arg1 v68 cst a12 v130 q0 q1 q2 q3 (ix2 r c) = S c)
    (hc : cst = (⊥ : EReal)) : k0_pay24 (F := Ideal) (k0_pay19 arg1 v26 v68 cst a12 v130 q0 q1 q2 q3) sk (ix2 r l)
      = max (Finset.univ.sup fun k : Fin 192 => S ⟨192 * (2 : Fin 4).val + k.val, by simp; omega⟩) (sk (ix3 0 r l)) := by
  subst hc
  pointwise [k0_pay24, k0_pay19, k0_pay15, k0_pay16]
  simp only [hS, hl, selLane]
  rw [show Ideal.ofBits FTy.f32 4286578688#32 = ⊥ by simp [Ideal.ofBits, Ideal.ieee]]
  refine congrArg (max · _) ?_
  exact sup_lo _ _ _ (fun x => congrArg S (Fin.ext (by simp))) (fun x _ => congrArg S (Fin.ext (by simp; omega)))

/-- The same in the fourth window. -/
theorem pay25_apply (arg1 : BitVec 32) (v26 : IVec S1x128 1) (v68 : IVec S1x768 32) (cst : Ideal .f32) (a12 : BitVec 32) (v130 : FVec Ideal S768x256 .bf16) (q0 q1 q2 q3 : Vec Ideal S64x256 .bf16) (S : Fin 768 → EReal) (r : Fin 256) (l : Fin 128) (sk : Vec Ideal S1x256x128 .f32) (hl : ∀ l : Fin 128, v26 (ix2 0 l) = if l.val < 64 then 1#1 else 0#1) (hS : ∀ c : Fin 768, k0_pay11 (F := Ideal) arg1 v68 cst a12 v130 q0 q1 q2 q3 (ix2 r c) = S c)
    (hc : cst = (⊥ : EReal)) : k0_pay25 (F := Ideal) (k0_pay20 arg1 v26 v68 cst a12 v130 q0 q1 q2 q3) sk (ix2 r l)
      = max (Finset.univ.sup fun k : Fin 192 => S ⟨192 * (3 : Fin 4).val + k.val, by simp; omega⟩) (sk (ix3 0 r l)) := by
  subst hc
  pointwise [k0_pay25, k0_pay20, k0_pay16, k0_pay17]
  simp only [hS, hl, selLane]
  rw [show Ideal.ofBits FTy.f32 4286578688#32 = ⊥ by simp [Ideal.ofBits, Ideal.ieee]]
  refine congrArg (max · _) ?_
  exact sup_hi _ _ _ (fun x hx => congrArg S (Fin.ext (by simp; omega))) (fun x => congrArg S (Fin.ext (by simp; omega)))

theorem pay22_apply (v : FVec Ideal S256x1 .f32) (sk : Vec Ideal S1x256x128 .f32) (r : Fin 256) (l : Fin 128) :
    k0_pay22 (F := Ideal) v sk (ix2 r l) = max (v (ix2 r 0)) (sk (ix3 0 r l)) := by
  pointwise [k0_pay22]

end Cert.AttnIdeal.Hand
-- ==== Proof.AttnChunk.lean ====
/- The windowed attention: the weights of a chunk, their products with the values, and the chunk's result. -/
module

public import proofs.«01_k».proof.Defs
public import proofs.«01_k».proof.Proof.AttnPay

@[expose] public section

set_option maxRecDepth 16384

noncomputable section

open Idealize.ShloMosaic Idealize.ShloMosaic.TcCoe Idealize.SL.Sem
open Idealize.ShloMosaic.Pipeline (Dat)

namespace Cert.AttnIdeal.Hand
open Cert.AttnIdeal Cert.AttnIdeal.Gen

/-- The weights, six groups of 128 columns joined, are one formula of the column. -/
theorem weights (S : Fin 768 → EReal) (M : Fin 4 → EReal) (x : Fin 768) :
    (if h : x.val < 128 then Ideal.exp (S ⟨x.val, by omega⟩ - M 0)
      else if h : x.val - 128 < 128 then Ideal.exp (S ⟨128 + (x.val - 128), by omega⟩ - if x.val - 128 < 64 then M 0 else M 1)
      else if h : x.val - 128 - 128 < 128 then Ideal.exp (S ⟨256 + (x.val - 128 - 128), by omega⟩ - M 1)
      else if h : x.val - 128 - 128 - 128 < 128 then Ideal.exp (S ⟨384 + (x.val - 128 - 128 - 128), by omega⟩ - M 2)
      else if h : x.val - 128 - 128 - 128 - 128 < 128 then
        Ideal.exp (S ⟨512 + (x.val - 128 - 128 - 128 - 128), by omega⟩ - if x.val - 128 - 128 - 128 - 128 < 64 then M 2 else M 3)
      else Ideal.exp (S ⟨640 + (x.val - 128 - 128 - 128 - 128 - 128), by omega⟩ - M 3))
    = Ideal.exp (S x - M ⟨x.val / 192, by omega⟩) := by
  have e : ∀ (a : Fin 768) (g : Fin 4), a.val = x.val → g.val = x.val / 192 → Ideal.exp (S a - M g) = Ideal.exp (S x - M ⟨x.val / 192, by omega⟩) := by
    intro a g ha hg
    rw [show a = x from Fin.ext ha, show g = ⟨x.val / 192, by omega⟩ from Fin.ext hg]
  split_ifs <;> exact e _ _ (by dsimp only <;> omega) (by simp only [Fin.val_zero, Fin.val_one, Fin.val_two, show ((3 : Fin 4) : Nat) = 3 from rfl] <;> omega)

/-- The product of the joined weights with the joined values and ones. -/
def prod26 (a0 a1 a2 a3 a4 a5 : FVec Ideal S256x128 .f32) (v151 v101 : FVec Ideal S768x256 .bf16) : FVec Ideal S256x512 .f32 :=
  matmul dot_S256x768_S768x512_S256x512_1_0_0_1_n_n none
    (truncf .bf16 (concatenate S256x768 1 [⟨S256x128, a0⟩, ⟨S256x128, a1⟩, ⟨S256x128, a2⟩, ⟨S256x128, a3⟩, ⟨S256x128, a4⟩, ⟨S256x128, a5⟩] concatenates_S256x128_S256x128_S256x128_S256x128_S256x128_S256x128_S256x768_d1) bitsLt_bf16_f32 : FVec Ideal S256x768 .bf16)
    (concatenate S768x512 1 [⟨S768x256, v151⟩, ⟨S768x256, v101⟩] concatenates_S768x256_S768x256_S768x512_d1 : FVec Ideal S768x512 .bf16)
    (constant S256x512 .f32 0x00000000#32)

theorem prod26_apply (a0 a1 a2 a3 a4 a5 : FVec Ideal S256x128 .f32) (v151 v101 : FVec Ideal S768x256 .bf16) (S : Fin 768 → EReal) (M : Fin 4 → EReal) (r : Fin 256)
    (h0 : ∀ l : Fin 128, a0 (ix2 r l) = Ideal.exp (S ⟨l.val, by omega⟩ - M 0))
    (h1 : ∀ l : Fin 128, a1 (ix2 r l) = Ideal.exp (S ⟨128 + l.val, by omega⟩ - if l.val < 64 then M 0 else M 1))
    (h2 : ∀ l : Fin 128, a2 (ix2 r l) = Ideal.exp (S ⟨256 + l.val, by omega⟩ - M 1))
    (h3 : ∀ l : Fin 128, a3 (ix2 r l) = Ideal.exp (S ⟨384 + l.val, by omega⟩ - M 2))
    (h4 : ∀ l : Fin 128, a4 (ix2 r l) = Ideal.exp (S ⟨512 + l.val, by omega⟩ - if l.val < 64 then M 2 else M 3))
    (h5 : ∀ l : Fin 128, a5 (ix2 r l) = Ideal.exp (S ⟨640 + l.val, by omega⟩ - M 3)) (d : Fin 512) :
    prod26 a0 a1 a2 a3 a4 a5 v151 v101 (ix2 r d)
      = ∑ x : Fin 768, Ideal.exp (S x - M ⟨x.val / 192, by omega⟩) * (if h : d.val < 256 then v151 (ix2 x ⟨d.val, h⟩) else v101 (ix2 x ⟨d.val - 256, by omega⟩)) := by
  pointwise [prod26]
  simp only [h0, h1, h2, h3, h4, h5, weights]

/-- The product of a chunk's weights with its values and ones, column by column. -/
theorem pay26_apply (v26 : IVec S1x128 1) (v101 v151 : FVec Ideal S768x256 .bf16) (c0 c1 c2 c3 c4 c5 v187 v192 v197 : FVec Ideal S256x128 .f32) (v199 : FVec Ideal S256x1 .f32) (s0 s1 s2 s3 : Vec Ideal S1x256x128 .f32) (hl : ∀ l : Fin 128, v26 (ix2 0 l) = if l.val < 64 then 1#1 else 0#1) (S : Fin 768 → EReal) (M : Fin 4 → EReal) (V : Fin 192 → Fin 256 → EReal) (r : Fin 256)
    (h0 : ∀ l : Fin 128, c0 (ix2 r l) = S ⟨l.val, by omega⟩) (h1 : ∀ l : Fin 128, c1 (ix2 r l) = S ⟨128 + l.val, by omega⟩)
    (h2 : ∀ l : Fin 128, c2 (ix2 r l) = S ⟨256 + l.val, by omega⟩) (h3 : ∀ l : Fin 128, c3 (ix2 r l) = S ⟨384 + l.val, by omega⟩)
    (h4 : ∀ l : Fin 128, c4 (ix2 r l) = S ⟨512 + l.val, by omega⟩) (h5 : ∀ l : Fin 128, c5 (ix2 r l) = S ⟨640 + l.val, by omega⟩)
    (m0 : ∀ l : Fin 128, k0_pay22 (F := Ideal) v199 s0 (ix2 r l) = M 0) (m1 : ∀ l : Fin 128, k0_pay23 (F := Ideal) v187 s1 (ix2 r l) = M 1)
    (m2 : ∀ l : Fin 128, k0_pay24 (F := Ideal) v192 s2 (ix2 r l) = M 2) (m3 : ∀ l : Fin 128, k0_pay25 (F := Ideal) v197 s3 (ix2 r l) = M 3) (d : Fin 512) :
    k0_pay26 (F := Ideal) v26 v101 v151 c0 c1 c2 c3 c4 c5 v187 v192 v197 v199 s0 s1 s2 s3 (ix2 r d)
      = ∑ x : Fin 768, Ideal.exp (S x - M ⟨x.val / 192, by omega⟩) * (if h : d.val < 256 then v151 (ix2 x ⟨d.val, h⟩) else v101 (ix2 x ⟨d.val - 256, by omega⟩)) := by
  refine Eq.trans (show k0_pay26 (F := Ideal) v26 v101 v151 c0 c1 c2 c3 c4 c5 v187 v192 v197 v199 s0 s1 s2 s3 (ix2 r d) = prod26 (exp (subf c0 (k0_pay22 v199 s0)))
    (exp (subf c1 (select (broadcastTo S256x128 (shapeCast S1x128 v26 shapeCasts_S1x128_S1x128) broadcasts_S1x128_S256x128) (k0_pay22 v199 s0) (k0_pay23 v187 s1))))
    (exp (subf c2 (k0_pay23 v187 s1))) (exp (subf c3 (k0_pay24 v192 s2)))
    (exp (subf c4 (select (broadcastTo S256x128 (shapeCast S1x128 v26 shapeCasts_S1x128_S1x128) broadcasts_S1x128_S256x128) (k0_pay24 v192 s2) (k0_pay25 v197 s3))))
    (exp (subf c5 (k0_pay25 v197 s3))) v151 v101 (ix2 r d) from rfl)
    (prod26_apply _ _ _ _ _ _ v151 v101 S M r ?_ ?_ ?_ ?_ ?_ ?_ d)
  · intro l; pointwise; rw [h0, m0]
  · intro l; pointwise; rw [h1, m0, m1, hl, selLane]
  · intro l; pointwise; rw [h2, m1]
  · intro l; pointwise; rw [h3, m2]
  · intro l; pointwise; rw [h4, m2, m3, hl, selLane]
  · intro l; pointwise; rw [h5, m3]

/-- The weighted sum of the values of a head's window. -/
theorem pay26_val (v26 : IVec S1x128 1) (v101 v151 : FVec Ideal S768x256 .bf16) (c0 c1 c2 c3 c4 c5 v187 v192 v197 : FVec Ideal S256x128 .f32) (v199 : FVec Ideal S256x1 .f32) (s0 s1 s2 s3 : Vec Ideal S1x256x128 .f32) (hl : ∀ l : Fin 128, v26 (ix2 0 l) = if l.val < 64 then 1#1 else 0#1) (S : Fin 768 → EReal) (M : Fin 4 → EReal) (V : Fin 192 → Fin 256 → EReal) (r : Fin 256)
    (h0 : ∀ l : Fin 128, c0 (ix2 r l) = S ⟨l.val, by omega⟩) (h1 : ∀ l : Fin 128, c1 (ix2 r l) = S ⟨128 + l.val, by omega⟩)
    (h2 : ∀ l : Fin 128, c2 (ix2 r l) = S ⟨256 + l.val, by omega⟩) (h3 : ∀ l : Fin 128, c3 (ix2 r l) = S ⟨384 + l.val, by omega⟩)
    (h4 : ∀ l : Fin 128, c4 (ix2 r l) = S ⟨512 + l.val, by omega⟩) (h5 : ∀ l : Fin 128, c5 (ix2 r l) = S ⟨640 + l.val, by omega⟩)
    (m0 : ∀ l : Fin 128, k0_pay22 (F := Ideal) v199 s0 (ix2 r l) = M 0) (m1 : ∀ l : Fin 128, k0_pay23 (F := Ideal) v187 s1 (ix2 r l) = M 1)
    (m2 : ∀ l : Fin 128, k0_pay24 (F := Ideal) v192 s2 (ix2 r l) = M 2) (m3 : ∀ l : Fin 128, k0_pay25 (F := Ideal) v197 s3 (ix2 r l) = M 3)
    (hv : ∀ (c : Fin 768) (d : Fin 256), v151 (ix2 c d) = if d.val / 64 = c.val / 192 then V ⟨c.val % 192, by omega⟩ d else (0 : EReal))
    (ho : ∀ (c : Fin 768) (d : Fin 256), v101 (ix2 c d) = if d.val / 64 = c.val / 192 then (1 : EReal) else 0) (c : Fin 256) :
    k0_pay26 (F := Ideal) v26 v101 v151 c0 c1 c2 c3 c4 c5 v187 v192 v197 v199 s0 s1 s2 s3 (ix2 r ⟨c.val, by omega⟩)
      = ∑ k : Fin 192, Ideal.exp (S ⟨192 * (c.val / 64) + k.val, by omega⟩ - M ⟨c.val / 64, by omega⟩) * V k c := by
  rw [pay26_apply v26 v101 v151 c0 c1 c2 c3 c4 c5 v187 v192 v197 v199 s0 s1 s2 s3 hl S M V r h0 h1 h2 h3 h4 h5 m0 m1 m2 m3]
  rw [sum_seg _ ⟨c.val / 64, by omega⟩ fun x hx => by rw [dif_pos c.isLt, hv, if_neg (fun e => hx e.symm), mul_zero]]
  refine Finset.sum_congr rfl fun k _ => ?_
  rw [dif_pos c.isLt, hv, if_pos (show c.val / 64 = (192 * (c.val / 64) + k.val) / 192 by omega)]
  refine congrArg₂ (fun a b => Ideal.exp (S ⟨192 * (c.val / 64) + k.val, by omega⟩ - a) * b) (congrArg M (Fin.ext ?_)) (congrArg (V · c) (Fin.ext ?_))
  · show (192 * (c.val / 64) + k.val) / 192 = c.val / 64; omega
  · show (192 * (c.val / 64) + k.val) % 192 = k.val; omega

/-- The total of the weights of a head's window. -/
theorem pay26_one (v26 : IVec S1x128 1) (v101 v151 : FVec Ideal S768x256 .bf16) (c0 c1 c2 c3 c4 c5 v187 v192 v197 : FVec Ideal S256x128 .f32) (v199 : FVec Ideal S256x1 .f32) (s0 s1 s2 s3 : Vec Ideal S1x256x128 .f32) (hl : ∀ l : Fin 128, v26 (ix2 0 l) = if l.val < 64 then 1#1 else 0#1) (S : Fin 768 → EReal) (M : Fin 4 → EReal) (V : Fin 192 → Fin 256 → EReal) (r : Fin 256)
    (h0 : ∀ l : Fin 128, c0 (ix2 r l) = S ⟨l.val, by omega⟩) (h1 : ∀ l : Fin 128, c1 (ix2 r l) = S ⟨128 + l.val, by omega⟩)
    (h2 : ∀ l : Fin 128, c2 (ix2 r l) = S ⟨256 + l.val, by omega⟩) (h3 : ∀ l : Fin 128, c3 (ix2 r l) = S ⟨384 + l.val, by omega⟩)
    (h4 : ∀ l : Fin 128, c4 (ix2 r l) = S ⟨512 + l.val, by omega⟩) (h5 : ∀ l : Fin 128, c5 (ix2 r l) = S ⟨640 + l.val, by omega⟩)
    (m0 : ∀ l : Fin 128, k0_pay22 (F := Ideal) v199 s0 (ix2 r l) = M 0) (m1 : ∀ l : Fin 128, k0_pay23 (F := Ideal) v187 s1 (ix2 r l) = M 1)
    (m2 : ∀ l : Fin 128, k0_pay24 (F := Ideal) v192 s2 (ix2 r l) = M 2) (m3 : ∀ l : Fin 128, k0_pay25 (F := Ideal) v197 s3 (ix2 r l) = M 3)
    (hv : ∀ (c : Fin 768) (d : Fin 256), v151 (ix2 c d) = if d.val / 64 = c.val / 192 then V ⟨c.val % 192, by omega⟩ d else (0 : EReal))
    (ho : ∀ (c : Fin 768) (d : Fin 256), v101 (ix2 c d) = if d.val / 64 = c.val / 192 then (1 : EReal) else 0) (c : Fin 256) :
    k0_pay26 (F := Ideal) v26 v101 v151 c0 c1 c2 c3 c4 c5 v187 v192 v197 v199 s0 s1 s2 s3 (ix2 r ⟨256 + c.val, by omega⟩)
      = ∑ k : Fin 192, Ideal.exp (S ⟨192 * (c.val / 64) + k.val, by omega⟩ - M ⟨c.val / 64, by omega⟩) := by
  rw [pay26_apply v26 v101 v151 c0 c1 c2 c3 c4 c5 v187 v192 v197 v199 s0 s1 s2 s3 hl S M V r h0 h1 h2 h3 h4 h5 m0 m1 m2 m3]
  have e0 : ∀ x : Fin 768, (if h : 256 + c.val < 256 then v151 (ix2 x ⟨256 + c.val, h⟩) else v101 (ix2 x ⟨256 + c.val - 256, by omega⟩)) = if c.val / 64 = x.val / 192 then (1 : EReal) else 0 :=
    fun x => (dif_neg (by omega)).trans ((congrArg (fun i => v101 (ix2 x i)) (Fin.ext (by dsimp only; omega))).trans (ho x c))
  simp only [e0]
  rw [sum_seg _ ⟨c.val / 64, by omega⟩ fun x hx => by rw [if_neg (fun e => hx e.symm), mul_zero]]
  refine Finset.sum_congr rfl fun k _ => ?_
  rw [if_pos (show c.val / 64 = (192 * (c.val / 64) + k.val) / 192 by omega), mul_one]
  exact congrArg (fun a => Ideal.exp (S ⟨192 * (c.val / 64) + k.val, by omega⟩ - a)) (congrArg M (Fin.ext (by show (192 * (c.val / 64) + k.val) / 192 = c.val / 64; omega)))

/-- A chunk's result before the gate: the weighted sum over the weights' total and the sink's weight. -/
theorem pay27_apply (v26 : IVec S1x128 1) (a0 a1 a2 a3 : FVec Ideal S256x128 .f32) (w : FVec Ideal S256x512 .f32) (s0 s1 s2 s3 : Vec Ideal S1x256x128 .f32) (hl : ∀ l : Fin 128, v26 (ix2 0 l) = if l.val < 64 then 1#1 else 0#1)
    (M σ : Fin 4 → EReal) (r : Fin 256) (m0 : ∀ l : Fin 128, a0 (ix2 r l) = M 0) (m1 : ∀ l : Fin 128, a1 (ix2 r l) = M 1)
    (m2 : ∀ l : Fin 128, a2 (ix2 r l) = M 2) (m3 : ∀ l : Fin 128, a3 (ix2 r l) = M 3)
    (t0 : ∀ l : Fin 128, s0 (ix3 0 r l) = σ 0) (t1 : ∀ l : Fin 128, s1 (ix3 0 r l) = σ 1)
    (t2 : ∀ l : Fin 128, s2 (ix3 0 r l) = σ 2) (t3 : ∀ l : Fin 128, s3 (ix3 0 r l) = σ 3) (c : Fin 256) :
    k0_pay27 (F := Ideal) v26 a0 a1 a2 a3 w s0 s1 s2 s3 (ix2 r c)
      = Ideal.div (w (ix2 r ⟨c.val, by omega⟩)) (w (ix2 r ⟨256 + c.val, by omega⟩) + Ideal.exp (σ ⟨c.val / 64, by omega⟩ - M ⟨c.val / 64, by omega⟩)) := by
  have e : ∀ g h : Fin 4, g = h → Ideal.exp (σ g - M g) = Ideal.exp (σ h - M h) := fun g h e => by rw [e]
  have q : (if h : c.val < 128 then if c.val < 64 then Ideal.exp (σ 0 - M 0) else Ideal.exp (σ 1 - M 1)
      else if c.val - 128 < 64 then Ideal.exp (σ 2 - M 2) else Ideal.exp (σ 3 - M 3)) = Ideal.exp (σ ⟨c.val / 64, by omega⟩ - M ⟨c.val / 64, by omega⟩) := by
    split_ifs <;> exact e _ _ (Fin.ext (by simp only [Fin.val_zero, Fin.val_one, Fin.val_two, show ((3 : Fin 4) : Nat) = 3 from rfl]; omega))
  rw [← q]
  pointwise [k0_pay27]
  simp only [m0, m1, m2, m3, t0, t1, t2, t3, hl, selLane]
end Cert.AttnIdeal.Hand
-- ==== Proof.AttnCore.lean ====
/- The windowed attention: a chunk of 64 queries of four heads, stacked, from its window's keys and values. -/
module

public import proofs.«01_k».proof.Defs
public import proofs.«01_k».proof.Proof.AttnChunk

@[expose] public section

set_option maxRecDepth 16384

noncomputable section

open Idealize.ShloMosaic Idealize.ShloMosaic.TcCoe Idealize.SL.Sem
open Idealize.ShloMosaic.Pipeline (Dat)

namespace Cert.AttnIdeal.Hand
open Cert.AttnIdeal Cert.AttnIdeal.Gen

/-- One query's attention: the weighted sum of the values over the total weight, the sink's weight in the total alone. -/
def att (S V : Fin 192 → EReal) (σ : EReal) : EReal :=
  Ideal.div (∑ k, Ideal.exp (S k - max (Finset.univ.sup S) σ) * V k) (∑ k, Ideal.exp (S k - max (Finset.univ.sup S) σ) + Ideal.exp (σ - max (Finset.univ.sup S) σ))

/-- A head's greatest score or its sink. -/
def top (S : Fin 768 → EReal) (σ : Fin 4 → EReal) (g : Fin 4) : EReal :=
  max (Finset.univ.sup fun k : Fin 192 => S ⟨192 * g.val + k.val, by omega⟩) (σ g)

/-- A chunk's stacked result before the gate. -/
abbrev stack (arg1 : BitVec 32) (v26 : IVec S1x128 1) (v51 : IVec S1x256 32) (v68 : IVec S1x768 32) (v76 : FVec Ideal S192x256 .bf16) (cst : Ideal .f32) (a12 : BitVec 32) (KW VW : Vec Ideal S192x256 .bf16) (q0 q1 q2 q3 : Vec Ideal S64x256 .bf16) (s0 s1 s2 s3 : Vec Ideal S1x256x128 .f32) : FVec Ideal S256x256 .f32 :=
  k0_pay27 v26 (k0_pay22 (k0_pay21 arg1 v26 v68 cst a12 (k0_pay5 v51 KW) q0 q1 q2 q3) s0) (k0_pay23 (k0_pay18 arg1 v26 v68 cst a12 (k0_pay5 v51 KW) q0 q1 q2 q3) s1) (k0_pay24 (k0_pay19 arg1 v26 v68 cst a12 (k0_pay5 v51 KW) q0 q1 q2 q3) s2) (k0_pay25 (k0_pay20 arg1 v26 v68 cst a12 (k0_pay5 v51 KW) q0 q1 q2 q3) s3) (k0_pay26 v26 (k0_pay1 v51 v76 1#32) (k0_pay10 VW k0_pay4 (k0_pay6 v51 VW) (k0_pay7 v51 VW) (k0_pay8 v51 VW) (k0_pay9 v51)) (k0_pay12 arg1 v68 cst a12 (k0_pay5 v51 KW) q0 q1 q2 q3) (k0_pay13 arg1 v68 cst a12 (k0_pay5 v51 KW) q0 q1 q2 q3) (k0_pay14 arg1 v68 cst a12 (k0_pay5 v51 KW) q0 q1 q2 q3) (k0_pay15 arg1 v68 cst a12 (k0_pay5 v51 KW) q0 q1 q2 q3) (k0_pay16 arg1 v68 cst a12 (k0_pay5 v51 KW) q0 q1 q2 q3) (k0_pay17 arg1 v68 cst a12 (k0_pay5 v51 KW) q0 q1 q2 q3) (k0_pay18 arg1 v26 v68 cst a12 (k0_pay5 v51 KW) q0 q1 q2 q3) (k0_pay19 arg1 v26 v68 cst a12 (k0_pay5 v51 KW) q0 q1 q2 q3) (k0_pay20 arg1 v26 v68 cst a12 (k0_pay5 v51 KW) q0 q1 q2 q3) (k0_pay21 arg1 v26 v68 cst a12 (k0_pay5 v51 KW) q0 q1 q2 q3) s0 s1 s2 s3) s0 s1 s2 s3

theorem pay12_apply (arg1 : BitVec 32) (v68 : IVec S1x768 32) (cst : Ideal .f32) (a12 : BitVec 32) (v130 : FVec Ideal S768x256 .bf16) (q0 q1 q2 q3 : Vec Ideal S64x256 .bf16) (r : Fin 256) (l : Fin 128) :
    k0_pay12 (F := Ideal) arg1 v68 cst a12 v130 q0 q1 q2 q3 (ix2 r l) = k0_pay11 (F := Ideal) arg1 v68 cst a12 v130 q0 q1 q2 q3 (ix2 r ⟨l.val, by omega⟩) := by
  pointwise [k0_pay12]

theorem pay13_apply (arg1 : BitVec 32) (v68 : IVec S1x768 32) (cst : Ideal .f32) (a12 : BitVec 32) (v130 : FVec Ideal S768x256 .bf16) (q0 q1 q2 q3 : Vec Ideal S64x256 .bf16) (r : Fin 256) (l : Fin 128) :
    k0_pay13 (F := Ideal) arg1 v68 cst a12 v130 q0 q1 q2 q3 (ix2 r l) = k0_pay11 (F := Ideal) arg1 v68 cst a12 v130 q0 q1 q2 q3 (ix2 r ⟨128 + l.val, by omega⟩) := by
  pointwise [k0_pay13]

theorem pay14_apply (arg1 : BitVec 32) (v68 : IVec S1x768 32) (cst : Ideal .f32) (a12 : BitVec 32) (v130 : FVec Ideal S768x256 .bf16) (q0 q1 q2 q3 : Vec Ideal S64x256 .bf16) (r : Fin 256) (l : Fin 128) :
    k0_pay14 (F := Ideal) arg1 v68 cst a12 v130 q0 q1 q2 q3 (ix2 r l) = k0_pay11 (F := Ideal) arg1 v68 cst a12 v130 q0 q1 q2 q3 (ix2 r ⟨256 + l.val, by omega⟩) := by
  pointwise [k0_pay14]

theorem pay15_apply (arg1 : BitVec 32) (v68 : IVec S1x768 32) (cst : Ideal .f32) (a12 : BitVec 32) (v130 : FVec Ideal S768x256 .bf16) (q0 q1 q2 q3 : Vec Ideal S64x256 .bf16) (r : Fin 256) (l : Fin 128) :
    k0_pay15 (F := Ideal) arg1 v68 cst a12 v130 q0 q1 q2 q3 (ix2 r l) = k0_pay11 (F := Ideal) arg1 v68 cst a12 v130 q0 q1 q2 q3 (ix2 r ⟨384 + l.val, by omega⟩) := by
  pointwise [k0_pay15]

theorem pay16_apply (arg1 : BitVec 32) (v68 : IVec S1x768 32) (cst : Ideal .f32) (a12 : BitVec 32) (v130 : FVec Ideal S768x256 .bf16) (q0 q1 q2 q3 : Vec Ideal S64x256 .bf16) (r : Fin 256) (l : Fin 128) :
    k0_pay16 (F := Ideal) arg1 v68 cst a12 v130 q0 q1 q2 q3 (ix2 r l) = k0_pay11 (F := Ideal) arg1 v68 cst a12 v130 q0 q1 q2 q3 (ix2 r ⟨512 + l.val, by omega⟩) := by
  pointwise [k0_pay16]

theorem pay17_apply (arg1 : BitVec 32) (v68 : IVec S1x768 32) (cst : Ideal .f32) (a12 : BitVec 32) (v130 : FVec Ideal S768x256 .bf16) (q0 q1 q2 q3 : Vec Ideal S64x256 .bf16) (r : Fin 256) (l : Fin 128) :
    k0_pay17 (F := Ideal) arg1 v68 cst a12 v130 q0 q1 q2 q3 (ix2 r l) = k0_pay11 (F := Ideal) arg1 v68 cst a12 v130 q0 q1 q2 q3 (ix2 r ⟨640 + l.val, by omega⟩) := by
  pointwise [k0_pay17]

/-- The stacked result, from the chunk's scores. -/
theorem stack_scores (arg1 : BitVec 32) (v26 : IVec S1x128 1) (v51 : IVec S1x256 32) (v68 : IVec S1x768 32) (v76 : FVec Ideal S192x256 .bf16) (cst : Ideal .f32) (a12 : BitVec 32) (KW VW : Vec Ideal S192x256 .bf16) (q0 q1 q2 q3 : Vec Ideal S64x256 .bf16) (s0 s1 s2 s3 : Vec Ideal S1x256x128 .f32)
    (hl : ∀ l : Fin 128, v26 (ix2 0 l) = if l.val < 64 then 1#1 else 0#1) (hg : ∀ d : Fin 256, v51 (ix2 0 d) = BitVec.ofNat 32 (d.val / 64))
    (hw : ∀ (k : Fin 192) (d : Fin 256), v76 (ix2 k d) = if d.val / 64 = 0 then (1 : EReal) else 0) (hc : cst = (⊥ : EReal)) (r : Fin 256) (S : Fin 768 → EReal) (σ : Fin 4 → EReal)
    (hS : ∀ c : Fin 768, k0_pay11 (F := Ideal) arg1 v68 cst a12 (k0_pay5 v51 KW) q0 q1 q2 q3 (ix2 r c) = S c)
    (t0 : ∀ l : Fin 128, s0 (ix3 0 r l) = σ 0) (t1 : ∀ l : Fin 128, s1 (ix3 0 r l) = σ 1)
    (t2 : ∀ l : Fin 128, s2 (ix3 0 r l) = σ 2) (t3 : ∀ l : Fin 128, s3 (ix3 0 r l) = σ 3) (c : Fin 256) :
    stack arg1 v26 v51 v68 v76 cst a12 KW VW q0 q1 q2 q3 s0 s1 s2 s3 (ix2 r c) = att (fun k => S ⟨192 * (c.val / 64) + k.val, by omega⟩) (fun k => VW (ix2 k c)) (σ ⟨c.val / 64, by omega⟩) := by
  have m0 : ∀ l : Fin 128, k0_pay22 (F := Ideal) (k0_pay21 arg1 v26 v68 cst a12 (k0_pay5 v51 KW) q0 q1 q2 q3) s0 (ix2 r l)
      = top S σ 0 := fun l => by
    rw [pay22_apply, pay21_apply _ _ _ _ _ _ _ _ _ _ S r 0 hl hS hc, t0]; rfl
  have m1 : ∀ l : Fin 128, k0_pay23 (F := Ideal) (k0_pay18 arg1 v26 v68 cst a12 (k0_pay5 v51 KW) q0 q1 q2 q3) s1 (ix2 r l)
      = top S σ 1 := fun l => by
    rw [pay23_apply _ _ _ _ _ _ _ _ _ _ S r l s1 hl hS hc, t1]; rfl
  have m2 : ∀ l : Fin 128, k0_pay24 (F := Ideal) (k0_pay19 arg1 v26 v68 cst a12 (k0_pay5 v51 KW) q0 q1 q2 q3) s2 (ix2 r l)
      = top S σ 2 := fun l => by
    rw [pay24_apply _ _ _ _ _ _ _ _ _ _ S r l s2 hl hS hc, t2]; rfl
  have m3 : ∀ l : Fin 128, k0_pay25 (F := Ideal) (k0_pay20 arg1 v26 v68 cst a12 (k0_pay5 v51 KW) q0 q1 q2 q3) s3 (ix2 r l)
      = top S σ 3 := fun l => by
    rw [pay25_apply _ _ _ _ _ _ _ _ _ _ S r l s3 hl hS hc, t3]; rfl
  have hp := fun l : Fin 128 => (pay12_apply arg1 v68 cst a12 (k0_pay5 v51 KW) q0 q1 q2 q3 r l).trans (hS _)
  have hq := fun l : Fin 128 => (pay13_apply arg1 v68 cst a12 (k0_pay5 v51 KW) q0 q1 q2 q3 r l).trans (hS _)
  have hr := fun l : Fin 128 => (pay14_apply arg1 v68 cst a12 (k0_pay5 v51 KW) q0 q1 q2 q3 r l).trans (hS _)
  have hs := fun l : Fin 128 => (pay15_apply arg1 v68 cst a12 (k0_pay5 v51 KW) q0 q1 q2 q3 r l).trans (hS _)
  have ht := fun l : Fin 128 => (pay16_apply arg1 v68 cst a12 (k0_pay5 v51 KW) q0 q1 q2 q3 r l).trans (hS _)
  have hu := fun l : Fin 128 => (pay17_apply arg1 v68 cst a12 (k0_pay5 v51 KW) q0 q1 q2 q3 r l).trans (hS _)
  have hv := payV_apply v51 hg VW
  have ho := pay1_apply v51 hg v76 hw
  refine (pay27_apply v26 _ _ _ _ _ s0 s1 s2 s3 hl (top S σ) σ r m0 m1 m2 m3 t0 t1 t2 t3 c).trans ?_
  rw [pay26_val v26 _ _ _ _ _ _ _ _ _ _ _ _ s0 s1 s2 s3 hl S (top S σ) (fun k d => VW (ix2 k d)) r hp hq hr hs ht hu m0 m1 m2 m3 hv ho c,
    pay26_one v26 _ _ _ _ _ _ _ _ _ _ _ _ s0 s1 s2 s3 hl S (top S σ) (fun k d => VW (ix2 k d)) r hp hq hr hs ht hu m0 m1 m2 m3 hv ho c]
  rfl

/-- The stacked result, from the queries, the window and the sinks. -/
theorem stack_apply (arg1 : BitVec 32) (v26 : IVec S1x128 1) (v51 : IVec S1x256 32) (v68 : IVec S1x768 32) (v76 : FVec Ideal S192x256 .bf16) (cst : Ideal .f32) (a12 : BitVec 32) (KW VW : Vec Ideal S192x256 .bf16) (q0 q1 q2 q3 : Vec Ideal S64x256 .bf16) (s0 s1 s2 s3 : Vec Ideal S1x256x128 .f32)
    (hl : ∀ l : Fin 128, v26 (ix2 0 l) = if l.val < 64 then 1#1 else 0#1) (hg : ∀ d : Fin 256, v51 (ix2 0 d) = BitVec.ofNat 32 (d.val / 64))
    (hw : ∀ (k : Fin 192) (d : Fin 256), v76 (ix2 k d) = if d.val / 64 = 0 then (1 : EReal) else 0) (hc : cst = (⊥ : EReal)) (r : Fin 256) (σ : Fin 4 → EReal) (Q : Fin 256 → EReal) (ok : Fin 192 → Prop) [DecidablePred ok]
    (hQ : ∀ x : Fin 256, (if h : r.val < 64 then q0 (ix2 ⟨r.val, h⟩ x) else if h : r.val - 64 < 64 then q1 (ix2 ⟨r.val - 64, h⟩ x)
      else if h : r.val - 64 - 64 < 64 then q2 (ix2 ⟨r.val - 64 - 64, h⟩ x) else q3 (ix2 ⟨r.val - 64 - 64 - 64, by omega⟩ x)) = Q x)
    (hm : ∀ c : Fin 768, IntOp.cmpi .sge (v68 (ix2 0 c)) (Scalar.muli (Scalar.subi 2#32 (Scalar.addi (Scalar.muli arg1 8#32) a12)) 64#32)
      = BitVec.ofBool (decide (ok ⟨c.val % 192, by omega⟩)))
    (t0 : ∀ l : Fin 128, s0 (ix3 0 r l) = σ 0) (t1 : ∀ l : Fin 128, s1 (ix3 0 r l) = σ 1)
    (t2 : ∀ l : Fin 128, s2 (ix3 0 r l) = σ 2) (t3 : ∀ l : Fin 128, s3 (ix3 0 r l) = σ 3) (c : Fin 256) :
    stack arg1 v26 v51 v68 v76 cst a12 KW VW q0 q1 q2 q3 s0 s1 s2 s3 (ix2 r c)
      = att (fun k => if ok k then ∑ e : Fin 64, Q ⟨c.val / 64 * 64 + e.val, by omega⟩ * KW (ix2 k ⟨c.val / 64 * 64 + e.val, by omega⟩) else ⊥)
        (fun k => VW (ix2 k c)) (σ ⟨c.val / 64, by omega⟩) := by
  rw [stack_scores arg1 v26 v51 v68 v76 cst a12 KW VW q0 q1 q2 q3 s0 s1 s2 s3 hl hg hw hc r _ σ
    (pay11_apply arg1 v68 cst a12 (k0_pay5 v51 KW) q0 q1 q2 q3 (fun k d => KW (ix2 k d)) Q ok r (pay5_apply v51 hg KW) hQ hm) t0 t1 t2 t3 c, hc]
  refine congrArg (fun S => att S (fun k => VW (ix2 k c)) (σ ⟨c.val / 64, by omega⟩)) (funext fun k => ?_)
  have e1 : (192 * (c.val / 64) + k.val) / 192 = c.val / 64 := by omega
  have e2 : (⟨(192 * (c.val / 64) + k.val) % 192, by omega⟩ : Fin 192) = k := Fin.ext (by dsimp only; omega)
  simp only [e1, e2]

theorem pay28_apply (v26 : IVec S1x128 1) (a0 a1 a2 a3 : FVec Ideal S256x128 .f32) (w : FVec Ideal S256x512 .f32) (s0 s1 s2 s3 : Vec Ideal S1x256x128 .f32) (g : Vec Ideal S64x256 .bf16) (q : Fin 64) (c : Fin 256) :
    k0_pay28 (F := Ideal) v26 a0 a1 a2 a3 w s0 s1 s2 s3 g (ix2 q c) = k0_pay27 (F := Ideal) v26 a0 a1 a2 a3 w s0 s1 s2 s3 (ix2 ⟨64 * (0 : Fin 4).val + q.val, by simp; omega⟩ c) * g (ix2 q c) := by
  have e : (⟨64 * (0 : Fin 4).val + q.val, by simp; omega⟩ : Fin 256) = ⟨q.val, by omega⟩ := Fin.ext (by simp)
  rw [e]
  pointwise [k0_pay28]

theorem pay29_apply (v26 : IVec S1x128 1) (a0 a1 a2 a3 : FVec Ideal S256x128 .f32) (w : FVec Ideal S256x512 .f32) (s0 s1 s2 s3 : Vec Ideal S1x256x128 .f32) (g : Vec Ideal S64x256 .bf16) (q : Fin 64) (c : Fin 256) :
    k0_pay29 (F := Ideal) v26 a0 a1 a2 a3 w s0 s1 s2 s3 g (ix2 q c) = k0_pay27 (F := Ideal) v26 a0 a1 a2 a3 w s0 s1 s2 s3 (ix2 ⟨64 + q.val, by omega⟩ c) * g (ix2 q c) := by
  pointwise [k0_pay29]

theorem pay2_apply (v : FVec Ideal S256x256 .f32) (g : Vec Ideal S64x256 .bf16) (q : Fin 64) (c : Fin 256) :
    k0_pay2 (F := Ideal) v g (ix2 q c) = v (ix2 ⟨128 + q.val, by omega⟩ c) * g (ix2 q c) := by
  pointwise [k0_pay2]

theorem pay3_apply (v : FVec Ideal S256x256 .f32) (g : Vec Ideal S64x256 .bf16) (q : Fin 64) (c : Fin 256) :
    k0_pay3 (F := Ideal) v g (ix2 q c) = v (ix2 ⟨192 + q.val, by omega⟩ c) * g (ix2 q c) := by
  pointwise [k0_pay3]
end Cert.AttnIdeal.Hand
-- ==== Proof.AttnPiece.lean ====
/- The windowed attention: a block of 512 queries from its inputs, and a chunk's pieces as parts of it. -/
module

public import proofs.«01_k».proof.Defs
public import proofs.«01_k».proof.Proof.AttnCore

@[expose] public section

set_option maxRecDepth 16384

noncomputable section

open Idealize.ShloMosaic Idealize.ShloMosaic.TcCoe Idealize.SL.Sem
open Idealize.ShloMosaic.Pipeline (Dat)

namespace Cert.AttnIdeal.Hand
open Cert.AttnIdeal Cert.AttnIdeal.Gen

/-- What block `i` of a sequence leaves in its row `p` and column `C`, from the queries, the keys and values (128 rows before
    the block, then the block's), the gates and the sinks. -/
def blockOut (i : Fin 8) (B2 : S512x1024.Idx → EReal) (BK BV : S640x256.Idx → EReal) (B7 : S512x1024.Idx → EReal) (σ : Fin 4 → Fin 4 → EReal) (p : Fin 512) (C : Fin 1024) : EReal :=
  att (fun k => if 128 ≤ (i.val * 8 + p.val / 64) * 64 + k.val then
      ∑ e : Fin 64, B2 (ix2 p ⟨C.val / 64 * 64 + e.val, by omega⟩) * BK (ix2 ⟨p.val / 64 * 64 + k.val, by omega⟩ ⟨C.val % 256 / 64 * 64 + e.val, by omega⟩) else ⊥)
    (fun k => BV (ix2 ⟨p.val / 64 * 64 + k.val, by omega⟩ ⟨C.val % 256, by omega⟩)) (σ ⟨C.val % 256 / 64, by omega⟩ ⟨C.val / 256, by omega⟩)
  * B7 (ix2 p C)

/-- The kernel's test of a key is whether its row is not before the sequence's start. -/
theorem test (i j : Fin 8) (k : Fin 192) : IntOp.cmpi .sge (BitVec.ofNat 32 k.val)
      (Scalar.muli (Scalar.subi 2#32 (Scalar.addi (Scalar.muli (BitVec.ofNat 32 i.val) 8#32) (BitVec.ofNat 32 j.val))) 64#32)
    = BitVec.ofBool (decide (128 ≤ (i.val * 8 + j.val) * 64 + k.val)) := by
  revert i j k; decide +kernel

/-- A chunk's stacked result with the gate is its part of the block. -/
theorem piece (arg1 : BitVec 32) (v26 : IVec S1x128 1) (v51 : IVec S1x256 32) (v68 : IVec S1x768 32) (v76 : FVec Ideal S192x256 .bf16) (cst : Ideal .f32) (a12 : BitVec 32) (KW VW : Vec Ideal S192x256 .bf16) (q0 q1 q2 q3 : Vec Ideal S64x256 .bf16) (s0 s1 s2 s3 : Vec Ideal S1x256x128 .f32)
    (hl : ∀ l : Fin 128, v26 (ix2 0 l) = if l.val < 64 then 1#1 else 0#1) (hg : ∀ d : Fin 256, v51 (ix2 0 d) = BitVec.ofNat 32 (d.val / 64))
    (hw : ∀ (k : Fin 192) (d : Fin 256), v76 (ix2 k d) = if d.val / 64 = 0 then (1 : EReal) else 0) (hc : cst = (⊥ : EReal)) (i j : Fin 8) (h1 : arg1 = BitVec.ofNat 32 i.val) (h12 : a12 = BitVec.ofNat 32 j.val) (hk : ∀ c : Fin 768, v68 (ix2 0 c) = BitVec.ofNat 32 (c.val % 192))
    (B2 : S512x1024.Idx → EReal) (BK BV : S640x256.Idx → EReal) (B7 : S512x1024.Idx → EReal) (σ : Fin 4 → Fin 4 → EReal) (g : Vec Ideal S64x256 .bf16) (ρ : Fin 4)
    (hq0 : ∀ (q : Fin 64) (c : Fin 256), q0 (ix2 q c) = B2 (ix2 ⟨64 * j.val + q.val, by omega⟩ ⟨c.val, by omega⟩))
    (hq1 : ∀ (q : Fin 64) (c : Fin 256), q1 (ix2 q c) = B2 (ix2 ⟨64 * j.val + q.val, by omega⟩ ⟨256 + c.val, by omega⟩))
    (hq2 : ∀ (q : Fin 64) (c : Fin 256), q2 (ix2 q c) = B2 (ix2 ⟨64 * j.val + q.val, by omega⟩ ⟨512 + c.val, by omega⟩))
    (hq3 : ∀ (q : Fin 64) (c : Fin 256), q3 (ix2 q c) = B2 (ix2 ⟨64 * j.val + q.val, by omega⟩ ⟨768 + c.val, by omega⟩))
    (hK : ∀ (k : Fin 192) (d : Fin 256), KW (ix2 k d) = BK (ix2 ⟨64 * j.val + k.val, by omega⟩ d))
    (hV : ∀ (k : Fin 192) (d : Fin 256), VW (ix2 k d) = BV (ix2 ⟨64 * j.val + k.val, by omega⟩ d))
    (t0 : ∀ (r : Fin 256) (l : Fin 128), s0 (ix3 0 r l) = σ 0 ⟨r.val / 64, by omega⟩) (t1 : ∀ (r : Fin 256) (l : Fin 128), s1 (ix3 0 r l) = σ 1 ⟨r.val / 64, by omega⟩)
    (t2 : ∀ (r : Fin 256) (l : Fin 128), s2 (ix3 0 r l) = σ 2 ⟨r.val / 64, by omega⟩) (t3 : ∀ (r : Fin 256) (l : Fin 128), s3 (ix3 0 r l) = σ 3 ⟨r.val / 64, by omega⟩)
    (h7 : ∀ (q : Fin 64) (c : Fin 256), g (ix2 q c) = B7 (ix2 ⟨64 * j.val + q.val, by omega⟩ ⟨256 * ρ.val + c.val, by omega⟩)) (q : Fin 64) (c : Fin 256) :
    stack arg1 v26 v51 v68 v76 cst a12 KW VW q0 q1 q2 q3 s0 s1 s2 s3 (ix2 ⟨64 * ρ.val + q.val, by omega⟩ c) * g (ix2 q c)
      = blockOut i B2 BK BV B7 σ ⟨64 * j.val + q.val, by omega⟩ ⟨256 * ρ.val + c.val, by omega⟩ := by
  have eB : ∀ (p p' : Fin 512) (C C' : Fin 1024), p.val = p'.val → C.val = C'.val → B2 (ix2 p C) = B2 (ix2 p' C') := fun p p' C C' h h' => by
    rw [Fin.ext h, Fin.ext h']
  have eK : ∀ (p p' : Fin 640) (C C' : Fin 256), p.val = p'.val → C.val = C'.val → BK (ix2 p C) = BK (ix2 p' C') := fun p p' C C' h h' => by
    rw [Fin.ext h, Fin.ext h']
  have eV : ∀ (p p' : Fin 640) (C C' : Fin 256), p.val = p'.val → C.val = C'.val → BV (ix2 p C) = BV (ix2 p' C') := fun p p' C C' h h' => by
    rw [Fin.ext h, Fin.ext h']
  have es : ∀ (a b b' : Fin 4), b.val = b'.val → σ a b = σ a b' := fun a b b' h => by rw [Fin.ext h]
  have er : ∀ a : Fin 4, σ a ⟨(64 * ρ.val + q.val) / 64, by omega⟩ = σ a ρ := fun a => es a _ _ (by dsimp only; omega)
  rw [stack_apply arg1 v26 v51 v68 v76 cst a12 KW VW q0 q1 q2 q3 s0 s1 s2 s3 hl hg hw hc ⟨64 * ρ.val + q.val, by omega⟩ (fun a => σ a ρ)
    (fun x => B2 (ix2 ⟨64 * j.val + q.val, by omega⟩ ⟨256 * ρ.val + x.val, by omega⟩)) (fun k => 128 ≤ (i.val * 8 + j.val) * 64 + k.val)
    (fun x => by
      dsimp only
      simp only [hq0, hq1, hq2, hq3]
      split_ifs <;> exact eB _ _ _ _ (by dsimp only; omega) (by dsimp only; omega))
    (fun c => by rw [hk, h1, h12]; exact test i j ⟨c.val % 192, by omega⟩)
    (fun l => (t0 _ l).trans (er 0)) (fun l => (t1 _ l).trans (er 1)) (fun l => (t2 _ l).trans (er 2)) (fun l => (t3 _ l).trans (er 3)) c, h7]
  unfold blockOut
  refine congrArg (· * _) ?_
  have hS : ∀ S S' V V' σ σ', S = S' → V = V' → σ = σ' → att S V σ = att S' V' σ' := fun _ _ _ _ _ _ a b c => by rw [a, b, c]
  refine hS _ _ _ _ _ _ (funext fun k => ?_) (funext fun k => (hV k c).trans (eV _ _ _ _ (by dsimp only; omega) (by dsimp only; omega))) ?_
  · refine if_congr (by dsimp only; omega) (Finset.sum_congr rfl fun e _ => ?_) rfl
    rw [hK]
    exact congrArg₂ (· * ·) (eB _ _ _ _ rfl (by dsimp only; omega)) (eK _ _ _ _ (by dsimp only; omega) (by dsimp only; omega))
  · exact congrArg₂ σ (Fin.ext (by dsimp only; omega)) (Fin.ext (by dsimp only; omega))

/-- The index a load or store of 64 rows and 256 columns has in the block. -/
theorem embQ (o p : Nat) (inb : ∀ a, (![o, p] : Fin 2 → Nat) a + S64x256.size a ≤ S512x1024.size a) (q : Fin 64) (c : Fin 256) (R : Fin 512) (C : Fin 1024)
    (hR : R.val = o + q.val) (hC : C.val = p + c.val) : (Rect.unit (s := S512x1024) ![o, p] S64x256.size inb).emb (ix2 q c) = ix2 R C := by
  funext a
  apply Fin.ext
  rw [Rect.emb_apply]
  match a with
  | ⟨0, _⟩ => show o + 1 * q.val = R.val; omega
  | ⟨1, _⟩ => show p + 1 * c.val = C.val; omega

/-- The index a window's load has in the scratch. -/
theorem embW (o p : Nat) (inb : ∀ a, (![o, p] : Fin 2 → Nat) a + S192x256.size a ≤ S640x256.size a) (q : Fin 192) (c : Fin 256) (R : Fin 640) (C : Fin 256)
    (hR : R.val = o + q.val) (hC : C.val = p + c.val) : (Rect.unit (s := S640x256) ![o, p] S192x256.size inb).emb (ix2 q c) = ix2 R C := by
  funext a
  apply Fin.ext
  rw [Rect.emb_apply]
  match a with
  | ⟨0, _⟩ => show o + 1 * q.val = R.val; omega
  | ⟨1, _⟩ => show p + 1 * c.val = C.val; omega

/-- The index a head's sinks have in theirs. -/
theorem embS (o : Nat) (inb : ∀ a, (![o, 0, 0] : Fin 3 → Nat) a + S1x256x128.size a ≤ S4x256x128.size a) (r : Fin 256) (l : Fin 128) (g : Fin 4)
    (hg : g.val = o) : (Rect.unit (s := S4x256x128) ![o, 0, 0] S1x256x128.size inb).emb (ix3 0 r l) = ix3 g r l := by
  funext a
  apply Fin.ext
  rw [Rect.emb_apply]
  match a with
  | ⟨0, _⟩ => show o + 1 * 0 = g.val; omega
  | ⟨1, _⟩ => show 0 + 1 * r.val = r.val; omega
  | ⟨2, _⟩ => show 0 + 1 * l.val = l.val; omega

/-- The row a trip starts at. -/
theorem start (k : Fin 8) : BitVec.toNat (Scalar.indexCast (Scalar.muli (Scf.iv 0#32 1#32 k.val) 64#32)) = 64 * k.val := by
  revert k; decide +kernel

theorem trip_word (k : Fin 8) : Scf.iv 0#32 1#32 k.val = BitVec.ofNat 32 k.val := by
  revert k; decide +kernel
end Cert.AttnIdeal.Hand
-- ==== Proof.AttnTrip.lean ====
/- The windowed attention: what one trip of a block's loop writes. -/
module

public import proofs.«01_k».proof.Defs
public import proofs.«01_k».proof.Proof.AttnPiece
public import proofs.«01_k».proof.Proof.Gen.AttnIdeal.Loops
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnIdeal.Hand
open Cert.AttnIdeal Cert.AttnIdeal.Gen
open Idealize.ShloMosaic.Tactic

set_option maxHeartbeats 1000000 in
/-- Each store of a trip is a part of the block. -/
theorem trip_pieces (𝒱 : Variants) (c : Dev nD) (bd : Option 𝒱.V) (i : grid0.Coords) (arg2 : Memref sig .tc .vmem S512x1024 .bf16) (harg2 : arg2.IsWhole) (arg3 : Memref sig .tc .vmem S1x128x256 .f32) (harg3 : arg3.IsWhole) (arg4 : Memref sig .tc .vmem S1x512x256 .f32) (harg4 : arg4.IsWhole) (arg5 : Memref sig .tc .vmem S1x128x256 .f32) (harg5 : arg5.IsWhole) (arg6 : Memref sig .tc .vmem S1x512x256 .f32) (harg6 : arg6.IsWhole) (arg7 : Memref sig .tc .vmem S512x1024 .bf16) (harg7 : arg7.IsWhole) (arg8 : Memref sig .tc .vmem S4x256x128 .f32) (harg8 : arg8.IsWhole) (arg9 : Memref sig .tc .vmem S512x1024 .bf16) (harg9 : arg9.IsWhole) (arg10 : Memref sig .tc .vmem S640x256 .bf16) (harg10 : arg10.IsWhole) (arg11 : Memref sig .tc .vmem S640x256 .bf16) (harg11 : arg11.IsWhole) (arg1 : BitVec 32) (v26 : IVec S1x128 1) (v51 : IVec S1x256 32) (v68 : IVec S1x768 32) (v76 : FVec Ideal S192x256 .bf16)  (cst : Ideal .f32) (X_arg2 : BufTy.Contents (Elt Ideal) arg2.view.ty) (X_arg7 : BufTy.Contents (Elt Ideal) arg7.view.ty) (X_arg8 : BufTy.Contents (Elt Ideal) arg8.view.ty) (X_arg10 : BufTy.Contents (Elt Ideal) arg10.view.ty) (X_arg11 : BufTy.Contents (Elt Ideal) arg11.view.ty) (k : Fin k0_t1_loop.trips)
    (hl : ∀ l : Fin 128, v26 (ix2 0 l) = if l.val < 64 then 1#1 else 0#1) (hg : ∀ d : Fin 256, v51 (ix2 0 d) = BitVec.ofNat 32 (d.val / 64))
    (hw : ∀ (k : Fin 192) (d : Fin 256), v76 (ix2 k d) = if d.val / 64 = 0 then (1 : EReal) else 0) (hc : cst = (⊥ : EReal))
    (i8 : Fin 8) (h1 : arg1 = BitVec.ofNat 32 i8.val) (h68 : ∀ c : Fin 768, v68 (ix2 0 c) = BitVec.ofNat 32 (c.val % 192)) (σ : Fin 4 → Fin 4 → EReal)
    (hσ : ∀ (g : Fin 4) (r : Fin 256) (l : Fin 128), (View.read (Elt Ideal) arg8.view X_arg8) (ix3 g r l) = σ g ⟨r.val / 64, by omega⟩) :
    View.PiecesOf (fun y => blockOut i8 (View.read (Elt Ideal) arg2.view X_arg2) (View.read (Elt Ideal) arg10.view X_arg10) (View.read (Elt Ideal) arg11.view X_arg11) (View.read (Elt Ideal) arg7.view X_arg7) σ (y 0) (y 1)) (tripL_k0_t1 (F := Ideal) 𝒱 c bd i arg2 harg2 arg3 harg3 arg4 harg4 arg5 harg5 arg6 harg6 arg7 harg7 arg8 harg8 arg9 harg9 arg10 harg10 arg11 harg11 arg1 v26 v51 v68 v76 1#32 cst X_arg2 X_arg7 X_arg8 X_arg10 X_arg11 k) := by
  have hk : k.val < 8 := Nat.lt_of_lt_of_le k.isLt k0_t1_abs.2.1
  have e := start ⟨k.val, hk⟩
  have ld2 : ∀ (o p : Nat) (inb) (_ : o = 64 * k.val) (q : Fin 64) (c : Fin 256) (C : Fin 1024) (_ : C.val = p + c.val),
      View.readAt (Elt Ideal) arg2.view (Rect.unit (s := S512x1024) ![o, p] S64x256.size inb).toLoadRect X_arg2 (ix2 q c) = (View.read (Elt Ideal) arg2.view X_arg2) (ix2 ⟨64 * k.val + q.val, by omega⟩ C) :=
    fun o p inb ho q c C hC => congrArg (View.read (Elt Ideal) arg2.view X_arg2) (embQ o p inb q c _ C (by dsimp only; omega) hC)
  have ld7 : ∀ (o p : Nat) (inb) (_ : o = 64 * k.val) (q : Fin 64) (c : Fin 256) (C : Fin 1024) (_ : C.val = p + c.val),
      View.readAt (Elt Ideal) arg7.view (Rect.unit (s := S512x1024) ![o, p] S64x256.size inb).toLoadRect X_arg7 (ix2 q c) = (View.read (Elt Ideal) arg7.view X_arg7) (ix2 ⟨64 * k.val + q.val, by omega⟩ C) :=
    fun o p inb ho q c C hC => congrArg (View.read (Elt Ideal) arg7.view X_arg7) (embQ o p inb q c _ C (by dsimp only; omega) hC)
  have ldK : ∀ (o : Nat) (inb) (_ : o = 64 * k.val) (q : Fin 192) (c : Fin 256),
      View.readAt (Elt Ideal) arg10.view (Rect.unit (s := S640x256) ![o, 0] S192x256.size inb).toLoadRect X_arg10 (ix2 q c) = (View.read (Elt Ideal) arg10.view X_arg10) (ix2 ⟨64 * k.val + q.val, by omega⟩ c) :=
    fun o inb ho q c => congrArg (View.read (Elt Ideal) arg10.view X_arg10) (embW o 0 inb q c _ c (by dsimp only; omega) (by omega))
  have ldV : ∀ (o : Nat) (inb) (_ : o = 64 * k.val) (q : Fin 192) (c : Fin 256),
      View.readAt (Elt Ideal) arg11.view (Rect.unit (s := S640x256) ![o, 0] S192x256.size inb).toLoadRect X_arg11 (ix2 q c) = (View.read (Elt Ideal) arg11.view X_arg11) (ix2 ⟨64 * k.val + q.val, by omega⟩ c) :=
    fun o inb ho q c => congrArg (View.read (Elt Ideal) arg11.view X_arg11) (embW o 0 inb q c _ c (by dsimp only; omega) (by omega))
  have ldS : ∀ (g : Fin 4) (o : Nat) (inb) (_ : g.val = o) (r : Fin 256) (l : Fin 128),
      View.readAt (Elt Ideal) arg8.view (Rect.unit (s := S4x256x128) ![o, 0, 0] S1x256x128.size inb).toLoadRect X_arg8 (ix3 0 r l) = σ g ⟨r.val / 64, by omega⟩ :=
    fun g o inb ho r l => (congrArg (View.read (Elt Ideal) arg8.view X_arg8) (embS o inb r l g ho)).trans (hσ g r l)
  obtain ⟨G, hG⟩ : ∃ G : S512x1024.Idx → EReal, G = (fun y => blockOut i8 (View.read (Elt Ideal) arg2.view X_arg2) (View.read (Elt Ideal) arg10.view X_arg10) (View.read (Elt Ideal) arg11.view X_arg11) (View.read (Elt Ideal) arg7.view X_arg7) σ (y 0) (y 1)) := ⟨_, rfl⟩
  rw [← hG]
  have emG : ∀ (o p : Nat) (inb) (_ : o = 64 * k.val) (q : Fin 64) (c : Fin 256) (C : Fin 1024) (_ : C.val = p + c.val),
      blockOut i8 (View.read (Elt Ideal) arg2.view X_arg2) (View.read (Elt Ideal) arg10.view X_arg10) (View.read (Elt Ideal) arg11.view X_arg11) (View.read (Elt Ideal) arg7.view X_arg7) σ ⟨64 * k.val + q.val, by omega⟩ C = G ((Rect.unit (s := S512x1024) ![o, p] S64x256.size inb).emb (ix2 q c)) := by
    intro o p inb ho q c C hC
    rw [embQ o p inb q c ⟨64 * k.val + q.val, by omega⟩ C (by dsimp only; omega) hC, hG]
    rfl
  clear hG
  unfold tripL_k0_t1 trip_k0_t1
  dsimp only
  sl_unfold_words
  dsimp only
  generalize hKW : View.readAt (Elt Ideal) arg10.view _ X_arg10 = KW
  generalize hVW : View.readAt (Elt Ideal) arg11.view _ X_arg11 = VW
  generalize hqa : View.readAt (Elt Ideal) arg2.view _ X_arg2 = qa
  generalize hqb : View.readAt (Elt Ideal) arg2.view _ X_arg2 = qb
  generalize hqc : View.readAt (Elt Ideal) arg2.view _ X_arg2 = qc
  generalize hqd : View.readAt (Elt Ideal) arg2.view _ X_arg2 = qd
  generalize hsa : View.readAt (Elt Ideal) arg8.view _ X_arg8 = sa
  generalize hsb : View.readAt (Elt Ideal) arg8.view _ X_arg8 = sb
  generalize hsc : View.readAt (Elt Ideal) arg8.view _ X_arg8 = sc
  generalize hsd : View.readAt (Elt Ideal) arg8.view _ X_arg8 = sd
  generalize hga : View.readAt (Elt Ideal) arg7.view _ X_arg7 = ga
  generalize hgb : View.readAt (Elt Ideal) arg7.view _ X_arg7 = gb
  generalize hgc : View.readAt (Elt Ideal) arg7.view _ X_arg7 = gc
  generalize hgd : View.readAt (Elt Ideal) arg7.view _ X_arg7 = gd
  have lKW : ∀ (q : Fin 192) (d : Fin 256), KW (ix2 q d) = (View.read (Elt Ideal) arg10.view X_arg10) (ix2 ⟨64 * k.val + q.val, by omega⟩ d) := fun q d => by
    rw [← hKW]; exact ldK _ _ e q d
  have lVW : ∀ (q : Fin 192) (d : Fin 256), VW (ix2 q d) = (View.read (Elt Ideal) arg11.view X_arg11) (ix2 ⟨64 * k.val + q.val, by omega⟩ d) := fun q d => by
    rw [← hVW]; exact ldV _ _ e q d
  have lqa : ∀ (q : Fin 64) (c : Fin 256), qa (ix2 q c) = (View.read (Elt Ideal) arg2.view X_arg2) (ix2 ⟨64 * k.val + q.val, by omega⟩ ⟨c.val, by omega⟩) := fun q c => by
    rw [← hqa]; exact ld2 _ 0 _ e q c _ (by dsimp only; omega)
  have lqb : ∀ (q : Fin 64) (c : Fin 256), qb (ix2 q c) = (View.read (Elt Ideal) arg2.view X_arg2) (ix2 ⟨64 * k.val + q.val, by omega⟩ ⟨256 + c.val, by omega⟩) := fun q c => by
    rw [← hqb]; exact ld2 _ 256 _ e q c _ (by dsimp only)
  have lqc : ∀ (q : Fin 64) (c : Fin 256), qc (ix2 q c) = (View.read (Elt Ideal) arg2.view X_arg2) (ix2 ⟨64 * k.val + q.val, by omega⟩ ⟨512 + c.val, by omega⟩) := fun q c => by
    rw [← hqc]; exact ld2 _ 512 _ e q c _ (by dsimp only)
  have lqd : ∀ (q : Fin 64) (c : Fin 256), qd (ix2 q c) = (View.read (Elt Ideal) arg2.view X_arg2) (ix2 ⟨64 * k.val + q.val, by omega⟩ ⟨768 + c.val, by omega⟩) := fun q c => by
    rw [← hqd]; exact ld2 _ 768 _ e q c _ (by dsimp only)
  have lgd : ∀ (q : Fin 64) (c : Fin 256), gd (ix2 q c) = (View.read (Elt Ideal) arg7.view X_arg7) (ix2 ⟨64 * k.val + q.val, by omega⟩ ⟨256 * (0 : Fin 4).val + c.val, by simp; omega⟩) := fun q c => by
    rw [← hgd]; exact ld7 _ 0 _ e q c _ (by simp)
  have lgc : ∀ (q : Fin 64) (c : Fin 256), gc (ix2 q c) = (View.read (Elt Ideal) arg7.view X_arg7) (ix2 ⟨64 * k.val + q.val, by omega⟩ ⟨256 * (1 : Fin 4).val + c.val, by simp; omega⟩) := fun q c => by
    rw [← hgc]; exact ld7 _ 256 _ e q c _ (by simp)
  have lgb : ∀ (q : Fin 64) (c : Fin 256), gb (ix2 q c) = (View.read (Elt Ideal) arg7.view X_arg7) (ix2 ⟨64 * k.val + q.val, by omega⟩ ⟨256 * (2 : Fin 4).val + c.val, by simp; omega⟩) := fun q c => by
    rw [← hgb]; exact ld7 _ 512 _ e q c _ (by simp)
  have lga : ∀ (q : Fin 64) (c : Fin 256), ga (ix2 q c) = (View.read (Elt Ideal) arg7.view X_arg7) (ix2 ⟨64 * k.val + q.val, by omega⟩ ⟨256 * (3 : Fin 4).val + c.val, by simp; omega⟩) := fun q c => by
    rw [← hga]; exact ld7 _ 768 _ e q c _ (by simp)
  have lsa : ∀ (r : Fin 256) (l : Fin 128), sa (ix3 0 r l) = σ 0 ⟨r.val / 64, by omega⟩ := fun r l => by
    rw [← hsa]; exact ldS 0 _ _ rfl r l
  have lsb : ∀ (r : Fin 256) (l : Fin 128), sb (ix3 0 r l) = σ 1 ⟨r.val / 64, by omega⟩ := fun r l => by
    rw [← hsb]; exact ldS 1 _ _ rfl r l
  have lsc : ∀ (r : Fin 256) (l : Fin 128), sc (ix3 0 r l) = σ 2 ⟨r.val / 64, by omega⟩ := fun r l => by
    rw [← hsc]; exact ldS 2 _ _ rfl r l
  have lsd : ∀ (r : Fin 256) (l : Fin 128), sd (ix3 0 r l) = σ 3 ⟨r.val / 64, by omega⟩ := fun r l => by
    rw [← hsd]; exact ldS 3 _ _ rfl r l
  refine ⟨?_, ?_, ?_, ?_, trivial⟩
  · intro (x : S64x256.Idx)
    idx_vars x
    refine (pay3_apply _ _ x0 x1).trans ((piece arg1 v26 v51 v68 v76 cst _ KW VW qa qb qc qd sa sb sc sd hl hg hw hc i8 ⟨k.val, hk⟩ h1 (trip_word ⟨k.val, hk⟩) h68
      (View.read (Elt Ideal) arg2.view X_arg2) (View.read (Elt Ideal) arg10.view X_arg10) (View.read (Elt Ideal) arg11.view X_arg11) (View.read (Elt Ideal) arg7.view X_arg7) σ ga 3 lqa lqb lqc lqd lKW lVW lsa lsb lsc lsd lga x0 x1).trans ?_)
    exact emG _ _ _ e x0 x1 ⟨256 * (3 : Fin 4).val + x1.val, by simp; omega⟩ (by simp)
  · intro (x : S64x256.Idx)
    idx_vars x
    refine (pay2_apply _ _ x0 x1).trans ((piece arg1 v26 v51 v68 v76 cst _ KW VW qa qb qc qd sa sb sc sd hl hg hw hc i8 ⟨k.val, hk⟩ h1 (trip_word ⟨k.val, hk⟩) h68
      (View.read (Elt Ideal) arg2.view X_arg2) (View.read (Elt Ideal) arg10.view X_arg10) (View.read (Elt Ideal) arg11.view X_arg11) (View.read (Elt Ideal) arg7.view X_arg7) σ gb 2 lqa lqb lqc lqd lKW lVW lsa lsb lsc lsd lgb x0 x1).trans ?_)
    exact emG _ _ _ e x0 x1 ⟨256 * (2 : Fin 4).val + x1.val, by simp; omega⟩ (by simp)
  · intro (x : S64x256.Idx)
    idx_vars x
    refine (pay29_apply _ _ _ _ _ _ _ _ _ _ _ x0 x1).trans ((piece arg1 v26 v51 v68 v76 cst _ KW VW qa qb qc qd sa sb sc sd hl hg hw hc i8 ⟨k.val, hk⟩ h1 (trip_word ⟨k.val, hk⟩) h68
      (View.read (Elt Ideal) arg2.view X_arg2) (View.read (Elt Ideal) arg10.view X_arg10) (View.read (Elt Ideal) arg11.view X_arg11) (View.read (Elt Ideal) arg7.view X_arg7) σ gc 1 lqa lqb lqc lqd lKW lVW lsa lsb lsc lsd lgc x0 x1).trans ?_)
    exact emG _ _ _ e x0 x1 ⟨256 * (1 : Fin 4).val + x1.val, by simp; omega⟩ (by simp)
  · intro (x : S64x256.Idx)
    idx_vars x
    refine (pay28_apply _ _ _ _ _ _ _ _ _ _ _ x0 x1).trans ((piece arg1 v26 v51 v68 v76 cst _ KW VW qa qb qc qd sa sb sc sd hl hg hw hc i8 ⟨k.val, hk⟩ h1 (trip_word ⟨k.val, hk⟩) h68
      (View.read (Elt Ideal) arg2.view X_arg2) (View.read (Elt Ideal) arg10.view X_arg10) (View.read (Elt Ideal) arg11.view X_arg11) (View.read (Elt Ideal) arg7.view X_arg7) σ gd 0 lqa lqb lqc lqd lKW lVW lsa lsb lsc lsd lgd x0 x1).trans ?_)
    exact emG _ _ _ e x0 x1 ⟨256 * (0 : Fin 4).val + x1.val, by simp; omega⟩ (by simp)

end Cert.AttnIdeal.Hand
-- ==== Proof.AttnOut.lean ====
/- The windowed attention: what a block's loop and the block leave. -/
module

public import proofs.«01_k».proof.Defs
public import proofs.«01_k».proof.Proof.AttnTrip
public import proofs.«01_k».proof.Proof.Gen.AttnIdeal.Value

@[expose] public section

set_option maxRecDepth 16384

noncomputable section

open Idealize.ShloMosaic Idealize.ShloMosaic.TcCoe Idealize.SL.Sem
open Idealize.ShloMosaic.Pipeline (Dat)

namespace Cert.AttnIdeal.Hand
open Cert.AttnIdeal Cert.AttnIdeal.Gen
open Idealize.ShloMosaic.Tactic

theorem pieces_append {G : S512x1024.Idx → EReal} : ∀ L L' : List (View.Piece (Elt Ideal) S512x1024 .bf16), View.PiecesOf G L → View.PiecesOf G L' → View.PiecesOf G (L ++ L')
  | [], _, _, h => h
  | _ :: L, L', h, h' => ⟨h.1, pieces_append L L' h.2 h'⟩

/-- The stores of the trips before `n` are parts of the block. -/
theorem loop_pieces (𝒱 : Variants) (c : Dev nD) (bd : Option 𝒱.V) (i : grid0.Coords) (arg2 : Memref sig .tc .vmem S512x1024 .bf16) (harg2 : arg2.IsWhole) (arg3 : Memref sig .tc .vmem S1x128x256 .f32) (harg3 : arg3.IsWhole) (arg4 : Memref sig .tc .vmem S1x512x256 .f32) (harg4 : arg4.IsWhole) (arg5 : Memref sig .tc .vmem S1x128x256 .f32) (harg5 : arg5.IsWhole) (arg6 : Memref sig .tc .vmem S1x512x256 .f32) (harg6 : arg6.IsWhole) (arg7 : Memref sig .tc .vmem S512x1024 .bf16) (harg7 : arg7.IsWhole) (arg8 : Memref sig .tc .vmem S4x256x128 .f32) (harg8 : arg8.IsWhole) (arg9 : Memref sig .tc .vmem S512x1024 .bf16) (harg9 : arg9.IsWhole) (arg10 : Memref sig .tc .vmem S640x256 .bf16) (harg10 : arg10.IsWhole) (arg11 : Memref sig .tc .vmem S640x256 .bf16) (harg11 : arg11.IsWhole) (arg1 : BitVec 32) (v26 : IVec S1x128 1) (v51 : IVec S1x256 32) (v68 : IVec S1x768 32) (v76 : FVec Ideal S192x256 .bf16)  (cst : Ideal .f32) (X_arg2 : BufTy.Contents (Elt Ideal) arg2.view.ty) (X_arg7 : BufTy.Contents (Elt Ideal) arg7.view.ty) (X_arg8 : BufTy.Contents (Elt Ideal) arg8.view.ty) (X_arg10 : BufTy.Contents (Elt Ideal) arg10.view.ty) (X_arg11 : BufTy.Contents (Elt Ideal) arg11.view.ty)
    (hl : ∀ l : Fin 128, v26 (ix2 0 l) = if l.val < 64 then 1#1 else 0#1) (hg : ∀ d : Fin 256, v51 (ix2 0 d) = BitVec.ofNat 32 (d.val / 64))
    (hw : ∀ (k : Fin 192) (d : Fin 256), v76 (ix2 k d) = if d.val / 64 = 0 then (1 : EReal) else 0) (hc : cst = (⊥ : EReal))
    (i8 : Fin 8) (h1 : arg1 = BitVec.ofNat 32 i8.val) (h68 : ∀ c : Fin 768, v68 (ix2 0 c) = BitVec.ofNat 32 (c.val % 192)) (σ : Fin 4 → Fin 4 → EReal)
    (hσ : ∀ (g : Fin 4) (r : Fin 256) (l : Fin 128), (View.read (Elt Ideal) arg8.view X_arg8) (ix3 g r l) = σ g ⟨r.val / 64, by omega⟩) : ∀ n : Nat, n ≤ k0_t1_loop.trips →
    View.PiecesOf (fun y => blockOut i8 (View.read (Elt Ideal) arg2.view X_arg2) (View.read (Elt Ideal) arg10.view X_arg10) (View.read (Elt Ideal) arg11.view X_arg11) (View.read (Elt Ideal) arg7.view X_arg7) σ (y 0) (y 1)) (pb_k0_t1 (F := Ideal) 𝒱 c bd i arg2 harg2 arg3 harg3 arg4 harg4 arg5 harg5 arg6 harg6 arg7 harg7 arg8 harg8 arg9 harg9 arg10 harg10 arg11 harg11 arg1 v26 v51 v68 v76 1#32 cst X_arg2 X_arg7 X_arg8 X_arg10 X_arg11 n)
  | 0, _ => trivial
  | n + 1, h => by
    rw [pb_k0_t1_succ (F := Ideal) 𝒱 c bd i arg2 harg2 arg3 harg3 arg4 harg4 arg5 harg5 arg6 harg6 arg7 harg7 arg8 harg8 arg9 harg9 arg10 harg10 arg11 harg11 arg1 v26 v51 v68 v76 1#32 cst X_arg2 X_arg7 X_arg8 X_arg10 X_arg11 ⟨n, h⟩]
    exact pieces_append _ _ (trip_pieces 𝒱 c bd i arg2 harg2 arg3 harg3 arg4 harg4 arg5 harg5 arg6 harg6 arg7 harg7 arg8 harg8 arg9 harg9 arg10 harg10 arg11 harg11 arg1 v26 v51 v68 v76 cst X_arg2 X_arg7 X_arg8 X_arg10 X_arg11 ⟨n, h⟩ hl hg hw hc i8 h1 h68 σ hσ) (loop_pieces 𝒱 c bd i arg2 harg2 arg3 harg3 arg4 harg4 arg5 harg5 arg6 harg6 arg7 harg7 arg8 harg8 arg9 harg9 arg10 harg10 arg11 harg11 arg1 v26 v51 v68 v76 cst X_arg2 X_arg7 X_arg8 X_arg10 X_arg11 hl hg hw hc i8 h1 h68 σ hσ n (Nat.le_of_succ_le h))

theorem lane (l : Fin 128) : k0_pay34 (ix2 0 l) = if l.val < 64 then 1#1 else 0#1 := by
  revert l; decide +kernel

theorem grp (d : Fin 256) : kernelRun0_A.sl.r (ix2 0 d) = BitVec.ofNat 32 (d.val / 64) := by
  revert d; decide +kernel

theorem segm (d : Fin 768) : k0_pay38 (ix2 0 d) = BitVec.ofNat 32 (d.val % 192) := by
  revert d; decide +kernel

variable (m : (ℓ : Loc nD τ sig) → Buf (Elt Ideal) ℓ)

/-- A scratch of 640 rows: the 128 rows before the block, then the block's 512. -/
def rows (A : S1x128x256.Idx → EReal) (B : S1x512x256.Idx → EReal) (y : S640x256.Idx) : EReal :=
  if h : (y 0).val < 128 then A (ix3 0 ⟨(y 0).val, h⟩ (y 1)) else B (ix3 0 ⟨(y 0).val - 128, by have h := (y 0).isLt; simp at h; omega⟩ (y 1))

theorem rest_lt {y : Fin 640} : y.val - 128 < 512 := by omega

/-- A block of 512 rows written at row 128 over one of 128 rows at row 0. -/
theorem canon_rows (i1 : ∀ a, (![128, 0] : Fin 2 → Nat) a + S512x256.size a ≤ S640x256.size a) (i2 : ∀ a, (![0, 0] : Fin 2 → Nat) a + S128x256.size a ≤ S640x256.size a)
    (B : S512x256.Idx → EReal) (A : S128x256.Idx → EReal) (y : S640x256.Idx) :
    View.canon (Val := Elt Ideal) (e := .bf16) [⟨Rect.unit (s := S640x256) ![128, 0] S512x256.size i1, B⟩, ⟨Rect.unit (s := S640x256) ![0, 0] S128x256.size i2, A⟩] y
      = if h : (y 0).val < 128 then A (ix2 ⟨(y 0).val, h⟩ (y 1)) else B (ix2 ⟨(y 0).val - 128, rest_lt (y := y 0)⟩ (y 1)) := by
  idx_vars y
  by_cases h : y0.val < 128
  · rw [View.canon_cons_of_not_mem _ _ (fun hm => by
      have hq : ix2 y0 y1 ∈ (Rect.unit (s := S640x256) ![128, 0] S512x256.size i1).set := hm
      have h0 := (Rect.mem_set_unit.1 hq) 0
      have h1 : 128 ≤ y0.val := h0.1
      omega)]
    have e : (Rect.unit (s := S640x256) ![0, 0] S128x256.size i2).emb (ix2 ⟨y0.val, h⟩ y1) = ix2 y0 y1 := by
      funext a
      apply Fin.ext
      rw [Rect.emb_apply]
      match a with
      | ⟨0, _⟩ => show 0 + 1 * y0.val = y0.val; omega
      | ⟨1, _⟩ => show 0 + 1 * y1.val = y1.val; omega
    refine Eq.trans ?_ (dif_pos h).symm
    exact (congrArg (View.canon _) e.symm).trans (View.canon_cons_emb _ _ _ _)
  · have e : (Rect.unit (s := S640x256) ![128, 0] S512x256.size i1).emb (ix2 ⟨y0.val - 128, rest_lt⟩ y1) = ix2 y0 y1 := by
      funext a
      apply Fin.ext
      rw [Rect.emb_apply]
      match a with
      | ⟨0, _⟩ => show 128 + 1 * (y0.val - 128) = y0.val; omega
      | ⟨1, _⟩ => show 0 + 1 * y1.val = y1.val; omega
    refine Eq.trans ?_ (dif_neg h).symm
    exact (congrArg (View.canon _) e.symm).trans (View.canon_cons_emb _ _ _ _)

theorem pay30_apply (v : Vec Ideal S1x128x256 .f32) (r : Fin 128) (d : Fin 256) : k0_pay30 (F := Ideal) v (ix2 r d) = v (ix3 0 r d) := by
  pointwise [k0_pay30]

theorem pay31_apply (v : Vec Ideal S1x512x256 .f32) (r : Fin 512) (d : Fin 256) : k0_pay31 (F := Ideal) v (ix2 r d) = v (ix3 0 r d) := by
  pointwise [k0_pay31]

theorem pay32_apply (v : Vec Ideal S1x128x256 .f32) (r : Fin 128) (d : Fin 256) : k0_pay32 (F := Ideal) v (ix2 r d) = v (ix3 0 r d) := by
  pointwise [k0_pay32]

theorem pay33_apply (v : Vec Ideal S1x512x256 .f32) (r : Fin 512) (d : Fin 256) : k0_pay33 (F := Ideal) v (ix2 r d) = v (ix3 0 r d) := by
  pointwise [k0_pay33]

/-- A load of a whole block of 128 rows is the block. -/
theorem ldw (mr : Memref sig .tc .vmem S1x128x256 .f32) (hm : mr.IsWhole) (X : S1x128x256.Idx → EReal) (inb : ∀ a, (![0, 0, 0] : Fin 3 → Nat) a + S1x128x256.size a ≤ S1x128x256.size a)
    (r : Fin 128) (d : Fin 256) :
    View.readAt (Elt Ideal) mr.view (Rect.unit (s := S1x128x256) ![0, 0, 0] S1x128x256.size inb).toLoadRect (hm.unread X) (ix3 0 r d) = X (ix3 0 r d) := by
  have e : (Rect.unit (s := S1x128x256) ![0, 0, 0] S1x128x256.size inb).emb (ix3 0 r d) = ix3 0 r d := by
    funext a
    apply Fin.ext
    rw [Rect.emb_apply]
    match a with
    | ⟨0, _⟩ => show 0 + 1 * 0 = 0; omega
    | ⟨1, _⟩ => show 0 + 1 * r.val = r.val; omega
    | ⟨2, _⟩ => show 0 + 1 * d.val = d.val; omega
  exact (congrArg (View.read (Elt Ideal) mr.view (hm.unread X)) e).trans (by rw [Memref.IsWhole.read_unread])

/-- A load of a whole block of 512 rows is the block. -/
theorem ldw' (mr : Memref sig .tc .vmem S1x512x256 .f32) (hm : mr.IsWhole) (X : S1x512x256.Idx → EReal) (inb : ∀ a, (![0, 0, 0] : Fin 3 → Nat) a + S1x512x256.size a ≤ S1x512x256.size a)
    (r : Fin 512) (d : Fin 256) :
    View.readAt (Elt Ideal) mr.view (Rect.unit (s := S1x512x256) ![0, 0, 0] S1x512x256.size inb).toLoadRect (hm.unread X) (ix3 0 r d) = X (ix3 0 r d) := by
  have e : (Rect.unit (s := S1x512x256) ![0, 0, 0] S1x512x256.size inb).emb (ix3 0 r d) = ix3 0 r d := by
    funext a
    apply Fin.ext
    rw [Rect.emb_apply]
    match a with
    | ⟨0, _⟩ => show 0 + 1 * 0 = 0; omega
    | ⟨1, _⟩ => show 0 + 1 * r.val = r.val; omega
    | ⟨2, _⟩ => show 0 + 1 * d.val = d.val; omega
  exact (congrArg (View.read (Elt Ideal) mr.view (hm.unread X)) e).trans (by rw [Memref.IsWhole.read_unread])

/-- The first group's columns, as ones. -/
theorem wgt (k : Fin 192) (d : Fin 256) : kernelRun0_A.sl.r_1 (F := Ideal) (ix2 k d) = if d.val / 64 = 0 then (1 : EReal) else 0 := by
  have h := grp d
  sl_unfold_words
  pointwise [k0_pay39]
  exact (congrArg (fun w => Scalar.select (IntOp.cmpi .eq w 0#32) (1 : EReal) 0) h).trans (sel0 d 1 0)

/-- What the first scratch holds. -/
theorem scr0 (c : Dev nD) (t : Fin cfg0.N) :
    View.read (Elt Ideal) scM0_0.view ((View.whole cc0_scratch0).writes (Elt Ideal) (View.whole cc0_scratch0).junk
        (kernelRun0_A.sl.HS0_2 c (ms0_1 t) (hs0_1 t) (ms0_2 t) (hs0_2 t) (iblk m c 1 t) (iblk m c 2 t))) = rows (iblk m c 1 t) (iblk m c 2 t) := by
  refine (View.read_writes_junk_eq_canon _ _).trans (funext fun y => ?_)
  sl_unfold_words
  refine (canon_rows _ _ _ _ y).trans ?_
  idx_vars y
  unfold rows
  refine dite_congr rfl (fun h => ?_) (fun h => ?_)
  · refine (pay30_apply _ _ _).trans ?_
    exact ldw _ _ _ _ _ _
  · refine (pay31_apply _ _ _).trans ?_
    exact ldw' _ _ _ _ _ _

/-- What the second scratch holds. -/
theorem scr1 (c : Dev nD) (t : Fin cfg0.N) :
    View.read (Elt Ideal) scM0_1.view ((View.whole cc0_scratch1).writes (Elt Ideal) (View.whole cc0_scratch1).junk
        (kernelRun0_A.sl.HS1_2 c (ms0_3 t) (hs0_3 t) (ms0_4 t) (hs0_4 t) (iblk m c 3 t) (iblk m c 4 t))) = rows (iblk m c 3 t) (iblk m c 4 t) := by
  refine (View.read_writes_junk_eq_canon _ _).trans (funext fun y => ?_)
  sl_unfold_words
  refine (canon_rows _ _ _ _ y).trans ?_
  idx_vars y
  unfold rows
  refine dite_congr rfl (fun h => ?_) (fun h => ?_)
  · refine (pay32_apply _ _ _).trans ?_
    exact ldw _ _ _ _ _ _
  · refine (pay33_apply _ _ _).trans ?_
    exact ldw' _ _ _ _ _ _

theorem out_apply (c : Dev nD) (t : Fin cfg0.N) (p : Fin 512) (C : Fin 1024) (σ : Fin 4 → Fin 4 → EReal)
    (hσ : ∀ (g : Fin 4) (r : Fin 256) (l : Fin 128), iblk m c 6 t (ix3 g r l) = σ g ⟨r.val / 64, by omega⟩) :
    outsAt0 m c t (ix2 p C) = blockOut (grid0.coords t 1) (iblk m c 0 t) (rows (iblk m c 1 t) (iblk m c 2 t)) (rows (iblk m c 3 t) (iblk m c 4 t)) (iblk m c 5 t) σ p C := by
  unfold outsAt0 out0_A_7
  rw [View.read_writes_junk_eq_canon]
  refine View.canon_eq_of_allAt _ _ _ (cover0_A_7 (F := Ideal) c _ _ _ _ _ _ _ _ _ _ _ _ _ _ _ _ _ _ _ _ _ _ _ _ _ _ _ _ (ix2 p C)) ?_
  unfold kernelRun0_A
  dsimp only
  intro pc hp x hx
  have hG := (loop_pieces _ c none (grid0.coords t) _ _ _ _ _ _ _ _ _ _ _ _ _ _ _ _ _ _ _ _ _ _ _ _ _ _ _ _ _ _ _ lane ?hg ?hw ?hc (grid0.coords t 1) rfl segm σ ?hσ _ ?hn).mem pc hp x
  case hn => exact Nat.le_refl _
  case hg => exact grp
  case hw => exact wgt
  case hc => simp [FloatOps.ofBits, Ideal.ofBits, Ideal.ieee]
  case hσ => intro g r l; rw [Memref.IsWhole.read_unread]; exact hσ g r l
  refine hG.trans ?_
  rw [Memref.IsWhole.read_unread, Memref.IsWhole.read_unread, scr0, scr1, hx]
  rfl
end Cert.AttnIdeal.Hand
-- ==== Proof.AttnBlk.lean ====
/- The windowed attention: the blocks that the call reads. -/
module

public import proofs.«01_k».proof.Defs
public import proofs.«01_k».proof.Proof.AttnOut
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnIdeal.Hand
open Cert.AttnIdeal Cert.AttnIdeal.Gen

variable (m : (ℓ : Loc nD τ sig) → Buf (Elt Ideal) ℓ)

/-- Where each window's block lies at a grid point. -/
theorem idx : ∀ t : Fin grid0.N, win0_0.index t = ![t.val, 0] ∧ win0_1.index t = ![t.val / 8, t.val % 8 * 4 - 1, 0] ∧ win0_2.index t = ![t.val / 8, t.val % 8, 0]
    ∧ win0_3.index t = ![t.val / 8, t.val % 8 * 4 - 1, 0] ∧ win0_4.index t = ![t.val / 8, t.val % 8, 0] ∧ win0_5.index t = ![t.val, 0]
    ∧ win0_6.index t = ![0, 0, 0] ∧ win0_7.index t = ![t.val, 0] := by decide +kernel

theorem coord : ∀ t : Fin grid0.N, (grid0.coords t 1).val = t.val % 8 := by decide +kernel

/-- Row `r` of the block at grid point `t`, as a row of the whole array. -/
def row (t : Fin cfg0.N) (r : Fin 512) : Fin 32768 :=
  ⟨t.val * 512 + r.val, by have h : t.val < 64 := t.isLt; omega⟩

theorem lt64 (t : Fin cfg0.N) : t.val < 64 := t.isLt

theorem V4_apply (c : Dev nD) (b : Fin 8) (s : Fin 4096) (d : Fin 256) :
    (V m c main_v4 : (⟨S8x4096x256, .f32⟩ : BufTy).Contents (Elt Ideal)) (ix3 b s d)
      = m ((c : Thread nD τ).loc main_arg1) (ix2 ⟨b.val * 4096 + s.val, by omega⟩ d) := by
  entry_read
  pointwise

theorem V5_apply (c : Dev nD) (b : Fin 8) (s : Fin 4096) (d : Fin 256) :
    (V m c main_v5 : (⟨S8x4096x256, .f32⟩ : BufTy).Contents (Elt Ideal)) (ix3 b s d)
      = m ((c : Thread nD τ).loc main_arg2) (ix2 ⟨b.val * 4096 + s.val, by omega⟩ d) := by
  entry_read
  pointwise

theorem V3_apply (c : Dev nD) (g : Fin 4) (r : Fin 256) (l : Fin 128) :
    (V m c main_v3 : (⟨S4x256x128, .f32⟩ : BufTy).Contents (Elt Ideal)) (ix3 g r l)
      = m ((c : Thread nD τ).loc main_arg4) (ix1 ⟨g.val * 4 + r.val / 64, by omega⟩) := by
  entry_read
  pointwise

/-- The block of queries. -/
theorem blk0 (c : Dev nD) (t : Fin cfg0.N) (r : Fin 512) (n : Fin 1024) :
    iblk m c 0 t (ix2 r n) = m ((c : Thread nD τ).loc main_arg0) (ix2 (row t r) n) := by
  rw [← V_main_arg0 m c]; blk_ext [iblk, idx t, row]

/-- The 128 rows of keys before the block (those of the block itself for the first). -/
theorem blk1 (c : Dev nD) (t : Fin cfg0.N) (s : Fin 128) (d : Fin 256) :
    iblk m c 1 t (ix3 0 s d) = m ((c : Thread nD τ).loc main_arg1) (ix2 ⟨t.val / 8 * 4096 + ((t.val % 8 * 4 - 1) * 128 + s.val), by have h := lt64 t; omega⟩ d) :=
  Eq.trans (by blk_ext [iblk, idx t]) (V4_apply m c ⟨t.val / 8, by have h := lt64 t; omega⟩ ⟨(t.val % 8 * 4 - 1) * 128 + s.val, by omega⟩ d)

/-- The block's rows of keys. -/
theorem blk2 (c : Dev nD) (t : Fin cfg0.N) (s : Fin 512) (d : Fin 256) :
    iblk m c 2 t (ix3 0 s d) = m ((c : Thread nD τ).loc main_arg1) (ix2 ⟨t.val / 8 * 4096 + (t.val % 8 * 512 + s.val), by have h := lt64 t; omega⟩ d) :=
  Eq.trans (by blk_ext [iblk, idx t]) (V4_apply m c ⟨t.val / 8, by have h := lt64 t; omega⟩ ⟨t.val % 8 * 512 + s.val, by omega⟩ d)

/-- The 128 rows of values before the block (those of the block itself for the first). -/
theorem blk3 (c : Dev nD) (t : Fin cfg0.N) (s : Fin 128) (d : Fin 256) :
    iblk m c 3 t (ix3 0 s d) = m ((c : Thread nD τ).loc main_arg2) (ix2 ⟨t.val / 8 * 4096 + ((t.val % 8 * 4 - 1) * 128 + s.val), by have h := lt64 t; omega⟩ d) :=
  Eq.trans (by blk_ext [iblk, idx t]) (V5_apply m c ⟨t.val / 8, by have h := lt64 t; omega⟩ ⟨(t.val % 8 * 4 - 1) * 128 + s.val, by omega⟩ d)

/-- The block's rows of values. -/
theorem blk4 (c : Dev nD) (t : Fin cfg0.N) (s : Fin 512) (d : Fin 256) :
    iblk m c 4 t (ix3 0 s d) = m ((c : Thread nD τ).loc main_arg2) (ix2 ⟨t.val / 8 * 4096 + (t.val % 8 * 512 + s.val), by have h := lt64 t; omega⟩ d) :=
  Eq.trans (by blk_ext [iblk, idx t]) (V5_apply m c ⟨t.val / 8, by have h := lt64 t; omega⟩ ⟨t.val % 8 * 512 + s.val, by omega⟩ d)

/-- The block of gates. -/
theorem blk5 (c : Dev nD) (t : Fin cfg0.N) (r : Fin 512) (n : Fin 1024) :
    iblk m c 5 t (ix2 r n) = m ((c : Thread nD τ).loc main_arg3) (ix2 (row t r) n) := by
  rw [← V_main_arg3 m c]; blk_ext [iblk, idx t, row]

/-- Every point reads the whole array of sinks. -/
theorem blk6 (c : Dev nD) (t : Fin cfg0.N) (g : Fin 4) (r : Fin 256) (l : Fin 128) :
    iblk m c 6 t (ix3 g r l) = m ((c : Thread nD τ).loc main_arg4) (ix1 ⟨g.val * 4 + r.val / 64, by omega⟩) :=
  Eq.trans (by blk_ext [iblk, idx t]) (V3_apply m c g r l)

/-- The keys that a block reads, where they are not masked. -/
theorem keys (c : Dev nD) (t : Fin cfg0.N) (j : Fin 8) (k : Fin 192) (d : Fin 256) (h : 128 ≤ (t.val % 8 * 8 + j.val) * 64 + k.val) (s : Fin 640) (hs : s.val = j.val * 64 + k.val) (R : Fin 32768)
    (hR : R.val = t.val / 8 * 4096 + ((t.val % 8 * 8 + j.val) * 64 + k.val - 128)) :
    rows (iblk m c 1 t) (iblk m c 2 t) (ix2 s d) = m ((c : Thread nD τ).loc main_arg1) (ix2 R d) := by
  unfold rows
  split_ifs with h0
  · refine (blk1 m c t _ _).trans (congrArg (fun r => m ((c : Thread nD τ).loc main_arg1) (ix2 r d)) (Fin.ext ?_))
    have h1 : s.val < 128 := h0
    show t.val / 8 * 4096 + ((t.val % 8 * 4 - 1) * 128 + s.val) = R.val
    omega
  · refine (blk2 m c t _ _).trans (congrArg (fun r => m ((c : Thread nD τ).loc main_arg1) (ix2 r d)) (Fin.ext ?_))
    have h1 : ¬ s.val < 128 := h0
    show t.val / 8 * 4096 + (t.val % 8 * 512 + (s.val - 128)) = R.val
    omega

/-- The values that a block reads, where they are not masked. -/
theorem vals (c : Dev nD) (t : Fin cfg0.N) (j : Fin 8) (k : Fin 192) (d : Fin 256) (h : 128 ≤ (t.val % 8 * 8 + j.val) * 64 + k.val) (s : Fin 640) (hs : s.val = j.val * 64 + k.val) (R : Fin 32768)
    (hR : R.val = t.val / 8 * 4096 + ((t.val % 8 * 8 + j.val) * 64 + k.val - 128)) :
    rows (iblk m c 3 t) (iblk m c 4 t) (ix2 s d) = m ((c : Thread nD τ).loc main_arg2) (ix2 R d) := by
  unfold rows
  split_ifs with h0
  · refine (blk3 m c t _ _).trans (congrArg (fun r => m ((c : Thread nD τ).loc main_arg2) (ix2 r d)) (Fin.ext ?_))
    have h1 : s.val < 128 := h0
    show t.val / 8 * 4096 + ((t.val % 8 * 4 - 1) * 128 + s.val) = R.val
    omega
  · refine (blk4 m c t _ _).trans (congrArg (fun r => m ((c : Thread nD τ).loc main_arg2) (ix2 r d)) (Fin.ext ?_))
    have h1 : ¬ s.val < 128 := h0
    show t.val / 8 * 4096 + (t.val % 8 * 512 + (s.val - 128)) = R.val
    omega
end Cert.AttnIdeal.Hand
-- ==== Proof.AttnRefA.lean ====
/- The windowed attention: the reference's stages at an index. -/
module

public import proofs.«01_k».proof.Defs
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

/-- Zero converted is zero. -/
theorem z0 : (FloatOps.sitofp (F := Ideal) FTy.f32 0#32 : EReal) = 0 := by
  show (((0#32 : BitVec 32).toInt : ℝ) : EReal) = 0
  simp

theorem selT (a b : EReal) : Scalar.select (BitVec.ofBool true) a b = a := rfl

theorem selF (a b : EReal) : Scalar.select (BitVec.ofBool false) a b = b := rfl

/-- The mask is the test that the window's row is not before the start. -/
theorem mask (n : Fin 64) (k : Fin 192) : IntOp.cmpi CmpIPredicate.sge
        (IntOp.addi (IntOp.subi (IntOp.muli (BitVec.ofNat 32 n.val) 64#32) 128#32) (BitVec.ofNat 32 k.val)) 0#32
      = BitVec.ofBool (decide (128 ≤ n.val * 64 + k.val)) := by
  revert n k; decide +kernel

/-- The three chunks of a window, joined, are its rows. -/
theorem win (f : (i : Nat) → i < 4096 → EReal) (n : Fin 64) (k : Fin 192) (z : EReal) (hz : z = 0) :
    (if h : k.val < 64 then (if h1 : 128 ≤ n.val * 64 + k.val ∧ n.val * 64 + k.val - 128 < 4096 then f (n.val * 64 + k.val - 128) h1.2 else z)
      else if h : k.val - 64 < 64 then
        (if h1 : 128 ≤ (1 + n.val) * 64 + (k.val - 64) ∧ (1 + n.val) * 64 + (k.val - 64) - 128 < 4096 then f ((1 + n.val) * 64 + (k.val - 64) - 128) h1.2 else z)
      else (if h1 : 128 ≤ (2 + n.val) * 64 + (k.val - 64 - 64) ∧ (2 + n.val) * 64 + (k.val - 64 - 64) - 128 < 4096 then
        f ((2 + n.val) * 64 + (k.val - 64 - 64) - 128) h1.2 else z))
    = if h : 128 ≤ n.val * 64 + k.val then f (n.val * 64 + k.val - 128) (by omega) else 0 := by
  subst hz
  have e : ∀ i j hi hj, i = j → f i hi = f j hj := fun i j _ _ h => by subst h; rfl
  split_ifs <;> first | rfl | omega | exact e _ _ _ _ (by omega)

/-- The score indices that drop to one query of one head are its keys'. -/
theorem fiber (b : Fin 8) (n : Fin 64) (g r : Fin 4) (q : Fin 64) (i : S8x64x4x4x64x192.Idx) :
    Gen.reducesTo_S8x64x4x4x64x192_S8x64x4x4x64_d5.drop i = ix5 b n g r q ↔ ∃ k : Fin 192, ix6 b n g r q k = i := by
  constructor
  · intro e
    refine ⟨i 5, ?_⟩
    funext a
    apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext a
    apply Fin.ext
    match a with
    | ⟨0, _⟩ => rfl
    | ⟨1, _⟩ => rfl
    | ⟨2, _⟩ => rfl
    | ⟨3, _⟩ => rfl
    | ⟨4, _⟩ => rfl

end Cert.AttnRefIdeal.Hand
-- ==== Proof.AttnRefB.lean ====
/- The windowed attention: the reference's stages at an index. -/
module

public import proofs.«01_k».proof.Defs
public import proofs.«01_k».proof.Proof.Gen.AttnRefIdeal.Read
public import proofs.«01_k».proof.Proof.AttnRefA
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

/-- The greatest score of a query. -/
theorem v35_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (b : Fin 8) (n : Fin 64) (g r : Fin 4) (q : Fin 64) : val_main_v35 (F := Ideal) x0 x1 (ix5 b n g r q)
    = Finset.univ.sup fun k : Fin 192 => (val_main_v32 (F := Ideal) x0 x1 (ix6 b n g r q k) : EReal) := by
  pointwise [val_main_v35, val_main_cst_4]
  rw [Finset.fold_filter_eq_fold_of_fiber max _ (fun k : Fin 192 => ix6 b n g r q k) (fun _ _ e => congrFun e 5) (fiber b n g r q)]
  rw [show Ideal.ofBits FTy.f32 4286578688#32 = ⊥ by simp [Ideal.ofBits, Ideal.ieee]]
  rfl

end Cert.AttnRefIdeal.Hand
-- ==== Proof.AttnRefC.lean ====
/- The windowed attention: the reference's stages at an index. -/
module

public import proofs.«01_k».proof.Defs
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

theorem v34_apply (x4 : (⟨S16, .f32⟩ : BufTy).Contents (Elt Ideal)) (g r : Fin 4) : val_main_v34 (F := Ideal) x4 (ix6 0 0 g r 0 0) = x4 (ix1 ⟨g.val * 4 + r.val, by omega⟩) := by
  pointwise [val_main_v34, val_main_v33]

/-- The greatest score or the sink. -/
theorem v38_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (b : Fin 8) (n : Fin 64) (g r : Fin 4) (q : Fin 64) : val_main_v38 (F := Ideal) x0 x1 x4 (ix6 b n g r q 0)
    = max (val_main_v35 (F := Ideal) x0 x1 (ix5 b n g r q)) (x4 (ix1 ⟨g.val * 4 + r.val, by omega⟩)) := by
  refine (val_main_v38_apply x0 x1 x4 _).trans ?_
  rw [val_main_v36_apply, val_main_v37_apply]
  have e1 : idx_main_v36 (ix6 b n g r q 0) = ix5 b n g r q := by
    funext a
    match a with
    | ⟨0, _⟩ => rfl
    | ⟨1, _⟩ => rfl
    | ⟨2, _⟩ => rfl
    | ⟨3, _⟩ => rfl
    | ⟨4, _⟩ => rfl
  have e2 : idx_main_v37 (ix6 b n g r q 0) = ix6 0 0 g r 0 0 := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e1, e2, v34_apply]
  rfl

end Cert.AttnRefIdeal.Hand
-- ==== Proof.AttnRefD.lean ====
/- The windowed attention: the reference's stages at an index. -/
module

public import proofs.«01_k».proof.Defs
public import proofs.«01_k».proof.Proof.Gen.AttnRefIdeal.Read
public import proofs.«01_k».proof.Proof.AttnRefA
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

theorem v41_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (b : Fin 8) (n : Fin 64) (g r : Fin 4) (q : Fin 64) (k : Fin 192) : val_main_v41 (F := Ideal) x0 x1 x4 (ix6 b n g r q k)
    = Ideal.exp (val_main_v32 (F := Ideal) x0 x1 (ix6 b n g r q k) - val_main_v38 (F := Ideal) x0 x1 x4 (ix6 b n g r q 0)) := by
  pointwise [val_main_v41, val_main_v40, val_main_v39]

/-- The sum of a query's weights. -/
theorem v42_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (b : Fin 8) (n : Fin 64) (g r : Fin 4) (q : Fin 64) : val_main_v42 (F := Ideal) x0 x1 x4 (ix5 b n g r q)
    = ∑ k : Fin 192, (val_main_v41 (F := Ideal) x0 x1 x4 (ix6 b n g r q k) : EReal) := by
  unfold val_main_v42
  show Ideal.hostReduceAdd Gen.reducesTo_S8x64x4x4x64x192_S8x64x4x4x64_d5 (val_main_v41 (F := Ideal) x0 x1 x4) (Ideal.ofBits FTy.f32 0#32) (ix5 b n g r q) = _
  unfold Ideal.hostReduceAdd
  rw [Finset.sum_filter_eq_sum_of_fiber _ (fun k : Fin 192 => ix6 b n g r q k) (fun _ _ e => congrFun e 5) (fiber b n g r q)]
  rw [show Ideal.ofBits FTy.f32 0#32 = 0 by simp [Ideal.ofBits, Ideal.ieee], zero_add]

end Cert.AttnRefIdeal.Hand
-- ==== Proof.AttnRefE.lean ====
/- The windowed attention: the reference's stages at an index. -/
module

public import proofs.«01_k».proof.Defs
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

theorem v49_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (b : Fin 8) (n : Fin 64) (g r : Fin 4) (q : Fin 64) (k : Fin 192) : val_main_v49 (F := Ideal) x0 x1 x4 (ix6 b n g r q k)
    = Ideal.div (val_main_v41 (F := Ideal) x0 x1 x4 (ix6 b n g r q k)) (val_main_v42 (F := Ideal) x0 x1 x4 (ix5 b n g r q)
        + Ideal.exp (x4 (ix1 ⟨g.val * 4 + r.val, by omega⟩) - val_main_v38 (F := Ideal) x0 x1 x4 (ix6 b n g r q 0))) := by
  pointwise [val_main_v49, val_main_v48, val_main_v47, val_main_v46, val_main_v45, val_main_v44, val_main_v43, val_main_v34, val_main_v33]

end Cert.AttnRefIdeal.Hand
-- ==== Proof.AttnRefF.lean ====
/- The windowed attention: the reference's stages at an index. -/
module

public import proofs.«01_k».proof.Defs
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

theorem v55_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) : val_main_v55 (F := Ideal) x0 x1 x2 x3 x4 (ix2 R c)
    = (∑ k : Fin 192, val_main_v15 (F := Ideal) x2 (ix5 ⟨R.val / 4096, by omega⟩ ⟨R.val / 64 % 64, by omega⟩ k ⟨c.val / 64 % 4, by omega⟩ ⟨c.val % 64, by omega⟩)
        * val_main_v49 (F := Ideal) x0 x1 x4 (ix6 ⟨R.val / 4096, by omega⟩ ⟨R.val / 64 % 64, by omega⟩ ⟨c.val / 64 % 4, by omega⟩ ⟨c.val / 256, by omega⟩ ⟨R.val % 64, by omega⟩ k))
      * x3 (ix2 R c) := by
  pointwise [val_main_v55, val_main_v54, val_main_v53, val_main_v52, val_main_v51, val_main_v50]

end Cert.AttnRefIdeal.Hand
-- ==== Proof.AttnRefG.lean ====
/- The windowed attention: the reference's stages at an index. -/
module

public import proofs.«01_k».proof.Defs
public import proofs.«01_k».proof.Proof.Gen.AttnRefIdeal.Read
public import proofs.«01_k».proof.Proof.AttnRefA
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

/-- A window's value row: the sequence's row two chunks back, or zero before its start. -/
theorem v15_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (b : Fin 8) (n : Fin 64) (k : Fin 192) (g : Fin 4) (d : Fin 64) : val_main_v15 (F := Ideal) x2 (ix5 b n k g d)
    = if h : 128 ≤ n.val * 64 + k.val then (x2 (ix2 ⟨b.val * 4096 + (n.val * 64 + k.val - 128), by omega⟩ ⟨g.val * 64 + d.val, by omega⟩) : EReal) else 0 := by
  pointwise [val_main_v15, val_main_v14, val_main_v13, val_main_v12, val_main_v7, val_main_v6, val_main_v5, val_main_call1_v0, val_main_c_0]
  exact win (fun i h => x2 (ix2 ⟨b.val * 4096 + i, by omega⟩ ⟨g.val * 64 + d.val, by omega⟩)) n k _ z0

/-- A window's key row. -/
theorem v11_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (b : Fin 8) (n : Fin 64) (k : Fin 192) (g : Fin 4) (d : Fin 64) : val_main_v11 (F := Ideal) x1 (ix5 b n k g d)
    = if h : 128 ≤ n.val * 64 + k.val then (x1 (ix2 ⟨b.val * 4096 + (n.val * 64 + k.val - 128), by omega⟩ ⟨g.val * 64 + d.val, by omega⟩) : EReal) else 0 := by
  pointwise [val_main_v11, val_main_v10, val_main_v9, val_main_v8, val_main_v4, val_main_v3, val_main_v2, val_main_call0_v0, val_main_c]
  exact win (fun i h => x1 (ix2 ⟨b.val * 4096 + i, by omega⟩ ⟨g.val * 64 + d.val, by omega⟩)) n k _ z0

end Cert.AttnRefIdeal.Hand
-- ==== Proof.AttnRefH.lean ====
/- The windowed attention: the reference's stages at an index. -/
module

public import proofs.«01_k».proof.Defs
public import proofs.«01_k».proof.Proof.Gen.AttnRefIdeal.Read
public import proofs.«01_k».proof.Proof.AttnRefG
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

/-- A score: the query against the window's key, or minus infinity before the start. -/
theorem v32_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (b : Fin 8) (n : Fin 64) (g r : Fin 4) (q : Fin 64) (k : Fin 192) : val_main_v32 (F := Ideal) x0 x1 (ix6 b n g r q k)
    = if h : 128 ≤ n.val * 64 + k.val then (∑ e : Fin 64, x1 (ix2 ⟨b.val * 4096 + (n.val * 64 + k.val - 128), by omega⟩ ⟨g.val * 64 + e.val, by omega⟩)
        * x0 (ix2 ⟨b.val * 4096 + n.val * 64 + q.val, by omega⟩ ⟨r.val * 256 + g.val * 64 + e.val, by omega⟩) : EReal) else ⊥ := by
  pointwise [val_main_v0, val_main_v1, val_main_v5, val_main_c_0, val_main_call1_v0, val_main_v6, val_main_v7, val_main_v12, val_main_v13, val_main_v14, val_main_v15, val_main_v16, val_main_v17, val_main_c_1, val_main_v18, val_main_v19, val_main_c_2, val_main_v20, val_main_v21, val_main_v22, val_main_v23, val_main_v24, val_main_v25, val_main_v26, val_main_c_3, val_main_v27, val_main_v28, val_main_v29, val_main_v30, val_main_v31, val_main_cst, val_main_call2_v0, val_main_call2_v1, val_main_call2_v2, val_main_v32, val_main_v33, val_main_v34, val_main_cst_4, val_main_v35, val_main_v36, val_main_v37, val_main_v38, val_main_v39, val_main_v40, val_main_v41, val_main_cst_5, val_main_v42, val_main_v43, val_main_v44, val_main_v45, val_main_v46, val_main_v47, val_main_v48, val_main_v49, val_main_v50, val_main_v51, val_main_v52, val_main_v53, val_main_v54, val_main_v55]
  by_cases h : 128 ≤ n.val * 64 + k.val
  · refine Eq.trans ?_ (dif_pos h).symm
    rw [mask n k, decide_eq_true h]
    refine (selT _ _).trans (Finset.sum_congr rfl fun e _ => ?_)
    rw [v11_apply x0 x1 x2 x3 x4, dif_pos h]
  · refine Eq.trans ?_ (dif_neg h).symm
    rw [mask n k, decide_eq_false h]
    refine (selF _ _).trans ?_
    show Ideal.ofBits FTy.f32 4286578688#32 = ⊥
    simp [Ideal.ofBits, Ideal.ieee]

end Cert.AttnRefIdeal.Hand
-- ==== Proof.AttnRefI.lean ====
/- The windowed attention: the reference's result as one expression. -/
module

public import proofs.«01_k».proof.Defs
public import proofs.«01_k».proof.Proof.AttnRefB
public import proofs.«01_k».proof.Proof.AttnRefC
public import proofs.«01_k».proof.Proof.AttnRefD
public import proofs.«01_k».proof.Proof.AttnRefE
public import proofs.«01_k».proof.Proof.AttnRefF
public import proofs.«01_k».proof.Proof.AttnRefG
public import proofs.«01_k».proof.Proof.AttnRefH

@[expose] public section

set_option maxRecDepth 16384

noncomputable section

open Idealize.ShloMosaic Idealize.ShloMosaic.TcCoe Idealize.SL.Sem
open Idealize.ShloMosaic.Pipeline (Dat)

namespace Cert.AttnRefIdeal.Hand
open Cert.AttnRefIdeal Cert.AttnRefIdeal.Read

/-- The reference's scores of row `R` at column `c`. -/
def score (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) (k : Fin 192) : EReal :=
  if h : 128 ≤ R.val / 64 % 64 * 64 + k.val then ∑ e : Fin 64, x1 (ix2 ⟨R.val / 4096 * 4096 + (R.val / 64 % 64 * 64 + k.val - 128), by omega⟩ ⟨c.val / 64 % 4 * 64 + e.val, by omega⟩)
        * x0 (ix2 ⟨R.val / 4096 * 4096 + R.val / 64 % 64 * 64 + R.val % 64, by omega⟩ ⟨c.val / 256 * 256 + c.val / 64 % 4 * 64 + e.val, by omega⟩) else ⊥

/-- The reference's values of row `R` at column `c`. -/
def value (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) (k : Fin 192) : EReal :=
  if h : 128 ≤ R.val / 64 % 64 * 64 + k.val then x2 (ix2 ⟨R.val / 4096 * 4096 + (R.val / 64 % 64 * 64 + k.val - 128), by omega⟩ ⟨c.val / 64 % 4 * 64 + c.val % 64, by omega⟩) else 0

/-- The greatest score of row `R` at column `c`, or the sink. -/
def most (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) : EReal :=
  max (Finset.univ.sup (score x0 x1 x2 x3 x4 R c)) (x4 (ix1 ⟨c.val / 64 % 4 * 4 + c.val / 256, by omega⟩))

theorem score_eq (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) (k : Fin 192) :
    val_main_v32 (F := Ideal) x0 x1 (ix6 ⟨R.val / 4096, by omega⟩ ⟨R.val / 64 % 64, by omega⟩ ⟨c.val / 64 % 4, by omega⟩ ⟨c.val / 256, by omega⟩ ⟨R.val % 64, by omega⟩ k) = score x0 x1 x2 x3 x4 R c k := v32_apply x0 x1 x2 x3 x4 _ _ _ _ _ _

theorem value_eq (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) (k : Fin 192) :
    val_main_v15 (F := Ideal) x2 (ix5 ⟨R.val / 4096, by omega⟩ ⟨R.val / 64 % 64, by omega⟩ k ⟨c.val / 64 % 4, by omega⟩ ⟨c.val % 64, by omega⟩) = value x0 x1 x2 x3 x4 R c k :=
  v15_apply x0 x1 x2 x3 x4 _ _ _ _ _

theorem most_eq (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) :
    val_main_v38 (F := Ideal) x0 x1 x4 (ix6 ⟨R.val / 4096, by omega⟩ ⟨R.val / 64 % 64, by omega⟩ ⟨c.val / 64 % 4, by omega⟩ ⟨c.val / 256, by omega⟩ ⟨R.val % 64, by omega⟩ 0) = most x0 x1 x2 x3 x4 R c := by
  rw [v38_apply x0 x1 x2 x3 x4, v35_apply x0 x1 x2 x3 x4]
  simp only [score_eq x0 x1 x2 x3 x4]
  rfl

theorem weight_eq (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) (k : Fin 192) :
    val_main_v49 (F := Ideal) x0 x1 x4 (ix6 ⟨R.val / 4096, by omega⟩ ⟨R.val / 64 % 64, by omega⟩ ⟨c.val / 64 % 4, by omega⟩ ⟨c.val / 256, by omega⟩ ⟨R.val % 64, by omega⟩ k)
      = Ideal.div (Ideal.exp (score x0 x1 x2 x3 x4 R c k - most x0 x1 x2 x3 x4 R c)) (∑ k, Ideal.exp (score x0 x1 x2 x3 x4 R c k - most x0 x1 x2 x3 x4 R c)
          + Ideal.exp (x4 (ix1 ⟨c.val / 64 % 4 * 4 + c.val / 256, by omega⟩) - most x0 x1 x2 x3 x4 R c)) := by
  rw [v49_apply x0 x1 x2 x3 x4, v42_apply x0 x1 x2 x3 x4]
  simp only [v41_apply x0 x1 x2 x3 x4, most_eq x0 x1 x2 x3 x4, score_eq x0 x1 x2 x3 x4]

/-- The reference's result at row `R` and column `c`. -/
theorem ref_apply (x0 : (⟨S32768x1024, .bf16⟩ : BufTy).Contents (Elt Ideal)) (x1 x2 : (⟨S32768x256, .f32⟩ : BufTy).Contents (Elt Ideal)) (x3 : (⟨S32768x1024, .bf16⟩ : BufTy).Contents (Elt Ideal)) (x4 : (⟨S16, .f32⟩ : BufTy).Contents (Elt Ideal)) (R : Fin 32768) (c : Fin 1024) : val_main_v55 (F := Ideal) x0 x1 x2 x3 x4 (ix2 R c)
    = (∑ k, value x0 x1 x2 x3 x4 R c k * Ideal.div (Ideal.exp (score x0 x1 x2 x3 x4 R c k - most x0 x1 x2 x3 x4 R c)) (∑ k, Ideal.exp (score x0 x1 x2 x3 x4 R c k - most x0 x1 x2 x3 x4 R c)
          + Ideal.exp (x4 (ix1 ⟨c.val / 64 % 4 * 4 + c.val / 256, by omega⟩) - most x0 x1 x2 x3 x4 R c))) * x3 (ix2 R c) := by
  rw [v55_apply x0 x1 x2 x3 x4]
  simp only [value_eq x0 x1 x2 x3 x4, weight_eq x0 x1 x2 x3 x4]
end Cert.AttnRefIdeal.Hand
-- ==== Proof.Attn.lean ====
/- The windowed attention: what the kernel's result array holds, and that it is what the reference defines. -/
module

public import proofs.«01_k».proof.Defs
public import proofs.«01_k».proof.Proof.AttnBlk
public import proofs.«01_k».proof.Proof.AttnRefI
public import proofs.«01_k».proof.Proof.Gen.AttnRefIdeal.Run
public import proofs.«01_k».proof.Proof.Gen.Pre_scores_finite
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnIdeal.Hand
open Cert.AttnIdeal Cert.AttnIdeal.Gen
open Cert.AttnRefIdeal.Hand (score value most)

variable (m : (ℓ : Loc nD τ sig) → Buf (Elt Ideal) ℓ)

/-- A number whose absolute value is below infinity is real. -/
theorem real_of (x : EReal) (h : Ideal.cmp .olt (max x (-x)) (Ideal.ofBits .f32 2139095040#32) = 1#1) : ∃ r : ℝ, x = r := by
  have ht : Ideal.ofBits .f32 2139095040#32 = ⊤ := by simp [Ideal.ofBits, Ideal.ieee]
  rw [ht] at h
  induction x with
  | bot => simp [Ideal.cmp] at h
  | top => simp [Ideal.cmp] at h
  | coe r => exact ⟨r, rfl⟩

/-- The precondition, read: queries, keys and sinks are real numbers. -/
theorem pre_reads (h : Cert.Pre_AttnIdeal_scores_finite (hPre_scores_finite := Cert.Pre_scores_finite.Gen.facts) m) (c : Dev nD) :
    (∀ R n, ∃ r : ℝ, m ((c : Thread nD τ).loc main_arg0) (ix2 R n) = (r : EReal)) ∧ (∀ R n, ∃ r : ℝ, m ((c : Thread nD τ).loc main_arg1) (ix2 R n) = (r : EReal))
      ∧ (∀ k, ∃ r : ℝ, m ((c : Thread nD τ).loc main_arg4) (ix1 k) = (r : EReal)) := by
  obtain ⟨h0, h1, h2⟩ := h c
  simp only [Cert.Pre_scores_finite.fn] at h0 h1 h2
  exact ⟨fun R n => real_of _ (congrFun h0 (ix2 R n)), fun R n => real_of _ (congrFun h1 (ix2 R n)), fun k => real_of _ (congrFun h2 (ix1 k))⟩

/-- The reference's result as a function of the arguments. -/
abbrev ref (c : Dev nD) : (⟨S32768x1024, .bf16⟩ : BufTy).Contents (Elt Ideal) :=
  Cert.AttnRefIdeal.Read.val_main_v55 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The kernel's scores are the reference's. -/
theorem scores (c : Dev nD) (t : Fin cfg0.N) (p : Fin 512) (C : Fin 1024) (Q : S512x1024.Idx → EReal) (hQ : Q = iblk m c 0 t) (k : Fin 192) :
    (if 128 ≤ ((grid0.coords t 1).val * 8 + p.val / 64) * 64 + k.val then
      ∑ e : Fin 64, Q (ix2 p ⟨C.val / 64 * 64 + e.val, by omega⟩) * rows (iblk m c 1 t) (iblk m c 2 t) (ix2 ⟨p.val / 64 * 64 + k.val, by omega⟩ ⟨C.val % 256 / 64 * 64 + e.val, by omega⟩) else (⊥ : EReal))
    = score (m ((c : Thread nD τ).loc main_arg0)) (m ((c : Thread nD τ).loc main_arg1)) (m ((c : Thread nD τ).loc main_arg2)) (m ((c : Thread nD τ).loc main_arg3)) (m ((c : Thread nD τ).loc main_arg4)) (row t p) C k := by
  have hl := lt64 t
  have hn : (row t p).val / 64 % 64 = t.val % 8 * 8 + p.val / 64 := by show (t.val * 512 + p.val) / 64 % 64 = _; omega
  have hb : (row t p).val / 4096 = t.val / 8 := by show (t.val * 512 + p.val) / 4096 = _; omega
  unfold score
  rw [coord t]
  by_cases h : 128 ≤ (t.val % 8 * 8 + p.val / 64) * 64 + k.val
  · rw [if_pos h, dif_pos (by rw [hn]; exact h)]
    refine Finset.sum_congr rfl fun e _ => ?_
    rw [keys m c t ⟨p.val / 64, by omega⟩ k _ h ⟨p.val / 64 * 64 + k.val, by omega⟩ rfl ⟨t.val / 8 * 4096 + ((t.val % 8 * 8 + p.val / 64) * 64 + k.val - 128), by omega⟩ rfl, hQ, blk0, mul_comm]
    refine congrArg₂ (fun a b : EReal => a * b) ?_ ?_
    · refine congrArg (m ((c : Thread nD τ).loc main_arg1)) ?_
      refine congrArg₂ (fun (a : Fin 32768) (b : Fin 256) => ix2 a b) (Fin.ext ?_) (Fin.ext ?_)
      · dsimp only; rw [hn, hb]
      · dsimp only; omega
    · refine congrArg (m ((c : Thread nD τ).loc main_arg0)) ?_
      refine congrArg₂ (fun (a : Fin 32768) (b : Fin 1024) => ix2 a b) (Fin.ext ?_) (Fin.ext ?_)
      · dsimp only; omega
      · dsimp only; omega
  · rw [if_neg h, dif_neg (by rw [hn]; exact h)]

/-- Where a key is not masked the kernel's values are the reference's. -/
theorem values (c : Dev nD) (t : Fin cfg0.N) (p : Fin 512) (C : Fin 1024) (k : Fin 192) (h : 128 ≤ (t.val % 8 * 8 + p.val / 64) * 64 + k.val) :
    rows (iblk m c 3 t) (iblk m c 4 t) (ix2 ⟨p.val / 64 * 64 + k.val, by omega⟩ ⟨C.val % 256, by omega⟩)
    = value (m ((c : Thread nD τ).loc main_arg0)) (m ((c : Thread nD τ).loc main_arg1)) (m ((c : Thread nD τ).loc main_arg2)) (m ((c : Thread nD τ).loc main_arg3)) (m ((c : Thread nD τ).loc main_arg4)) (row t p) C k := by
  have hl := lt64 t
  have hn : (row t p).val / 64 % 64 = t.val % 8 * 8 + p.val / 64 := by show (t.val * 512 + p.val) / 64 % 64 = _; omega
  have hb : (row t p).val / 4096 = t.val / 8 := by show (t.val * 512 + p.val) / 4096 = _; omega
  unfold value
  rw [dif_pos (by rw [hn]; exact h)]
  rw [vals m c t ⟨p.val / 64, by omega⟩ k _ h ⟨p.val / 64 * 64 + k.val, by omega⟩ rfl ⟨t.val / 8 * 4096 + ((t.val % 8 * 8 + p.val / 64) * 64 + k.val - 128), by omega⟩ rfl]
  refine congrArg (m ((c : Thread nD τ).loc main_arg2)) ?_
  refine congrArg₂ (fun (a : Fin 32768) (b : Fin 256) => ix2 a b) (Fin.ext ?_) (Fin.ext ?_)
  · dsimp only; rw [hn, hb]
  · dsimp only; omega

/-- A score is a real number, or that of a masked key. -/
theorem score_real (h : Cert.Pre_AttnIdeal_scores_finite (hPre_scores_finite := Cert.Pre_scores_finite.Gen.facts) m) (c : Dev nD) (R : Fin 32768) (C : Fin 1024) (k : Fin 192) :
    (∃ r : ℝ, score (m ((c : Thread nD τ).loc main_arg0)) (m ((c : Thread nD τ).loc main_arg1)) (m ((c : Thread nD τ).loc main_arg2)) (m ((c : Thread nD τ).loc main_arg3)) (m ((c : Thread nD τ).loc main_arg4)) R C k = (r : EReal))
    ∨ score (m ((c : Thread nD τ).loc main_arg0)) (m ((c : Thread nD τ).loc main_arg1)) (m ((c : Thread nD τ).loc main_arg2)) (m ((c : Thread nD τ).loc main_arg3)) (m ((c : Thread nD τ).loc main_arg4)) R C k = ⊥ := by
  obtain ⟨hq, hk, _⟩ := pre_reads m h c
  unfold score
  split_ifs with h0
  · refine Or.inl (sum_real _ _ fun e => ?_)
    obtain ⟨a, ha⟩ := hk ⟨R.val / 4096 * 4096 + (R.val / 64 % 64 * 64 + k.val - 128), by omega⟩ ⟨C.val / 64 % 4 * 64 + e.val, by omega⟩
    obtain ⟨b, hb⟩ := hq ⟨R.val / 4096 * 4096 + R.val / 64 % 64 * 64 + R.val % 64, by omega⟩ ⟨C.val / 256 * 256 + C.val / 64 % 4 * 64 + e.val, by omega⟩
    exact ⟨a * b, by rw [ha, hb, EReal.coe_mul]⟩
  · exact Or.inr rfl

/-- Dividing after the product with the values or before it, the scores, values and sink given twice. -/
theorem att_soft (S S' V V' : Fin 192 → EReal) (σ σ' : EReal) (ok : Fin 192 → Prop) (hSS : ∀ k, S k = S' k) (hσσ : σ = σ') (hS : ∀ k, (∃ r : ℝ, S' k = r) ∨ S' k = ⊥)
    (hV : ∀ k, ok k → V k = V' k) (hbot : ∀ k, ¬ ok k → S' k = ⊥) (hσ : ∃ r : ℝ, σ' = r) :
    att S V σ = ∑ k, V' k * Ideal.div (Ideal.exp (S' k - max (Finset.univ.sup S') σ')) (∑ k, Ideal.exp (S' k - max (Finset.univ.sup S') σ') + Ideal.exp (σ' - max (Finset.univ.sup S') σ')) := by
  obtain rfl : S = S' := funext hSS
  subst hσσ
  exact soft S V V' ok hS hV hbot σ _ hσ rfl

/-- A block's result is the reference's. -/
theorem out_eq (h : Cert.Pre_AttnIdeal_scores_finite (hPre_scores_finite := Cert.Pre_scores_finite.Gen.facts) m) (c : Dev nD) (t : Fin cfg0.N) (p : Fin 512) (C : Fin 1024) :
    outsAt0 m c t (ix2 p C) = ref m c (ix2 (row t p) C) := by
  have hl := lt64 t
  have hn : (row t p).val / 64 % 64 = t.val % 8 * 8 + p.val / 64 := by show (t.val * 512 + p.val) / 64 % 64 = _; omega
  refine (out_apply m c t p C (fun g r => m ((c : Thread nD τ).loc main_arg4) (ix1 ⟨g.val * 4 + r.val, by omega⟩)) (fun g r l => blk6 m c t g r l)).trans ?_
  refine Eq.trans ?_ (Cert.AttnRefIdeal.Hand.ref_apply _ _ _ _ _ _ _).symm
  unfold blockOut
  rw [blk5]
  refine congrArg (fun a : EReal => a * m ((c : Thread nD τ).loc main_arg3) (ix2 (row t p) C)) ?_
  have hg : C.val % 256 / 64 = C.val / 64 % 4 := by omega
  have hs : m ((c : Thread nD τ).loc main_arg4) (ix1 ⟨C.val % 256 / 64 * 4 + C.val / 256, by omega⟩) = m ((c : Thread nD τ).loc main_arg4) (ix1 ⟨C.val / 64 % 4 * 4 + C.val / 256, by omega⟩) := by
    refine congrArg (fun k => m ((c : Thread nD τ).loc main_arg4) (ix1 k)) (Fin.ext ?_)
    dsimp only; rw [hg]
  exact att_soft _ _ _ _ _ _ (fun k : Fin 192 => 128 ≤ (t.val % 8 * 8 + p.val / 64) * 64 + k.val) (scores m c t p C _ rfl) hs (score_real m h c (row t p) C) (values m c t p C)
    (fun k hk => dif_neg (by rw [hn]; exact hk)) ((pre_reads m h c).2.2 _)

/-- The result array after the run is the reference's result. -/
theorem final (h : Cert.Pre_AttnIdeal_scores_finite (hPre_scores_finite := Cert.Pre_scores_finite.Gen.facts) m) (c : Dev nD) : (dats m 0 c).arrAt 7 (cfgs 0).N = ref m c := by
  refine (dats m 0 c).arrAt_eq_of_covers 7 _ (by decide +kernel) fun t hf y => ?_
  blk_simp
  rw [after0_7]
  idx_vars y
  have e : (((View.whole main_v6).slice (win0_7.rect t)).emb (ix2 y0 y1)) = ix2 (row t y0) y1 := by
    blk_ext [idx t, row]
  rw [e]
  exact out_eq m h c t y0 y1

end Cert.AttnIdeal.Hand

namespace Cert.Proof

/-- The kernel's windowed attention computes what the reference defines. -/
theorem algebraic_Attn : Cert.algebraic_AttnIdeal_AttnRefIdeal_pre_scores_finite (hAttnIdeal := Cert.AttnIdeal.Gen.facts)
    (hAttnRefIdeal := Cert.AttnRefIdeal.Gen.facts) (hPre_scores_finite := Cert.Pre_scores_finite.Gen.facts) := fun m g m' g' hp hag =>
  ⟨fun c => Cert.AttnIdeal.Hand.ref m c,
    (θ_run _ _ _).mono (fun r h c => ⟨((h c).1).trans (Cert.AttnIdeal.Hand.final m hp c), (h c).2⟩) (Cert.AttnIdeal.Value.run_blocks m g),
    (θ_run _ _ _).mono (fun r h c => ⟨((h c).1).trans (by
      rw [Cert.AttnRefIdeal.Read.val_main_v55_eq, (hag c).1, (hag c).2.1, (hag c).2.2.1, (hag c).2.2.2.1, (hag c).2.2.2.2]), (h c).2⟩)
      (Cert.AttnRefIdeal.Value.run m' g')⟩

end Cert.Proof
-- ==== Proof.AttnSRefA.lean ====
/- The sample's attention: the reference's stages at an index. -/
module

public import proofs.«01_k».proof.Defs
public import proofs.«01_k».proof.Proof.Gen.AttnSRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnSRefIdeal.Hand
open Cert.AttnSRefIdeal Cert.AttnSRefIdeal.Read

/-- Row `s` of sample `b`: the cached rows, then the new ones. -/
def row (A : (⟨S16x128x256, .f32⟩ : BufTy).Contents (Elt Ideal)) (B : (⟨S256x256, .f32⟩ : BufTy).Contents (Elt Ideal)) (b : Fin 16) (s : Fin 144) (d : Fin 256) : EReal :=
  if h : s.val < 128 then A (ix3 b ⟨s.val, h⟩ d) else B (ix2 ⟨b.val * 16 + (s.val - 128), by omega⟩ d)

/-- The softmax of the scores with a sink, times the values. -/
def mix (S V : Fin 144 → EReal) (σ : EReal) : EReal :=
  ∑ k, V k * Ideal.div (Ideal.exp (S k - max (Finset.univ.sup S) σ)) (∑ k, Ideal.exp (S k - max (Finset.univ.sup S) σ) + Ideal.exp (σ - max (Finset.univ.sup S) σ))

/-- The score indices that drop to one query of one head are its keys'. -/
theorem fiber (b : Fin 16) (g r : Fin 4) (q : Fin 16) (i : S16x4x4x16x144.Idx) :
    Gen.reducesTo_S16x4x4x16x144_S16x4x4x16_d4.drop i = ix4 b g r q ↔ ∃ k : Fin 144, ix5 b g r q k = i := by
  constructor
  · intro e
    refine ⟨i 4, ?_⟩
    funext a
    apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => rfl
  · rintro ⟨k, rfl⟩
    funext a
    apply Fin.ext
    match a with
    | ⟨0, _⟩ => rfl
    | ⟨1, _⟩ => rfl
    | ⟨2, _⟩ => rfl
    | ⟨3, _⟩ => rfl

theorem v1_apply (x1 : (⟨S256x256, .f32⟩ : BufTy).Contents (Elt Ideal)) (x3 : (⟨S16x128x256, .f32⟩ : BufTy).Contents (Elt Ideal)) (b : Fin 16) (s : Fin 144) (d : Fin 256) :
    val_main_v1 (F := Ideal) x1 x3 (ix3 b s d) = row x3 x1 b s d := by
  pointwise [val_main_v1, val_main_v0]
  rfl

theorem v3_apply (x2 : (⟨S256x256, .f32⟩ : BufTy).Contents (Elt Ideal)) (x4 : (⟨S16x128x256, .f32⟩ : BufTy).Contents (Elt Ideal)) (b : Fin 16) (s : Fin 144) (d : Fin 256) :
    val_main_v3 (F := Ideal) x2 x4 (ix3 b s d) = row x4 x2 b s d := by
  pointwise [val_main_v3, val_main_v2]
  rfl

theorem v4_apply (x1 : (⟨S256x256, .f32⟩ : BufTy).Contents (Elt Ideal)) (x3 : (⟨S16x128x256, .f32⟩ : BufTy).Contents (Elt Ideal)) (b : Fin 16) (s : Fin 144) (g : Fin 4) (e : Fin 64) :
    val_main_v4 (F := Ideal) x1 x3 (ix4 b s g e) = row x3 x1 b s ⟨g.val * 64 + e.val, by omega⟩ := by
  pointwise [val_main_v4, val_main_v1, val_main_v0]
  rfl

theorem v5_apply (x2 : (⟨S256x256, .f32⟩ : BufTy).Contents (Elt Ideal)) (x4 : (⟨S16x128x256, .f32⟩ : BufTy).Contents (Elt Ideal)) (b : Fin 16) (s : Fin 144) (g : Fin 4) (e : Fin 64) :
    val_main_v5 (F := Ideal) x2 x4 (ix4 b s g e) = row x4 x2 b s ⟨g.val * 64 + e.val, by omega⟩ := by
  pointwise [val_main_v5, val_main_v3, val_main_v2]
  rfl

/-- The reference's scores. -/
def score (x0 : (⟨S256x1024, .bf16⟩ : BufTy).Contents (Elt Ideal)) (x1 : (⟨S256x256, .f32⟩ : BufTy).Contents (Elt Ideal)) (x3 : (⟨S16x128x256, .f32⟩ : BufTy).Contents (Elt Ideal)) (b : Fin 16) (g r : Fin 4) (q : Fin 16) (k : Fin 144) : EReal :=
  ∑ e : Fin 64, row x3 x1 b k ⟨g.val * 64 + e.val, by omega⟩ * x0 (ix2 ⟨b.val * 16 + q.val, by omega⟩ ⟨r.val * 256 + g.val * 64 + e.val, by omega⟩)

theorem v9_apply (x0 : (⟨S256x1024, .bf16⟩ : BufTy).Contents (Elt Ideal)) (x1 : (⟨S256x256, .f32⟩ : BufTy).Contents (Elt Ideal)) (x3 : (⟨S16x128x256, .f32⟩ : BufTy).Contents (Elt Ideal)) (b : Fin 16) (g r : Fin 4) (q : Fin 16) (k : Fin 144) :
    val_main_v9 (F := Ideal) x0 x1 x3 (ix5 b g r q k) = score x0 x1 x3 b g r q k := by
  pointwise [val_main_v9, val_main_v8, val_main_v7, val_main_v6]
  refine Finset.sum_congr rfl fun e _ => ?_
  rw [v4_apply]

theorem v12_apply (x0 : (⟨S256x1024, .bf16⟩ : BufTy).Contents (Elt Ideal)) (x1 : (⟨S256x256, .f32⟩ : BufTy).Contents (Elt Ideal)) (x3 : (⟨S16x128x256, .f32⟩ : BufTy).Contents (Elt Ideal)) (b : Fin 16) (g r : Fin 4) (q : Fin 16) :
    val_main_v12 (F := Ideal) x0 x1 x3 (ix4 b g r q) = Finset.univ.sup (score x0 x1 x3 b g r q) := by
  pointwise [val_main_v12, val_main_cst]
  rw [show Ideal.ofBits FTy.f32 4286578688#32 = ⊥ by simp [Ideal.ofBits, Ideal.ieee]]
  simp only [v9_apply]
  rfl

theorem v11_apply (x6 : (⟨S16, .f32⟩ : BufTy).Contents (Elt Ideal)) (g r : Fin 4) : val_main_v11 (F := Ideal) x6 (ix5 0 g r 0 0) = x6 (ix1 ⟨g.val * 4 + r.val, by omega⟩) := by
  pointwise [val_main_v11, val_main_v10]

/-- The greatest score or the sink. -/
theorem v15_apply (x0 : (⟨S256x1024, .bf16⟩ : BufTy).Contents (Elt Ideal)) (x1 : (⟨S256x256, .f32⟩ : BufTy).Contents (Elt Ideal)) (x3 : (⟨S16x128x256, .f32⟩ : BufTy).Contents (Elt Ideal)) (x6 : (⟨S16, .f32⟩ : BufTy).Contents (Elt Ideal)) (b : Fin 16) (g r : Fin 4) (q : Fin 16) :
    val_main_v15 (F := Ideal) x0 x1 x3 x6 (ix5 b g r q 0) = max (Finset.univ.sup (score x0 x1 x3 b g r q)) (x6 (ix1 ⟨g.val * 4 + r.val, by omega⟩)) := by
  rw [← v12_apply, ← v11_apply x6 g r]
  refine (val_main_v15_apply x0 x1 x3 x6 _).trans ?_
  rw [val_main_v13_apply, val_main_v14_apply]
  have e1 : idx_main_v13 (ix5 b g r q 0) = ix4 b g r q := by
    funext a
    match a with
    | ⟨0, _⟩ => rfl
    | ⟨1, _⟩ => rfl
    | ⟨2, _⟩ => rfl
    | ⟨3, _⟩ => rfl
  have e2 : idx_main_v14 (ix5 b g r q 0) = ix5 0 g r 0 0 := by
    funext a
    match a with
    | ⟨0, _⟩ => rfl
    | ⟨1, _⟩ => rfl
    | ⟨2, _⟩ => rfl
    | ⟨3, _⟩ => rfl
    | ⟨4, _⟩ => rfl
  rw [e1, e2]
  rfl

theorem v18_apply (x0 : (⟨S256x1024, .bf16⟩ : BufTy).Contents (Elt Ideal)) (x1 : (⟨S256x256, .f32⟩ : BufTy).Contents (Elt Ideal)) (x3 : (⟨S16x128x256, .f32⟩ : BufTy).Contents (Elt Ideal)) (x6 : (⟨S16, .f32⟩ : BufTy).Contents (Elt Ideal)) (b : Fin 16) (g r : Fin 4) (q : Fin 16) (k : Fin 144) :
    val_main_v18 (F := Ideal) x0 x1 x3 x6 (ix5 b g r q k)
      = Ideal.exp (score x0 x1 x3 b g r q k - max (Finset.univ.sup (score x0 x1 x3 b g r q)) (x6 (ix1 ⟨g.val * 4 + r.val, by omega⟩))) := by
  rw [← v15_apply, ← v9_apply]
  pointwise [val_main_v18, val_main_v17, val_main_v16]

theorem v19_apply (x0 : (⟨S256x1024, .bf16⟩ : BufTy).Contents (Elt Ideal)) (x1 : (⟨S256x256, .f32⟩ : BufTy).Contents (Elt Ideal)) (x3 : (⟨S16x128x256, .f32⟩ : BufTy).Contents (Elt Ideal)) (x6 : (⟨S16, .f32⟩ : BufTy).Contents (Elt Ideal)) (b : Fin 16) (g r : Fin 4) (q : Fin 16) :
    val_main_v19 (F := Ideal) x0 x1 x3 x6 (ix4 b g r q) = ∑ k : Fin 144, (val_main_v18 (F := Ideal) x0 x1 x3 x6 (ix5 b g r q k) : EReal) := by
  unfold val_main_v19
  show Ideal.hostReduceAdd Gen.reducesTo_S16x4x4x16x144_S16x4x4x16_d4 (val_main_v18 (F := Ideal) x0 x1 x3 x6) (Ideal.ofBits FTy.f32 0#32) (ix4 b g r q) = _
  unfold Ideal.hostReduceAdd
  rw [Finset.sum_filter_eq_sum_of_fiber _ (fun k : Fin 144 => ix5 b g r q k) (fun _ _ e => congrFun e 4) (fiber b g r q)]
  rw [show Ideal.ofBits FTy.f32 0#32 = 0 by simp [Ideal.ofBits, Ideal.ieee], zero_add]

theorem v26_apply (x0 : (⟨S256x1024, .bf16⟩ : BufTy).Contents (Elt Ideal)) (x1 : (⟨S256x256, .f32⟩ : BufTy).Contents (Elt Ideal)) (x3 : (⟨S16x128x256, .f32⟩ : BufTy).Contents (Elt Ideal)) (x6 : (⟨S16, .f32⟩ : BufTy).Contents (Elt Ideal)) (b : Fin 16) (g r : Fin 4) (q : Fin 16) (k : Fin 144) :
    val_main_v26 (F := Ideal) x0 x1 x3 x6 (ix5 b g r q k)
      = Ideal.div (val_main_v18 (F := Ideal) x0 x1 x3 x6 (ix5 b g r q k)) (val_main_v19 (F := Ideal) x0 x1 x3 x6 (ix4 b g r q)
        + Ideal.exp (x6 (ix1 ⟨g.val * 4 + r.val, by omega⟩) - val_main_v15 (F := Ideal) x0 x1 x3 x6 (ix5 b g r q 0))) := by
  pointwise [val_main_v26, val_main_v25, val_main_v24, val_main_v23, val_main_v22, val_main_v21, val_main_v20, val_main_v11, val_main_v10]

theorem v32_apply (x0 : (⟨S256x1024, .bf16⟩ : BufTy).Contents (Elt Ideal)) (x1 x2 : (⟨S256x256, .f32⟩ : BufTy).Contents (Elt Ideal)) (x3 x4 : (⟨S16x128x256, .f32⟩ : BufTy).Contents (Elt Ideal)) (x5 : (⟨S256x1024, .bf16⟩ : BufTy).Contents (Elt Ideal)) (x6 : (⟨S16, .f32⟩ : BufTy).Contents (Elt Ideal)) (R : Fin 256) (c : Fin 1024) :
    val_main_v32 (F := Ideal) x0 x1 x2 x3 x4 x5 x6 (ix2 R c)
      = (∑ k : Fin 144, val_main_v5 (F := Ideal) x2 x4 (ix4 ⟨R.val / 16, by omega⟩ k ⟨c.val / 64 % 4, by omega⟩ ⟨c.val % 64, by omega⟩)
        * val_main_v26 (F := Ideal) x0 x1 x3 x6 (ix5 ⟨R.val / 16, by omega⟩ ⟨c.val / 64 % 4, by omega⟩ ⟨c.val / 256, by omega⟩ ⟨R.val % 16, by omega⟩ k))
      * x5 (ix2 R c) := by
  pointwise [val_main_v32, val_main_v31, val_main_v30, val_main_v29, val_main_v28, val_main_v27]

/-- The reference's result at a row and a column. -/
theorem ref_apply (x0 : (⟨S256x1024, .bf16⟩ : BufTy).Contents (Elt Ideal)) (x1 x2 : (⟨S256x256, .f32⟩ : BufTy).Contents (Elt Ideal)) (x3 x4 : (⟨S16x128x256, .f32⟩ : BufTy).Contents (Elt Ideal)) (x5 : (⟨S256x1024, .bf16⟩ : BufTy).Contents (Elt Ideal)) (x6 : (⟨S16, .f32⟩ : BufTy).Contents (Elt Ideal)) (R : Fin 256) (c : Fin 1024) :
    val_main_v32 (F := Ideal) x0 x1 x2 x3 x4 x5 x6 (ix2 R c)
      = mix (score x0 x1 x3 ⟨R.val / 16, by omega⟩ ⟨c.val / 64 % 4, by omega⟩ ⟨c.val / 256, by omega⟩ ⟨R.val % 16, by omega⟩)
          (fun k => row x4 x2 ⟨R.val / 16, by omega⟩ k ⟨c.val / 64 % 4 * 64 + c.val % 64, by omega⟩) (x6 (ix1 ⟨c.val / 64 % 4 * 4 + c.val / 256, by omega⟩))
        * x5 (ix2 R c) := by
  rw [v32_apply]
  simp only [v5_apply, v26_apply, v19_apply, v18_apply, v15_apply]
  rfl

/-- The reference's new caches. -/
theorem v33_apply (x1 : (⟨S256x256, .f32⟩ : BufTy).Contents (Elt Ideal)) (x3 : (⟨S16x128x256, .f32⟩ : BufTy).Contents (Elt Ideal)) (b : Fin 16) (s : Fin 128) (d : Fin 256) :
    val_main_v33 (F := Ideal) x1 x3 (ix3 b s d) = row x3 x1 b ⟨16 + s.val, by omega⟩ d := by
  rw [← v1_apply]
  pointwise [val_main_v33]

theorem v34_apply (x2 : (⟨S256x256, .f32⟩ : BufTy).Contents (Elt Ideal)) (x4 : (⟨S16x128x256, .f32⟩ : BufTy).Contents (Elt Ideal)) (b : Fin 16) (s : Fin 128) (d : Fin 256) :
    val_main_v34 (F := Ideal) x2 x4 (ix3 b s d) = row x4 x2 b ⟨16 + s.val, by omega⟩ d := by
  rw [← v3_apply]
  pointwise [val_main_v34]
end Cert.AttnSRefIdeal.Hand
-- ==== Proof.AttnSPay.lean ====
/- The sample's attention: the kernel's arithmetic for one head and one group of queries, at an index. -/
module

public import proofs.«01_k».proof.Defs
public import proofs.«01_k».proof.Proof.Gen.AttnSIdeal.Value
public import proofs.«01_k».proof.Proof.AttnSRefA
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnSIdeal.Hand
open Cert.AttnSIdeal Cert.AttnSIdeal.Gen
open Cert.AttnSRefIdeal.Hand (mix)

/-- The kernel's scores for one head and one group. -/
def sc (K : FVec Ideal S144x64 .bf16) (q : FVec Ideal S16x64 .bf16) : FVec Ideal S16x144 .f32 :=
  matmul dot_S16x64_S144x64_S16x144_1_1_0_0_n_n none q K (constant S16x144 .f32 0x00000000#32)

/-- The greatest score of each row, or its sink. -/
def top (s : FVec Ideal S16x144 .f32) (sk : Vec Ideal S1x16x1 .f32) : FVec Ideal S16x1 .f32 :=
  maximumf (shapeCast S16x1 (multiReduction .maximumf [1] S16 s 0xFF800000#32 reduces_S16x144_S16 (.inl rfl) rfl) shapeCasts_S16_S16x1) (shapeCast S16x1 sk shapeCasts_S1x16x1_S16x1)

/-- The weights. -/
def wt (s : FVec Ideal S16x144 .f32) (sk : Vec Ideal S1x16x1 .f32) : FVec Ideal S16x144 .f32 :=
  exp (subf s (broadcastTo S16x144 (top s sk) broadcasts_S16x1_S16x144))

/-- The weights' totals, each with its sink's weight. -/
def tot (s : FVec Ideal S16x144 .f32) (sk : Vec Ideal S1x16x1 .f32) : FVec Ideal S16x1 .f32 :=
  addf (shapeCast S16x1 (multiReduction .add [1] S16 (wt s sk) 0x00000000#32 reduces_S16x144_S16 (.inl rfl) rfl) shapeCasts_S16_S16x1)
    (exp (subf (shapeCast S16x1 sk shapeCasts_S1x16x1_S16x1) (top s sk)))

/-- One head and one group's part of the block. -/
def tile (K V : FVec Ideal S144x64 .bf16) (q : Vec Ideal S16x64 .bf16) (sk : Vec Ideal S1x16x1 .f32) (ga : Vec Ideal S16x64 .bf16) : FVec Ideal S16x64 .bf16 :=
  truncf .bf16 (mulf (matmul dot_S16x144_S144x64_S16x64_1_0_0_1_n_n none
    (truncf .bf16 (divf (wt (sc K q) sk) (broadcastTo S16x144 (tot (sc K q) sk) broadcasts_S16x1_S16x144)) bitsLt_bf16_f32 : FVec Ideal S16x144 .bf16)
    V (constant S16x64 .f32 0x00000000#32)) (extf .f32 ga bitsLt_bf16_f32)) bitsLt_bf16_f32

theorem sc_apply (K : FVec Ideal S144x64 .bf16) (q : FVec Ideal S16x64 .bf16) (r : Fin 16) (k : Fin 144) :
    sc K q (ix2 r k) = ∑ e : Fin 64, q (ix2 r e) * K (ix2 k e) := by
  pointwise [sc]

theorem top_apply (s : FVec Ideal S16x144 .f32) (sk : Vec Ideal S1x16x1 .f32) (r : Fin 16) (z : Fin 1) :
    top s sk (ix2 r z) = max (Finset.univ.sup fun k : Fin 144 => (s (ix2 r k) : EReal)) (sk (ix3 0 r 0)) := by
  pointwise [top]
  rw [show Ideal.ofBits FTy.f32 4286578688#32 = ⊥ by simp [Ideal.ofBits, Ideal.ieee]]
  rfl

theorem wt_apply (s : FVec Ideal S16x144 .f32) (sk : Vec Ideal S1x16x1 .f32) (r : Fin 16) (k : Fin 144) :
    wt s sk (ix2 r k) = Ideal.exp (s (ix2 r k) - max (Finset.univ.sup fun k : Fin 144 => (s (ix2 r k) : EReal)) (sk (ix3 0 r 0))) := by
  rw [← top_apply s sk r 0]
  pointwise [wt]

theorem tot_apply (s : FVec Ideal S16x144 .f32) (sk : Vec Ideal S1x16x1 .f32) (r : Fin 16) (z : Fin 1) :
    tot s sk (ix2 r z) = (∑ k : Fin 144, Ideal.exp (s (ix2 r k) - max (Finset.univ.sup fun k : Fin 144 => (s (ix2 r k) : EReal)) (sk (ix3 0 r 0))))
      + Ideal.exp (sk (ix3 0 r 0) - max (Finset.univ.sup fun k : Fin 144 => (s (ix2 r k) : EReal)) (sk (ix3 0 r 0))) := by
  obtain rfl : z = 0 := Subsingleton.elim _ _
  simp only [← wt_apply]
  rw [← top_apply s sk r 0]
  pointwise [tot]

/-- A part of the block at an index. -/
theorem tile_apply (K V : FVec Ideal S144x64 .bf16) (q : Vec Ideal S16x64 .bf16) (sk : Vec Ideal S1x16x1 .f32) (ga : Vec Ideal S16x64 .bf16) (r : Fin 16) (d : Fin 64) :
    tile K V q sk ga (ix2 r d) = mix (fun k => ∑ e : Fin 64, K (ix2 k e) * q (ix2 r e)) (fun k => V (ix2 k d)) (sk (ix3 0 r 0)) * ga (ix2 r d) := by
  pointwise [tile]
  simp only [tot_apply, wt_apply, sc_apply]
  unfold mix
  refine congrArg (fun a : EReal => a * ga (ix2 r d)) (Finset.sum_congr rfl fun k _ => ?_)
  rw [mul_comm]
  simp only [mul_comm]
end Cert.AttnSIdeal.Hand
-- ==== Proof.AttnSOut.lean ====
/- The sample's attention: what the kernel leaves in a block. -/
module

public import proofs.«01_k».proof.Defs
public import proofs.«01_k».proof.Proof.AttnSPay
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttnSIdeal.Hand
open Cert.AttnSIdeal Cert.AttnSIdeal.Gen
open Cert.AttnSRefIdeal.Hand (mix)

/-- Row `s` of a sample's window, from the blocks: the cached rows, then the new ones. -/
def rowb (A : S1x128x256.Idx → EReal) (B : S16x256.Idx → EReal) (s : Fin 144) (d : Fin 256) : EReal :=
  if h : s.val < 128 then A (ix3 0 ⟨s.val, h⟩ d) else B (ix2 ⟨s.val - 128, by omega⟩ d)

theorem ldA (X : Vec Ideal S1x128x256 .f32) : View.ld X r0_0 = X := View.ld_unit_lit _ _ (by decide)

theorem ldB (X : Vec Ideal S16x256 .f32) : View.ld X r0_1 = X := View.ld_unit_lit _ _ (by decide)

theorem pay2_apply (A : Vec Ideal S1x128x256 .f32) (B : Vec Ideal S16x256 .f32) (s : Fin 144) (d : Fin 256) : k0_pay2 (F := Ideal) A B (ix2 s d) = rowb A B s d := by
  pointwise [k0_pay2]
  rfl

theorem pay3_apply (A : Vec Ideal S1x128x256 .f32) (B : Vec Ideal S16x256 .f32) (s : Fin 144) (d : Fin 256) : k0_pay3 (F := Ideal) A B (ix2 s d) = rowb A B s d := by
  pointwise [k0_pay3]
  rfl

theorem pay59_apply (x0 : Vec Ideal S16x1024 .bf16) (x1 x2 : Vec Ideal S16x256 .f32) (x3 x4 : Vec Ideal S1x128x256 .f32) (x5 : Vec Ideal S16x1024 .bf16) (x6 : Vec Ideal S4x256x128 .f32) (s : Fin 144) (d : Fin 256) : k0_pay59 (F := Ideal) x0 x1 x2 x3 x4 x5 x6 (ix2 s d) = rowb x3 x1 s d := by
  unfold k0_pay59
  rw [ldA, ldB, ← pay2_apply]
  pointwise [k0_pay6]

theorem pay60_apply (x0 : Vec Ideal S16x1024 .bf16) (x1 x2 : Vec Ideal S16x256 .f32) (x3 x4 : Vec Ideal S1x128x256 .f32) (x5 : Vec Ideal S16x1024 .bf16) (x6 : Vec Ideal S4x256x128 .f32) (s : Fin 144) (d : Fin 256) : k0_pay60 (F := Ideal) x0 x1 x2 x3 x4 x5 x6 (ix2 s d) = rowb x4 x2 s d := by
  unfold k0_pay60
  rw [ldA, ldB, ← pay3_apply]
  pointwise [k0_pay7]

/-- What the kernel leaves at row `p` and column `C` of its block. -/
def blockOut (x0 : Vec Ideal S16x1024 .bf16) (x1 x2 : Vec Ideal S16x256 .f32) (x3 x4 : Vec Ideal S1x128x256 .f32) (x5 : Vec Ideal S16x1024 .bf16) (x6 : Vec Ideal S4x256x128 .f32) (p : Fin 16) (C : Fin 1024) : EReal :=
  mix (fun k => ∑ e : Fin 64, rowb x3 x1 k ⟨C.val / 64 % 4 * 64 + e.val, by omega⟩ * x0 (ix2 p ⟨C.val / 256 * 256 + C.val / 64 % 4 * 64 + e.val, by omega⟩))
    (fun k => rowb x4 x2 k ⟨C.val / 64 % 4 * 64 + C.val % 64, by omega⟩) (x6 (ix3 ⟨C.val / 64 % 4, by omega⟩ ⟨C.val / 256 * 64 + p.val, by omega⟩ 0)) * x5 (ix2 p C)

/-- One head and one group's part is the block's. -/
theorem part (x0 : Vec Ideal S16x1024 .bf16) (x1 x2 : Vec Ideal S16x256 .f32) (x3 x4 : Vec Ideal S1x128x256 .f32) (x5 : Vec Ideal S16x1024 .bf16) (x6 : Vec Ideal S4x256x128 .f32) (r g : Fin 4) (o s : Nat) (ho : o = r.val * 256 + g.val * 64) (hs : s = r.val * 64) (n : Nat) (hn : n = g.val)
    (iq : ∀ a, (![0, o] : Fin 2 → Nat) a + S16x64.size a ≤ S16x1024.size a) (is : ∀ a, (![n, s, 0] : Fin 3 → Nat) a + S1x16x1.size a ≤ S4x256x128.size a)
    (K V : FVec Ideal S144x64 .bf16)
    (hK : ∀ (k : Fin 144) (e : Fin 64), K (ix2 k e) = rowb x3 x1 k ⟨g.val * 64 + e.val, by omega⟩) (hV : ∀ (k : Fin 144) (e : Fin 64), V (ix2 k e) = rowb x4 x2 k ⟨g.val * 64 + e.val, by omega⟩) (y : S16x64.Idx) :
    tile K V (View.ld x0 (Rect.unit (s := S16x1024) ![0, o] S16x64.size iq)) (View.ld x6 (Rect.unit (s := S4x256x128) ![n, s, 0] S1x16x1.size is)) (View.ld x5 (Rect.unit (s := S16x1024) ![0, o] S16x64.size iq)) y
      = (fun y : S16x1024.Idx => blockOut x0 x1 x2 x3 x4 x5 x6 (y 0) (y 1)) ((Rect.unit (s := S16x1024) ![0, o] S16x64.size iq).emb y) := by
  subst ho hs hn
  idx_vars y
  have e (d : Fin 64) : (Rect.unit (s := S16x1024) ![0, r.val * 256 + g.val * 64] S16x64.size iq).emb (ix2 y0 d) = ix2 y0 ⟨r.val * 256 + g.val * 64 + d.val, by omega⟩ := by
    funext a
    apply Fin.ext
    rw [Rect.emb_apply]
    match a with
    | ⟨0, _⟩ => show 0 + 1 * y0.val = y0.val; omega
    | ⟨1, _⟩ => show r.val * 256 + g.val * 64 + 1 * d.val = r.val * 256 + g.val * 64 + d.val; omega
  have e6 : (Rect.unit (s := S4x256x128) ![g.val, r.val * 64, 0] S1x16x1.size is).emb (ix3 0 y0 0) = ix3 g ⟨r.val * 64 + y0.val, by omega⟩ 0 := by
    funext a
    apply Fin.ext
    rw [Rect.emb_apply]
    match a with
    | ⟨0, _⟩ => show g.val + 1 * 0 = g.val; omega
    | ⟨1, _⟩ => show r.val * 64 + 1 * y0.val = r.val * 64 + y0.val; omega
    | ⟨2, _⟩ => rfl
  have q (d : Fin 64) : View.ld x0 (Rect.unit (s := S16x1024) ![0, r.val * 256 + g.val * 64] S16x64.size iq) (ix2 y0 d) = x0 (ix2 y0 ⟨r.val * 256 + g.val * 64 + d.val, by omega⟩) := congrArg x0 (e d)
  have ga : View.ld x5 (Rect.unit (s := S16x1024) ![0, r.val * 256 + g.val * 64] S16x64.size iq) (ix2 y0 y1) = x5 (ix2 y0 ⟨r.val * 256 + g.val * 64 + y1.val, by omega⟩) := congrArg x5 (e y1)
  have sk : View.ld x6 (Rect.unit (s := S4x256x128) ![g.val, r.val * 64, 0] S1x16x1.size is) (ix3 0 y0 0) = x6 (ix3 g ⟨r.val * 64 + y0.val, by omega⟩ 0) := congrArg x6 e6
  refine (tile_apply K V _ _ _ y0 y1).trans ?_
  simp only [q, hK, hV]
  rw [ga, sk]
  refine Eq.trans ?_ (congrArg (fun y : S16x1024.Idx => blockOut x0 x1 x2 x3 x4 x5 x6 (y 0) (y 1)) (e y1)).symm
  have h1 : (r.val * 256 + g.val * 64 + y1.val) / 64 % 4 = g.val := by omega
  have h2 : (r.val * 256 + g.val * 64 + y1.val) / 256 = r.val := by omega
  have h3 : (r.val * 256 + g.val * 64 + y1.val) % 64 = y1.val := by omega
  show _ = blockOut x0 x1 x2 x3 x4 x5 x6 y0 ⟨r.val * 256 + g.val * 64 + y1.val, by omega⟩
  unfold blockOut
  simp only [h1, h2, h3]

theorem tile0 (A : Vec Ideal S1x128x256 .f32) (B : Vec Ideal S16x256 .f32) (V : FVec Ideal S144x256 .bf16) (q : Vec Ideal S16x64 .bf16) (sk : Vec Ideal S1x16x1 .f32) (ga : Vec Ideal S16x64 .bf16) :
    k0_pay14 (F := Ideal) V (k0_pay11 (F := Ideal) A B q sk) (k0_pay12 (F := Ideal) A B q sk) (k0_pay13 (F := Ideal) A B q sk) ga = tile (extractStridedSlice S144x64 ![0, 0] (k0_pay6 A B) slices_S144x256_o0_0_S144x64) (extractStridedSlice S144x64 ![0, 0] V slices_S144x256_o0_0_S144x64) q sk ga := rfl

theorem tile1 (K V : FVec Ideal S144x256 .bf16) (q : Vec Ideal S16x64 .bf16) (sk : Vec Ideal S1x16x1 .f32) (ga : Vec Ideal S16x64 .bf16) :
    k0_pay15 (F := Ideal) K V q sk ga = tile (extractStridedSlice S144x64 ![0, 64] K slices_S144x256_o0_64_S144x64) (extractStridedSlice S144x64 ![0, 64] V slices_S144x256_o0_64_S144x64) q sk ga := rfl

theorem tile2 (K V : FVec Ideal S144x256 .bf16) (q : Vec Ideal S16x64 .bf16) (sk : Vec Ideal S1x16x1 .f32) (ga : Vec Ideal S16x64 .bf16) :
    k0_pay16 (F := Ideal) K V q sk ga = tile (extractStridedSlice S144x64 ![0, 128] K slices_S144x256_o0_128_S144x64) (extractStridedSlice S144x64 ![0, 128] V slices_S144x256_o0_128_S144x64) q sk ga := rfl

theorem tile3 (K V : FVec Ideal S144x256 .bf16) (q : Vec Ideal S16x64 .bf16) (sk : Vec Ideal S1x16x1 .f32) (ga : Vec Ideal S16x64 .bf16) :
    k0_pay23 (F := Ideal) V (k0_pay20 (F := Ideal) K q sk) (k0_pay21 (F := Ideal) K q sk) (k0_pay22 (F := Ideal) K q sk) ga = tile (extractStridedSlice S144x64 ![0, 192] K slices_S144x256_o0_192_S144x64) (extractStridedSlice S144x64 ![0, 192] V slices_S144x256_o0_192_S144x64) q sk ga := rfl

theorem tile4 (K V : FVec Ideal S144x256 .bf16) (q : Vec Ideal S16x64 .bf16) (sk : Vec Ideal S1x16x1 .f32) (ga : Vec Ideal S16x64 .bf16) :
    k0_pay24 (F := Ideal) K V q sk ga = tile (extractStridedSlice S144x64 ![0, 0] K slices_S144x256_o0_0_S144x64) (extractStridedSlice S144x64 ![0, 0] V slices_S144x256_o0_0_S144x64) q sk ga := rfl

theorem tile5 (K V : FVec Ideal S144x256 .bf16) (q : Vec Ideal S16x64 .bf16) (sk : Vec Ideal S1x16x1 .f32) (ga : Vec Ideal S16x64 .bf16) :
    k0_pay25 (F := Ideal) K V q sk ga = tile (extractStridedSlice S144x64 ![0, 64] K slices_S144x256_o0_64_S144x64) (extractStridedSlice S144x64 ![0, 64] V slices_S144x256_o0_64_S144x64) q sk ga := rfl

theorem tile6 (K V : FVec Ideal S144x256 .bf16) (q : Vec Ideal S16x64 .bf16) (sk : Vec Ideal S1x16x1 .f32) (ga : Vec Ideal S16x64 .bf16) :
    k0_pay32 (F := Ideal) V (k0_pay29 (F := Ideal) K q sk) (k0_pay30 (F := Ideal) K q sk) (k0_pay31 (F := Ideal) K q sk) ga = tile (extractStridedSlice S144x64 ![0, 128] K slices_S144x256_o0_128_S144x64) (extractStridedSlice S144x64 ![0, 128] V slices_S144x256_o0_128_S144x64) q sk ga := rfl

theorem tile7 (K V : FVec Ideal S144x256 .bf16) (q : Vec Ideal S16x64 .bf16) (sk : Vec Ideal S1x16x1 .f32) (ga : Vec Ideal S16x64 .bf16) :
    k0_pay33 (F := Ideal) K V q sk ga = tile (extractStridedSlice S144x64 ![0, 192] K slices_S144x256_o0_192_S144x64) (extractStridedSlice S144x64 ![0, 192] V slices_S144x256_o0_192_S144x64) q sk ga := rfl

theorem tile8 (K V : FVec Ideal S144x256 .bf16) (q : Vec Ideal S16x64 .bf16) (sk : Vec Ideal S1x16x1 .f32) (ga : Vec Ideal S16x64 .bf16) :
    k0_pay34 (F := Ideal) K V q sk ga = tile (extractStridedSlice S144x64 ![0, 0] K slices_S144x256_o0_0_S144x64) (extractStridedSlice S144x64 ![0, 0] V slices_S144x256_o0_0_S144x64) q sk ga := rfl

theorem tile9 (K V : FVec Ideal S144x256 .bf16) (q : Vec Ideal S16x64 .bf16) (sk : Vec Ideal S1x16x1 .f32) (ga : Vec Ideal S16x64 .bf16) :
    k0_pay41 (F := Ideal) V (k0_pay38 (F := Ideal) K q sk) (k0_pay39 (F := Ideal) K q sk) (k0_pay40 (F := Ideal) K q sk) ga = tile (extractStridedSlice S144x64 ![0, 64] K slices_S144x256_o0_64_S144x64) (extractStridedSlice S144x64 ![0, 64] V slices_S144x256_o0_64_S144x64) q sk ga := rfl

theorem tile10 (K V : FVec Ideal S144x256 .bf16) (q : Vec Ideal S16x64 .bf16) (sk : Vec Ideal S1x16x1 .f32) (ga : Vec Ideal S16x64 .bf16) :
    k0_pay42 (F := Ideal) K V q sk ga = tile (extractStridedSlice S144x64 ![0, 128] K slices_S144x256_o0_128_S144x64) (extractStridedSlice S144x64 ![0, 128] V slices_S144x256_o0_128_S144x64) q sk ga := rfl

theorem tile11 (K V : FVec Ideal S144x256 .bf16) (q : Vec Ideal S16x64 .bf16) (sk : Vec Ideal S1x16x1 .f32) (ga : Vec Ideal S16x64 .bf16) :
    k0_pay43 (F := Ideal) K V q sk ga = tile (extractStridedSlice S144x64 ![0, 192] K slices_S144x256_o0_192_S144x64) (extractStridedSlice S144x64 ![0, 192] V slices_S144x256_o0_192_S144x64) q sk ga := rfl

theorem tile12 (K V : FVec Ideal S144x256 .bf16) (q : Vec Ideal S16x64 .bf16) (sk : Vec Ideal S1x16x1 .f32) (ga : Vec Ideal S16x64 .bf16) :
    k0_pay50 (F := Ideal) V (k0_pay47 (F := Ideal) K q sk) (k0_pay48 (F := Ideal) K q sk) (k0_pay49 (F := Ideal) K q sk) ga = tile (extractStridedSlice S144x64 ![0, 0] K slices_S144x256_o0_0_S144x64) (extractStridedSlice S144x64 ![0, 0] V slices_S144x256_o0_0_S144x64) q sk ga := rfl

theorem tile13 (K V : FVec Ideal S144x256 .bf16) (q : Vec Ideal S16x64 .bf16) (sk : Vec Ideal S1x16x1 .f32) (ga : Vec Ideal S16x64 .bf16) :
    k0_pay51 (F := Ideal) K V q sk ga = tile (extractStridedSlice S144x64 ![0, 64] K slices_S144x256_o0_64_S144x64) (extractStridedSlice S144x64 ![0, 64] V slices_S144x256_o0_64_S144x64) q sk ga := rfl

theorem tile14 (K V : FVec Ideal S144x256 .bf16) (q : Vec Ideal S16x64 .bf16) (sk : Vec Ideal S1x16x1 .f32) (ga : Vec Ideal S16x64 .bf16) :
    k0_pay52 (F := Ideal) K V q sk ga = tile (extractStridedSlice S144x64 ![0, 128] K slices_S144x256_o0_128_S144x64) (extractStridedSlice S144x64 ![0, 128] V slices_S144x256_o0_128_S144x64) q sk ga := rfl

theorem tile15 (K V : FVec Ideal S144x256 .bf16) (q : Vec Ideal S16x64 .bf16) (sk : Vec Ideal S1x16x1 .f32) (ga : Vec Ideal S16x64 .bf16) :
    k0_pay1 (F := Ideal) V (k0_pay56 (F := Ideal) K q sk) (k0_pay57 (F := Ideal) K q sk) (k0_pay58 (F := Ideal) K q sk) ga = tile (extractStridedSlice S144x64 ![0, 192] K slices_S144x256_o0_192_S144x64) (extractStridedSlice S144x64 ![0, 192] V slices_S144x256_o0_192_S144x64) q sk ga := rfl

theorem canon_parts (G : S16x1024.Idx → EReal) (L : List (View.Piece (Elt Ideal) S16x1024 .bf16)) (h : View.PiecesOf G L) (y : S16x1024.Idx) (hc : ∃ p ∈ L, y ∈ p.1.set) :
    View.canon L y = G y :=
  View.canon_apply_of_pieces (Val := Elt Ideal) (e := .bf16) (S := S16x1024) G L (fun p hp x => h.mem p hp x) y hc

/-- A head's columns of a block. -/
theorem cut (g : Fin 4) (o : Nat) (ho : o = g.val * 64) (h : S144x256.Slices ![0, o] S144x64) (W : FVec Ideal S144x256 .bf16) (R : Fin 144 → Fin 256 → EReal) (hW : ∀ k d, W (ix2 k d) = R k d) (k : Fin 144) (e : Fin 64) :
    extractStridedSlice S144x64 ![0, o] W h (ix2 k e) = R k ⟨g.val * 64 + e.val, by omega⟩ := by
  subst ho
  rw [← hW]
  refine congrArg W ?_
  funext a
  apply Fin.ext
  match a with
  | ⟨0, _⟩ => show 0 + k.val = k.val; omega
  | ⟨1, _⟩ => rfl

/-- The block's parts, each one head and one group. -/
theorem out7_apply (x0 : Vec Ideal S16x1024 .bf16) (x1 x2 : Vec Ideal S16x256 .f32) (x3 x4 : Vec Ideal S1x128x256 .f32) (x5 : Vec Ideal S16x1024 .bf16) (x6 : Vec Ideal S4x256x128 .f32) (y : S16x1024.Idx) : out0_7 (F := Ideal) x0 x1 x2 x3 x4 x5 x6 y = blockOut x0 x1 x2 x3 x4 x5 x6 (y 0) (y 1) := by
  unfold out0_7
  refine canon_parts (fun y : S16x1024.Idx => blockOut x0 x1 x2 x3 x4 x5 x6 (y 0) (y 1)) _ ?_ y (cover0_7 _ _ _ _ _ _ _ _ _ _ _ _ _ _ _ _ y)
  refine ⟨
    fun y => (congrFun (tile15 _ _ _ _ _) y).trans (part x0 x1 x2 x3 x4 x5 x6 3 3 960 192 rfl rfl 3 rfl _ _ _ _ (cut 3 192 rfl _ _ _ (pay59_apply x0 x1 x2 x3 x4 x5 x6)) (cut 3 192 rfl _ _ _ (pay60_apply x0 x1 x2 x3 x4 x5 x6)) y),
    fun y => (congrFun (tile14 _ _ _ _ _) y).trans (part x0 x1 x2 x3 x4 x5 x6 3 2 896 192 rfl rfl 2 rfl _ _ _ _ (cut 2 128 rfl _ _ _ (pay59_apply x0 x1 x2 x3 x4 x5 x6)) (cut 2 128 rfl _ _ _ (pay60_apply x0 x1 x2 x3 x4 x5 x6)) y),
    fun y => (congrFun (tile13 _ _ _ _ _) y).trans (part x0 x1 x2 x3 x4 x5 x6 3 1 832 192 rfl rfl 1 rfl _ _ _ _ (cut 1 64 rfl _ _ _ (pay59_apply x0 x1 x2 x3 x4 x5 x6)) (cut 1 64 rfl _ _ _ (pay60_apply x0 x1 x2 x3 x4 x5 x6)) y),
    fun y => (congrFun (tile12 _ _ _ _ _) y).trans (part x0 x1 x2 x3 x4 x5 x6 3 0 768 192 rfl rfl 0 rfl _ _ _ _ (cut 0 0 rfl _ _ _ (pay59_apply x0 x1 x2 x3 x4 x5 x6)) (cut 0 0 rfl _ _ _ (pay60_apply x0 x1 x2 x3 x4 x5 x6)) y),
    fun y => (congrFun (tile11 _ _ _ _ _) y).trans (part x0 x1 x2 x3 x4 x5 x6 2 3 704 128 rfl rfl 3 rfl _ _ _ _ (cut 3 192 rfl _ _ _ (pay59_apply x0 x1 x2 x3 x4 x5 x6)) (cut 3 192 rfl _ _ _ (pay60_apply x0 x1 x2 x3 x4 x5 x6)) y),
    fun y => (congrFun (tile10 _ _ _ _ _) y).trans (part x0 x1 x2 x3 x4 x5 x6 2 2 640 128 rfl rfl 2 rfl _ _ _ _ (cut 2 128 rfl _ _ _ (pay59_apply x0 x1 x2 x3 x4 x5 x6)) (cut 2 128 rfl _ _ _ (pay60_apply x0 x1 x2 x3 x4 x5 x6)) y),
    fun y => (congrFun (tile9 _ _ _ _ _) y).trans (part x0 x1 x2 x3 x4 x5 x6 2 1 576 128 rfl rfl 1 rfl _ _ _ _ (cut 1 64 rfl _ _ _ (pay59_apply x0 x1 x2 x3 x4 x5 x6)) (cut 1 64 rfl _ _ _ (pay60_apply x0 x1 x2 x3 x4 x5 x6)) y),
    fun y => (congrFun (tile8 _ _ _ _ _) y).trans (part x0 x1 x2 x3 x4 x5 x6 2 0 512 128 rfl rfl 0 rfl _ _ _ _ (cut 0 0 rfl _ _ _ (pay59_apply x0 x1 x2 x3 x4 x5 x6)) (cut 0 0 rfl _ _ _ (pay60_apply x0 x1 x2 x3 x4 x5 x6)) y),
    fun y => (congrFun (tile7 _ _ _ _ _) y).trans (part x0 x1 x2 x3 x4 x5 x6 1 3 448 64 rfl rfl 3 rfl _ _ _ _ (cut 3 192 rfl _ _ _ (pay59_apply x0 x1 x2 x3 x4 x5 x6)) (cut 3 192 rfl _ _ _ (pay60_apply x0 x1 x2 x3 x4 x5 x6)) y),
    fun y => (congrFun (tile6 _ _ _ _ _) y).trans (part x0 x1 x2 x3 x4 x5 x6 1 2 384 64 rfl rfl 2 rfl _ _ _ _ (cut 2 128 rfl _ _ _ (pay59_apply x0 x1 x2 x3 x4 x5 x6)) (cut 2 128 rfl _ _ _ (pay60_apply x0 x1 x2 x3 x4 x5 x6)) y),
    fun y => (congrFun (tile5 _ _ _ _ _) y).trans (part x0 x1 x2 x3 x4 x5 x6 1 1 320 64 rfl rfl 1 rfl _ _ _ _ (cut 1 64 rfl _ _ _ (pay59_apply x0 x1 x2 x3 x4 x5 x6)) (cut 1 64 rfl _ _ _ (pay60_apply x0 x1 x2 x3 x4 x5 x6)) y),
    fun y => (congrFun (tile4 _ _ _ _ _) y).trans (part x0 x1 x2 x3 x4 x5 x6 1 0 256 64 rfl rfl 0 rfl _ _ _ _ (cut 0 0 rfl _ _ _ (pay59_apply x0 x1 x2 x3 x4 x5 x6)) (cut 0 0 rfl _ _ _ (pay60_apply x0 x1 x2 x3 x4 x5 x6)) y),
    fun y => (congrFun (tile3 _ _ _ _ _) y).trans (part x0 x1 x2 x3 x4 x5 x6 0 3 192 0 rfl rfl 3 rfl _ _ _ _ (cut 3 192 rfl _ _ _ (pay59_apply x0 x1 x2 x3 x4 x5 x6)) (cut 3 192 rfl _ _ _ (pay60_apply x0 x1 x2 x3 x4 x5 x6)) y),
    fun y => (congrFun (tile2 _ _ _ _ _) y).trans (part x0 x1 x2 x3 x4 x5 x6 0 2 128 0 rfl rfl 2 rfl _ _ _ _ (cut 2 128 rfl _ _ _ (pay59_apply x0 x1 x2 x3 x4 x5 x6)) (cut 2 128 rfl _ _ _ (pay60_apply x0 x1 x2 x3 x4 x5 x6)) y),
    fun y => (congrFun (tile1 _ _ _ _ _) y).trans (part x0 x1 x2 x3 x4 x5 x6 0 1 64 0 rfl rfl 1 rfl _ _ _ _ (cut 1 64 rfl _ _ _ (pay59_apply x0 x1 x2 x3 x4 x5 x6)) (cut 1 64 rfl _ _ _ (pay60_apply x0 x1 x2 x3 x4 x5 x6)) y),
    fun y => (congrFun (tile0 _ _ _ _ _ _) y).trans (part x0 x1 x2 x3 x4 x5 x6 0 0 0 0 rfl rfl 0 rfl _ _ _ _ (cut 0 0 rfl _ _ _ (pay59_apply x0 x1 x2 x3 x4 x5 x6)) (cut 0 0 rfl _ _ _ (pay60_apply x0 x1 x2 x3 x4 x5 x6)) y), trivial⟩
end Cert.AttnSIdeal.Hand
-- ==== Proof.AttnS.lean ====
/- The sample's attention: what the kernel's result arrays hold, and that they are what the reference defines. -/
module

public import proofs.«01_k».proof.Defs
public import proofs.«01_k».proof.Proof.AttnSOut
public import proofs.«01_k».proof.Proof.Gen.AttnSRefIdeal.Run
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AttnSIdeal.Hand
open Cert.AttnSIdeal Cert.AttnSIdeal.Gen
open Cert.AttnSRefIdeal.Hand (mix row score)

variable (m : (ℓ : Loc nD τ sig) → Buf (Elt Ideal) ℓ)

/-- Where each window's block lies at a grid point. -/
theorem idx : ∀ t : Fin grid0.N, win0_0.index t = ![t.val, 0] ∧ win0_1.index t = ![t.val, 0] ∧ win0_2.index t = ![t.val, 0] ∧ win0_3.index t = ![t.val, 0, 0]
    ∧ win0_4.index t = ![t.val, 0, 0] ∧ win0_5.index t = ![t.val, 0] ∧ win0_6.index t = ![0, 0, 0] ∧ win0_7.index t = ![t.val, 0]
    ∧ win0_8.index t = ![t.val, 0, 0] ∧ win0_9.index t = ![t.val, 0, 0] := by decide +kernel

theorem lt16 (t : Fin cfg0.N) : t.val < 16 := t.isLt

/-- Row `r` of the block at grid point `t`, as a row of the whole array. -/
def line (t : Fin cfg0.N) (r : Fin 16) : Fin 256 :=
  ⟨t.val * 16 + r.val, by have h := lt16 t; omega⟩

/-- The sample at grid point `t`. -/
def smp (t : Fin cfg0.N) : Fin 16 := ⟨t.val, lt16 t⟩

theorem V3_apply (c : Dev nD) (g : Fin 4) (r : Fin 256) (l : Fin 128) :
    (V m c main_v3 : (⟨S4x256x128, .f32⟩ : BufTy).Contents (Elt Ideal)) (ix3 g r l)
      = m ((c : Thread nD τ).loc main_arg6) (ix1 ⟨g.val * 4 + r.val / 64, by omega⟩) := by
  entry_read
  pointwise

theorem blk0 (c : Dev nD) (t : Fin cfg0.N) (r : Fin 16) (n : Fin 1024) : iblk m c 0 t (ix2 r n) = m ((c : Thread nD τ).loc main_arg0) (ix2 (line t r) n) := by
  rw [← V_main_arg0 m c]; blk_ext [iblk, idx t, line]

theorem blk1 (c : Dev nD) (t : Fin cfg0.N) (r : Fin 16) (n : Fin 256) : iblk m c 1 t (ix2 r n) = m ((c : Thread nD τ).loc main_arg1) (ix2 (line t r) n) := by
  rw [← V_main_arg1 m c]; blk_ext [iblk, idx t, line]

theorem blk2 (c : Dev nD) (t : Fin cfg0.N) (r : Fin 16) (n : Fin 256) : iblk m c 2 t (ix2 r n) = m ((c : Thread nD τ).loc main_arg2) (ix2 (line t r) n) := by
  rw [← V_main_arg2 m c]; blk_ext [iblk, idx t, line]

theorem blk3 (c : Dev nD) (t : Fin cfg0.N) (s : Fin 128) (d : Fin 256) : iblk m c 3 t (ix3 0 s d) = m ((c : Thread nD τ).loc main_arg3) (ix3 (smp t) s d) := by
  rw [← V_main_arg3 m c]; blk_ext [iblk, idx t, smp]

theorem blk4 (c : Dev nD) (t : Fin cfg0.N) (s : Fin 128) (d : Fin 256) : iblk m c 4 t (ix3 0 s d) = m ((c : Thread nD τ).loc main_arg4) (ix3 (smp t) s d) := by
  rw [← V_main_arg4 m c]; blk_ext [iblk, idx t, smp]

theorem blk5 (c : Dev nD) (t : Fin cfg0.N) (r : Fin 16) (n : Fin 1024) : iblk m c 5 t (ix2 r n) = m ((c : Thread nD τ).loc main_arg5) (ix2 (line t r) n) := by
  rw [← V_main_arg5 m c]; blk_ext [iblk, idx t, line]

theorem blk6 (c : Dev nD) (t : Fin cfg0.N) (g : Fin 4) (r : Fin 256) (l : Fin 128) :
    iblk m c 6 t (ix3 g r l) = m ((c : Thread nD τ).loc main_arg6) (ix1 ⟨g.val * 4 + r.val / 64, by omega⟩) :=
  Eq.trans (by blk_ext [iblk, idx t]) (V3_apply m c g r l)

theorem rowb_row (A : S1x128x256.Idx → EReal) (B : S16x256.Idx → EReal) (A' : (⟨S16x128x256, .f32⟩ : BufTy).Contents (Elt Ideal)) (B' : (⟨S256x256, .f32⟩ : BufTy).Contents (Elt Ideal)) (t : Fin cfg0.N)
    (hA : ∀ s d, A (ix3 0 s d) = A' (ix3 (smp t) s d)) (hB : ∀ s d, B (ix2 s d) = B' (ix2 (line t s) d)) (s : Fin 144) (d : Fin 256) :
    rowb A B s d = row A' B' (smp t) s d := by
  unfold rowb row
  split_ifs with h
  · exact hA _ _
  · exact hB _ _

theorem keys (c : Dev nD) (t : Fin cfg0.N) (s : Fin 144) (d : Fin 256) :
    rowb (iblk m c 3 t) (iblk m c 1 t) s d = row (m ((c : Thread nD τ).loc main_arg3)) (m ((c : Thread nD τ).loc main_arg1)) (smp t) s d :=
  rowb_row _ _ _ _ t (blk3 m c t) (blk1 m c t) s d

theorem vals (c : Dev nD) (t : Fin cfg0.N) (s : Fin 144) (d : Fin 256) :
    rowb (iblk m c 4 t) (iblk m c 2 t) s d = row (m ((c : Thread nD τ).loc main_arg4)) (m ((c : Thread nD τ).loc main_arg2)) (smp t) s d :=
  rowb_row _ _ _ _ t (blk4 m c t) (blk2 m c t) s d

/-- The reference's results as functions of the arguments. -/
abbrev ref7 (c : Dev nD) : (⟨S256x1024, .bf16⟩ : BufTy).Contents (Elt Ideal) :=
  Cert.AttnSRefIdeal.Read.val_main_v32 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

abbrev ref8 (c : Dev nD) : (⟨S16x128x256, .f32⟩ : BufTy).Contents (Elt Ideal) :=
  Cert.AttnSRefIdeal.Read.val_main_v33 (F := Ideal) (m ((c : Thread nD τ).loc main_arg1)) (m ((c : Thread nD τ).loc main_arg3))

abbrev ref9 (c : Dev nD) : (⟨S16x128x256, .f32⟩ : BufTy).Contents (Elt Ideal) :=
  Cert.AttnSRefIdeal.Read.val_main_v34 (F := Ideal) (m ((c : Thread nD τ).loc main_arg2)) (m ((c : Thread nD τ).loc main_arg4))

/-- The kernel's formula over the blocks is the reference's over the arguments. -/
theorem block_ref (x0 : Vec Ideal S16x1024 .bf16) (x1 x2 : Vec Ideal S16x256 .f32) (x3 x4 : Vec Ideal S1x128x256 .f32) (x5 : Vec Ideal S16x1024 .bf16) (x6 : Vec Ideal S4x256x128 .f32)
    (a0 : (⟨S256x1024, .bf16⟩ : BufTy).Contents (Elt Ideal)) (a1 a2 : (⟨S256x256, .f32⟩ : BufTy).Contents (Elt Ideal)) (a3 a4 : (⟨S16x128x256, .f32⟩ : BufTy).Contents (Elt Ideal)) (a5 : (⟨S256x1024, .bf16⟩ : BufTy).Contents (Elt Ideal)) (a6 : (⟨S16, .f32⟩ : BufTy).Contents (Elt Ideal))
    (b : Fin 16) (p : Fin 16) (C : Fin 1024) (R : Fin 256) (hR : R.val = b.val * 16 + p.val)
    (h0 : ∀ n, x0 (ix2 p n) = a0 (ix2 R n)) (hk : ∀ s d, rowb x3 x1 s d = row a3 a1 b s d) (hv : ∀ s d, rowb x4 x2 s d = row a4 a2 b s d) (h5 : ∀ n, x5 (ix2 p n) = a5 (ix2 R n))
    (h6 : ∀ (g : Fin 4) (r : Fin 256) (l : Fin 128), x6 (ix3 g r l) = a6 (ix1 ⟨g.val * 4 + r.val / 64, by omega⟩)) :
    blockOut x0 x1 x2 x3 x4 x5 x6 p C = Cert.AttnSRefIdeal.Read.val_main_v32 (F := Ideal) a0 a1 a2 a3 a4 a5 a6 (ix2 R C) := by
  rw [Cert.AttnSRefIdeal.Hand.ref_apply]
  unfold blockOut score
  simp only [h0, hk, hv, h5, h6]
  have e1 : (⟨R.val / 16, by omega⟩ : Fin 16) = b := Fin.ext (by dsimp only; omega)
  have e2 : (⟨R.val / 16 * 16 + R.val % 16, by omega⟩ : Fin 256) = R := Fin.ext (by dsimp only; omega)
  have e3 : (⟨C.val / 64 % 4 * 4 + (C.val / 256 * 64 + p.val) / 64, by omega⟩ : Fin 16) = ⟨C.val / 64 % 4 * 4 + C.val / 256, by omega⟩ := Fin.ext (by dsimp only; omega)
  rw [e2, e1, e3]

/-- A block's mix is the reference's. -/
theorem mix_eq (c : Dev nD) (t : Fin cfg0.N) (p : Fin 16) (C : Fin 1024) :
    out0_7 (iblk m c 0 t) (iblk m c 1 t) (iblk m c 2 t) (iblk m c 3 t) (iblk m c 4 t) (iblk m c 5 t) (iblk m c 6 t) (ix2 p C) = ref7 m c (ix2 (line t p) C) :=
  (out7_apply (iblk m c 0 t) (iblk m c 1 t) (iblk m c 2 t) (iblk m c 3 t) (iblk m c 4 t) (iblk m c 5 t) (iblk m c 6 t) (ix2 p C)).trans
    (block_ref (iblk m c 0 t) (iblk m c 1 t) (iblk m c 2 t) (iblk m c 3 t) (iblk m c 4 t) (iblk m c 5 t) (iblk m c 6 t) _ _ _ _ _ _ _ (smp t) p C (line t p) rfl
      (blk0 m c t p) (keys m c t) (vals m c t) (blk5 m c t p) (blk6 m c t))

theorem final7 (c : Dev nD) : (dats m 0 c).arrAt 7 (cfgs 0).N = ref7 m c := by
  refine (dats m 0 c).arrAt_eq_of_covers 7 _ (by decide +kernel) fun t hf y => ?_
  blk_simp
  rw [after0_7]
  idx_vars y
  have e : (((View.whole main_v4_0).slice (win0_7.rect t)).emb (ix2 y0 y1)) = ix2 (line t y0) y1 := by
    blk_ext [idx t, line]
  rw [e]
  exact mix_eq m c t y0 y1

/-- A sample's new cache: the window without its oldest rows. -/
theorem pay4_apply (A : Vec Ideal S1x128x256 .f32) (B : Vec Ideal S16x256 .f32) (s : Fin 128) (d : Fin 256) : k0_pay4 (F := Ideal) A B (ix3 0 s d) = rowb A B ⟨16 + s.val, by omega⟩ d := by
  rw [← pay2_apply]
  pointwise [k0_pay4]

theorem pay5_apply (A : Vec Ideal S1x128x256 .f32) (B : Vec Ideal S16x256 .f32) (s : Fin 128) (d : Fin 256) : k0_pay5 (F := Ideal) A B (ix3 0 s d) = rowb A B ⟨16 + s.val, by omega⟩ d := by
  rw [← pay3_apply]
  pointwise [k0_pay5]

theorem out8_apply (x0 : Vec Ideal S16x1024 .bf16) (x1 x2 : Vec Ideal S16x256 .f32) (x3 x4 : Vec Ideal S1x128x256 .f32) (x5 : Vec Ideal S16x1024 .bf16) (x6 : Vec Ideal S4x256x128 .f32) (s : Fin 128) (d : Fin 256) : out0_8 (F := Ideal) x0 x1 x2 x3 x4 x5 x6 (ix3 0 s d) = rowb x3 x1 ⟨16 + s.val, by omega⟩ d := by
  unfold out0_8
  rw [ldA, ldB]
  exact (congrFun (View.canon_cons_unit_lit _ _ _ (by decide)) _).trans (pay4_apply x3 x1 s d)

theorem out9_apply (x0 : Vec Ideal S16x1024 .bf16) (x1 x2 : Vec Ideal S16x256 .f32) (x3 x4 : Vec Ideal S1x128x256 .f32) (x5 : Vec Ideal S16x1024 .bf16) (x6 : Vec Ideal S4x256x128 .f32) (s : Fin 128) (d : Fin 256) : out0_9 (F := Ideal) x0 x1 x2 x3 x4 x5 x6 (ix3 0 s d) = rowb x4 x2 ⟨16 + s.val, by omega⟩ d := by
  unfold out0_9
  rw [ldA, ldB]
  exact (congrFun (View.canon_cons_unit_lit _ _ _ (by decide)) _).trans (pay5_apply x4 x2 s d)

theorem final8 (c : Dev nD) : (dats m 0 c).arrAt 8 (cfgs 0).N = ref8 m c := by
  refine (dats m 0 c).arrAt_eq_of_covers 8 _ (by decide +kernel) fun t hf y => ?_
  blk_simp
  rw [after0_8]
  idx_vars y
  obtain rfl : y0 = 0 := Subsingleton.elim _ _
  have e : (((View.whole main_v4_1).slice (win0_8.rect t)).emb (ix3 0 y1 y2)) = ix3 (smp t) y1 y2 := by
    blk_ext [idx t, smp]
  rw [e]
  exact (out8_apply (iblk m c 0 t) (iblk m c 1 t) (iblk m c 2 t) (iblk m c 3 t) (iblk m c 4 t) (iblk m c 5 t) (iblk m c 6 t) y1 y2).trans ((keys m c t _ _).trans (Cert.AttnSRefIdeal.Hand.v33_apply _ _ _ _ _).symm)

theorem final9 (c : Dev nD) : (dats m 0 c).arrAt 9 (cfgs 0).N = ref9 m c := by
  refine (dats m 0 c).arrAt_eq_of_covers 9 _ (by decide +kernel) fun t hf y => ?_
  blk_simp
  rw [after0_9]
  idx_vars y
  obtain rfl : y0 = 0 := Subsingleton.elim _ _
  have e : (((View.whole main_v4_2).slice (win0_9.rect t)).emb (ix3 0 y1 y2)) = ix3 (smp t) y1 y2 := by
    blk_ext [idx t, smp]
  rw [e]
  exact (out9_apply (iblk m c 0 t) (iblk m c 1 t) (iblk m c 2 t) (iblk m c 3 t) (iblk m c 4 t) (iblk m c 5 t) (iblk m c 6 t) y1 y2).trans ((vals m c t _ _).trans (Cert.AttnSRefIdeal.Hand.v34_apply _ _ _ _ _).symm)

end Cert.AttnSIdeal.Hand

namespace Cert.Proof

/-- The kernel's attention over the sample's batch computes what the reference defines, and leaves the same caches. -/
theorem algebraic_AttnS : Cert.algebraic_AttnSIdeal_AttnSRefIdeal (hAttnSIdeal := Cert.AttnSIdeal.Gen.facts)
    (hAttnSRefIdeal := Cert.AttnSRefIdeal.Gen.facts) := fun m g m' g' _ hag =>
  ⟨fun c => Cert.AttnSIdeal.Hand.ref7 m c, fun c => Cert.AttnSIdeal.Hand.ref8 m c, fun c => Cert.AttnSIdeal.Hand.ref9 m c,
    (θ_run _ _ _).mono (fun r h c => ⟨((h c).1).trans (Cert.AttnSIdeal.Hand.final7 m c), ((h c).2.1).trans (Cert.AttnSIdeal.Hand.final8 m c), ((h c).2.2.1).trans (Cert.AttnSIdeal.Hand.final9 m c), (h c).2.2.2⟩) (Cert.AttnSIdeal.Value.run_blocks m g),
    (θ_run _ _ _).mono (fun r h c => by
      obtain ⟨a0, a1, a2, a3, a4, a5, a6⟩ := hag c
      refine ⟨((h c).1).trans ?_, ((h c).2.1).trans ?_, ((h c).2.2.1).trans ?_, (h c).2.2.2⟩
      · rw [Cert.AttnSRefIdeal.Read.val_main_v32_eq, a0, a1, a2, a3, a4, a5, a6]
      · refine (Cert.AttnSRefIdeal.Read.val_main_v33_eq _ _).trans ?_
        rw [a1, a3]
      · refine (Cert.AttnSRefIdeal.Read.val_main_v34_eq _ _).trans ?_
        rw [a2, a4]
      ) (Cert.AttnSRefIdeal.Value.run m' g')⟩

end Cert.Proof
-- ==== Proof.GlaSPay.lean ====
/- The recurrence over the sample's batch: the kernel's arithmetic for one head, at an index. -/
module

public import proofs.«01_k».proof.Defs
public import proofs.«01_k».proof.Proof.Gen.GlaSIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GlaSIdeal.Hand
open Cert.GlaSIdeal Cert.GlaSIdeal.Gen

/-- The queries, each entry times its decay. -/
def qd (b : FVec Ideal S16x128 .f32) (q : FVec Ideal S16x128 .bf16) : FVec Ideal S16x128 .bf16 :=
  truncf .bf16 (mulf (extf .f32 q bitsLt_bf16_f32) (exp b)) bitsLt_bf16_f32

/-- The masked products of queries and keys. -/
def att (b : FVec Ideal S16x128 .f32) (q k : FVec Ideal S16x128 .bf16) : FVec Ideal S16x16 .f32 :=
  select k0_pay10 (matmul dot_S16x128_S16x128_S16x16_1_1_0_0_n_n none (qd b q)
      (truncf .bf16 (mulf (extf .f32 k bitsLt_bf16_f32) (exp (subf (broadcast S16x128 (Scalar.ofBits (F := Ideal) .f32 0x00000000#32)) b))) bitsLt_bf16_f32)
      (constant S16x16 .f32 0x00000000#32))
    (broadcast S16x16 (Scalar.ofBits (F := Ideal) .f32 0x00000000#32))

/-- One head's output before it is normalized. -/
def mixo (b : FVec Ideal S16x128 .f32) (q k : FVec Ideal S16x128 .bf16) (v : FVec Ideal S16x256 .bf16) (st : Vec Ideal S1x256x128 .f32) : FVec Ideal S16x256 .f32 :=
  addf (matmul dot_S16x16_S16x256_S16x256_1_0_0_1_n_n none (truncf .bf16 (att b q k) bitsLt_bf16_f32 : FVec Ideal S16x16 .bf16) v (constant S16x256 .f32 0x00000000#32))
    (matmul dot_S16x128_S256x128_S16x256_1_1_0_0_n_n none (qd b q) (truncf .bf16 (shapeCast S256x128 st shapeCasts_S1x256x128_S256x128) bitsLt_bf16_f32 : FVec Ideal S256x128 .bf16) (constant S16x256 .f32 0x00000000#32))

/-- The inverse root of a row's mean square. -/
def rms (o : FVec Ideal S16x256 .f32) : FVec Ideal S16x1 .f32 :=
  rsqrt (addf (divf (shapeCast S16x1 (multiReduction .add [1] S16 (mulf o o) 0x00000000#32 reduces_S16x256_S16 (.inl rfl) rfl) shapeCasts_S16_S16x1)
    (broadcast S16x1 (Scalar.ofBits (F := Ideal) .f32 0x43800000#32))) (broadcast S16x1 (Scalar.ofBits (F := Ideal) .f32 0x358637BD#32)))

/-- One head's normalized and gated output. -/
def gated (o : FVec Ideal S16x256 .f32) (ng : Vec Ideal S1x256 .f32) (ga : Vec Ideal S16x256 .bf16) : FVec Ideal S16x256 .bf16 :=
  truncf .bf16 (mulf (mulf (mulf o (broadcastTo S16x256 (rms o) broadcasts_S16x1_S16x256))
    (broadcastTo S16x256 (shapeCast S1x256 ng shapeCasts_S1x256_S1x256) broadcasts_S1x256_S16x256)) (extf .f32 ga bitsLt_bf16_f32)) bitsLt_bf16_f32

/-- The log decay at the last row. -/
def last (b : FVec Ideal S16x128 .f32) : FVec Ideal S1x128 .f32 := extractStridedSlice S1x128 ![15, 0] b slices_S16x128_o15_0_S1x128

/-- One head's new state. -/
def next (b : FVec Ideal S16x128 .f32) (k : FVec Ideal S16x128 .bf16) (v : FVec Ideal S16x256 .bf16) (st : Vec Ideal S1x256x128 .f32) : FVec Ideal S1x256x128 .f32 :=
  shapeCast S1x256x128 (addf (mulf (shapeCast S256x128 st shapeCasts_S1x256x128_S256x128) (broadcastTo S256x128 (exp (last b)) broadcasts_S1x128_S256x128))
    (matmul dot_S16x256_S16x128_S256x128_0_0_1_1_n_n none v
      (truncf .bf16 (mulf (extf .f32 k bitsLt_bf16_f32) (exp (subf (broadcastTo S16x128 (last b) broadcasts_S1x128_S16x128) b))) bitsLt_bf16_f32 : FVec Ideal S16x128 .bf16)
      (constant S256x128 .f32 0x00000000#32))) shapeCasts_S256x128_S1x256x128

/-- A head's columns of the log decays. -/
abbrev cols (h : Nat) (B : FVec Ideal S16x512 .f32) (hs : S16x512.Slices ![0, h] S16x128) : FVec Ideal S16x128 .f32 := extractStridedSlice S16x128 ![0, h] B hs

theorem out_0 (la : Vec Ideal S16x512 .f32) (tr : Vec Ideal S16x32 .bf16) (q k : Vec Ideal S16x128 .bf16) (v : Vec Ideal S16x256 .bf16) (st : Vec Ideal S1x256x128 .f32) (ng : Vec Ideal S1x256 .f32) (ga : Vec Ideal S16x256 .bf16) :
    k0_pay20 (F := Ideal) v (k0_pay15 la tr q) (k0_pay17 la tr q k) st ng ga = gated (mixo (cols 0 (k0_pay11 la tr) slices_S16x512_o0_0_S16x128) q k v st) ng ga := rfl

theorem out_1 (B : FVec Ideal S16x512 .f32) (q k : Vec Ideal S16x128 .bf16) (v : Vec Ideal S16x256 .bf16) (st : Vec Ideal S1x256x128 .f32) (ng : Vec Ideal S1x256 .f32) (ga : Vec Ideal S16x256 .bf16) :
    k0_pay30 (F := Ideal) (k0_pay26 k0_pay10 (k0_pay21 B) (k0_pay23 q) k v st) (k0_pay28 k0_pay10 (k0_pay21 B) (k0_pay23 q) k v st) (k0_pay29) ng ga
      = gated (mixo (cols 128 B slices_S16x512_o0_128_S16x128) q k v st) ng ga := rfl

theorem out_2 (B : FVec Ideal S16x512 .f32) (q k : Vec Ideal S16x128 .bf16) (v : Vec Ideal S16x256 .bf16) (st : Vec Ideal S1x256x128 .f32) (ng : Vec Ideal S1x256 .f32) (ga : Vec Ideal S16x256 .bf16) :
    k0_pay39 (F := Ideal) (k0_pay34 B q) (k0_pay36 st) (k0_pay37 k0_pay10 B q k v) ng ga = gated (mixo (cols 256 B slices_S16x512_o0_256_S16x128) q k v st) ng ga := rfl

theorem out_3 (B : FVec Ideal S16x512 .f32) (q k : Vec Ideal S16x128 .bf16) (v : Vec Ideal S16x256 .bf16) (st : Vec Ideal S1x256x128 .f32) (ng : Vec Ideal S1x256 .f32) (ga : Vec Ideal S16x256 .bf16) :
    k0_pay1 (F := Ideal) (k0_pay47 k0_pay10 (k0_pay40 B) (k0_pay42 q) (k0_pay43 k) v (k0_pay44 B) st) (k0_pay48 ng) ga
      = gated (mixo (cols 384 B slices_S16x512_o0_384_S16x128) q k v st) ng ga := rfl

theorem next_0 (la : Vec Ideal S16x512 .f32) (tr : Vec Ideal S16x32 .bf16) (k : Vec Ideal S16x128 .bf16) (v : Vec Ideal S16x256 .bf16) (st : Vec Ideal S1x256x128 .f32) :
    k0_pay19 (F := Ideal) (k0_pay13 la tr) v (k0_pay16 la tr k) st = next (cols 0 (k0_pay11 la tr) slices_S16x512_o0_0_S16x128) k v st := rfl

theorem next_1 (B : FVec Ideal S16x512 .f32) (k : Vec Ideal S16x128 .bf16) (v : Vec Ideal S16x256 .bf16) (st : Vec Ideal S1x256x128 .f32) :
    k0_pay27 (F := Ideal) (k0_pay21 B) (k0_pay22 B) k v st = next (cols 128 B slices_S16x512_o0_128_S16x128) k v st := rfl

theorem next_2 (B : FVec Ideal S16x512 .f32) (k : Vec Ideal S16x128 .bf16) (v : Vec Ideal S16x256 .bf16) (st : Vec Ideal S1x256x128 .f32) :
    k0_pay38 (F := Ideal) (k0_pay32 B) v (k0_pay35 B k) (k0_pay36 st) = next (cols 256 B slices_S16x512_o0_256_S16x128) k v st := rfl

theorem next_3 (B : FVec Ideal S16x512 .f32) (k : Vec Ideal S16x128 .bf16) (v : Vec Ideal S16x256 .bf16) (st : Vec Ideal S1x256x128 .f32) :
    k0_pay46 (F := Ideal) (k0_pay40 B) (k0_pay41 B) (k0_pay43 k) v st = next (cols 384 B slices_S16x512_o0_384_S16x128) k v st := rfl

theorem mask (i j : Fin 16) : k0_pay10 (ix2 i j) = if j ≤ i then 1#1 else 0#1 := by
  revert i j
  decide +kernel

theorem qd_apply (b : FVec Ideal S16x128 .f32) (q : FVec Ideal S16x128 .bf16) (i : Fin 16) (d : Fin 128) :
    qd b q (ix2 i d) = q (ix2 i d) * Ideal.exp (b (ix2 i d)) := by
  pointwise [qd]

theorem att_apply (b : FVec Ideal S16x128 .f32) (q k : FVec Ideal S16x128 .bf16) (i j : Fin 16) :
    att b q k (ix2 i j) = if j ≤ i then ∑ d : Fin 128, (q (ix2 i d) * Ideal.exp (b (ix2 i d))) * (k (ix2 j d) * Ideal.exp (0 - b (ix2 j d))) else 0 := by
  pointwise [att]
  rw [mask]
  by_cases h : j ≤ i
  · simp only [h, if_true, qd_apply]
    rfl
  · simp only [h, if_false]
    rfl

theorem mixo_apply (b : FVec Ideal S16x128 .f32) (q k : FVec Ideal S16x128 .bf16) (v : FVec Ideal S16x256 .bf16) (st : Vec Ideal S1x256x128 .f32) (i : Fin 16) (e : Fin 256) :
    mixo b q k v st (ix2 i e) = (∑ j : Fin 16, att b q k (ix2 i j) * v (ix2 j e)) + ∑ d : Fin 128, (q (ix2 i d) * Ideal.exp (b (ix2 i d))) * st (ix3 0 e d) := by
  simp only [← qd_apply]
  pointwise [mixo]

theorem rms_apply (o : FVec Ideal S16x256 .f32) (i : Fin 16) (z : Fin 1) :
    rms o (ix2 i z) = Ideal.rsqrt (Ideal.div (∑ e : Fin 256, o (ix2 i e) * o (ix2 i e)) (Ideal.ofBits .f32 0x43800000#32) + Ideal.ofBits .f32 0x358637BD#32) := by
  pointwise [rms]

theorem gated_apply (o : FVec Ideal S16x256 .f32) (ng : Vec Ideal S1x256 .f32) (ga : Vec Ideal S16x256 .bf16) (i : Fin 16) (e : Fin 256) :
    gated o ng ga (ix2 i e) = o (ix2 i e) * Ideal.rsqrt (Ideal.div (∑ e : Fin 256, o (ix2 i e) * o (ix2 i e)) (Ideal.ofBits .f32 0x43800000#32) + Ideal.ofBits .f32 0x358637BD#32) * ng (ix2 0 e) * ga (ix2 i e) := by
  rw [← rms_apply o i 0]
  pointwise [gated]

theorem last_apply (b : FVec Ideal S16x128 .f32) (d : Fin 128) (z : Fin 1) : last b (ix2 z d) = b (ix2 15 d) := by
  pointwise [last]

theorem next_apply (b : FVec Ideal S16x128 .f32) (k : FVec Ideal S16x128 .bf16) (v : FVec Ideal S16x256 .bf16) (st : Vec Ideal S1x256x128 .f32) (e : Fin 256) (d : Fin 128) :
    next b k v st (ix3 0 e d) = st (ix3 0 e d) * Ideal.exp (b (ix2 15 d)) + ∑ j : Fin 16, v (ix2 j e) * (k (ix2 j d) * Ideal.exp (b (ix2 15 d) - b (ix2 j d))) := by
  rw [← last_apply b d 0]
  pointwise [next]

/-- The log decays: each column's running sum, from the table the kernel is given. -/
theorem pay11_apply (la : Vec Ideal S16x512 .f32) (tr : Vec Ideal S16x32 .bf16) (i : Fin 16) (n : Fin 512) :
    k0_pay11 (F := Ideal) la tr (ix2 i n) = ∑ c : Fin 32, tr (ix2 i c) * (if h : c.val < 16 then (la (ix2 ⟨c.val, h⟩ n) : EReal) else la (ix2 ⟨c.val - 16, by omega⟩ n) - la (ix2 ⟨c.val - 16, by omega⟩ n)) := by
  pointwise [k0_pay11]
end Cert.GlaSIdeal.Hand
-- ==== Proof.GlaSRefA.lean ====
/- The recurrence over the sample's batch: the reference's stages at an index. -/
module

public import proofs.«01_k».proof.Defs
public import proofs.«01_k».proof.Proof.Gen.GlaSRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GlaSRefIdeal.Hand
open Cert.GlaSRefIdeal Cert.GlaSRefIdeal.Read

abbrev LA := (⟨S256x512, .f32⟩ : BufTy).Contents (Elt Ideal)
abbrev QK := (⟨S256x512, .bf16⟩ : BufTy).Contents (Elt Ideal)
abbrev VG := (⟨S256x1024, .bf16⟩ : BufTy).Contents (Elt Ideal)
abbrev ST := (⟨S16x4x128x256, .f32⟩ : BufTy).Contents (Elt Ideal)

theorem zero32 : Ideal.ofBits FTy.f32 0#32 = 0 := by simp [Ideal.ofBits, Ideal.ieee]

/-- The sum of the terms up to the `i`-th. -/
def upto (a : Fin 16 → EReal) (i : Fin 16) : EReal := ∑ j : Fin 16, if j ≤ i then a j else 0

theorem v6_apply (x4 : LA) (b i : Fin 16) (h : Fin 4) (d : Fin 128) :
    val_main_v6 (F := Ideal) x4 (ix4 b i h d) = x4 (ix2 ⟨b.val * 16 + i.val, by omega⟩ ⟨h.val * 128 + d.val, by omega⟩) := by
  pointwise [val_main_v6]

theorem mask (i j : Fin 16) : val_main_v8 (F := Ideal) (ix2 i j) = if j ≤ i then 1#1 else 0#1 := by
  revert i j
  decide +kernel

theorem fold_sum {α : Type} (f : α → EReal) (l : List α) (z : EReal) : l.foldl (fun r n => r + f n) z = z + (l.map f).sum := by
  induction l generalizing z with
  | nil => simp
  | cons a l ih => rw [List.foldl_cons, ih, List.map_cons, List.sum_cons, add_assoc]

/-- The window of sixteen rows that ends at row `i` holds the rows up to it and the padding. -/
theorem v9_apply (x4 : LA) (b i : Fin 16) (h : Fin 4) (d : Fin 128) :
    val_main_v9 (F := Ideal) x4 (ix4 b i h d) = upto (fun j => val_main_v6 (F := Ideal) x4 (ix4 b j h d)) i := by
  unfold val_main_v9 Host.reduceWindowAdd
  generalize val_main_v6 (F := Ideal) x4 = x
  show Ideal.hostReduceWindowAdd _ _ _ _ _ x (Ideal.ofBits FTy.f32 0#32) _ = _
  unfold Ideal.hostReduceWindowAdd Host.reduceWindow
  dsimp only
  rw [zero32, fold_sum, zero_add, ← Fin.sum_univ_def]
  unfold upto
  refine (Finset.sum_nbij' (t := (Finset.univ : Finset (Fin 16))) (g := fun k : Fin 16 => if k + (i + 1) ≤ i then x (ix4 b (k + (i + 1)) h d) else 0) (fun n => ((Shape.rowMajor ⟨4, ![1, 16, 1, 1]⟩).symm n) 1) (fun k => Shape.rowMajor ⟨4, ![1, 16, 1, 1]⟩ (ix4 0 k 0 0)) (fun _ _ => Finset.mem_univ _) (fun _ _ => Finset.mem_univ _) (fun n _ => ?_) (fun k _ => ?_) (fun n _ => ?_)).trans ?_
  · obtain ⟨w, rfl⟩ := (Shape.rowMajor ⟨4, ![1, 16, 1, 1]⟩).surjective n
    rw [Equiv.symm_apply_apply]
    refine congrArg _ ?_
    idx_vars w
    obtain rfl : w0 = 0 := Subsingleton.elim _ _
    obtain rfl : w2 = 0 := Subsingleton.elim _ _
    obtain rfl : w3 = 0 := Subsingleton.elim _ _
    rfl
  · rw [Equiv.symm_apply_apply]
    rfl
  · obtain ⟨w, rfl⟩ := (Shape.rowMajor ⟨4, ![1, 16, 1, 1]⟩).surjective n
    simp only [Equiv.symm_apply_apply]
    idx_vars w
    obtain rfl : w0 = 0 := Subsingleton.elim _ _
    obtain rfl : w2 = 0 := Subsingleton.elim _ _
    obtain rfl : w3 = 0 := Subsingleton.elim _ _
    have hv : (w1 + (i + 1)).val = (w1.val + (i.val + 1)) % 16 := by
      rw [Fin.val_add, Fin.val_add]
      show (w1.val + (i.val + 1) % 16) % 16 = _
      omega
    by_cases hk : w1 + (i + 1) ≤ i
    · have hk' : (w1.val + (i.val + 1)) % 16 ≤ i.val := by rw [← hv]; exact hk
      refine Eq.trans (dif_pos (fun a => by
        match a with
        | ⟨0, _⟩ => exact ⟨Nat.zero_le _, (show b.val * 1 + 0 - 0 < 16 by omega)⟩
        | ⟨1, _⟩ => exact ⟨(show 15 ≤ i.val * 1 + w1.val by omega), (show i.val * 1 + w1.val - 15 < 16 by omega)⟩
        | ⟨2, _⟩ => exact ⟨Nat.zero_le _, (show h.val * 1 + 0 - 0 < 4 by omega)⟩
        | ⟨3, _⟩ => exact ⟨Nat.zero_le _, (show d.val * 1 + 0 - 0 < 128 by omega)⟩)) (Eq.trans ?_ (if_pos hk).symm)
      refine congrArg x ?_
      funext a
      apply Fin.ext
      match a with
      | ⟨0, _⟩ => show b.val * 1 + 0 - 0 = b.val; omega
      | ⟨1, _⟩ => show i.val * 1 + w1.val - 15 = (w1 + (i + 1)).val; omega
      | ⟨2, _⟩ => show h.val * 1 + 0 - 0 = h.val; omega
      | ⟨3, _⟩ => show d.val * 1 + 0 - 0 = d.val; omega
    · have hk' : ¬ (w1.val + (i.val + 1)) % 16 ≤ i.val := by rw [← hv]; exact hk
      refine (dif_neg fun H => ?_).trans (if_neg hk).symm
      have h1 : 15 ≤ i.val * 1 + w1.val := (H 1).1
      omega
  · exact Equiv.sum_comp (Equiv.addRight (i + 1)) (fun j : Fin 16 => if j ≤ i then x (ix4 b j h d) else 0)

theorem v17_apply (x4 : LA) (b i j : Fin 16) (h : Fin 4) (d : Fin 128) :
    val_main_v17 (F := Ideal) x4 (ix5 b i j h d) = Ideal.exp (if j ≤ i then val_main_v9 (F := Ideal) x4 (ix4 b i h d) - val_main_v9 (F := Ideal) x4 (ix4 b j h d) else ⊥) := by
  pointwise [val_main_v17, val_main_v16, val_main_v14, val_main_v13, val_main_v12, val_main_v11, val_main_v10, val_main_call2_v1, val_main_call2_v2, val_main_call2_v0, val_main_cst, val_main_v15]
  rw [mask]
  refine congrArg Ideal.exp ?_
  by_cases hj : j ≤ i
  · simp only [hj, if_true]
    rfl
  · simp only [hj, if_false]
    exact (show Ideal.ofBits FTy.f32 4286578688#32 = ⊥ by simp [Ideal.ofBits, Ideal.ieee])

/-- Rows of one head and one sample. -/
def arow (x4 : LA) (b : Fin 16) (h : Fin 4) (i : Fin 16) (d : Fin 128) : EReal := x4 (ix2 ⟨b.val * 16 + i.val, by omega⟩ ⟨h.val * 128 + d.val, by omega⟩)
def qrow (x : QK) (b : Fin 16) (h : Fin 4) (i : Fin 16) (d : Fin 128) : EReal := x (ix2 ⟨b.val * 16 + i.val, by omega⟩ ⟨h.val * 128 + d.val, by omega⟩)
def vrow (x : VG) (b : Fin 16) (h : Fin 4) (i : Fin 16) (e : Fin 256) : EReal := x (ix2 ⟨b.val * 16 + i.val, by omega⟩ ⟨h.val * 256 + e.val, by omega⟩)
def srow (x : ST) (b : Fin 16) (h : Fin 4) (d : Fin 128) (e : Fin 256) : EReal := x (ix4 b h d e)

/-- The running sum of a column of log decays. -/
def bc (a : Fin 16 → Fin 128 → EReal) (i : Fin 16) (d : Fin 128) : EReal := upto (fun j => a j d) i

/-- A row of the recurrence's output before it is normalized. -/
def mixr (a q k : Fin 16 → Fin 128 → EReal) (v : Fin 16 → Fin 256 → EReal) (s : Fin 128 → Fin 256 → EReal) (i : Fin 16) (e : Fin 256) : EReal :=
  (∑ j : Fin 16, v j e * ∑ d : Fin 128, k j d * (q i d * Ideal.exp (if j ≤ i then bc a i d - bc a j d else ⊥))) + ∑ d : Fin 128, s d e * (q i d * Ideal.exp (bc a i d))

/-- The new state. -/
def nextr (a k : Fin 16 → Fin 128 → EReal) (v : Fin 16 → Fin 256 → EReal) (s : Fin 128 → Fin 256 → EReal) (d : Fin 128) (e : Fin 256) : EReal :=
  Ideal.exp (bc a 15 d) * s d e + ∑ j : Fin 16, k j d * Ideal.exp (bc a 15 d - bc a j d) * v j e

/-- An entry of a row, normalized, scaled and gated. -/
def normed (o : Fin 256 → EReal) (e : Fin 256) (n g : EReal) : EReal :=
  o e * Ideal.rsqrt (Ideal.div (∑ e : Fin 256, o e * o e) (Ideal.ofBits .f32 0x43800000#32) + Ideal.ofBits .f32 0x358637BD#32) * n * g

theorem v9_bc (x4 : LA) (b i : Fin 16) (h : Fin 4) (d : Fin 128) : val_main_v9 (F := Ideal) x4 (ix4 b i h d) = bc (arow x4 b h) i d := by
  rw [v9_apply]
  simp only [v6_apply]
  rfl

theorem v22_apply (x0 x1 : QK) (x4 : LA) (b i j : Fin 16) (h : Fin 4) : val_main_v22 (F := Ideal) x0 x1 x4 (ix4 b h i j)
    = ∑ d : Fin 128, qrow x1 b h j d * (qrow x0 b h i d * Ideal.exp (if j ≤ i then bc (arow x4 b h) i d - bc (arow x4 b h) j d else ⊥)) := by
  pointwise [val_main_v22, val_main_v21, val_main_v20, val_main_v19, val_main_v18, val_main_v3, val_main_v2, val_main_v1, val_main_v0]
  simp only [v17_apply, v9_bc]
  rfl

theorem v29_apply (x0 x1 : QK) (x2 : VG) (x4 : LA) (x5 : ST) (b i : Fin 16) (h : Fin 4) (e : Fin 256) :
    val_main_v29 (F := Ideal) x0 x1 x2 x4 x5 (ix4 b i h e) = mixr (arow x4 b h) (qrow x0 b h) (qrow x1 b h) (vrow x2 b h) (srow x5 b h) i e := by
  pointwise [val_main_v29, val_main_v28, val_main_v27, val_main_v26, val_main_v25, val_main_v24, val_main_v23, val_main_v5, val_main_v4, val_main_v1, val_main_v0]
  simp only [v22_apply, v9_bc]
  rfl

/-- The reference's new state at an index. -/
theorem v42_apply (x1 : QK) (x2 : VG) (x4 : LA) (x5 : ST) (b : Fin 16) (h : Fin 4) (d : Fin 128) (e : Fin 256) :
    val_main_v42 (F := Ideal) x1 x2 x4 x5 (ix4 b h d e) = nextr (arow x4 b h) (qrow x1 b h) (vrow x2 b h) (srow x5 b h) d e := by
  unfold nextr
  simp only [← v9_bc]
  pointwise [val_main_v42, val_main_v41, val_main_v40, val_main_v39, val_main_v38, val_main_v37, val_main_v36, val_main_v35, val_main_v34, val_main_v33, val_main_v32, val_main_v31, val_main_v30, val_main_v5, val_main_v4, val_main_v3, val_main_v2]
  rfl

/-- The reference's output at a row and a column. -/
theorem v59_apply (x0 x1 : QK) (x2 x3 : VG) (x4 : LA) (x5 : ST) (x6 : (⟨S256, .f32⟩ : BufTy).Contents (Elt Ideal)) (R : Fin 256) (C : Fin 1024) (b i : Fin 16) (h : Fin 4) (e : Fin 256)
    (hR : R.val = b.val * 16 + i.val) (hC : C.val = h.val * 256 + e.val) :
    val_main_v59 (F := Ideal) x0 x1 x2 x3 x4 x5 x6 (ix2 R C)
      = normed (mixr (arow x4 b h) (qrow x0 b h) (qrow x1 b h) (vrow x2 b h) (srow x5 b h) i) e (x6 (ix1 e)) (x3 (ix2 R C)) := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43]
  have e1 : (⟨R.val / 16, by omega⟩ : Fin 16) = b := Fin.ext (by dsimp only; omega)
  have e2 : (⟨R.val % 16, by omega⟩ : Fin 16) = i := Fin.ext (by dsimp only; omega)
  have e3 : (⟨C.val / 256, by omega⟩ : Fin 4) = h := Fin.ext (by dsimp only; omega)
  have e4 : (⟨C.val % 256, by omega⟩ : Fin 256) = e := Fin.ext (by dsimp only; omega)
  rw [e1, e2, e3, e4]
  simp only [v29_apply]
  rw [show (val_main_cst_0 (F := Ideal) (Shape.Idx.first Gen.h_S_) : EReal) = 0 from zero32, zero_add]
  rfl

theorem upto_real (a : Fin 16 → EReal) (ha : ∀ j, ∃ r : ℝ, a j = r) (i : Fin 16) : ∃ r : ℝ, upto a i = r := by
  choose f hf using ha
  have hs (s : Finset (Fin 16)) : ∃ r : ℝ, (∑ j ∈ s, if j ≤ i then a j else 0) = (r : EReal) := by
    induction s using Finset.induction_on with
    | empty => exact ⟨0, by simp⟩
    | insert j s hj ih =>
      obtain ⟨r, hr⟩ := ih
      rw [Finset.sum_insert hj, hr, hf j]
      by_cases h : j ≤ i
      · exact ⟨f j + r, by rw [if_pos h, EReal.coe_add]⟩
      · exact ⟨r, by rw [if_neg h, zero_add]⟩
  exact hs Finset.univ

theorem exp_sub_real (x y : ℝ) : Ideal.exp (x : EReal) * Ideal.exp (0 - (y : EReal)) = Ideal.exp ((x : EReal) - y) := by
  have e : (0 - (y : EReal)) = ((-y : ℝ) : EReal) := by simp
  rw [e, ← EReal.coe_sub]
  show ((Real.exp x : ℝ) : EReal) * ((Real.exp (-y) : ℝ) : EReal) = ((Real.exp (x - y) : ℝ) : EReal)
  rw [← EReal.coe_mul, ← Real.exp_add, sub_eq_add_neg]

/-- Splitting a decay between two rows into the decays of the rows changes nothing when they are real numbers. -/
theorem mix_split (a q k : Fin 16 → Fin 128 → EReal) (v : Fin 16 → Fin 256 → EReal) (s : Fin 128 → Fin 256 → EReal) (ha : ∀ j d, ∃ r : ℝ, a j d = r) (i : Fin 16) (e : Fin 256) :
    (∑ j : Fin 16, (if j ≤ i then ∑ d : Fin 128, (q i d * Ideal.exp (bc a i d)) * (k j d * Ideal.exp (0 - bc a j d)) else 0) * v j e) + ∑ d : Fin 128, (q i d * Ideal.exp (bc a i d)) * s d e
      = mixr a q k v s i e := by
  unfold mixr
  refine congrArg₂ (fun x y : EReal => x + y) (Finset.sum_congr rfl fun j _ => ?_) (Finset.sum_congr rfl fun d _ => mul_comm _ _)
  rw [mul_comm]
  refine congrArg (fun x : EReal => v j e * x) ?_
  by_cases h : j ≤ i
  · rw [if_pos h]
    refine Finset.sum_congr rfl fun d _ => ?_
    obtain ⟨x, hx⟩ := upto_real (fun j => a j d) (fun j => ha j d) i
    obtain ⟨y, hy⟩ := upto_real (fun j => a j d) (fun j => ha j d) j
    rw [if_pos h, show bc a i d = (x : EReal) from hx, show bc a j d = (y : EReal) from hy, ← exp_sub_real, mul_mul_mul_comm, mul_comm (q i d) (k j d), mul_assoc]
  · rw [if_neg h]
    refine (Finset.sum_eq_zero fun d _ => ?_).symm
    rw [if_neg h, show Ideal.exp ⊥ = 0 from rfl, mul_zero, mul_zero]
end Cert.GlaSRefIdeal.Hand
-- ==== Proof.GlaSOut.lean ====
/- The recurrence over the sample's batch: what the kernel leaves in its blocks. -/
module

public import proofs.«01_k».proof.Defs
public import proofs.«01_k».proof.Proof.GlaSPay
public import proofs.«01_k».proof.Proof.GlaSRefA
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GlaSIdeal.Hand
open Cert.GlaSIdeal Cert.GlaSIdeal.Gen
open Cert.GlaSRefIdeal.Hand (upto bc mixr nextr normed mix_split)

/-- The kernel's log decays are the running sums: the rounding it corrects for is nothing here, and what is added twice is zero. -/
theorem decays (la : Vec Ideal S16x512 .f32) (tr : Vec Ideal S16x32 .bf16) (a : Fin 16 → Fin 512 → EReal) (hla : ∀ j n, la (ix2 j n) = a j n) (ha : ∀ j n, ∃ r : ℝ, a j n = r)
    (htr : ∀ (i : Fin 16) (c : Fin 32), tr (ix2 i c) = if c.val % 16 ≤ i.val then 1 else 0) (i : Fin 16) (n : Fin 512) :
    k0_pay11 (F := Ideal) la tr (ix2 i n) = upto (fun j => a j n) i := by
  rw [pay11_apply]
  simp only [htr, hla]
  show ∑ c : Fin (16 + 16), _ = _
  rw [Fin.sum_univ_add]
  refine Eq.trans (congrArg₂ (fun x y : EReal => x + y) (Finset.sum_congr rfl fun j _ => ?_) (Finset.sum_eq_zero fun j _ => ?_)) (add_zero (upto (fun j => a j n) i))
  · have h2 : (Fin.castAdd 16 j).val % 16 = j.val := by show j.val % 16 = j.val; omega
    rw [dif_pos (show (Fin.castAdd 16 j).val < 16 from j.isLt)]
    by_cases h : j.val ≤ i.val
    · rw [if_pos (show (Fin.castAdd 16 j).val % 16 ≤ i.val by omega), one_mul]
      exact (if_pos (show j ≤ i from h)).symm
    · rw [if_neg (show ¬ (Fin.castAdd 16 j).val % 16 ≤ i.val by omega), zero_mul]
      exact (if_neg (show ¬ j ≤ i from h)).symm
  · rw [dif_neg (show ¬ (Fin.natAdd 16 j).val < 16 by show ¬ 16 + j.val < 16; omega)]
    obtain ⟨r, hr⟩ := ha ⟨(Fin.natAdd 16 j).val - 16, by show 16 + j.val - 16 < 16; omega⟩ n
    rw [hr, ← EReal.coe_sub, sub_self, EReal.coe_zero, mul_zero]

/-- One head's output. -/
theorem head_out (b : FVec Ideal S16x128 .f32) (q k : FVec Ideal S16x128 .bf16) (v : FVec Ideal S16x256 .bf16) (st : Vec Ideal S1x256x128 .f32) (ng : Vec Ideal S1x256 .f32) (ga : Vec Ideal S16x256 .bf16)
    (A Q K : Fin 16 → Fin 128 → EReal) (V : Fin 16 → Fin 256 → EReal) (S : Fin 128 → Fin 256 → EReal) (hA : ∀ j d, ∃ r : ℝ, A j d = r)
    (hb : ∀ j d, b (ix2 j d) = bc A j d) (hq : ∀ j d, q (ix2 j d) = Q j d) (hk : ∀ j d, k (ix2 j d) = K j d) (hv : ∀ j e, v (ix2 j e) = V j e) (hs : ∀ e d, st (ix3 0 e d) = S d e)
    (i : Fin 16) (e : Fin 256) :
    gated (mixo b q k v st) ng ga (ix2 i e) = normed (mixr A Q K V S i) e (ng (ix2 0 e)) (ga (ix2 i e)) := by
  have hm (e : Fin 256) : mixo b q k v st (ix2 i e) = mixr A Q K V S i e := by
    rw [mixo_apply]
    simp only [att_apply, hb, hq, hk, hv, hs]
    exact mix_split A Q K V S hA i e
  rw [gated_apply]
  simp only [hm]
  rfl

/-- One head's new state. -/
theorem head_next (b : FVec Ideal S16x128 .f32) (k : FVec Ideal S16x128 .bf16) (v : FVec Ideal S16x256 .bf16) (st : Vec Ideal S1x256x128 .f32)
    (A K : Fin 16 → Fin 128 → EReal) (V : Fin 16 → Fin 256 → EReal) (S : Fin 128 → Fin 256 → EReal)
    (hb : ∀ j d, b (ix2 j d) = bc A j d) (hk : ∀ j d, k (ix2 j d) = K j d) (hv : ∀ j e, v (ix2 j e) = V j e) (hs : ∀ e d, st (ix3 0 e d) = S d e)
    (e : Fin 256) (d : Fin 128) : next b k v st (ix3 0 e d) = nextr A K V S d e := by
  rw [next_apply]
  simp only [hb, hk, hv, hs]
  unfold nextr
  exact congrArg₂ (fun x y : EReal => x + y) (mul_comm _ _) (Finset.sum_congr rfl fun j _ => mul_comm _ _)

theorem pay6_apply (w : Vec Ideal S1x1x128x256 .f32) (e : Fin 256) (d : Fin 128) : k0_pay6 (F := Ideal) w (ix3 0 e d) = w (ix4 0 0 d e) := by pointwise [k0_pay6]
theorem pay7_apply (w : Vec Ideal S1x1x128x256 .f32) (e : Fin 256) (d : Fin 128) : k0_pay7 (F := Ideal) w (ix3 0 e d) = w (ix4 0 0 d e) := by pointwise [k0_pay7]
theorem pay8_apply (w : Vec Ideal S1x1x128x256 .f32) (e : Fin 256) (d : Fin 128) : k0_pay8 (F := Ideal) w (ix3 0 e d) = w (ix4 0 0 d e) := by pointwise [k0_pay8]
theorem pay9_apply (w : Vec Ideal S1x1x128x256 .f32) (e : Fin 256) (d : Fin 128) : k0_pay9 (F := Ideal) w (ix3 0 e d) = w (ix4 0 0 d e) := by pointwise [k0_pay9]
theorem pay2_apply (w : Vec Ideal S1x256x128 .f32) (d : Fin 128) (e : Fin 256) : k0_pay2 (F := Ideal) w (ix4 0 0 d e) = w (ix3 0 e d) := by pointwise [k0_pay2]
theorem pay3_apply (w : Vec Ideal S1x256x128 .f32) (d : Fin 128) (e : Fin 256) : k0_pay3 (F := Ideal) w (ix4 0 0 d e) = w (ix3 0 e d) := by pointwise [k0_pay3]
theorem pay4_apply (w : Vec Ideal S1x256x128 .f32) (d : Fin 128) (e : Fin 256) : k0_pay4 (F := Ideal) w (ix4 0 0 d e) = w (ix3 0 e d) := by pointwise [k0_pay4]
theorem pay5_apply (w : Vec Ideal S1x256x128 .f32) (d : Fin 128) (e : Fin 256) : k0_pay5 (F := Ideal) w (ix4 0 0 d e) = w (ix3 0 e d) := by pointwise [k0_pay5]

/-- A load from a whole block reads the block. -/
theorem ldu {S : Shape} {e : EltTy} (mr : Memref sig .tc .vmem S e) (hm : mr.IsWhole) (X : S.Idx → Elt Ideal e) (r : Rect S) (y : r.shape.Idx) :
    View.readAt (Elt Ideal) mr.view r.toLoadRect (hm.unread X) y = X (r.emb y) :=
  (rfl : _ = View.read (Elt Ideal) mr.view (hm.unread X) (r.emb y)).trans (by rw [Memref.IsWhole.read_unread])

theorem emb2 {n w W : Nat} (off : Fin 2 → Nat) (o : Nat) (ho : off = ![0, o]) (inb : ∀ a, off a + (⟨2, ![n, w]⟩ : Shape).size a ≤ (⟨2, ![n, W]⟩ : Shape).size a) (i : Fin n) (d : Fin w) (h : o + d.val < W) :
    (Rect.unit (s := ⟨2, ![n, W]⟩) off (⟨2, ![n, w]⟩ : Shape).size inb).emb (ix2 i d) = ix2 i ⟨o + d.val, h⟩ := by
  subst ho
  funext a
  apply Fin.ext
  rw [Rect.emb_apply]
  match a with
  | ⟨0, _⟩ => show 0 + 1 * i.val = i.val; omega
  | ⟨1, _⟩ => show o + 1 * d.val = o + d.val; omega

theorem ld2 {n w W : Nat} {e : EltTy} (mr : Memref sig .tc .vmem ⟨2, ![n, W]⟩ e) (hm : mr.IsWhole) (X : (⟨2, ![n, W]⟩ : Shape).Idx → Elt Ideal e) (off : Fin 2 → Nat) (o : Nat) (ho : off = ![0, o])
    (inb : ∀ a, off a + (⟨2, ![n, w]⟩ : Shape).size a ≤ (⟨2, ![n, W]⟩ : Shape).size a) (i : Fin n) (d : Fin w) (h : o + d.val < W) :
    View.readAt (Elt Ideal) mr.view (Rect.unit (s := ⟨2, ![n, W]⟩) off (⟨2, ![n, w]⟩ : Shape).size inb).toLoadRect (hm.unread X) (ix2 i d) = X (ix2 i ⟨o + d.val, h⟩) :=
  (ldu mr hm X _ _).trans (congrArg X (emb2 off o ho inb i d h))

theorem emb4 (n : Fin 4) (o : Nat) (ho : o = n.val) (inb : ∀ a, (![0, o, 0, 0] : Fin 4 → Nat) a + S1x1x128x256.size a ≤ S1x4x128x256.size a) (d : Fin 128) (e : Fin 256) :
    (Rect.unit (s := S1x4x128x256) ![0, o, 0, 0] S1x1x128x256.size inb).emb (ix4 0 0 d e) = ix4 0 n d e := by
  subst ho
  funext a
  apply Fin.ext
  rw [Rect.emb_apply]
  match a with
  | ⟨0, _⟩ => rfl
  | ⟨1, _⟩ => show n.val + 1 * 0 = n.val; omega
  | ⟨2, _⟩ => show 0 + 1 * d.val = d.val; omega
  | ⟨3, _⟩ => show 0 + 1 * e.val = e.val; omega

theorem ld4 (mr : Memref sig .tc .vmem S1x4x128x256 .f32) (hm : mr.IsWhole) (X : S1x4x128x256.Idx → EReal) (n : Fin 4) (o : Nat) (ho : o = n.val) (inb : ∀ a, (![0, o, 0, 0] : Fin 4 → Nat) a + S1x1x128x256.size a ≤ S1x4x128x256.size a) (d : Fin 128) (e : Fin 256) :
    View.readAt (Elt Ideal) mr.view (Rect.unit (s := S1x4x128x256) ![0, o, 0, 0] S1x1x128x256.size inb).toLoadRect (hm.unread X) (ix4 0 0 d e) = X (ix4 0 n d e) :=
  (ldu mr hm X _ _).trans (congrArg X (emb4 n o ho inb d e))

abbrev cell (n : Nat) (i : ∀ a, (![n, 0, 0] : Fin 3 → Nat) a + S1x256x128.size a ≤ S4x256x128.size a) : Rect S4x256x128 := Rect.unit (s := S4x256x128) ![n, 0, 0] S1x256x128.size i

/-- A load of the cell last stored to reads what was stored. -/
theorem hit (v : View sig .tc .vmem S4x256x128 .f32) (n : Nat) (i i' : ∀ a, (![n, 0, 0] : Fin 3 → Nat) a + S1x256x128.size a ≤ S4x256x128.size a) (w : S1x256x128.Idx → EReal) (L : List (View.Piece (Elt Ideal) S4x256x128 .f32)) (y : S1x256x128.Idx) :
    v.readCov (⟨cell n i, w⟩ :: L) (cell n i').toLoadRect y = w y := by
  rw [View.readCov_eq_canon']
  exact View.canon_cons_emb (cell n i) w L y

/-- A load of another cell reads what was there. -/
theorem miss (v : View sig .tc .vmem S4x256x128 .f32) (n k : Nat) (h : n ≠ k) (i : ∀ a, (![n, 0, 0] : Fin 3 → Nat) a + S1x256x128.size a ≤ S4x256x128.size a) (i' : ∀ a, (![k, 0, 0] : Fin 3 → Nat) a + S1x256x128.size a ≤ S4x256x128.size a) (w : S1x256x128.Idx → EReal) (L : List (View.Piece (Elt Ideal) S4x256x128 .f32)) (y : S1x256x128.Idx) :
    v.readCov (⟨cell n i, w⟩ :: L) (cell k i').toLoadRect y = v.readCov L (cell k i').toLoadRect y := by
  rw [View.readCov_eq_canon', View.readCov_eq_canon']
  refine View.canon_cons_of_not_mem _ L fun hy => ?_
  have h0 := (Rect.mem_set_unit (s := S4x256x128) (off := ![n, 0, 0]) (size := S1x256x128.size) (inb := i)).1 hy 0
  have h1 : n ≤ k + 1 * (y 0).val := h0.1
  have h2 : k + 1 * (y 0).val < n + 1 := h0.2
  have hy0 : (y 0).val < 1 := (y 0).isLt
  omega

/-- Head `h`'s columns of a block. -/
def hA (X : S16x512.Idx → EReal) (h : Fin 4) (i : Fin 16) (d : Fin 128) : EReal := X (ix2 i ⟨h.val * 128 + d.val, by omega⟩)
def hV (X : S16x1024.Idx → EReal) (h : Fin 4) (i : Fin 16) (e : Fin 256) : EReal := X (ix2 i ⟨h.val * 256 + e.val, by omega⟩)
def hS (X : S1x4x128x256.Idx → EReal) (h : Fin 4) (d : Fin 128) (e : Fin 256) : EReal := X (ix4 0 h d e)

/-- What the kernel leaves in its first output's block. -/
def G8 (x0 x1 : S16x512.Idx → EReal) (x2 x3 : S16x1024.Idx → EReal) (x4 : S16x512.Idx → EReal) (x5 : S1x4x128x256.Idx → EReal) (x6 : S1x256.Idx → EReal) (h : Fin 4) (i : Fin 16) (e : Fin 256) : EReal :=
  normed (mixr (hA x4 h) (hA x0 h) (hA x1 h) (hV x2 h) (hS x5 h) i) e (x6 (ix2 0 e)) (x3 (ix2 i ⟨h.val * 256 + e.val, by omega⟩))

/-- The same by column. -/
def B8 (x0 x1 : S16x512.Idx → EReal) (x2 x3 : S16x1024.Idx → EReal) (x4 : S16x512.Idx → EReal) (x5 : S1x4x128x256.Idx → EReal) (x6 : S1x256.Idx → EReal) (y : S16x1024.Idx) : EReal :=
  G8 x0 x1 x2 x3 x4 x5 x6 ⟨(y 1).val / 256, by have h : (y 1).val < 1024 := (y 1).isLt; omega⟩ (y 0) ⟨(y 1).val % 256, by omega⟩

/-- What the kernel leaves in its second output's block. -/
def B9 (x1 : S16x512.Idx → EReal) (x2 : S16x1024.Idx → EReal) (x4 : S16x512.Idx → EReal) (x5 : S1x4x128x256.Idx → EReal) (y : S1x4x128x256.Idx) : EReal :=
  nextr (hA x4 (y 1)) (hA x1 (y 1)) (hV x2 (y 1)) (hS x5 (y 1)) (y 2) (y 3)

/-- Head `h`'s log decays are the running sums of its columns. -/
theorem cutb (x4 : S16x512.Idx → EReal) (B : FVec Ideal S16x512 .f32) (hB : ∀ i n, B (ix2 i n) = upto (fun j => x4 (ix2 j n)) i) (h : Fin 4) (o : Nat) (ho : o = h.val * 128) (hs : S16x512.Slices ![0, o] S16x128) (i : Fin 16) (d : Fin 128) :
    cols o B hs (ix2 i d) = bc (hA x4 h) i d := by
  subst ho
  refine Eq.trans ?_ (hB i ⟨h.val * 128 + d.val, by omega⟩)
  refine congrArg B ?_
  funext a
  apply Fin.ext
  match a with
  | ⟨0, _⟩ => show 0 + i.val = i.val; omega
  | ⟨1, _⟩ => rfl

theorem part8 (x0 x1 : S16x512.Idx → EReal) (x2 x3 : S16x1024.Idx → EReal) (x4 : S16x512.Idx → EReal) (x5 : S1x4x128x256.Idx → EReal) (x6 : S1x256.Idx → EReal) (ha : ∀ j n, ∃ r : ℝ, x4 (ix2 j n) = r)
    (h : Fin 4) (b : FVec Ideal S16x128 .f32) (q k : FVec Ideal S16x128 .bf16) (v : FVec Ideal S16x256 .bf16) (st : Vec Ideal S1x256x128 .f32) (ng : Vec Ideal S1x256 .f32) (ga : Vec Ideal S16x256 .bf16)
    (hb : ∀ j d, b (ix2 j d) = bc (hA x4 h) j d) (hq : ∀ j d, q (ix2 j d) = hA x0 h j d) (hk : ∀ j d, k (ix2 j d) = hA x1 h j d) (hv : ∀ j e, v (ix2 j e) = hV x2 h j e) (hs : ∀ e d, st (ix3 0 e d) = hS x5 h d e)
    (hn : ∀ e, ng (ix2 0 e) = x6 (ix2 0 e)) (hg : ∀ i e, ga (ix2 i e) = hV x3 h i e) (y : S16x256.Idx) (z : S16x1024.Idx) (hz : z = ix2 (y 0) ⟨h.val * 256 + (y 1).val, by have h1 : (y 1).val < 256 := (y 1).isLt; omega⟩) :
    gated (mixo b q k v st) ng ga y = B8 x0 x1 x2 x3 x4 x5 x6 z := by
  subst hz
  idx_vars y
  refine (head_out b q k v st ng ga (hA x4 h) (hA x0 h) (hA x1 h) (hV x2 h) (hS x5 h) (fun j d => ha _ _) hb hq hk hv hs y0 y1).trans ?_
  rw [hn, hg]
  have h1 : (⟨(h.val * 256 + y1.val) / 256, by omega⟩ : Fin 4) = h := Fin.ext (by dsimp only; omega)
  have h2 : (⟨(h.val * 256 + y1.val) % 256, by omega⟩ : Fin 256) = y1 := Fin.ext (by dsimp only; omega)
  show _ = G8 x0 x1 x2 x3 x4 x5 x6 ⟨(h.val * 256 + y1.val) / 256, by omega⟩ y0 ⟨(h.val * 256 + y1.val) % 256, by omega⟩
  rw [h1, h2]
  rfl

theorem part9 (x1 : S16x512.Idx → EReal) (x2 : S16x1024.Idx → EReal) (x4 : S16x512.Idx → EReal) (x5 : S1x4x128x256.Idx → EReal) (h : Fin 4)
    (p : S1x1x128x256.Idx → EReal) (hp : ∀ d e, p (ix4 0 0 d e) = nextr (hA x4 h) (hA x1 h) (hV x2 h) (hS x5 h) d e) (y : S1x1x128x256.Idx) (z : S1x4x128x256.Idx) (hz : z = ix4 0 h (y 2) (y 3)) :
    p y = B9 x1 x2 x4 x5 z := by
  subst hz
  idx_vars y
  obtain rfl : y0 = 0 := Subsingleton.elim _ _
  obtain rfl : y1 = 0 := Subsingleton.elim _ _
  exact hp y2 y3

theorem canon_parts8 (G : S16x1024.Idx → EReal) (L : List (View.Piece (Elt Ideal) S16x1024 .bf16)) (h : View.PiecesOf G L) (y : S16x1024.Idx) (hc : ∃ p ∈ L, y ∈ p.1.set) :
    View.canon L y = G y :=
  View.canon_apply_of_pieces (Val := Elt Ideal) (e := .bf16) (S := S16x1024) G L (fun p hp x => h.mem p hp x) y hc

theorem canon_parts9 (G : S1x4x128x256.Idx → EReal) (L : List (View.Piece (Elt Ideal) S1x4x128x256 .f32)) (h : View.PiecesOf G L) (y : S1x4x128x256.Idx) (hc : ∃ p ∈ L, y ∈ p.1.set) :
    View.canon L y = G y :=
  View.canon_apply_of_pieces (Val := Elt Ideal) (e := .f32) (S := S1x4x128x256) G L (fun p hp x => h.mem p hp x) y hc

theorem ldz {n W : Nat} {e : EltTy} (mr : Memref sig .tc .vmem ⟨2, ![n, W]⟩ e) (hm : mr.IsWhole) (X : (⟨2, ![n, W]⟩ : Shape).Idx → Elt Ideal e) (off : Fin 2 → Nat) (ho : off = ![0, 0])
    (inb : ∀ a, off a + (⟨2, ![n, W]⟩ : Shape).size a ≤ (⟨2, ![n, W]⟩ : Shape).size a) (i : Fin n) (d : Fin W) :
    View.readAt (Elt Ideal) mr.view (Rect.unit (s := ⟨2, ![n, W]⟩) off (⟨2, ![n, W]⟩ : Shape).size inb).toLoadRect (hm.unread X) (ix2 i d) = X (ix2 i d) :=
  (ld2 mr hm X off 0 ho inb i d (by omega)).trans (congrArg (fun z => X (ix2 i z)) (Fin.ext (Nat.zero_add d.val)))

theorem out8A (c : Dev nD) (i : grid0.Coords) (arg2 : Memref sig .tc .vmem S16x512 .bf16) (harg2 : arg2.IsWhole) (arg3 : Memref sig .tc .vmem S16x512 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x512 .f32) (harg6 : arg6.IsWhole) (arg7 : Memref sig .tc .vmem S1x4x128x256 .f32) (harg7 : arg7.IsWhole) (arg8 : Memref sig .tc .vmem S1x256 .f32) (harg8 : arg8.IsWhole) (arg9 : Memref sig .tc .vmem S16x32 .bf16) (harg9 : arg9.IsWhole) (arg10 : Memref sig .tc .vmem S16x1024 .bf16) (harg10 : arg10.IsWhole) (arg11 : Memref sig .tc .vmem S1x4x128x256 .f32) (harg11 : arg11.IsWhole) (arg12 : Memref sig .tc .vmem S4x256x128 .f32) (harg12 : arg12.IsWhole) (hc0 : cond0_0 i) (hc1 : cond0_1 i)
    (x0 : Vec Ideal S16x512 .bf16) (x1 : Vec Ideal S16x512 .bf16) (x2 : Vec Ideal S16x1024 .bf16) (x3 : Vec Ideal S16x1024 .bf16) (x4 : Vec Ideal S16x512 .f32) (x5 : Vec Ideal S1x4x128x256 .f32) (x6 : Vec Ideal S1x256 .f32) (x7 : Vec Ideal S16x32 .bf16)
    (ha : ∀ j n, ∃ r : ℝ, x4 (ix2 j n) = r) (htr : ∀ (i : Fin 16) (c : Fin 32), x7 (ix2 i c) = if c.val % 16 ≤ i.val then 1 else 0) (y : S16x1024.Idx) :
    out0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = B8 x0 x1 x2 x3 x4 x5 x6 y := by
  have hc := cover0_A_8 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y
  unfold out0_A_8
  rw [View.read_writes_junk_eq_canon]
  refine canon_parts8 (B8 x0 x1 x2 x3 x4 x5 x6) _ ?_ y hc
  clear hc
  unfold kernelRun0_A
  dsimp only
  sl_unfold_words
  refine ⟨fun (y : S16x256.Idx) => ?_, fun (y : S16x256.Idx) => ?_, fun (y : S16x256.Idx) => ?_, fun (y : S16x256.Idx) => ?_, trivial⟩
  · refine (congrFun (out_3 _ _ _ _ _ _ _) y).trans (part8 x0 x1 x2 x3 x4 x5 x6 ha 3 _ _ _ _ _ _ _ ?_ ?_ ?_ ?_ ?_ ?_ ?_ y _ ?_)
    · exact (cutb x4 _ (fun i n => decays _ _ (fun j n => x4 (ix2 j n)) (fun j n => ldz _ _ x4 _ (by rfl) _ j n) ha (fun i c => (ldz _ _ x7 _ (by rfl) _ i c).trans (htr i c)) i n) 3 (3 * 128) rfl _)
    · exact (fun j d => ld2 _ _ x0 _ (3 * 128) (by rfl) _ j d _)
    · exact (fun j d => ld2 _ _ x1 _ (3 * 128) (by rfl) _ j d _)
    · exact (fun j e => ld2 _ _ x2 _ (3 * 256) (by rfl) _ j e _)
    · exact fun e d => (miss _ _ _ (by decide) _ _ _ _ _).trans <| (miss _ _ _ (by decide) _ _ _ _ _).trans <| (miss _ _ _ (by decide) _ _ _ _ _).trans <| (hit _ _ _ _ _ _ _).trans <| (pay9_apply _ e d).trans (ld4 _ _ x5 3 3 rfl _ d e)
    · exact fun e => ldz _ _ x6 _ (by rfl) _ 0 e
    · exact (fun j e => ld2 _ _ x3 _ (3 * 256) (by rfl) _ j e _)
    · idx_vars y
      exact emb2 _ (3 * 256) (by rfl) _ y0 y1 _
  · refine (congrFun (out_2 _ _ _ _ _ _ _) y).trans (part8 x0 x1 x2 x3 x4 x5 x6 ha 2 _ _ _ _ _ _ _ ?_ ?_ ?_ ?_ ?_ ?_ ?_ y _ ?_)
    · exact (cutb x4 _ (fun i n => decays _ _ (fun j n => x4 (ix2 j n)) (fun j n => ldz _ _ x4 _ (by rfl) _ j n) ha (fun i c => (ldz _ _ x7 _ (by rfl) _ i c).trans (htr i c)) i n) 2 (2 * 128) rfl _)
    · exact (fun j d => ld2 _ _ x0 _ (2 * 128) (by rfl) _ j d _)
    · exact (fun j d => ld2 _ _ x1 _ (2 * 128) (by rfl) _ j d _)
    · exact (fun j e => ld2 _ _ x2 _ (2 * 256) (by rfl) _ j e _)
    · exact fun e d => (miss _ _ _ (by decide) _ _ _ _ _).trans <| (miss _ _ _ (by decide) _ _ _ _ _).trans <| (miss _ _ _ (by decide) _ _ _ _ _).trans <| (hit _ _ _ _ _ _ _).trans <| (pay8_apply _ e d).trans (ld4 _ _ x5 2 2 rfl _ d e)
    · exact fun e => ldz _ _ x6 _ (by rfl) _ 0 e
    · exact (fun j e => ld2 _ _ x3 _ (2 * 256) (by rfl) _ j e _)
    · idx_vars y
      exact emb2 _ (2 * 256) (by rfl) _ y0 y1 _
  · refine (congrFun (out_1 _ _ _ _ _ _ _) y).trans (part8 x0 x1 x2 x3 x4 x5 x6 ha 1 _ _ _ _ _ _ _ ?_ ?_ ?_ ?_ ?_ ?_ ?_ y _ ?_)
    · exact (cutb x4 _ (fun i n => decays _ _ (fun j n => x4 (ix2 j n)) (fun j n => ldz _ _ x4 _ (by rfl) _ j n) ha (fun i c => (ldz _ _ x7 _ (by rfl) _ i c).trans (htr i c)) i n) 1 (1 * 128) rfl _)
    · exact (fun j d => ld2 _ _ x0 _ (1 * 128) (by rfl) _ j d _)
    · exact (fun j d => ld2 _ _ x1 _ (1 * 128) (by rfl) _ j d _)
    · exact (fun j e => ld2 _ _ x2 _ (1 * 256) (by rfl) _ j e _)
    · exact fun e d => (miss _ _ _ (by decide) _ _ _ _ _).trans <| (miss _ _ _ (by decide) _ _ _ _ _).trans <| (miss _ _ _ (by decide) _ _ _ _ _).trans <| (hit _ _ _ _ _ _ _).trans <| (pay7_apply _ e d).trans (ld4 _ _ x5 1 1 rfl _ d e)
    · exact fun e => ldz _ _ x6 _ (by rfl) _ 0 e
    · exact (fun j e => ld2 _ _ x3 _ (1 * 256) (by rfl) _ j e _)
    · idx_vars y
      exact emb2 _ (1 * 256) (by rfl) _ y0 y1 _
  · refine (congrFun (out_0 _ _ _ _ _ _ _ _) y).trans (part8 x0 x1 x2 x3 x4 x5 x6 ha 0 _ _ _ _ _ _ _ ?_ ?_ ?_ ?_ ?_ ?_ ?_ y _ ?_)
    · exact (cutb x4 _ (fun i n => decays _ _ (fun j n => x4 (ix2 j n)) (fun j n => ldz _ _ x4 _ (by rfl) _ j n) ha (fun i c => (ldz _ _ x7 _ (by rfl) _ i c).trans (htr i c)) i n) 0 (0 * 128) rfl _)
    · exact (fun j d => ld2 _ _ x0 _ (0 * 128) (by rfl) _ j d _)
    · exact (fun j d => ld2 _ _ x1 _ (0 * 128) (by rfl) _ j d _)
    · exact (fun j e => ld2 _ _ x2 _ (0 * 256) (by rfl) _ j e _)
    · exact fun e d => (miss _ _ _ (by decide) _ _ _ _ _).trans <| (miss _ _ _ (by decide) _ _ _ _ _).trans <| (miss _ _ _ (by decide) _ _ _ _ _).trans <| (hit _ _ _ _ _ _ _).trans <| (pay6_apply _ e d).trans (ld4 _ _ x5 0 0 rfl _ d e)
    · exact fun e => ldz _ _ x6 _ (by rfl) _ 0 e
    · exact (fun j e => ld2 _ _ x3 _ (0 * 256) (by rfl) _ j e _)
    · idx_vars y
      exact emb2 _ (0 * 256) (by rfl) _ y0 y1 _

theorem out9A (c : Dev nD) (i : grid0.Coords) (arg2 : Memref sig .tc .vmem S16x512 .bf16) (harg2 : arg2.IsWhole) (arg3 : Memref sig .tc .vmem S16x512 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x512 .f32) (harg6 : arg6.IsWhole) (arg7 : Memref sig .tc .vmem S1x4x128x256 .f32) (harg7 : arg7.IsWhole) (arg8 : Memref sig .tc .vmem S1x256 .f32) (harg8 : arg8.IsWhole) (arg9 : Memref sig .tc .vmem S16x32 .bf16) (harg9 : arg9.IsWhole) (arg10 : Memref sig .tc .vmem S16x1024 .bf16) (harg10 : arg10.IsWhole) (arg11 : Memref sig .tc .vmem S1x4x128x256 .f32) (harg11 : arg11.IsWhole) (arg12 : Memref sig .tc .vmem S4x256x128 .f32) (harg12 : arg12.IsWhole) (hc0 : cond0_0 i) (hc1 : cond0_1 i)
    (x0 : Vec Ideal S16x512 .bf16) (x1 : Vec Ideal S16x512 .bf16) (x2 : Vec Ideal S16x1024 .bf16) (x3 : Vec Ideal S16x1024 .bf16) (x4 : Vec Ideal S16x512 .f32) (x5 : Vec Ideal S1x4x128x256 .f32) (x6 : Vec Ideal S1x256 .f32) (x7 : Vec Ideal S16x32 .bf16)
    (ha : ∀ j n, ∃ r : ℝ, x4 (ix2 j n) = r) (htr : ∀ (i : Fin 16) (c : Fin 32), x7 (ix2 i c) = if c.val % 16 ≤ i.val then 1 else 0) (y : S1x4x128x256.Idx) :
    out0_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y = B9 x1 x2 x4 x5 y := by
  have hc := cover0_A_9 (F := Ideal) c i arg2 harg2 arg3 harg3 arg4 harg4 arg5 harg5 arg6 harg6 arg7 harg7 arg8 harg8 arg9 harg9 arg10 harg10 arg11 harg11 arg12 harg12 hc0 hc1 x0 x1 x2 x3 x4 x5 x6 x7 y
  unfold out0_A_9
  rw [View.read_writes_junk_eq_canon]
  refine canon_parts9 (B9 x1 x2 x4 x5) _ ?_ y hc
  clear hc
  unfold kernelRun0_A
  dsimp only
  sl_unfold_words
  refine ⟨fun (y : S1x1x128x256.Idx) => ?_, fun (y : S1x1x128x256.Idx) => ?_, fun (y : S1x1x128x256.Idx) => ?_, fun (y : S1x1x128x256.Idx) => ?_, trivial⟩
  · refine part9 x1 x2 x4 x5 3 _ ?_ y _ ?_
    swap
    · idx_vars y
      obtain rfl : y0 = 0 := Subsingleton.elim _ _
      obtain rfl : y1 = 0 := Subsingleton.elim _ _
      exact emb4 3 3 rfl _ y2 y3
    intro d e
    dsimp only
    refine (pay5_apply _ d e).trans ?_
    refine (hit _ _ _ _ _ _ _).trans ((congrFun (next_3 _ _ _ _) (ix3 0 e d)).trans (head_next _ _ _ _ (hA x4 3) (hA x1 3) (hV x2 3) (hS x5 3) ?_ ?_ ?_ ?_ e d))
    · exact (cutb x4 _ (fun i n => decays _ _ (fun j n => x4 (ix2 j n)) (fun j n => ldz _ _ x4 _ (by rfl) _ j n) ha (fun i c => (ldz _ _ x7 _ (by rfl) _ i c).trans (htr i c)) i n) 3 (3 * 128) rfl _)
    · exact (fun j d => ld2 _ _ x1 _ (3 * 128) (by rfl) _ j d _)
    · exact (fun j e => ld2 _ _ x2 _ (3 * 256) (by rfl) _ j e _)
    · exact fun e d => (miss _ _ _ (by decide) _ _ _ _ _).trans <| (miss _ _ _ (by decide) _ _ _ _ _).trans <| (miss _ _ _ (by decide) _ _ _ _ _).trans <| (hit _ _ _ _ _ _ _).trans <| (pay9_apply _ e d).trans (ld4 _ _ x5 3 3 rfl _ d e)
  · refine part9 x1 x2 x4 x5 2 _ ?_ y _ ?_
    swap
    · idx_vars y
      obtain rfl : y0 = 0 := Subsingleton.elim _ _
      obtain rfl : y1 = 0 := Subsingleton.elim _ _
      exact emb4 2 2 rfl _ y2 y3
    intro d e
    dsimp only
    refine (pay4_apply _ d e).trans ?_
    refine (miss _ _ _ (by decide) _ _ _ _ _).trans ?_
    refine (hit _ _ _ _ _ _ _).trans ((congrFun (next_2 _ _ _ _) (ix3 0 e d)).trans (head_next _ _ _ _ (hA x4 2) (hA x1 2) (hV x2 2) (hS x5 2) ?_ ?_ ?_ ?_ e d))
    · exact (cutb x4 _ (fun i n => decays _ _ (fun j n => x4 (ix2 j n)) (fun j n => ldz _ _ x4 _ (by rfl) _ j n) ha (fun i c => (ldz _ _ x7 _ (by rfl) _ i c).trans (htr i c)) i n) 2 (2 * 128) rfl _)
    · exact (fun j d => ld2 _ _ x1 _ (2 * 128) (by rfl) _ j d _)
    · exact (fun j e => ld2 _ _ x2 _ (2 * 256) (by rfl) _ j e _)
    · exact fun e d => (miss _ _ _ (by decide) _ _ _ _ _).trans <| (miss _ _ _ (by decide) _ _ _ _ _).trans <| (miss _ _ _ (by decide) _ _ _ _ _).trans <| (hit _ _ _ _ _ _ _).trans <| (pay8_apply _ e d).trans (ld4 _ _ x5 2 2 rfl _ d e)
  · refine part9 x1 x2 x4 x5 1 _ ?_ y _ ?_
    swap
    · idx_vars y
      obtain rfl : y0 = 0 := Subsingleton.elim _ _
      obtain rfl : y1 = 0 := Subsingleton.elim _ _
      exact emb4 1 1 rfl _ y2 y3
    intro d e
    dsimp only
    refine (pay3_apply _ d e).trans ?_
    refine (miss _ _ _ (by decide) _ _ _ _ _).trans ?_
    refine (miss _ _ _ (by decide) _ _ _ _ _).trans ?_
    refine (hit _ _ _ _ _ _ _).trans ((congrFun (next_1 _ _ _ _) (ix3 0 e d)).trans (head_next _ _ _ _ (hA x4 1) (hA x1 1) (hV x2 1) (hS x5 1) ?_ ?_ ?_ ?_ e d))
    · exact (cutb x4 _ (fun i n => decays _ _ (fun j n => x4 (ix2 j n)) (fun j n => ldz _ _ x4 _ (by rfl) _ j n) ha (fun i c => (ldz _ _ x7 _ (by rfl) _ i c).trans (htr i c)) i n) 1 (1 * 128) rfl _)
    · exact (fun j d => ld2 _ _ x1 _ (1 * 128) (by rfl) _ j d _)
    · exact (fun j e => ld2 _ _ x2 _ (1 * 256) (by rfl) _ j e _)
    · exact fun e d => (miss _ _ _ (by decide) _ _ _ _ _).trans <| (miss _ _ _ (by decide) _ _ _ _ _).trans <| (miss _ _ _ (by decide) _ _ _ _ _).trans <| (hit _ _ _ _ _ _ _).trans <| (pay7_apply _ e d).trans (ld4 _ _ x5 1 1 rfl _ d e)
  · refine part9 x1 x2 x4 x5 0 _ ?_ y _ ?_
    swap
    · idx_vars y
      obtain rfl : y0 = 0 := Subsingleton.elim _ _
      obtain rfl : y1 = 0 := Subsingleton.elim _ _
      exact emb4 0 0 rfl _ y2 y3
    intro d e
    dsimp only
    refine (pay2_apply _ d e).trans ?_
    refine (miss _ _ _ (by decide) _ _ _ _ _).trans ?_
    refine (miss _ _ _ (by decide) _ _ _ _ _).trans ?_
    refine (miss _ _ _ (by decide) _ _ _ _ _).trans ?_
    refine (hit _ _ _ _ _ _ _).trans ((congrFun (next_0 _ _ _ _ _) (ix3 0 e d)).trans (head_next _ _ _ _ (hA x4 0) (hA x1 0) (hV x2 0) (hS x5 0) ?_ ?_ ?_ ?_ e d))
    · exact (cutb x4 _ (fun i n => decays _ _ (fun j n => x4 (ix2 j n)) (fun j n => ldz _ _ x4 _ (by rfl) _ j n) ha (fun i c => (ldz _ _ x7 _ (by rfl) _ i c).trans (htr i c)) i n) 0 (0 * 128) rfl _)
    · exact (fun j d => ld2 _ _ x1 _ (0 * 128) (by rfl) _ j d _)
    · exact (fun j e => ld2 _ _ x2 _ (0 * 256) (by rfl) _ j e _)
    · exact fun e d => (miss _ _ _ (by decide) _ _ _ _ _).trans <| (miss _ _ _ (by decide) _ _ _ _ _).trans <| (miss _ _ _ (by decide) _ _ _ _ _).trans <| (hit _ _ _ _ _ _ _).trans <| (pay6_apply _ e d).trans (ld4 _ _ x5 0 0 rfl _ d e)

end Cert.GlaSIdeal.Hand
-- ==== Proof.GlaS.lean ====
/- The recurrence over the sample's batch: what the kernel's result arrays hold, and that they are what the reference defines. -/
module

public import proofs.«01_k».proof.Defs
public import proofs.«01_k».proof.Proof.GlaSOut
public import proofs.«01_k».proof.Proof.Gen.GlaSRefIdeal.Run
public import proofs.«01_k».proof.Proof.Gen.Pre_decay_finite
public import Idealize.ShloMosaic.Lib.Pipeline.ValueKit
public import Idealize.ShloMosaic.Lib.Pipeline.ReadBack
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.GlaSIdeal.Hand
open Cert.GlaSIdeal Cert.GlaSIdeal.Gen
open Cert.GlaSRefIdeal.Hand (arow qrow vrow srow mixr nextr normed)

variable (m : (ℓ : Loc nD τ sig) → Buf (Elt Ideal) ℓ)

/-- Where each window's block lies at a grid point. -/
theorem idx : ∀ t : Fin grid0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0, 0, 0] ∧ win0_6.index t = ![0, 0] ∧ win0_7.index t = ![0, 0]
    ∧ win0_8.index t = ![t.val, 0] ∧ win0_9.index t = ![t.val, 0, 0, 0] := by decide +kernel

theorem lt16 (t : Fin cfg0.N) : t.val < 16 := t.isLt

/-- Row `r` of the block at grid point `t`, as a row of the whole array. -/
def line (t : Fin cfg0.N) (r : Fin 16) : Fin 256 :=
  ⟨t.val * 16 + r.val, by have h := lt16 t; omega⟩

/-- The sample at grid point `t`. -/
def smp (t : Fin cfg0.N) : Fin 16 := ⟨t.val, lt16 t⟩

theorem V0_apply (c : Dev nD) (e : Fin 256) :
    (V m c main_v0 : (⟨S1x256, .f32⟩ : BufTy).Contents (Elt Ideal)) (ix2 0 e) = m ((c : Thread nD τ).loc main_arg6) (ix1 e) := by
  entry_read
  pointwise

/-- The table of the running sums: ones at and below the diagonal, twice. -/
theorem table : ∀ (i : Fin 16) (k : Fin 32), lit0 (S16x32.rowMajor (ix2 i k)) = if k.val % 16 ≤ i.val then 0x3F80#16 else 0x0000#16 := by
  decide +kernel

theorem one16 : Ideal.ofBits .bf16 0x3F80#16 = 1 := by
  simp [Ideal.ofBits, Ideal.ieee]
  rw [← EReal.coe_mul]
  norm_num

theorem zero16 : Ideal.ofBits .bf16 0x0000#16 = 0 := by simp [Ideal.ofBits, Ideal.ieee]

theorem Vcst_apply (c : Dev nD) (i : Fin 16) (k : Fin 32) :
    (V m c main_cst : (⟨S16x32, .bf16⟩ : BufTy).Contents (Elt Ideal)) (ix2 i k) = if k.val % 16 ≤ i.val then (1 : EReal) else 0 := by
  entry_read
  show Ideal.ofBits .bf16 (lit0 (S16x32.rowMajor (ix2 i k))) = _
  rw [table]
  split_ifs
  · exact one16
  · exact zero16

theorem blk0 (c : Dev nD) (t : Fin cfg0.N) (r : Fin 16) (n : Fin 512) : iblk m c 0 t (ix2 r n) = m ((c : Thread nD τ).loc main_arg0) (ix2 (line t r) n) := by
  rw [← V_main_arg0 m c]; blk_ext [iblk, idx t, line]

theorem blk1 (c : Dev nD) (t : Fin cfg0.N) (r : Fin 16) (n : Fin 512) : iblk m c 1 t (ix2 r n) = m ((c : Thread nD τ).loc main_arg1) (ix2 (line t r) n) := by
  rw [← V_main_arg1 m c]; blk_ext [iblk, idx t, line]

theorem blk2 (c : Dev nD) (t : Fin cfg0.N) (r : Fin 16) (n : Fin 1024) : iblk m c 2 t (ix2 r n) = m ((c : Thread nD τ).loc main_arg2) (ix2 (line t r) n) := by
  rw [← V_main_arg2 m c]; blk_ext [iblk, idx t, line]

theorem blk3 (c : Dev nD) (t : Fin cfg0.N) (r : Fin 16) (n : Fin 1024) : iblk m c 3 t (ix2 r n) = m ((c : Thread nD τ).loc main_arg3) (ix2 (line t r) n) := by
  rw [← V_main_arg3 m c]; blk_ext [iblk, idx t, line]

theorem blk4 (c : Dev nD) (t : Fin cfg0.N) (r : Fin 16) (n : Fin 512) : iblk m c 4 t (ix2 r n) = m ((c : Thread nD τ).loc main_arg4) (ix2 (line t r) n) := by
  rw [← V_main_arg4 m c]; blk_ext [iblk, idx t, line]

theorem blk5 (c : Dev nD) (t : Fin cfg0.N) (h : Fin 4) (d : Fin 128) (e : Fin 256) : iblk m c 5 t (ix4 0 h d e) = m ((c : Thread nD τ).loc main_arg5) (ix4 (smp t) h d e) := by
  rw [← V_main_arg5 m c]; blk_ext [iblk, idx t, smp]

theorem blk6 (c : Dev nD) (t : Fin cfg0.N) (e : Fin 256) : iblk m c 6 t (ix2 0 e) = m ((c : Thread nD τ).loc main_arg6) (ix1 e) :=
  Eq.trans (by blk_ext [iblk, idx t]) (V0_apply m c e)

theorem blk7 (c : Dev nD) (t : Fin cfg0.N) (i : Fin 16) (k : Fin 32) : iblk m c 7 t (ix2 i k) = if k.val % 16 ≤ i.val then (1 : EReal) else 0 :=
  Eq.trans (by blk_ext [iblk, idx t]) (Vcst_apply m c i k)

/-- A number whose absolute value is below infinity is real. -/
theorem real_of (x : EReal) (h : Ideal.cmp .olt (max x (-x)) (Ideal.ofBits .f32 2139095040#32) = 1#1) : ∃ r : ℝ, x = r := by
  have ht : Ideal.ofBits .f32 2139095040#32 = ⊤ := by simp [Ideal.ofBits, Ideal.ieee]
  rw [ht] at h
  induction x with
  | bot => simp [Ideal.cmp] at h
  | top => simp [Ideal.cmp] at h
  | coe r => exact ⟨r, rfl⟩

/-- The precondition, read: the log decays are real numbers. -/
theorem pre_reads (h : Cert.Pre_GlaSIdeal_decay_finite (hPre_decay_finite := Cert.Pre_decay_finite.Gen.facts) m) (c : Dev nD) (R : Fin 256) (n : Fin 512) :
    ∃ r : ℝ, m ((c : Thread nD τ).loc main_arg4) (ix2 R n) = (r : EReal) := by
  have h0 := h c
  simp only [Cert.Pre_decay_finite.fn] at h0
  exact real_of _ (congrFun h0 (ix2 R n))

/-- The reference's results as functions of the arguments. -/
abbrev ref8 (c : Dev nD) : (⟨S256x1024, .bf16⟩ : BufTy).Contents (Elt Ideal) :=
  Cert.GlaSRefIdeal.Read.val_main_v59 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

abbrev ref9 (c : Dev nD) : (⟨S16x4x128x256, .f32⟩ : BufTy).Contents (Elt Ideal) :=
  Cert.GlaSRefIdeal.Read.val_main_v42 (F := Ideal) (m ((c : Thread nD τ).loc main_arg1)) (m ((c : Thread nD τ).loc main_arg2))
    (m ((c : Thread nD τ).loc main_arg4)) (m ((c : Thread nD τ).loc main_arg5))

theorem decs (c : Dev nD) (t : Fin cfg0.N) (h : Fin 4) : hA (iblk m c 4 t) h = arow (m ((c : Thread nD τ).loc main_arg4)) (smp t) h :=
  funext fun i => funext fun d => blk4 m c t i ⟨h.val * 128 + d.val, by omega⟩

theorem qrys (c : Dev nD) (t : Fin cfg0.N) (h : Fin 4) : hA (iblk m c 0 t) h = qrow (m ((c : Thread nD τ).loc main_arg0)) (smp t) h :=
  funext fun i => funext fun d => blk0 m c t i ⟨h.val * 128 + d.val, by omega⟩

theorem keys (c : Dev nD) (t : Fin cfg0.N) (h : Fin 4) : hA (iblk m c 1 t) h = qrow (m ((c : Thread nD τ).loc main_arg1)) (smp t) h :=
  funext fun i => funext fun d => blk1 m c t i ⟨h.val * 128 + d.val, by omega⟩

theorem vals (c : Dev nD) (t : Fin cfg0.N) (h : Fin 4) : hV (iblk m c 2 t) h = vrow (m ((c : Thread nD τ).loc main_arg2)) (smp t) h :=
  funext fun i => funext fun e => blk2 m c t i ⟨h.val * 256 + e.val, by omega⟩

theorem sts (c : Dev nD) (t : Fin cfg0.N) (h : Fin 4) : hS (iblk m c 5 t) h = srow (m ((c : Thread nD τ).loc main_arg5)) (smp t) h :=
  funext fun d => funext fun e => blk5 m c t h d e

/-- A block's rows are the reference's. -/
theorem out_eq (hp : Cert.Pre_GlaSIdeal_decay_finite (hPre_decay_finite := Cert.Pre_decay_finite.Gen.facts) m) (c : Dev nD) (t : Fin cfg0.N) (i : Fin 16) (C : Fin 1024) :
    (outsAt0 m c t).1 (ix2 i C) = ref8 m c (ix2 (line t i) C) := by
  have ha (j : Fin 16) (n : Fin 512) : ∃ r : ℝ, iblk m c 4 t (ix2 j n) = (r : EReal) := by
    rw [blk4]
    exact pre_reads m hp c _ _
  unfold outsAt0
  dsimp only
  refine (out8A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) ha (blk7 m c t) (ix2 i C)).trans ?_
  show G8 (iblk m c 0 t) (iblk m c 1 t) (iblk m c 2 t) (iblk m c 3 t) (iblk m c 4 t) (iblk m c 5 t) (iblk m c 6 t) ⟨C.val / 256, by omega⟩ i ⟨C.val % 256, by omega⟩ = _
  refine Eq.trans ?_ (Cert.GlaSRefIdeal.Hand.v59_apply _ _ _ _ _ _ _ (line t i) C (smp t) i ⟨C.val / 256, by omega⟩ ⟨C.val % 256, by omega⟩ rfl (by dsimp only; omega)).symm
  unfold G8
  rw [decs, qrys, keys, vals, sts, blk6, blk3]
  refine congrArg (fun z => normed _ _ _ (m ((c : Thread nD τ).loc main_arg3) (ix2 (line t i) z))) (Fin.ext ?_)
  dsimp only
  omega

/-- A block's new states are the reference's. -/
theorem state_eq (hp : Cert.Pre_GlaSIdeal_decay_finite (hPre_decay_finite := Cert.Pre_decay_finite.Gen.facts) m) (c : Dev nD) (t : Fin cfg0.N) (h : Fin 4) (d : Fin 128) (e : Fin 256) :
    (outsAt0 m c t).2 (ix4 0 h d e) = ref9 m c (ix4 (smp t) h d e) := by
  have ha (j : Fin 16) (n : Fin 512) : ∃ r : ℝ, iblk m c 4 t (ix2 j n) = (r : EReal) := by
    rw [blk4]
    exact pre_reads m hp c _ _
  unfold outsAt0
  dsimp only
  refine (out9A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t) ha (blk7 m c t) (ix4 0 h d e)).trans ?_
  show nextr (hA (iblk m c 4 t) h) (hA (iblk m c 1 t) h) (hV (iblk m c 2 t) h) (hS (iblk m c 5 t) h) d e = _
  rw [decs, keys, vals, sts]
  exact (Cert.GlaSRefIdeal.Hand.v42_apply _ _ _ _ (smp t) h d e).symm

theorem final8 (hp : Cert.Pre_GlaSIdeal_decay_finite (hPre_decay_finite := Cert.Pre_decay_finite.Gen.facts) m) (c : Dev nD) : (dats m 0 c).arrAt 8 (cfgs 0).N = ref8 m c := by
  refine (dats m 0 c).arrAt_eq_of_covers 8 _ (by decide +kernel) fun t hf y => ?_
  blk_simp
  rw [after0_8]
  idx_vars y
  have e : (((View.whole main_v1_0).slice (win0_8.rect t)).emb (ix2 y0 y1)) = ix2 (line t y0) y1 := by
    blk_ext [idx t, line]
  rw [e]
  exact out_eq m hp c t y0 y1

theorem final9 (hp : Cert.Pre_GlaSIdeal_decay_finite (hPre_decay_finite := Cert.Pre_decay_finite.Gen.facts) m) (c : Dev nD) : (dats m 0 c).arrAt 9 (cfgs 0).N = ref9 m c := by
  refine (dats m 0 c).arrAt_eq_of_covers 9 _ (by decide +kernel) fun t hf y => ?_
  blk_simp
  rw [after0_9]
  idx_vars y
  obtain rfl : y0 = 0 := Subsingleton.elim _ _
  have e : (((View.whole main_v1_1).slice (win0_9.rect t)).emb (ix4 0 y1 y2 y3)) = ix4 (smp t) y1 y2 y3 := by
    blk_ext [idx t, smp]
  rw [e]
  exact state_eq m hp c t y1 y2 y3

end Cert.GlaSIdeal.Hand

namespace Cert.Proof

/-- The kernel's recurrence over the sample's batch computes what the reference defines, and leaves the same states. -/
theorem algebraic_GlaS : Cert.algebraic_GlaSIdeal_GlaSRefIdeal_pre_decay_finite (hGlaSIdeal := Cert.GlaSIdeal.Gen.facts)
    (hGlaSRefIdeal := Cert.GlaSRefIdeal.Gen.facts) (hPre_decay_finite := Cert.Pre_decay_finite.Gen.facts) := fun m g m' g' hp hag =>
  ⟨fun c => Cert.GlaSIdeal.Hand.ref8 m c, fun c => Cert.GlaSIdeal.Hand.ref9 m c,
    (θ_run _ _ _).mono (fun r h c => ⟨((h c).1).trans (Cert.GlaSIdeal.Hand.final8 m hp c), ((h c).2.1).trans (Cert.GlaSIdeal.Hand.final9 m hp c), (h c).2.2⟩) (Cert.GlaSIdeal.Value.run_blocks m g),
    (θ_run _ _ _).mono (fun r h c => by
      obtain ⟨a0, a1, a2, a3, a4, a5, a6⟩ := hag c
      refine ⟨((h c).1).trans ?_, ((h c).2.1).trans ?_, (h c).2.2⟩
      · rw [Cert.GlaSRefIdeal.Read.val_main_v59_eq, a0, a1, a2, a3, a4, a5, a6]
      · refine (Cert.GlaSRefIdeal.Read.val_main_v42_eq _ _ _ _).trans ?_
        rw [a1, a2, a4, a5]
      ) (Cert.GlaSRefIdeal.Value.run m' g')⟩

end Cert.Proof
-- ==== Proof.OutProjS.lean ====
/- The output projection over the sample's batch: what the kernel's result array holds, and that it is what the reference defines. -/
module

public import proofs.«01_k».proof.Defs
public import proofs.«01_k».proof.Proof.Gen.OutProjSIdeal.Value
public import proofs.«01_k».proof.Proof.Gen.OutProjSRefIdeal.Run
public import proofs.«01_k».proof.Proof.Gen.OutProjSRefIdeal.Read
public import proofs.«01_k».proof.Proof.OutProj
public import Idealize.ShloMosaic.Lib.Pipeline.ValueKit
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.OutProjSIdeal.Hand

open Cert.OutProjSIdeal Cert.OutProjSIdeal.Gen
open Cert.OutProjIdeal.Hand (swap tie)

variable (m : (ℓ : Loc nD τ sig) → Buf (Elt Ideal) ℓ)

/-- The body's result block at row `r` and column `n`. -/
theorem pay_apply (v0 : Vec Ideal S256x2048 .f32) (v2 : Vec Ideal S256x1024 .bf16) (v3 : Vec Ideal S1024x2048 .bf16)
    (v7 : Vec Ideal S256x1024 .bf16) (v8 : Vec Ideal S1024x2048 .bf16) (r : Fin 256) (n : Fin 2048) :
    k0_pay1 (F := Ideal) v0 v2 v3 v7 v8 (ix2 r n)
      = (v0 (ix2 r n) + ∑ k : Fin 1024, v2 (ix2 r k) * v3 (ix2 k n)) + ∑ k : Fin 1024, v7 (ix2 r k) * v8 (ix2 k n) := by
  pointwise [k0_pay1]

/-- Where each window's block lies at a grid point. -/
theorem idx : ∀ t : Fin grid0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := by decide +kernel

/-- Row `r` of the block at grid point `t`, as a row of the whole array. -/
def row (t : Fin cfg0.N) (r : Fin 256) : Fin 256 :=
  ⟨t.val * 256 + r.val, by have h : t.val < 1 := t.isLt; omega⟩

/-- The reference's result as a function of the arguments. -/
abbrev ref (c : Dev nD) : (⟨S256x2048, .f32⟩ : BufTy).Contents (Elt Ideal) :=
  Cert.OutProjSRefIdeal.Read.val_main_v10 (F := Ideal) (m ((c : Thread nD τ).loc main_arg0)) (m ((c : Thread nD τ).loc main_arg1))
    (m ((c : Thread nD τ).loc main_arg2)) (m ((c : Thread nD τ).loc main_arg3))

open Cert.OutProjSRefIdeal.Read in
/-- The reference's result at row `r` and column `n`: the input plus the two halves of the projection. -/
theorem ref_apply (x0 : (⟨S16x16x2048, .f32⟩ : BufTy).Contents (Elt Ideal)) (x1 x2 : (⟨S256x1024, .bf16⟩ : BufTy).Contents (Elt Ideal))
    (x3 : (⟨S1x2048x2048, .f32⟩ : BufTy).Contents (Elt Ideal)) (r : Fin 256) (n : Fin 2048) :
    val_main_v10 (F := Ideal) x0 x1 x2 x3 (ix2 r n)
      = x0 (ix3 ⟨r.val / 16, by omega⟩ ⟨r.val % 16, by omega⟩ n)
        + (∑ k : Fin 1024, x1 (ix2 r (swap k)) * x3 (ix3 0 ⟨k.val, by omega⟩ n)
          + ∑ k : Fin 1024, x2 (ix2 r k) * x3 (ix3 0 ⟨1024 + k.val, by omega⟩ n)) := by
  pointwise [val_main_v10, val_main_v9, val_main_v8, val_main_v7, val_main_v6, val_main_v5, val_main_v4, val_main_v3, val_main_v2, val_main_v1, val_main_v0, swap]

/-- What the call reads as `x`: the flattened rows. -/
theorem V8_apply (c : Dev nD) (r : Fin 256) (n : Fin 2048) :
    (V m c main_v8 : (⟨S256x2048, .f32⟩ : BufTy).Contents (Elt Ideal)) (ix2 r n)
      = m ((c : Thread nD τ).loc main_arg0) (ix3 ⟨r.val / 16, by omega⟩ ⟨r.val % 16, by omega⟩ n) := by
  entry_read
  pointwise

/-- The attention half of the weights, its rows regrouped. -/
theorem V5_apply (c : Dev nD) (k : Fin 1024) (n : Fin 2048) :
    (V m c main_v5 : (⟨S1024x2048, .bf16⟩ : BufTy).Contents (Elt Ideal)) (ix2 k n)
      = m ((c : Thread nD τ).loc main_arg3) (ix3 0 ⟨(swap k).val, by omega⟩ n) := by
  entry_read
  pointwise [swap]

/-- The other half of the weights. -/
theorem V7_apply (c : Dev nD) (k : Fin 1024) (n : Fin 2048) :
    (V m c main_v7 : (⟨S1024x2048, .bf16⟩ : BufTy).Contents (Elt Ideal)) (ix2 k n)
      = m ((c : Thread nD τ).loc main_arg3) (ix3 0 ⟨1024 + k.val, by omega⟩ n) := by
  entry_read
  pointwise

/-- The row block of `x` at a grid point. -/
theorem blk0 (c : Dev nD) (t : Fin cfg0.N) (r : Fin 256) (n : Fin 2048) :
    iblk m c 0 t (ix2 r n) = m ((c : Thread nD τ).loc main_arg0) (ix3 ⟨(row t r).val / 16, by omega⟩ ⟨(row t r).val % 16, by omega⟩ n) :=
  Eq.trans (by blk_ext [iblk, idx t, row]) (V8_apply m c (row t r) n)

/-- The row block of the attention's output. -/
theorem blk1 (c : Dev nD) (t : Fin cfg0.N) (r : Fin 256) (k : Fin 1024) :
    iblk m c 1 t (ix2 r k) = m ((c : Thread nD τ).loc main_arg1) (ix2 (row t r) k) := by
  rw [← V_main_arg1 m c]; blk_ext [iblk, idx t, row]

/-- The row block of the recurrence's output. -/
theorem blk2 (c : Dev nD) (t : Fin cfg0.N) (r : Fin 256) (k : Fin 1024) :
    iblk m c 2 t (ix2 r k) = m ((c : Thread nD τ).loc main_arg2) (ix2 (row t r) k) := by
  rw [← V_main_arg2 m c]; blk_ext [iblk, idx t, row]

/-- Every point reads the whole attention half of the weights. -/
theorem blk3 (c : Dev nD) (t : Fin cfg0.N) (k : Fin 1024) (n : Fin 2048) :
    iblk m c 3 t (ix2 k n) = m ((c : Thread nD τ).loc main_arg3) (ix3 0 ⟨(swap k).val, by omega⟩ n) :=
  Eq.trans (by blk_ext [iblk, idx t]) (V5_apply m c k n)

/-- Every point reads the whole other half. -/
theorem blk4 (c : Dev nD) (t : Fin cfg0.N) (k : Fin 1024) (n : Fin 2048) :
    iblk m c 4 t (ix2 k n) = m ((c : Thread nD τ).loc main_arg3) (ix3 0 ⟨1024 + k.val, by omega⟩ n) :=
  Eq.trans (by blk_ext [iblk, idx t]) (V7_apply m c k n)

/-- The result array after the run is the reference's result. -/
theorem final (c : Dev nD) : (dats m 0 c).arrAt 5 (cfgs 0).N = ref m c := by
  refine (dats m 0 c).arrAt_eq_of_covers 5 _ (by decide +kernel) fun t hf y => ?_
  blk_simp
  rw [after0_5]
  frame_out
  idx_vars y
  have e : (((View.whole main_v9).slice (win0_5.rect t)).emb (ix2 y0 y1)) = ix2 (row t y0) y1 := by
    blk_ext [idx t, row]
  rw [pay_apply, e]
  refine Eq.trans ?_ (ref_apply _ _ _ _ _ _).symm
  rw [blk0]
  simp only [blk1, blk2, blk3, blk4]
  exact tie _ _ (fun k => m ((c : Thread nD τ).loc main_arg3) (ix3 0 ⟨k.val, by omega⟩ y1)) _

end Cert.OutProjSIdeal.Hand

namespace Cert.Proof

/-- The kernel's output projection of the sample computes what the reference defines. -/
theorem algebraic_OutProjS : Cert.algebraic_OutProjSIdeal_OutProjSRefIdeal (hOutProjSIdeal := Cert.OutProjSIdeal.Gen.facts)
    (hOutProjSRefIdeal := Cert.OutProjSRefIdeal.Gen.facts) := fun m g m' g' _ hag =>
  ⟨fun c => Cert.OutProjSIdeal.Hand.ref m c,
    (θ_run _ _ _).mono (fun r h c => ⟨((h c).1).trans (Cert.OutProjSIdeal.Hand.final m c), (h c).2⟩) (Cert.OutProjSIdeal.Value.run_blocks m g),
    (θ_run _ _ _).mono (fun r h c => ⟨((h c).1).trans (by
      rw [Cert.OutProjSRefIdeal.Read.val_main_v10_eq, (hag c).1, (hag c).2.1, (hag c).2.2.1, (hag c).2.2.2]), (h c).2⟩)
      (Cert.OutProjSRefIdeal.Value.run m' g')⟩

/-- The reference's run ends with its arguments unchanged and every counter at zero. -/
theorem frame_OutProjSRef : Cert.quiescent_OutProjSRefIdeal (hOutProjSRefIdeal := Cert.OutProjSRefIdeal.Gen.facts) := fun m g _ =>
  (θ_run _ _ _).mono (fun r h => ⟨fun c => (h c).2, sem_eq_zero_of_no_sems (by decide) r.2⟩) (Cert.OutProjSRefIdeal.Value.run m g)

end Cert.Proof
-- ==== Proof.InProjSHost.lean ====
/- The sample's input projection: what the call is given. -/
module

public import proofs.«01_k».proof.Defs
public import proofs.«01_k».proof.Proof.Gen.InProjSIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjSIdeal.Hand

open Cert.InProjSIdeal Cert.InProjSIdeal.Gen

variable (m : (ℓ : Loc nD τ sig) → Buf (Elt Ideal) ℓ)

/-- The place of a column numbered `(g, r, d)` among those numbered `(r, g, d)`, four by four by sixty-four. -/
def sw (k : Nat) : Nat := k / 64 % 4 * 256 + k / 256 * 64 + k % 64

theorem sw_lt {k : Nat} (h : k < 1024) : sw k < 1024 := by
  unfold sw; omega

/-- Where column `n` of the kernel's main weights stands among the columns as given: queries and gates are regrouped. -/
def col (n : Nat) : Nat := if n < 1024 then sw n else if n < 1536 then n else if n < 2560 then 1536 + sw (n - 1536) else n

theorem col_lt {n : Nat} (h : n < 5632) : col n < 5632 := by
  unfold col
  have h1 := @sw_lt n
  have h2 := @sw_lt (n - 1536)
  split_ifs <;> omega

/-- The buffers once the pieces of the main weights are cut out and regrouped. -/
def pieces (c : Dev nD) :=
  StableHlo.after (List.take 21 (hostOps0 (F := Ideal))) (fun b => m (c, b))

/-- The main weights are the pieces side by side. -/
theorem V22_eq (c : Dev nD) : (V m c main_v22 : (⟨S2048x5632, .bf16⟩ : BufTy).Contents (Elt Ideal))
    = truncf (F := Ideal) .bf16 (concatenate S2048x5632 1 [⟨S2048x1024, (pieces m c (Proc.devRef .tc main_v17) : (⟨S2048x1024, .f32⟩ : BufTy).Contents (Elt Ideal))⟩, ⟨S2048x256, (pieces m c (Proc.devRef .tc main_v7) : (⟨S2048x256, .f32⟩ : BufTy).Contents (Elt Ideal))⟩, ⟨S2048x256, (pieces m c (Proc.devRef .tc main_v8) : (⟨S2048x256, .f32⟩ : BufTy).Contents (Elt Ideal))⟩, ⟨S2048x1024, (pieces m c (Proc.devRef .tc main_v20) : (⟨S2048x1024, .f32⟩ : BufTy).Contents (Elt Ideal))⟩, ⟨S2048x512, (pieces m c (Proc.devRef .tc main_v10) : (⟨S2048x512, .f32⟩ : BufTy).Contents (Elt Ideal))⟩, ⟨S2048x512, (pieces m c (Proc.devRef .tc main_v11) : (⟨S2048x512, .f32⟩ : BufTy).Contents (Elt Ideal))⟩, ⟨S2048x1024, (pieces m c (Proc.devRef .tc main_v12) : (⟨S2048x1024, .f32⟩ : BufTy).Contents (Elt Ideal))⟩, ⟨S2048x1024, (pieces m c (Proc.devRef .tc main_v13) : (⟨S2048x1024, .f32⟩ : BufTy).Contents (Elt Ideal))⟩] concatenates_S2048x1024_S2048x256_S2048x256_S2048x1024_S2048x512_S2048x512_S2048x1024_S2048x1024_S2048x5632_d1) bitsLt_bf16_f32 := by
  have h : (List.flatten [hostOps0, hostOps0_1, hostOps0_2, hostOps0_3, hostOps0_4, hostOps0_5, hostOps0_6, hostOps0_7, hostOps0_8, hostOps0_9, hostOps0_10, hostOps0_11, hostOps0_12] : List (HloOp τ sig (Elt Ideal)))
      = List.take 21 hostOps0 ++ (List.drop 21 hostOps0 ++ (List.flatten [hostOps0_1, hostOps0_2, hostOps0_3, hostOps0_4, hostOps0_5, hostOps0_6, hostOps0_7, hostOps0_8, hostOps0_9, hostOps0_10, hostOps0_11, hostOps0_12])) := rfl
  rw [V, h, StableHlo.after_append]
  change StableHlo.after (_ :: _ :: (List.drop 23 hostOps0 ++ (List.flatten [hostOps0_1, hostOps0_2, hostOps0_3, hostOps0_4, hostOps0_5, hostOps0_6, hostOps0_7, hostOps0_8, hostOps0_9, hostOps0_10, hostOps0_11, hostOps0_12]))) (pieces m c) (Proc.devRef .tc main_v22) = _
  rw [StableHlo.after_cons, StableHlo.after_cons, StableHlo.after_of_forall_not_mem (b := Proc.devRef .tc main_v22) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.drop_succ_cons, List.drop_zero, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))]
  rw [StableHlo.unary_result, StableHlo.nary_result]
  rfl

attribute [local irreducible] pieces

/-- One piece at a place. -/
theorem piece_17 (c : Dev nD) (k : Fin 2048) (n : Fin 1024) :
    (pieces m c (Proc.devRef .tc main_v17) : (⟨S2048x1024, .f32⟩ : BufTy).Contents (Elt Ideal)) (ix2 k n)
      = m ((c : Thread nD τ).loc main_arg2) (ix3 0 k ⟨sw n.val, by have := sw_lt n.isLt; omega⟩) := by
  simp only [pieces, List.take_succ_cons, List.take_zero]
  entry_read
  pointwise [sw]

/-- One piece at a place. -/
theorem piece_7 (c : Dev nD) (k : Fin 2048) (n : Fin 256) :
    (pieces m c (Proc.devRef .tc main_v7) : (⟨S2048x256, .f32⟩ : BufTy).Contents (Elt Ideal)) (ix2 k n)
      = m ((c : Thread nD τ).loc main_arg2) (ix3 0 k ⟨1024 + n.val, by omega⟩) := by
  simp only [pieces, List.take_succ_cons, List.take_zero]
  entry_read
  pointwise [sw]

/-- One piece at a place. -/
theorem piece_8 (c : Dev nD) (k : Fin 2048) (n : Fin 256) :
    (pieces m c (Proc.devRef .tc main_v8) : (⟨S2048x256, .f32⟩ : BufTy).Contents (Elt Ideal)) (ix2 k n)
      = m ((c : Thread nD τ).loc main_arg2) (ix3 0 k ⟨1280 + n.val, by omega⟩) := by
  simp only [pieces, List.take_succ_cons, List.take_zero]
  entry_read
  pointwise [sw]

/-- One piece at a place. -/
theorem piece_20 (c : Dev nD) (k : Fin 2048) (n : Fin 1024) :
    (pieces m c (Proc.devRef .tc main_v20) : (⟨S2048x1024, .f32⟩ : BufTy).Contents (Elt Ideal)) (ix2 k n)
      = m ((c : Thread nD τ).loc main_arg2) (ix3 0 k ⟨1536 + sw n.val, by have := sw_lt n.isLt; omega⟩) := by
  simp only [pieces, List.take_succ_cons, List.take_zero]
  entry_read
  pointwise [sw]

/-- One piece at a place. -/
theorem piece_10 (c : Dev nD) (k : Fin 2048) (n : Fin 512) :
    (pieces m c (Proc.devRef .tc main_v10) : (⟨S2048x512, .f32⟩ : BufTy).Contents (Elt Ideal)) (ix2 k n)
      = m ((c : Thread nD τ).loc main_arg2) (ix3 0 k ⟨2560 + n.val, by omega⟩) := by
  simp only [pieces, List.take_succ_cons, List.take_zero]
  entry_read
  pointwise [sw]

/-- One piece at a place. -/
theorem piece_11 (c : Dev nD) (k : Fin 2048) (n : Fin 512) :
    (pieces m c (Proc.devRef .tc main_v11) : (⟨S2048x512, .f32⟩ : BufTy).Contents (Elt Ideal)) (ix2 k n)
      = m ((c : Thread nD τ).loc main_arg2) (ix3 0 k ⟨3072 + n.val, by omega⟩) := by
  simp only [pieces, List.take_succ_cons, List.take_zero]
  entry_read
  pointwise [sw]

/-- One piece at a place. -/
theorem piece_12 (c : Dev nD) (k : Fin 2048) (n : Fin 1024) :
    (pieces m c (Proc.devRef .tc main_v12) : (⟨S2048x1024, .f32⟩ : BufTy).Contents (Elt Ideal)) (ix2 k n)
      = m ((c : Thread nD τ).loc main_arg2) (ix3 0 k ⟨3584 + n.val, by omega⟩) := by
  simp only [pieces, List.take_succ_cons, List.take_zero]
  entry_read
  pointwise [sw]

/-- One piece at a place. -/
theorem piece_13 (c : Dev nD) (k : Fin 2048) (n : Fin 1024) :
    (pieces m c (Proc.devRef .tc main_v13) : (⟨S2048x1024, .f32⟩ : BufTy).Contents (Elt Ideal)) (ix2 k n)
      = m ((c : Thread nD τ).loc main_arg2) (ix3 0 k ⟨4608 + n.val, by omega⟩) := by
  simp only [pieces, List.take_succ_cons, List.take_zero]
  entry_read
  pointwise [sw]

set_option maxHeartbeats 1000000 in
/-- The main weights: column `n` is column `col n` of the weights as given. -/
theorem V22_apply (c : Dev nD) (k : Fin 2048) (n : Fin 5632) :
    (V m c main_v22 : (⟨S2048x5632, .bf16⟩ : BufTy).Contents (Elt Ideal)) (ix2 k n)
      = m ((c : Thread nD τ).loc main_arg2) (ix3 0 k ⟨col n.val, by have := col_lt n.isLt; omega⟩) := by
  rw [V22_eq]
  pointwise
  have key : ∀ j j' : Fin 5648, j.val = j'.val → m ((c : Thread nD τ).loc main_arg2) (ix3 0 k j) = m ((c : Thread nD τ).loc main_arg2) (ix3 0 k j') :=
    fun j j' h => by rw [Fin.ext h]
  by_cases h0 : n.val < 1024
  · exact (dif_pos h0).trans ((piece_17 m c k ⟨n.val, by omega⟩).trans (key _ _ (by
      simp only [col]; split_ifs <;> first | omega | (simp only [Nat.sub_sub]; done) | (simp only [Nat.sub_sub]; omega))))
  refine (dif_neg h0).trans ?_
  by_cases h1 : n.val - 1024 < 256
  · exact (dif_pos h1).trans ((piece_7 m c k ⟨n.val - 1024, by omega⟩).trans (key _ _ (by
      simp only [col]; split_ifs <;> first | omega | (simp only [Nat.sub_sub]; done) | (simp only [Nat.sub_sub]; omega))))
  refine (dif_neg h1).trans ?_
  by_cases h2 : n.val - 1024 - 256 < 256
  · exact (dif_pos h2).trans ((piece_8 m c k ⟨n.val - 1024 - 256, by omega⟩).trans (key _ _ (by
      simp only [col]; split_ifs <;> first | omega | (simp only [Nat.sub_sub]; done) | (simp only [Nat.sub_sub]; omega))))
  refine (dif_neg h2).trans ?_
  by_cases h3 : n.val - 1024 - 256 - 256 < 1024
  · exact (dif_pos h3).trans ((piece_20 m c k ⟨n.val - 1024 - 256 - 256, by omega⟩).trans (key _ _ (by
      simp only [col]; split_ifs <;> first | omega | (simp only [Nat.sub_sub]; done) | (simp only [Nat.sub_sub]; omega))))
  refine (dif_neg h3).trans ?_
  by_cases h4 : n.val - 1024 - 256 - 256 - 1024 < 512
  · exact (dif_pos h4).trans ((piece_10 m c k ⟨n.val - 1024 - 256 - 256 - 1024, by omega⟩).trans (key _ _ (by
      simp only [col]; split_ifs <;> first | omega | (simp only [Nat.sub_sub]; done) | (simp only [Nat.sub_sub]; omega))))
  refine (dif_neg h4).trans ?_
  by_cases h5 : n.val - 1024 - 256 - 256 - 1024 - 512 < 512
  · exact (dif_pos h5).trans ((piece_11 m c k ⟨n.val - 1024 - 256 - 256 - 1024 - 512, by omega⟩).trans (key _ _ (by
      simp only [col]; split_ifs <;> first | omega | (simp only [Nat.sub_sub]; done) | (simp only [Nat.sub_sub]; omega))))
  refine (dif_neg h5).trans ?_
  by_cases h6 : n.val - 1024 - 256 - 256 - 1024 - 512 - 512 < 1024
  · exact (dif_pos h6).trans ((piece_12 m c k ⟨n.val - 1024 - 256 - 256 - 1024 - 512 - 512, by omega⟩).trans (key _ _ (by
      simp only [col]; split_ifs <;> first | omega | (simp only [Nat.sub_sub]; done) | (simp only [Nat.sub_sub]; omega))))
  refine (dif_neg h6).trans ?_
  exact (piece_13 m c k ⟨n.val - 1024 - 256 - 256 - 1024 - 512 - 512 - 1024, by omega⟩).trans (key _ _ (by
      simp only [col]; split_ifs <;> first | omega | (simp only [Nat.sub_sub]; done) | (simp only [Nat.sub_sub]; omega)))

/-- The zero the padding is filled with. -/
theorem pad_zero : (FloatOps.sitofp FTy.f32 0#32 : Ideal .f32) = (0 : EReal) := by
  show ((((0#32 : BitVec 32).toInt : ℝ)) : EReal) = 0
  norm_num

/-- The rounded-down quotient by sixty-four, as the host computes it. -/
theorem quot64 : ∀ k : Fin 1280, Scalar.select
          (IntOp.andi
            (IntOp.cmpi CmpIPredicate.ne
              (if BitVec.ofNat 32 k.val = 0 then (0 : BitVec 32) else if (BitVec.ofNat 32 k.val).msb = true then (-1 : BitVec 32) else (1 : BitVec 32))
              (if 64#32 = 0 then (0 : BitVec 32) else if (64#32).msb = true then (-1 : BitVec 32) else (1 : BitVec 32)))
            (IntOp.cmpi CmpIPredicate.ne (IntOp.remsi ArithUnit.host (BitVec.ofNat 32 k.val) 64#32) 0#32))
          (IntOp.subi (IntOp.divsi ArithUnit.host (BitVec.ofNat 32 k.val) 64#32) 1#32)
          (IntOp.divsi ArithUnit.host (BitVec.ofNat 32 k.val) 64#32) = BitVec.ofNat 32 (k.val / 64) := by
  decide +kernel

/-- The indicator of two small numbers being equal. -/
theorem sel_eq (a b : Nat) (ha : a < 4294967296) (hb : b < 4294967296) :
    Scalar.select (IntOp.cmpi CmpIPredicate.eq (BitVec.ofNat 32 a) (BitVec.ofNat 32 b)) (1 : EReal) 0 = if a = b then 1 else 0 := by
  by_cases h : a = b
  · subst h; simp [Scalar.select, IntOp.cmpi]
  · have : BitVec.ofNat 32 a ≠ BitVec.ofNat 32 b := fun e => h (by
      have := congrArg BitVec.toNat e
      simpa only [BitVec.toNat_ofNat, Nat.mod_eq_of_lt ha, Nat.mod_eq_of_lt hb, Nat.reducePow] using this)
    have e : (BitVec.ofNat 32 a == BitVec.ofNat 32 b) = false := beq_eq_false_iff_ne.mpr this
    simp [Scalar.select, IntOp.cmpi, e, h]

/-- The input, its rows flattened. -/
theorem V52_apply (c : Dev nD) (r : Fin 256) (k : Fin 2048) :
    (V m c main_v52 : (⟨S256x2048, .f32⟩ : BufTy).Contents (Elt Ideal)) (ix2 r k) = m ((c : Thread nD τ).loc main_arg0) (ix3 ⟨r.val / 16, by omega⟩ ⟨r.val % 16, by omega⟩ k) := by
  simp only [V, List.flatten_cons, List.flatten_nil, List.cons_append, List.nil_append, List.append_nil]
  entry_read
  pointwise

/-- The norm's weights. -/
theorem V50_apply (c : Dev nD) (k : Fin 2048) :
    (V m c main_v50 : (⟨S1x2048, .f32⟩ : BufTy).Contents (Elt Ideal)) (ix2 0 k) = m ((c : Thread nD τ).loc main_arg1) (ix2 0 k) := by
  simp only [V, List.flatten_cons, List.flatten_nil, List.cons_append, List.nil_append, List.append_nil]
  entry_read
  pointwise

/-- The low-rank columns, padded with zeros. -/
theorem V24_apply (c : Dev nD) (k : Fin 2048) (n : Fin 128) :
    (V m c main_v24 : (⟨S2048x128, .bf16⟩ : BufTy).Contents (Elt Ideal)) (ix2 k n) = if h : n.val < 16 then m ((c : Thread nD τ).loc main_arg2) (ix3 0 k ⟨5632 + n.val, by omega⟩) else (0 : EReal) := by
  simp only [V, List.flatten_cons, List.flatten_nil, List.cons_append, List.nil_append, List.append_nil]
  entry_read
  try simp -implicitDefEqProofs only [StableHlo.TRef.toBuf, StableHlo.TRef.ofBuf, cast_cast, cast_eq]
  pointwise
  simp only [pad_zero]

/-- The second low-rank factor, padded with zeros. -/
theorem V26_apply (c : Dev nD) (k : Fin 128) (n : Fin 512) :
    (V m c main_v26 : (⟨S128x512, .bf16⟩ : BufTy).Contents (Elt Ideal)) (ix2 k n) = if h : k.val < 16 then m ((c : Thread nD τ).loc main_arg3) (ix3 0 ⟨k.val, h⟩ n) else (0 : EReal) := by
  simp only [V, List.flatten_cons, List.flatten_nil, List.cons_append, List.nil_append, List.append_nil]
  entry_read
  try simp -implicitDefEqProofs only [StableHlo.TRef.toBuf, StableHlo.TRef.ofBuf, cast_cast, cast_eq]
  pointwise
  simp only [pad_zero]

/-- The gate's bias. -/
theorem V51_apply (c : Dev nD) (n : Fin 512) :
    (V m c main_v51 : (⟨S1x512, .f32⟩ : BufTy).Contents (Elt Ideal)) (ix2 0 n) = m ((c : Thread nD τ).loc main_arg4) (ix2 0 n) := by
  simp only [V, List.flatten_cons, List.flatten_nil, List.cons_append, List.nil_append, List.append_nil]
  entry_read
  try simp -implicitDefEqProofs only [StableHlo.TRef.toBuf, StableHlo.TRef.ofBuf, cast_cast, cast_eq]
  pointwise

/-- The weights of the query heads' norm, as numbers. -/
abbrev gq (c : Dev nD) (d : Fin 64) : EReal := m ((c : Thread nD τ).loc main_arg5) (ix2 0 d)

/-- The weights of the key heads' norm, as numbers. -/
abbrev gk (c : Dev nD) (d : Fin 64) : EReal := m ((c : Thread nD τ).loc main_arg6) (ix2 0 d)

/-- The weights of the two head norms, the first scaled. -/
theorem V36_apply (c : Dev nD) (n : Fin 1280) :
    (V m c main_v36 : (⟨S1x1280, .f32⟩ : BufTy).Contents (Elt Ideal)) (ix2 0 n) = if h : n.val < 1024 then gq m c ⟨n.val % 64, by omega⟩ * Ideal.ofBits FTy.f32 0x3E000000#32 else gk m c ⟨(n.val - 1024) % 64, by omega⟩ := by
  simp only [V, List.flatten_cons, List.flatten_nil, List.cons_append, List.nil_append, List.append_nil]
  entry_read
  try simp -implicitDefEqProofs only [StableHlo.TRef.toBuf, StableHlo.TRef.ofBuf, cast_cast, cast_eq]
  pointwise

/-- Which head a column lies in. -/
theorem V42_apply (c : Dev nD) (k : Fin 1280) (n : Fin 128) :
    (V m c main_v42 : (⟨S1280x128, .bf16⟩ : BufTy).Contents (Elt Ideal)) (ix2 k n) = if k.val / 64 = n.val then (1 : EReal) else 0 := by
  simp only [V, List.flatten_cons, List.flatten_nil, List.cons_append, List.nil_append, List.append_nil]
  entry_read
  try simp -implicitDefEqProofs only [StableHlo.TRef.toBuf, StableHlo.TRef.ofBuf, cast_cast, cast_eq]
  pointwise
  exact (congrArg (fun q => Scalar.select (IntOp.cmpi CmpIPredicate.eq q (BitVec.ofNat 32 n.val)) (1 : EReal) 0) (quot64 k)).trans (sel_eq _ _ (by omega) (by omega))

/-- Which columns a head has, twice over. -/
theorem V49_apply (c : Dev nD) (k : Fin 256) (n : Fin 1280) :
    (V m c main_v49 : (⟨S256x1280, .bf16⟩ : BufTy).Contents (Elt Ideal)) (ix2 k n) = if n.val / 64 = k.val % 128 then (1 : EReal) else 0 := by
  simp only [V, List.flatten_cons, List.flatten_nil, List.cons_append, List.nil_append, List.append_nil]
  entry_read
  try simp -implicitDefEqProofs only [StableHlo.TRef.toBuf, StableHlo.TRef.ofBuf, cast_cast, cast_eq]
  pointwise
  by_cases h : k.val < 128
  · rw [dif_pos h]
    refine (congrArg (fun q => Scalar.select (IntOp.cmpi CmpIPredicate.eq q (BitVec.ofNat 32 k.val)) (1 : EReal) 0) (quot64 n)).trans ((sel_eq _ _ (by omega) (by omega)).trans ?_)
    rw [Nat.mod_eq_of_lt h]
  · rw [dif_neg h]
    refine (congrArg (fun q => Scalar.select (IntOp.cmpi CmpIPredicate.eq q (BitVec.ofNat 32 (k.val - 128))) (1 : EReal) 0) (quot64 n)).trans ((sel_eq _ _ (by omega) (by omega)).trans ?_)
    rw [show k.val % 128 = k.val - 128 by omega]

end Cert.InProjSIdeal.Hand
-- ==== Proof.InProjSBlk.lean ====
/- The sample's input projection: the blocks the kernel reads and the reference's results, entry by entry. -/
module

public import proofs.«01_k».proof.Defs
public import proofs.«01_k».proof.Proof.InProjSHost
public import proofs.«01_k».proof.Proof.InProjMath
public import proofs.«01_k».proof.Proof.Gen.InProjSRefIdeal.Run
public import proofs.«01_k».proof.Proof.Gen.InProjSRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjSIdeal.Hand

open Cert.InProjSIdeal Cert.InProjSIdeal.Gen
open Cert.InProjIdeal.Hand

variable (m : (ℓ : Loc nD τ sig) → Buf (Elt Ideal) ℓ)

/-- Where each window's block lies at a grid point. -/
theorem idx : ∀ t : Fin grid0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] := by decide +kernel

/-- Row `r` of the block at grid point `t`, as a row of the whole array. -/
def row (t : Fin cfg0.N) (r : Fin 256) : Fin 256 :=
  ⟨t.val * 256 + r.val, by have h : t.val < 1 := t.isLt; omega⟩

/-- Row `r` of the input. -/
def X (c : Dev nD) (r : Fin 256) (k : Fin 2048) : EReal := m ((c : Thread nD τ).loc main_arg0) (ix3 ⟨r.val / 16, by omega⟩ ⟨r.val % 16, by omega⟩ k)

/-- The norm's weights. -/
def G (c : Dev nD) (k : Fin 2048) : EReal := m ((c : Thread nD τ).loc main_arg1) (ix2 0 k)

/-- The projection's weights. -/
def Wt (c : Dev nD) (k : Fin 2048) (j : Fin 5648) : EReal := m ((c : Thread nD τ).loc main_arg2) (ix3 0 k j)

/-- The second low-rank factor. -/
def U (c : Dev nD) (k : Fin 16) (n : Fin 512) : EReal := m ((c : Thread nD τ).loc main_arg3) (ix3 0 k n)

/-- The gate's bias. -/
def Bg (c : Dev nD) (n : Fin 512) : EReal := m ((c : Thread nD τ).loc main_arg4) (ix2 0 n)

/-- The projection of row `r` of the normed input, column `j`. -/
def H (c : Dev nD) (r : Fin 256) (j : Fin 5648) : EReal := ∑ k, xnf (X m c r) (G m c) k * Wt m c k j

section Reference

open Cert.InProjSRefIdeal.Read

/-- The reference's projection. -/
theorem ref15 (c : Dev nD) (r : Fin 256) (j : Fin 5648) :
    val_main_v15 (F := Ideal) (m ((c : Thread nD τ).loc main_arg0)) (m ((c : Thread nD τ).loc main_arg1)) (m ((c : Thread nD τ).loc main_arg2))
      (ix3 ⟨r.val / 16, by omega⟩ ⟨r.val % 16, by omega⟩ j) = H m c r j := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1]
  rfl

/-- The reference's result 0, as an array. -/
abbrev R75 (c : Dev nD) : (⟨S256x1024, .bf16⟩ : BufTy).Contents (Elt Ideal) :=
  val_main_v75 (F := Ideal) (m ((c : Thread nD τ).loc main_arg0)) (m ((c : Thread nD τ).loc main_arg1)) (m ((c : Thread nD τ).loc main_arg2)) (m ((c : Thread nD τ).loc main_arg5))

theorem R75_apply (c : Dev nD) (r : Fin 256) (n : Fin 1024) : R75 m c (ix2 r n) = H m c r ⟨(n.val / 64 % 4 * 4 + n.val / 256) * 64 + n.val % 64, by omega⟩ * Ideal.rsqrt (Ideal.div (∑ d : Fin 64, H m c r ⟨(n.val / 64 % 4 * 4 + n.val / 256) * 64 + d.val, by omega⟩ * H m c r ⟨(n.val / 64 % 4 * 4 + n.val / 256) * 64 + d.val, by omega⟩) (Ideal.ofBits FTy.f32 1115684864#32) + Ideal.ofBits FTy.f32 897988541#32) * gq m c ⟨n.val % 64, by omega⟩ * Ideal.ofBits FTy.f32 1040187392#32 := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 1, as an array. -/
abbrev R76 (c : Dev nD) : (⟨S256x256, .f32⟩ : BufTy).Contents (Elt Ideal) :=
  val_main_v76 (F := Ideal) (m ((c : Thread nD τ).loc main_arg0)) (m ((c : Thread nD τ).loc main_arg1)) (m ((c : Thread nD τ).loc main_arg2)) (m ((c : Thread nD τ).loc main_arg6))

theorem R76_apply (c : Dev nD) (r : Fin 256) (n : Fin 256) : R76 m c (ix2 r n) = H m c r ⟨1024 + n.val, by omega⟩ * Ideal.rsqrt (Ideal.div (∑ d : Fin 64, H m c r ⟨1024 + (n.val / 64 * 64 + d.val), by omega⟩ * H m c r ⟨1024 + (n.val / 64 * 64 + d.val), by omega⟩) (Ideal.ofBits FTy.f32 1115684864#32) + Ideal.ofBits FTy.f32 897988541#32) * gk m c ⟨n.val % 64, by omega⟩ := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 2, as an array. -/
abbrev R77 (c : Dev nD) : (⟨S256x256, .f32⟩ : BufTy).Contents (Elt Ideal) :=
  val_main_v77 (F := Ideal) (m ((c : Thread nD τ).loc main_arg0)) (m ((c : Thread nD τ).loc main_arg1)) (m ((c : Thread nD τ).loc main_arg2))

theorem R77_apply (c : Dev nD) (r : Fin 256) (n : Fin 256) : R77 m c (ix2 r n) = H m c r ⟨1280 + n.val, by omega⟩ := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 3, as an array. -/
abbrev R88 (c : Dev nD) : (⟨S256x1024, .bf16⟩ : BufTy).Contents (Elt Ideal) :=
  val_main_v88 (F := Ideal) (m ((c : Thread nD τ).loc main_arg0)) (m ((c : Thread nD τ).loc main_arg1)) (m ((c : Thread nD τ).loc main_arg2))

theorem R88_apply (c : Dev nD) (r : Fin 256) (n : Fin 1024) : R88 m c (ix2 r n) = H m c r ⟨1536 + (n.val / 64 % 4 * 256 + n.val / 256 * 64 + n.val % 64), by omega⟩ * Ideal.div 1 (1 + Ideal.exp (-H m c r ⟨1536 + (n.val / 64 % 4 * 256 + n.val / 256 * 64 + n.val % 64), by omega⟩)) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 4, as an array. -/
abbrev R92 (c : Dev nD) : (⟨S256x512, .bf16⟩ : BufTy).Contents (Elt Ideal) :=
  val_main_v92 (F := Ideal) (m ((c : Thread nD τ).loc main_arg0)) (m ((c : Thread nD τ).loc main_arg1)) (m ((c : Thread nD τ).loc main_arg2))

theorem R92_apply (c : Dev nD) (r : Fin 256) (n : Fin 512) : R92 m c (ix2 r n) = H m c r ⟨2560 + n.val, by omega⟩ * Ideal.ofBits FTy.f32 1035273459#32 := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 5, as an array. -/
abbrev R94 (c : Dev nD) : (⟨S256x512, .bf16⟩ : BufTy).Contents (Elt Ideal) :=
  val_main_v94 (F := Ideal) (m ((c : Thread nD τ).loc main_arg0)) (m ((c : Thread nD τ).loc main_arg1)) (m ((c : Thread nD τ).loc main_arg2))

theorem R94_apply (c : Dev nD) (r : Fin 256) (n : Fin 512) : R94 m c (ix2 r n) = H m c r ⟨3072 + n.val, by omega⟩ := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 6, as an array. -/
abbrev R96 (c : Dev nD) : (⟨S256x1024, .bf16⟩ : BufTy).Contents (Elt Ideal) :=
  val_main_v96 (F := Ideal) (m ((c : Thread nD τ).loc main_arg0)) (m ((c : Thread nD τ).loc main_arg1)) (m ((c : Thread nD τ).loc main_arg2))

theorem R96_apply (c : Dev nD) (r : Fin 256) (n : Fin 1024) : R96 m c (ix2 r n) = H m c r ⟨3584 + n.val, by omega⟩ := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 7, as an array. -/
abbrev R105 (c : Dev nD) : (⟨S256x1024, .bf16⟩ : BufTy).Contents (Elt Ideal) :=
  val_main_v105 (F := Ideal) (m ((c : Thread nD τ).loc main_arg0)) (m ((c : Thread nD τ).loc main_arg1)) (m ((c : Thread nD τ).loc main_arg2))

theorem R105_apply (c : Dev nD) (r : Fin 256) (n : Fin 1024) : R105 m c (ix2 r n) = H m c r ⟨4608 + n.val, by omega⟩ * Ideal.div 1 (1 + Ideal.exp (-H m c r ⟨4608 + n.val, by omega⟩)) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]

/-- The reference's result 8, as an array. -/
abbrev R106 (c : Dev nD) : (⟨S256x512, .f32⟩ : BufTy).Contents (Elt Ideal) :=
  val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem R106_apply (c : Dev nD) (r : Fin 256) (n : Fin 512) : R106 m c (ix2 r n) = Ideal.div (min (∑ l : Fin 16, H m c r ⟨5632 + l.val, by omega⟩ * U m c l n + Bg m c n) 0 - Ideal.log1p (Ideal.exp (-(FloatOps.absf (F := Ideal) (φ := .f32) (∑ l : Fin 16, H m c r ⟨5632 + l.val, by omega⟩ * U m c l n + Bg m c n) : EReal)))) (Ideal.ofBits FTy.f32 1098907648#32) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v14, val_main_v16, val_main_v17, val_main_v18, val_main_v19, val_main_v20, val_main_v21, val_main_v22, val_main_v23, val_main_v24, val_main_v25, val_main_v26, val_main_v27, val_main_cst_2, val_main_v28, val_main_v29, val_main_cst_3, val_main_v30, val_main_v31, val_main_cst_4, val_main_v32, val_main_v33, val_main_v34, val_main_v35, val_main_v36, val_main_v37, val_main_v38, val_main_v39, val_main_cst_5, val_main_v40, val_main_v41, val_main_v42, val_main_v43, val_main_v44, val_main_cst_6, val_main_v45, val_main_v46, val_main_cst_7, val_main_v47, val_main_v48, val_main_cst_8, val_main_v49, val_main_v50, val_main_v51, val_main_v52, val_main_v53, val_main_v54, val_main_v55, val_main_v56, val_main_v57, val_main_v58, val_main_v59, val_main_v60, val_main_v61, val_main_v62, val_main_cst_9, val_main_v63, val_main_v64, val_main_v65, val_main_v66, val_main_v67, val_main_v68, val_main_v69, val_main_cst_10, val_main_v70, val_main_v71, val_main_v72, val_main_v73, val_main_v74, val_main_v75, val_main_v76, val_main_v77, val_main_v78, val_main_v79, val_main_cst_11, val_main_v80, val_main_v81, val_main_cst_12, val_main_v82, val_main_v83, val_main_v84, val_main_v85, val_main_v86, val_main_v87, val_main_v88, val_main_cst_13, val_main_v89, val_main_v90, val_main_v91, val_main_v92, val_main_v93, val_main_v94, val_main_v95, val_main_v96, val_main_v97, val_main_v98, val_main_cst_14, val_main_v99, val_main_v100, val_main_cst_15, val_main_v101, val_main_v102, val_main_v103, val_main_v104, val_main_v105, val_main_v106]
  simp only [ref15]
  rfl

end Reference

/-- The row block of the input at a grid point. -/
theorem blk0 (c : Dev nD) (t : Fin cfg0.N) (r : Fin 256) (k : Fin 2048) : iblk m c 0 t (ix2 r k) = X m c (row t r) k :=
  Eq.trans (by blk_ext [iblk, idx t, row]) (V52_apply m c (row t r) k)

theorem blk1 (c : Dev nD) (t : Fin cfg0.N) (k : Fin 2048) : iblk m c 1 t (ix2 0 k) = G m c k :=
  Eq.trans (by blk_ext [iblk, idx t]) (V50_apply m c k)

theorem blk2 (c : Dev nD) (t : Fin cfg0.N) (k : Fin 2048) (n : Fin 5632) : iblk m c 2 t (ix2 k n) = Wt m c k ⟨col n.val, by have := col_lt n.isLt; omega⟩ :=
  Eq.trans (by blk_ext [iblk, idx t]) (V22_apply m c k n)

theorem blk3 (c : Dev nD) (t : Fin cfg0.N) (k : Fin 2048) (n : Fin 128) :
    iblk m c 3 t (ix2 k n) = if h : n.val < 16 then Wt m c k ⟨5632 + n.val, by omega⟩ else (0 : EReal) :=
  Eq.trans (by blk_ext [iblk, idx t]) (V24_apply m c k n)

theorem blk4 (c : Dev nD) (t : Fin cfg0.N) (k : Fin 128) (n : Fin 512) :
    iblk m c 4 t (ix2 k n) = if h : k.val < 16 then U m c ⟨k.val, h⟩ n else (0 : EReal) :=
  Eq.trans (by blk_ext [iblk, idx t]) (V26_apply m c k n)

theorem blk5 (c : Dev nD) (t : Fin cfg0.N) (n : Fin 512) : iblk m c 5 t (ix2 0 n) = Bg m c n :=
  Eq.trans (by blk_ext [iblk, idx t]) (V51_apply m c n)

theorem blk6 (c : Dev nD) (t : Fin cfg0.N) (n : Fin 1280) :
    iblk m c 6 t (ix2 0 n) = if h : n.val < 1024 then gq m c ⟨n.val % 64, by omega⟩ * Ideal.ofBits FTy.f32 0x3E000000#32 else gk m c ⟨(n.val - 1024) % 64, by omega⟩ :=
  Eq.trans (by blk_ext [iblk, idx t]) (V36_apply m c n)

theorem blk7 (c : Dev nD) (t : Fin cfg0.N) (k : Fin 1280) (n : Fin 128) : iblk m c 7 t (ix2 k n) = if k.val / 64 = n.val then (1 : EReal) else 0 :=
  Eq.trans (by blk_ext [iblk, idx t]) (V42_apply m c k n)

theorem blk8 (c : Dev nD) (t : Fin cfg0.N) (k : Fin 256) (n : Fin 1280) : iblk m c 8 t (ix2 k n) = if n.val / 64 = k.val % 128 then (1 : EReal) else 0 :=
  Eq.trans (by blk_ext [iblk, idx t]) (V49_apply m c k n)

end Cert.InProjSIdeal.Hand
-- ==== Proof.InProjSNorm.lean ====
/- The sample's input projection: the kernel's arithmetic over a block. -/
module

public import proofs.«01_k».proof.Defs
public import proofs.«01_k».proof.Proof.InProjSBlk
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjSIdeal.Hand

open Cert.InProjSIdeal Cert.InProjSIdeal.Gen
open Cert.InProjIdeal.Hand

variable (m : (ℓ : Loc nD τ sig) → Buf (Elt Ideal) ℓ)

/-- The normed rows of a block. -/
theorem xn (c : Dev nD) (t : Fin cfg0.N) (r : Fin 256) (k : Fin 2048) :
    k0_pay15 (F := Ideal) (iblk m c 0 t) (iblk m c 1 t) (iblk m c 2 t) (iblk m c 3 t) (iblk m c 4 t) (iblk m c 5 t) (iblk m c 6 t)
      (iblk m c 7 t) (iblk m c 8 t) (ix2 r k) = xnf (X m c (row t r)) (G m c) k := by
  unfold k0_pay15
  pointwise [k0_pay2, r0_0, r0_1]
  simp only [blk0, blk1]
  rfl

/-- The heads' norm, from what its products and indicators are. -/
theorem pay3_apply (v0 : Vec Ideal S256x2048 .f32) (v12 : Vec Ideal S1x2048 .f32) (v17 : Vec Ideal S2048x1280 .bf16) (v22 : Vec Ideal S1280x128 .bf16)
    (v35 : Vec Ideal S256x1280 .bf16) (r : Fin 256) (k : Fin 1280) (Q : Fin 1280 → EReal)
    (hQ : ∀ j, ∑ x, k0_pay2 (F := Ideal) v0 v12 (ix2 r x) * v17 (ix2 x j) = Q j)
    (hA : ∀ (j : Fin 1280) (x : Fin 128), v22 (ix2 j x) = if j.val / 64 = x.val then (1 : EReal) else 0)
    (hB : ∀ (x : Fin 256) (j : Fin 1280), v35 (ix2 x j) = if j.val / 64 = x.val % 128 then (1 : EReal) else 0) :
    k0_pay3 (F := Ideal) v0 v12 v17 v22 v35 (ix2 r k) = Q k * Ideal.rsqrt (Ideal.div
        (∑ d : Fin 64, Q ⟨k.val / 64 * 64 + d.val, by omega⟩ * Q ⟨k.val / 64 * 64 + d.val, by omega⟩) (Ideal.ofBits FTy.f32 1115684864#32)
          + Ideal.ofBits FTy.f32 897988541#32) := by
  refine Eq.trans ?_ (head Q (fun j x => v22 (ix2 j x)) (fun x k => v35 (ix2 x k)) hA hB k)
  pointwise [k0_pay3]
  simp only [hQ]

/-- The gate's logarithm, from what its factors are. -/
theorem pay1_apply (v16 : FVec Ideal S256x2048 .bf16) (v91 : Vec Ideal S2048x128 .bf16) (v95 : Vec Ideal S128x512 .bf16) (v98 : Vec Ideal S1x512 .f32)
    (r : Fin 256) (n : Fin 512) (h u : Fin 16 → EReal) (b : EReal)
    (hl : ∀ x : Fin 16, ∑ k, v16 (ix2 r k) * v91 (ix2 k ⟨x.val, by omega⟩) = h x) (hu : ∀ x : Fin 16, v95 (ix2 ⟨x.val, by omega⟩ n) = u x)
    (hu0 : ∀ x : Fin 128, 16 ≤ x.val → v95 (ix2 x n) = (0 : EReal)) (hb : v98 (ix2 0 n) = b) :
    k0_pay1 (F := Ideal) (k0_pay13 v16 v91 v95 v98) k0_pay14 (ix2 r n)
      = Ideal.div (min (∑ x, h x * u x + b) 0 - Ideal.log1p (Ideal.exp (-(FloatOps.absf (F := Ideal) (φ := .f32) (∑ x, h x * u x + b) : EReal))))
          (Ideal.ofBits FTy.f32 1098907648#32) := by
  have e := low (fun k => v16 (ix2 r k)) (fun k x => v91 (ix2 k x)) (fun x => v95 (ix2 x n)) (fun k x => v91 (ix2 k ⟨x.val, by omega⟩)) u
    (fun _ _ => rfl) hu hu0
  simp only [hl] at e
  pointwise [k0_pay1, k0_pay13, k0_pay14]
  rw [e, hb]
  exact logsig _ _

/-- The kernel's products for queries and keys, column `k` of its regrouped weights. -/
def Q (c : Dev nD) (r : Fin 256) (k : Fin 1280) : EReal := H m c r ⟨col k.val, by have := @col_lt k.val (by omega); omega⟩

/-- The normed queries and keys before their weights. -/
theorem qk (c : Dev nD) (t : Fin cfg0.N) (r : Fin 256) (k : Fin 1280) :
    k0_pay16 (F := Ideal) (iblk m c 0 t) (iblk m c 1 t) (iblk m c 2 t) (iblk m c 3 t) (iblk m c 4 t) (iblk m c 5 t) (iblk m c 6 t)
      (iblk m c 7 t) (iblk m c 8 t) (ix2 r k) = Q m c (row t r) k * Ideal.rsqrt (Ideal.div
        (∑ d : Fin 64, Q m c (row t r) ⟨k.val / 64 * 64 + d.val, by omega⟩ * Q m c (row t r) ⟨k.val / 64 * 64 + d.val, by omega⟩) (Ideal.ofBits FTy.f32 1115684864#32)
          + Ideal.ofBits FTy.f32 897988541#32) := by
  unfold k0_pay16
  refine pay3_apply _ _ _ _ _ r k (Q m c (row t r)) (fun j => ?_) (fun j x => ?_) (fun x j => ?_)
  · show ∑ x, k0_pay15 (F := Ideal) (iblk m c 0 t) (iblk m c 1 t) (iblk m c 2 t) (iblk m c 3 t) (iblk m c 4 t) (iblk m c 5 t) (iblk m c 6 t)
      (iblk m c 7 t) (iblk m c 8 t) (ix2 r x) * View.ld (iblk m c 2 t) r0_2 (ix2 x j) = _
    pointwise [r0_2]
    simp only [xn, blk2]
    rfl
  · pointwise [r0_3]
    exact blk7 m c t j x
  · pointwise [r0_4]
    exact blk8 m c t x j

/-- The low-rank gate products of a block's row. -/
theorem low17 (c : Dev nD) (t : Fin cfg0.N) (r : Fin 256) (x : Fin 16) :
    ∑ k, k0_pay15 (F := Ideal) (iblk m c 0 t) (iblk m c 1 t) (iblk m c 2 t) (iblk m c 3 t) (iblk m c 4 t) (iblk m c 5 t) (iblk m c 6 t)
      (iblk m c 7 t) (iblk m c 8 t) (ix2 r k) * iblk m c 3 t (ix2 k ⟨x.val, by omega⟩) = H m c (row t r) ⟨5632 + x.val, by omega⟩ := by
  refine Finset.sum_congr rfl fun k _ => ?_
  rw [xn, show iblk m c 3 t (ix2 k ⟨x.val, by omega⟩) = Wt m c k ⟨5632 + x.val, by omega⟩ from (blk3 m c t k _).trans (dif_pos x.isLt)]

theorem col_q (n : Nat) (h : n < 1024) : col n = n / 64 % 4 * 256 + n / 256 * 64 + n % 64 := by
  simp only [col, sw]; rw [if_pos h]

theorem col_id (n : Nat) (h : 1024 ≤ n ∧ n < 1536 ∨ 2560 ≤ n) : col n = n := by
  simp only [col]; split_ifs <;> first | rfl | omega

theorem col_g (n : Nat) (h : n < 1024) : col (1536 + n) = 1536 + (n / 64 % 4 * 256 + n / 256 * 64 + n % 64) := by
  simp only [col, sw]; rw [if_neg (by omega), if_neg (by omega), if_pos (by omega), Nat.add_sub_cancel_left]

/-- A normed query column is the reference's. -/
theorem q_apply (c : Dev nD) (r : Fin 256) (n : Fin 1024) (a b : Nat) (ha : n.val < 1280) (hb : ∀ d : Fin 64, n.val / 64 * 64 + d.val < 1280)
    (hc : a * 64 + b < 5648) (hd : ∀ d : Fin 64, a * 64 + d.val < 5648) (h : a = n.val / 64 % 4 * 4 + n.val / 256) (h' : b = n.val % 64):
    Q m c r ⟨n.val, ha⟩ * Ideal.rsqrt (Ideal.div
        (∑ d : Fin 64, Q m c r ⟨n.val / 64 * 64 + d.val, hb d⟩ * Q m c r ⟨n.val / 64 * 64 + d.val, hb d⟩) (Ideal.ofBits FTy.f32 1115684864#32)
          + Ideal.ofBits FTy.f32 897988541#32)
    = H m c r ⟨a * 64 + b, hc⟩ * Ideal.rsqrt (Ideal.div (∑ d : Fin 64, H m c r ⟨a * 64 + d.val, hd d⟩ * H m c r ⟨a * 64 + d.val, hd d⟩)
        (Ideal.ofBits FTy.f32 1115684864#32) + Ideal.ofBits FTy.f32 897988541#32) := by
  subst h h'
  have e1 : Q m c r ⟨n.val, ha⟩ = H m c r ⟨(n.val / 64 % 4 * 4 + n.val / 256) * 64 + n.val % 64, hc⟩ :=
    congrArg (H m c r) (Fin.ext (by show col n.val = _; rw [col_q _ n.isLt]; show _ = (n.val / 64 % 4 * 4 + n.val / 256) * 64 + n.val % 64; omega))
  have e2 : ∀ d : Fin 64, Q m c r ⟨n.val / 64 * 64 + d.val, hb d⟩ = H m c r ⟨(n.val / 64 % 4 * 4 + n.val / 256) * 64 + d.val, hd d⟩ := fun d =>
    congrArg (H m c r) (Fin.ext (by
      show col (n.val / 64 * 64 + d.val) = (n.val / 64 % 4 * 4 + n.val / 256) * 64 + d.val
      rw [col_q _ (by omega), show (n.val / 64 * 64 + d.val) / 64 = n.val / 64 by omega, show (n.val / 64 * 64 + d.val) / 256 = n.val / 256 by omega,
        show (n.val / 64 * 64 + d.val) % 64 = d.val by omega]
      omega))
  simp only [e1, e2]

/-- A normed key column is the reference's. -/
theorem k_apply (c : Dev nD) (r : Fin 256) (n : Fin 256) (ha : 1024 + n.val < 1280) (hb : ∀ d : Fin 64, (1024 + n.val) / 64 * 64 + d.val < 1280)
    (hc : 1024 + n.val < 5648) (hd : ∀ d : Fin 64, 1024 + (n.val / 64 * 64 + d.val) < 5648) :
    Q m c r ⟨1024 + n.val, ha⟩ * Ideal.rsqrt (Ideal.div
        (∑ d : Fin 64, Q m c r ⟨(1024 + n.val) / 64 * 64 + d.val, hb d⟩ * Q m c r ⟨(1024 + n.val) / 64 * 64 + d.val, hb d⟩) (Ideal.ofBits FTy.f32 1115684864#32)
          + Ideal.ofBits FTy.f32 897988541#32)
    = H m c r ⟨1024 + n.val, hc⟩ * Ideal.rsqrt (Ideal.div (∑ d : Fin 64, H m c r ⟨1024 + (n.val / 64 * 64 + d.val), hd d⟩ * H m c r ⟨1024 + (n.val / 64 * 64 + d.val), hd d⟩)
        (Ideal.ofBits FTy.f32 1115684864#32) + Ideal.ofBits FTy.f32 897988541#32) := by
  have e1 : Q m c r ⟨1024 + n.val, ha⟩ = H m c r ⟨1024 + n.val, hc⟩ :=
    congrArg (H m c r) (Fin.ext (by show col (1024 + n.val) = 1024 + n.val; exact col_id _ (by omega)))
  have e2 : ∀ d : Fin 64, Q m c r ⟨(1024 + n.val) / 64 * 64 + d.val, hb d⟩ = H m c r ⟨1024 + (n.val / 64 * 64 + d.val), hd d⟩ := fun d =>
    congrArg (H m c r) (Fin.ext (by
      show col ((1024 + n.val) / 64 * 64 + d.val) = 1024 + (n.val / 64 * 64 + d.val)
      rw [col_id _ (by omega)]; omega))
  simp only [e1, e2]

end Cert.InProjSIdeal.Hand
-- ==== Proof.InProjSA.lean ====
/- The sample's input projection: its first four results. -/
module

public import proofs.«01_k».proof.Defs
public import proofs.«01_k».proof.Proof.InProjSNorm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InProjSIdeal.Hand

open Cert.InProjSIdeal Cert.InProjSIdeal.Gen
open Cert.InProjIdeal.Hand

variable (m : (ℓ : Loc nD τ sig) → Buf (Elt Ideal) ℓ)

/-- Result 0 after the run is the reference's. -/
theorem final9 (c : Dev nD) : (dats m 0 c).arrAt 9 (cfgs 0).N = R75 m c := by
  refine (dats m 0 c).arrAt_eq_of_covers 9 _ (by decide +kernel) fun t hf y => ?_
  blk_simp
  rw [after0_9]
  frame_out
  idx_vars y
  have e : (((View.whole main_v53_0).slice (win0_9.rect t)).emb (ix2 y0 y1)) = ix2 (row t y0) y1 := by
    blk_ext [idx t, row]
  rw [e]
  refine Eq.trans ?_ (R75_apply m c _ _).symm
  pointwise [k0_pay5, k0_pay4]
  simp only [qk, blk6]
  rw [dif_pos y1.isLt, q_apply m c (row t y0) y1 _ _ _ _ (by omega) (fun d => by omega) rfl rfl, ← mul_assoc]

/-- Result 1 after the run is the reference's. -/
theorem final10 (c : Dev nD) : (dats m 0 c).arrAt 10 (cfgs 0).N = R76 m c := by
  refine (dats m 0 c).arrAt_eq_of_covers 10 _ (by decide +kernel) fun t hf y => ?_
  blk_simp
  rw [after0_10]
  frame_out
  idx_vars y
  have e : (((View.whole main_v53_1).slice (win0_10.rect t)).emb (ix2 y0 y1)) = ix2 (row t y0) y1 := by
    blk_ext [idx t, row]
  rw [e]
  refine Eq.trans ?_ (R76_apply m c _ _).symm
  pointwise [k0_pay6, k0_pay4]
  simp only [qk, blk6]
  rw [dif_neg (by omega), k_apply m c (row t y0) y1 _ _ (by omega) (fun d => by omega)]
  exact congrArg (fun z => _ * gk m c z) (Fin.ext (by show (1024 + y1.val - 1024) % 64 = y1.val % 64; omega))

/-- Result 2 after the run is the reference's. -/
theorem final11 (c : Dev nD) : (dats m 0 c).arrAt 11 (cfgs 0).N = R77 m c := by
  refine (dats m 0 c).arrAt_eq_of_covers 11 _ (by decide +kernel) fun t hf y => ?_
  blk_simp
  rw [after0_11]
  frame_out
  idx_vars y
  have e : (((View.whole main_v53_2).slice (win0_11.rect t)).emb (ix2 y0 y1)) = ix2 (row t y0) y1 := by
    blk_ext [idx t, row]
  rw [e]
  refine Eq.trans ?_ (R77_apply m c _ _).symm
  have hc : col (1280 + y1.val) = 1280 + y1.val := col_id _ (by omega)
  pointwise [k0_pay7, r0_8]
  simp only [xn, blk2, hc]
  rfl

/-- Result 3 after the run is the reference's. -/
theorem final12 (c : Dev nD) : (dats m 0 c).arrAt 12 (cfgs 0).N = R88 m c := by
  refine (dats m 0 c).arrAt_eq_of_covers 12 _ (by decide +kernel) fun t hf y => ?_
  blk_simp
  rw [after0_12]
  frame_out
  idx_vars y
  have e : (((View.whole main_v53_3).slice (win0_12.rect t)).emb (ix2 y0 y1)) = ix2 (row t y0) y1 := by
    blk_ext [idx t, row]
  rw [e]
  refine Eq.trans ?_ (R88_apply m c _ _).symm
  have hc : col (1536 + y1.val) = _ := col_g _ y1.isLt
  pointwise [k0_pay8, r0_9]
  simp only [xn, blk2, hc]
  exact silu _

end Cert.InProjSIdeal.Hand
-- ==== Proof.InProjSB.lean ====
/- The sample's input projection: its other five results. -/
module

public import proofs.«01_k».proof.Defs
public import proofs.«01_k».proof.Proof.InProjSNorm
public import Idealize.ShloMosaic.Lib.Pipeline.ValueKit

@[expose] public section

set_option maxRecDepth 16384
set_option maxHeartbeats 1000000

noncomputable section

open Idealize.ShloMosaic Idealize.ShloMosaic.TcCoe Idealize.SL.Sem
open Idealize.ShloMosaic.Pipeline (Dat)

namespace Cert.InProjSIdeal.Hand

open Cert.InProjSIdeal Cert.InProjSIdeal.Gen
open Cert.InProjIdeal.Hand

variable (m : (ℓ : Loc nD τ sig) → Buf (Elt Ideal) ℓ)

/-- Result 4 after the run is the reference's. -/
theorem final13 (c : Dev nD) : (dats m 0 c).arrAt 13 (cfgs 0).N = R92 m c := by
  refine (dats m 0 c).arrAt_eq_of_covers 13 _ (by decide +kernel) fun t hf y => ?_
  blk_simp
  rw [after0_13]
  frame_out
  idx_vars y
  have e : (((View.whole main_v53_4).slice (win0_13.rect t)).emb (ix2 y0 y1)) = ix2 (row t y0) y1 := by
    blk_ext [idx t, row]
  rw [e]
  refine Eq.trans ?_ (R92_apply m c _ _).symm
  have hc : col (2560 + y1.val) = 2560 + y1.val := col_id _ (by omega)
  pointwise [k0_pay9, r0_10]
  simp only [xn, blk2, hc]
  rfl

/-- Result 5 after the run is the reference's. -/
theorem final14 (c : Dev nD) : (dats m 0 c).arrAt 14 (cfgs 0).N = R94 m c := by
  refine (dats m 0 c).arrAt_eq_of_covers 14 _ (by decide +kernel) fun t hf y => ?_
  blk_simp
  rw [after0_14]
  frame_out
  idx_vars y
  have e : (((View.whole main_v53_5).slice (win0_14.rect t)).emb (ix2 y0 y1)) = ix2 (row t y0) y1 := by
    blk_ext [idx t, row]
  rw [e]
  refine Eq.trans ?_ (R94_apply m c _ _).symm
  have hc : col (3072 + y1.val) = 3072 + y1.val := col_id _ (by omega)
  pointwise [k0_pay10, r0_11]
  simp only [xn, blk2, hc]
  rfl

/-- Result 6 after the run is the reference's. -/
theorem final15 (c : Dev nD) : (dats m 0 c).arrAt 15 (cfgs 0).N = R96 m c := by
  refine (dats m 0 c).arrAt_eq_of_covers 15 _ (by decide +kernel) fun t hf y => ?_
  blk_simp
  rw [after0_15]
  frame_out
  idx_vars y
  have e : (((View.whole main_v53_6).slice (win0_15.rect t)).emb (ix2 y0 y1)) = ix2 (row t y0) y1 := by
    blk_ext [idx t, row]
  rw [e]
  refine Eq.trans ?_ (R96_apply m c _ _).symm
  have hc : col (3584 + y1.val) = 3584 + y1.val := col_id _ (by omega)
  pointwise [k0_pay11, r0_12]
  simp only [xn, blk2, hc]
  rfl

/-- Result 7 after the run is the reference's. -/
theorem final16 (c : Dev nD) : (dats m 0 c).arrAt 16 (cfgs 0).N = R105 m c := by
  refine (dats m 0 c).arrAt_eq_of_covers 16 _ (by decide +kernel) fun t hf y => ?_
  blk_simp
  rw [after0_16]
  frame_out
  idx_vars y
  have e : (((View.whole main_v53_7).slice (win0_16.rect t)).emb (ix2 y0 y1)) = ix2 (row t y0) y1 := by
    blk_ext [idx t, row]
  rw [e]
  refine Eq.trans ?_ (R105_apply m c _ _).symm
  have hc : col (4608 + y1.val) = 4608 + y1.val := col_id _ (by omega)
  pointwise [k0_pay12, r0_13]
  simp only [xn, blk2, hc]
  exact silu _

/-- Result 8 after the run is the reference's. -/
theorem final17 (c : Dev nD) : (dats m 0 c).arrAt 17 (cfgs 0).N = R106 m c := by
  refine (dats m 0 c).arrAt_eq_of_covers 17 _ (by decide +kernel) fun t hf y => ?_
  blk_simp
  rw [after0_17]
  frame_out
  idx_vars y
  have e : (((View.whole main_v53_8).slice (win0_17.rect t)).emb (ix2 y0 y1)) = ix2 (row t y0) y1 := by
    blk_ext [idx t, row]
  rw [e]
  refine Eq.trans ?_ (R106_apply m c _ _).symm
  exact pay1_apply _ _ _ _ y0 y1 _ _ _ (low17 m c t y0) (fun x => (blk4 m c t _ y1).trans (dif_pos x.isLt))
    (fun x hx => (blk4 m c t x y1).trans (dif_neg (by omega))) (blk5 m c t y1)

end Cert.InProjSIdeal.Hand
-- ==== Proof.InProjS.lean ====
/- The sample's input projection computes the reference's nine results. -/
module

public import proofs.«01_k».proof.Defs
public import proofs.«01_k».proof.Proof.InProjSA
public import proofs.«01_k».proof.Proof.InProjSB
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Proof

/-- Over the ideal numbers the sample's input projection's kernel and the reference compute the same nine arrays from the same arguments. -/
theorem algebraic_InProjS : Cert.algebraic_InProjSIdeal_InProjSRefIdeal (hInProjSIdeal := Cert.InProjSIdeal.Gen.facts)
    (hInProjSRefIdeal := Cert.InProjSRefIdeal.Gen.facts) := fun m g m' g' _ hag =>
  ⟨fun c => Cert.InProjSIdeal.Hand.R75 m c, fun c => Cert.InProjSIdeal.Hand.R76 m c, fun c => Cert.InProjSIdeal.Hand.R77 m c, fun c => Cert.InProjSIdeal.Hand.R88 m c, fun c => Cert.InProjSIdeal.Hand.R92 m c, fun c => Cert.InProjSIdeal.Hand.R94 m c, fun c => Cert.InProjSIdeal.Hand.R96 m c, fun c => Cert.InProjSIdeal.Hand.R105 m c, fun c => Cert.InProjSIdeal.Hand.R106 m c,
    (θ_run _ _ _).mono (fun r h c => ⟨((h c).1).trans (Cert.InProjSIdeal.Hand.final9 m c), ((h c).2.1).trans (Cert.InProjSIdeal.Hand.final10 m c), ((h c).2.2.1).trans (Cert.InProjSIdeal.Hand.final11 m c), ((h c).2.2.2.1).trans (Cert.InProjSIdeal.Hand.final12 m c), ((h c).2.2.2.2.1).trans (Cert.InProjSIdeal.Hand.final13 m c), ((h c).2.2.2.2.2.1).trans (Cert.InProjSIdeal.Hand.final14 m c), ((h c).2.2.2.2.2.2.1).trans (Cert.InProjSIdeal.Hand.final15 m c), ((h c).2.2.2.2.2.2.2.1).trans (Cert.InProjSIdeal.Hand.final16 m c), ((h c).2.2.2.2.2.2.2.2.1).trans (Cert.InProjSIdeal.Hand.final17 m c), (h c).2.2.2.2.2.2.2.2.2⟩) (Cert.InProjSIdeal.Value.run_blocks m g),
    (θ_run _ _ _).mono (fun r h c => by
      obtain ⟨a0, a1, a2, a3, a4, a5, a6⟩ := hag c
      refine ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, (h c).2.2.2.2.2.2.2.2.2⟩
      · rw [Cert.InProjSRefIdeal.Read.val_main_v75_eq, a0, a1, a2, a5]
      · refine (Cert.InProjSRefIdeal.Read.val_main_v76_eq _ _ _ _).trans ?_
        rw [a0, a1, a2, a6]
      · refine (Cert.InProjSRefIdeal.Read.val_main_v77_eq _ _ _).trans ?_
        rw [a0, a1, a2]
      · refine (Cert.InProjSRefIdeal.Read.val_main_v88_eq _ _ _).trans ?_
        rw [a0, a1, a2]
      · refine (Cert.InProjSRefIdeal.Read.val_main_v92_eq _ _ _).trans ?_
        rw [a0, a1, a2]
      · refine (Cert.InProjSRefIdeal.Read.val_main_v94_eq _ _ _).trans ?_
        rw [a0, a1, a2]
      · refine (Cert.InProjSRefIdeal.Read.val_main_v96_eq _ _ _).trans ?_
        rw [a0, a1, a2]
      · refine (Cert.InProjSRefIdeal.Read.val_main_v105_eq _ _ _).trans ?_
        rw [a0, a1, a2]
      · refine (Cert.InProjSRefIdeal.Read.val_main_v106_eq _ _ _ _ _).trans ?_
        rw [a0, a1, a2, a3, a4]
      ) (Cert.InProjSRefIdeal.Value.run m' g')⟩

/-- The reference of the sample's input projection runs to its end and leaves its arguments as they were. -/
theorem frame_InProjSRef : Cert.quiescent_InProjSRefIdeal (hInProjSRefIdeal := Cert.InProjSRefIdeal.Gen.facts) := fun m g _ =>
  (θ_run _ _ _).mono (fun r h => ⟨fun c => (h c).2.2.2.2.2.2.2.2.2, sem_eq_zero_of_no_sems (by decide) r.2⟩) (Cert.InProjSRefIdeal.Value.run m g)

end Cert.Proof
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.AttnS
public import proofs.«01_k».proof.Proof.Gen.AttnS.Skeleton
public import proofs.«01_k».proof.Proof.Gen.AttnS.Launch
public import proofs.«01_k».proof.Proof.Gen.AttnS.Points
public import proofs.«01_k».proof.Proof.Gen.AttnS.Frame
public import proofs.«01_k».proof.Proof.Gen.AttnSIdeal
public import proofs.«01_k».proof.Proof.Gen.AttnSIdeal.Skeleton
public import proofs.«01_k».proof.Proof.Gen.AttnSIdeal.Launch
public import proofs.«01_k».proof.Proof.Gen.AttnSIdeal.Points
public import proofs.«01_k».proof.Proof.Gen.AttnSIdeal.Frame
public import proofs.«01_k».proof.Proof.Gen.AttnSRefIdeal
public import proofs.«01_k».proof.Proof.Gen.Pre_scores_finite
public import proofs.«01_k».proof.Proof.Gen.Pre_decay_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.AttnSIdeal.Value
public import proofs.«01_k».proof.Proof.Gen.AttnSRefIdeal.Run
public import proofs.«01_k».proof.Proof.Gen.AttnSRefIdeal.Read
public import proofs.«01_k».proof.Proof.RefFrames
public import proofs.«01_k».proof.Proof.OutProj
public import proofs.«01_k».proof.Proof.InProj
public import proofs.«01_k».proof.Proof.Attn
public import proofs.«01_k».proof.Proof.AttnS
public import proofs.«01_k».proof.Proof.GlaS
public import proofs.«01_k».proof.Proof.OutProjS
public import proofs.«01_k».proof.Proof.InProjS
public import proofs.«01_k».proof.Proof.Gen.GlaS
public import proofs.«01_k».proof.Proof.Gen.GlaSIdeal.Frame
public import proofs.«01_k».proof.Proof.Gen.GlaSIdeal.Value
public import proofs.«01_k».proof.Proof.Gen.GlaS.Frame
public import proofs.«01_k».proof.Proof.Gen.GlaSRefIdeal
public import proofs.«01_k».proof.Proof.Gen.GlaSRefIdeal.Run
public import proofs.«01_k».proof.Proof.Gen.GlaSRefIdeal.Read
public import proofs.«01_k».proof.Proof.Gen.OutProjS
public import proofs.«01_k».proof.Proof.Gen.OutProjS.Frame
public import proofs.«01_k».proof.Proof.Gen.OutProjSIdeal.Frame
public import proofs.«01_k».proof.Proof.Gen.OutProjSIdeal.Value
public import proofs.«01_k».proof.Proof.Gen.OutProjSRefIdeal
public import proofs.«01_k».proof.Proof.Gen.OutProjSRefIdeal.Run
public import proofs.«01_k».proof.Proof.Gen.OutProjSRefIdeal.Read
public import proofs.«01_k».proof.Proof.Gen.InProjS
public import proofs.«01_k».proof.Proof.Gen.InProjS.Frame
public import proofs.«01_k».proof.Proof.Gen.InProjSIdeal.Frame
public import proofs.«01_k».proof.Proof.Gen.InProjSIdeal.Value
public import proofs.«01_k».proof.Proof.Gen.InProjSRefIdeal
public import proofs.«01_k».proof.Proof.Gen.InProjSRefIdeal.Run
public import proofs.«01_k».proof.Proof.Gen.InProjSRefIdeal.Read
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Attn.Gen.facts,
    Cert.AttnIdeal.Gen.facts,
    Cert.AttnRefIdeal.Gen.facts,
    Cert.InProj.Gen.facts,
    Cert.InProjIdeal.Gen.facts,
    Cert.InProjRefIdeal.Gen.facts,
    Cert.OutProj.Gen.facts,
    Cert.OutProjIdeal.Gen.facts,
    Cert.OutProjRefIdeal.Gen.facts,
    Cert.AttnS.Gen.facts,
    Cert.AttnSIdeal.Gen.facts,
    Cert.AttnSRefIdeal.Gen.facts,
    Cert.GlaS.Gen.facts,
    Cert.GlaSIdeal.Gen.facts,
    Cert.GlaSRefIdeal.Gen.facts,
    Cert.OutProjS.Gen.facts,
    Cert.OutProjSIdeal.Gen.facts,
    Cert.OutProjSRefIdeal.Gen.facts,
    Cert.InProjS.Gen.facts,
    Cert.InProjSIdeal.Gen.facts,
    Cert.InProjSRefIdeal.Gen.facts,
    Cert.Pre_scores_finite.Gen.facts,
    Cert.Pre_decay_finite.Gen.facts,
    fun m ρ _ => Cert.Attn.Gen.frame m ρ,
    fun m ρ _ => Cert.AttnIdeal.Gen.frame m ρ,
    fun m ρ _ => Cert.AttnIdeal.Gen.frame m ρ,
    frame_AttnRef,
    fun m ρ _ => frame_AttnRef m ρ trivial,
    fun m ρ _ => Cert.InProj.Gen.frame m ρ,
    fun m ρ _ => Cert.InProjIdeal.Gen.frame m ρ,
    frame_InProjRef,
    fun m ρ _ => Cert.OutProj.Gen.frame m ρ,
    fun m ρ _ => Cert.OutProjIdeal.Gen.frame m ρ,
    frame_OutProjRef,
    fun m ρ _ => Cert.AttnS.Gen.frame m ρ,
    fun m ρ _ => Cert.AttnSIdeal.Gen.frame m ρ,
    frame_AttnSRef,
    fun m ρ _ => Cert.GlaS.Gen.frame m ρ,
    fun m ρ _ => Cert.GlaSIdeal.Gen.frame m ρ,
    fun m ρ _ => Cert.GlaSIdeal.Gen.frame m ρ,
    frame_GlaSRef,
    fun m ρ _ => frame_GlaSRef m ρ trivial,
    fun m ρ _ => Cert.OutProjS.Gen.frame m ρ,
    fun m ρ _ => Cert.OutProjSIdeal.Gen.frame m ρ,
    frame_OutProjSRef,
    fun m ρ _ => Cert.InProjS.Gen.frame m ρ,
    fun m ρ _ => Cert.InProjSIdeal.Gen.frame m ρ,
    frame_InProjSRef,
    trivial,
    algebraic_Attn,
    trivial,
    algebraic_InProj,
    trivial,
    algebraic_OutProj,
    trivial,
    algebraic_AttnS,
    trivial,
    algebraic_GlaS,
    trivial,
    algebraic_OutProjS,
    trivial,
    algebraic_InProjS⟩

end Cert.Proof

end
